-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v96)) (v3 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_v97) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = v0 c
          ∧ r.2.mem ((c.tc : Thread Cert.ReferenceIdeal.nD Cert.ReferenceIdeal.τ).loc Cert.ReferenceIdeal.main_v398) = v1 c
          ∧ r.2.mem ((c.tc : Thread Cert.ReferenceIdeal.nD Cert.ReferenceIdeal.τ).loc Cert.ReferenceIdeal.main_v399) = v2 c
          ∧ r.2.mem ((c.tc : Thread Cert.ReferenceIdeal.nD Cert.ReferenceIdeal.τ).loc Cert.ReferenceIdeal.main_v400) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x255x19x19 : Shape := ⟨4, ![1, 255, 19, 19]⟩
abbrev S1x255x38x38 : Shape := ⟨4, ![1, 255, 38, 38]⟩
abbrev S1x255x76x76 : Shape := ⟨4, ![1, 255, 76, 76]⟩
abbrev S4x22784 : Shape := ⟨2, ![4, 22784]⟩
abbrev S1x22784 : Shape := ⟨2, ![1, 22784]⟩
abbrev S255x19x19 : Shape := ⟨3, ![255, 19, 19]⟩
abbrev S3x85x361 : Shape := ⟨3, ![3, 85, 361]⟩
abbrev S85x361x3 : Shape := ⟨3, ![85, 361, 3]⟩
abbrev S85x1083 : Shape := ⟨2, ![85, 1083]⟩
abbrev S255x38x38 : Shape := ⟨3, ![255, 38, 38]⟩
abbrev S3x85x1444 : Shape := ⟨3, ![3, 85, 1444]⟩
abbrev S85x1444x3 : Shape := ⟨3, ![85, 1444, 3]⟩
abbrev S85x4332 : Shape := ⟨2, ![85, 4332]⟩
abbrev S255x76x76 : Shape := ⟨3, ![255, 76, 76]⟩
abbrev S3x85x5776 : Shape := ⟨3, ![3, 85, 5776]⟩
abbrev S85x5776x3 : Shape := ⟨3, ![85, 5776, 3]⟩
abbrev S85x17328 : Shape := ⟨2, ![85, 17328]⟩
abbrev S85x22743 : Shape := ⟨2, ![85, 22743]⟩
abbrev S_ : Shape := ⟨0, ![]⟩
abbrev S85x22784 : Shape := ⟨2, ![85, 22784]⟩
abbrev S80x22784 : Shape := ⟨2, ![80, 22784]⟩
abbrev S22784 : Shape := ⟨1, ![22784]⟩
abbrev S1083 : Shape := ⟨1, ![1083]⟩
abbrev S1000 : Shape := ⟨1, ![1000]⟩
abbrev S4332 : Shape := ⟨1, ![4332]⟩
abbrev S17328 : Shape := ⟨1, ![17328]⟩
abbrev S3000 : Shape := ⟨1, ![3000]⟩
abbrev S3000x1 : Shape := ⟨2, ![3000, 1]⟩
abbrev S4x3000 : Shape := ⟨2, ![4, 3000]⟩
abbrev S80x3000 : Shape := ⟨2, ![80, 3000]⟩
abbrev S1x3000 : Shape := ⟨2, ![1, 3000]⟩
abbrev S3000x80 : Shape := ⟨2, ![3000, 80]⟩
abbrev S240000 : Shape := ⟨1, ![240000]⟩
abbrev S2000 : Shape := ⟨1, ![2000]⟩
abbrev S2000x1 : Shape := ⟨2, ![2000, 1]⟩
abbrev S4x2000 : Shape := ⟨2, ![4, 2000]⟩
abbrev S4x2048 : Shape := ⟨2, ![4, 2048]⟩
abbrev S2048 : Shape := ⟨1, ![2048]⟩
abbrev S1x2048 : Shape := ⟨2, ![1, 2048]⟩
abbrev S128x128 : Shape := ⟨2, ![128, 128]⟩
abbrev S1x128 : Shape := ⟨2, ![1, 128]⟩
abbrev S1x1x2048 : Shape := ⟨3, ![1, 1, 2048]⟩
abbrev S1 : Shape := ⟨1, ![1]⟩
abbrev S1x1x1 : Shape := ⟨3, ![1, 1, 1]⟩
abbrev S100x1 : Shape := ⟨2, ![100, 1]⟩
abbrev S100 : Shape := ⟨1, ![100]⟩
abbrev S100x4 : Shape := ⟨2, ![100, 4]⟩
abbrev S1x100x4 : Shape := ⟨3, ![1, 100, 4]⟩
abbrev S1x100 : Shape := ⟨2, ![1, 100]⟩

abbrev nBuf : Space → Nat
  | .hbm => 177
  | .vmem => 10
  | .smem => 0
  | _ => 0

abbrev hbmTy0_0 (i : Nat) : BufTy := match i % 128 with
  | 0 => ⟨S1x255x19x19, .f32⟩
  | 1 => ⟨S1x255x38x38, .f32⟩
  | 2 => ⟨S1x255x76x76, .f32⟩
  | 3 => ⟨S4x22784, .f32⟩
  | 4 => ⟨S1x22784, .f32⟩
  | 5 => ⟨S255x19x19, .f32⟩
  | 6 => ⟨S3x85x361, .f32⟩
  | 7 => ⟨S85x361x3, .f32⟩
  | 8 => ⟨S85x1083, .f32⟩
  | 9 => ⟨S255x38x38, .f32⟩
  | 10 => ⟨S3x85x1444, .f32⟩
  | 11 => ⟨S85x1444x3, .f32⟩
  | 12 => ⟨S85x4332, .f32⟩
  | 13 => ⟨S255x76x76, .f32⟩
  | 14 => ⟨S3x85x5776, .f32⟩
  | 15 => ⟨S85x5776x3, .f32⟩
  | 16 => ⟨S85x17328, .f32⟩
  | 17 => ⟨S85x22743, .f32⟩
  | 18 => ⟨S_, .i32⟩
  | 19 => ⟨S_, .f32⟩
  | 20 => ⟨S85x22784, .f32⟩
  | 21 => ⟨S4x22784, .f32⟩
  | 22 => ⟨S1x22784, .f32⟩
  | 23 => ⟨S80x22784, .f32⟩
  | 24 => ⟨S22784, .f32⟩
  | 25 => ⟨S1083, .f32⟩
  | 26 => ⟨S1000, .f32⟩
  | 27 => ⟨S1000, .i32⟩
  | 28 => ⟨S_, .i32⟩
  | 29 => ⟨S1000, .i32⟩
  | 30 => ⟨S1000, .i32⟩
  | 31 => ⟨S_, .f32⟩
  | 32 => ⟨S1000, .f32⟩
  | 33 => ⟨S1000, .i1⟩
  | 34 => ⟨S1000, .f32⟩
  | 35 => ⟨S1000, .f32⟩
  | 36 => ⟨S4332, .f32⟩
  | 37 => ⟨S1000, .f32⟩
  | 38 => ⟨S1000, .i32⟩
  | 39 => ⟨S_, .i32⟩
  | 40 => ⟨S1000, .i32⟩
  | 41 => ⟨S1000, .i32⟩
  | 42 => ⟨S_, .f32⟩
  | 43 => ⟨S1000, .f32⟩
  | 44 => ⟨S1000, .i1⟩
  | 45 => ⟨S1000, .f32⟩
  | 46 => ⟨S1000, .f32⟩
  | 47 => ⟨S17328, .f32⟩
  | 48 => ⟨S1000, .f32⟩
  | 49 => ⟨S1000, .i32⟩
  | 50 => ⟨S_, .i32⟩
  | 51 => ⟨S1000, .i32⟩
  | 52 => ⟨S1000, .i32⟩
  | 53 => ⟨S_, .f32⟩
  | 54 => ⟨S1000, .f32⟩
  | 55 => ⟨S1000, .i1⟩
  | 56 => ⟨S1000, .f32⟩
  | 57 => ⟨S1000, .f32⟩
  | 58 => ⟨S3000, .i32⟩
  | 59 => ⟨S3000, .f32⟩
  | 60 => ⟨S_, .i32⟩
  | 61 => ⟨S3000, .i32⟩
  | 62 => ⟨S3000, .i1⟩
  | 63 => ⟨S_, .i32⟩
  | 64 => ⟨S3000, .i32⟩
  | 65 => ⟨S3000, .i32⟩
  | 66 => ⟨S3000, .i32⟩
  | 67 => ⟨S3000x1, .i32⟩
  | 68 => ⟨S4x3000, .f32⟩
  | 69 => ⟨S_, .i32⟩
  | 70 => ⟨S3000, .i32⟩
  | 71 => ⟨S3000, .i1⟩
  | 72 => ⟨S_, .i32⟩
  | 73 => ⟨S3000, .i32⟩
  | 74 => ⟨S3000, .i32⟩
  | 75 => ⟨S3000, .i32⟩
  | 76 => ⟨S3000x1, .i32⟩
  | 77 => ⟨S80x3000, .f32⟩
  | 78 => ⟨S1x3000, .f32⟩
  | 79 => ⟨S80x3000, .f32⟩
  | 80 => ⟨S80x3000, .f32⟩
  | 81 => ⟨S_, .f32⟩
  | 82 => ⟨S80x3000, .f32⟩
  | 83 => ⟨S80x3000, .i1⟩
  | 84 => ⟨S80x3000, .f32⟩
  | 85 => ⟨S80x3000, .f32⟩
  | 86 => ⟨S3000x80, .f32⟩
  | 87 => ⟨S240000, .f32⟩
  | 88 => ⟨S2000, .f32⟩
  | 89 => ⟨S2000, .i32⟩
  | 90 => ⟨S_, .i32⟩
  | 91 => ⟨S_, .i32⟩
  | 92 => ⟨S2000, .i32⟩
  | 93 => ⟨S2000, .i32⟩
  | 94 => ⟨S2000, .i32⟩
  | 95 => ⟨S_, .i32⟩
  | 96 => ⟨S2000, .i32⟩
  | 97 => ⟨S2000, .i1⟩
  | 98 => ⟨S2000, .i32⟩
  | 99 => ⟨S2000, .i32⟩
  | 100 => ⟨S_, .i32⟩
  | 101 => ⟨S2000, .i32⟩
  | 102 => ⟨S2000, .i1⟩
  | 103 => ⟨S2000, .i1⟩
  | 104 => ⟨S_, .i32⟩
  | 105 => ⟨S2000, .i32⟩
  | 106 => ⟨S2000, .i32⟩
  | 107 => ⟨S2000, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S2000, .i32⟩
  | 115 => ⟨S2000, .i32⟩
  | 116 => ⟨S_, .i32⟩
  | 117 => ⟨S2000, .i32⟩
  | 118 => ⟨S2000, .i1⟩
  | 119 => ⟨S_, .i32⟩
  | 120 => ⟨S2000, .i32⟩
  | 121 => ⟨S2000, .i1⟩
  | 122 => ⟨S_, .i32⟩
  | 123 => ⟨S_, .i1⟩
  | 124 => ⟨S2000, .i1⟩
  | 125 => ⟨S2000, .i1⟩
  | 126 => ⟨S2000, .i1⟩
  | 127 => ⟨S2000, .i32⟩
  | _ => ⟨S1x255x19x19, .f32⟩

abbrev hbmTy0_1 (i : Nat) : BufTy := match i % 128 with
  | 0 => ⟨S2000, .i32⟩
  | 1 => ⟨S2000, .i32⟩
  | 2 => ⟨S_, .i32⟩
  | 3 => ⟨S2000, .i32⟩
  | 4 => ⟨S2000, .i1⟩
  | 5 => ⟨S_, .i32⟩
  | 6 => ⟨S2000, .i32⟩
  | 7 => ⟨S2000, .i32⟩
  | 8 => ⟨S2000, .i32⟩
  | 9 => ⟨S2000x1, .i32⟩
  | 10 => ⟨S4x2000, .f32⟩
  | 11 => ⟨S_, .i32⟩
  | 12 => ⟨S_, .f32⟩
  | 13 => ⟨S4x2048, .f32⟩
  | 14 => ⟨S2000, .f32⟩
  | 15 => ⟨S_, .i32⟩
  | 16 => ⟨S_, .f32⟩
  | 17 => ⟨S2048, .f32⟩
  | 18 => ⟨S1x2048, .f32⟩
  | 19 => ⟨S_, .f32⟩
  | 20 => ⟨S_, .f32⟩
  | 21 => ⟨S2048, .f32⟩
  | 22 => ⟨S1x2048, .f32⟩
  | 23 => ⟨S128x128, .f32⟩
  | 24 => ⟨S100x1, .f32⟩
  | 25 => ⟨S100, .f32⟩
  | 26 => ⟨S100x1, .f32⟩
  | 27 => ⟨S100, .f32⟩
  | 28 => ⟨S100x4, .f32⟩
  | 29 => ⟨S_, .f32⟩
  | 30 => ⟨S100, .f32⟩
  | 31 => ⟨S100, .i1⟩
  | 32 => ⟨S100, .f32⟩
  | 33 => ⟨S100x1, .f32⟩
  | 34 => ⟨S100x4, .f32⟩
  | 35 => ⟨S100x4, .f32⟩
  | 36 => ⟨S100, .f32⟩
  | 37 => ⟨S100, .i32⟩
  | 38 => ⟨S_, .i32⟩
  | 39 => ⟨S_, .i32⟩
  | 40 => ⟨S100, .i32⟩
  | 41 => ⟨S100, .i32⟩
  | 42 => ⟨S_, .f32⟩
  | 43 => ⟨S_, .f32⟩
  | 44 => ⟨S_, .i32⟩
  | 45 => ⟨S1, .i32⟩
  | 46 => ⟨S1x100x4, .f32⟩
  | 47 => ⟨S1x100, .f32⟩
  | 48 => ⟨S1x100, .i32⟩
  | _ => ⟨S1x255x19x19, .f32⟩

abbrev hbmTy (i : Nat) : BufTy := match i / 128 with
  | 0 => hbmTy0_0 i
  | 1 => hbmTy0_1 i
  | _ => ⟨S1x255x19x19, .f32⟩

abbrev bufTy : (tb : Table) → Fin (tcTables nBuf tb) → BufTy
  | .hbm, ⟨i, _⟩ => hbmTy i
  | .local _ .vmem, ⟨0, _⟩ => ⟨S85x22784, .f32⟩
  | .local _ .vmem, ⟨1, _⟩ => ⟨S4x22784, .f32⟩
  | .local _ .vmem, ⟨2, _⟩ => ⟨S1x22784, .f32⟩
  | .local _ .vmem, ⟨3, _⟩ => ⟨S4x22784, .f32⟩
  | .local _ .vmem, ⟨4, _⟩ => ⟨S1x22784, .f32⟩
  | .local _ .vmem, ⟨5, _⟩ => ⟨S80x22784, .f32⟩
  | .local _ .vmem, ⟨6, _⟩ => ⟨S4x2048, .f32⟩
  | .local _ .vmem, ⟨7, _⟩ => ⟨S1x2048, .f32⟩
  | .local _ .vmem, ⟨8, _⟩ => ⟨S1x2048, .f32⟩
  | .local _ .vmem, ⟨9, _⟩ => ⟨S128x128, .f32⟩
  | _, _ => ⟨S1x255x19x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v15 : Ref sig .tc := ⟨.hbm, 24, rfl⟩
abbrev main_v16 : Ref sig .tc := ⟨.hbm, 25, rfl⟩
abbrev main_values : Ref sig .tc := ⟨.hbm, 26, rfl⟩
abbrev main_indices : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_values_3 : Ref sig .tc := ⟨.hbm, 37, rfl⟩
abbrev main_indices_4 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_values_7 : Ref sig .tc := ⟨.hbm, 48, rfl⟩
abbrev main_indices_8 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_values_16 : Ref sig .tc := ⟨.hbm, 88, rfl⟩
abbrev main_indices_17 : Ref sig .tc := ⟨.hbm, 89, rfl⟩
abbrev main_c_18 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_c : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_0 : Ref sig .tc := ⟨.hbm, 104, rfl⟩
abbrev main_call1_v12 : Ref sig .tc := ⟨.hbm, 105, rfl⟩
abbrev main_call1_v13 : Ref sig .tc := ⟨.hbm, 106, rfl⟩
abbrev main_v62 : Ref sig .tc := ⟨.hbm, 107, rfl⟩
abbrev main_c_19 : Ref sig .tc := ⟨.hbm, 108, rfl⟩
abbrev main_call2_v0 : Ref sig .tc := ⟨.hbm, 109, rfl⟩
abbrev main_call2_c : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_c_1 : Ref sig .tc := ⟨.hbm, 116, rfl⟩
abbrev main_call2_v5 : Ref sig .tc := ⟨.hbm, 117, rfl⟩
abbrev main_call2_v6 : Ref sig .tc := ⟨.hbm, 118, rfl⟩
abbrev main_call2_c_2 : Ref sig .tc := ⟨.hbm, 119, rfl⟩
abbrev main_call2_v7 : Ref sig .tc := ⟨.hbm, 120, rfl⟩
abbrev main_call2_v8 : Ref sig .tc := ⟨.hbm, 121, rfl⟩
abbrev main_call2_c_3 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_v63 : Ref sig .tc := ⟨.hbm, 129, rfl⟩
abbrev main_c_20 : Ref sig .tc := ⟨.hbm, 130, rfl⟩
abbrev main_v64 : Ref sig .tc := ⟨.hbm, 131, rfl⟩
abbrev main_v65 : Ref sig .tc := ⟨.hbm, 132, rfl⟩
abbrev main_c_21 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_c_22 : Ref sig .tc := ⟨.hbm, 139, rfl⟩
abbrev main_call3_v0 : Ref sig .tc := ⟨.hbm, 140, rfl⟩
abbrev main_v71 : Ref sig .tc := ⟨.hbm, 141, rfl⟩
abbrev main_v72 : Ref sig .tc := ⟨.hbm, 142, rfl⟩
abbrev main_c_23 : Ref sig .tc := ⟨.hbm, 143, rfl⟩
abbrev main_call4_v0 : Ref sig .tc := ⟨.hbm, 144, rfl⟩
abbrev main_v73 : Ref sig .tc := ⟨.hbm, 145, rfl⟩
abbrev main_v74 : Ref sig .tc := ⟨.hbm, 146, rfl⟩
abbrev main_cst_24 : Ref sig .tc := ⟨.hbm, 147, rfl⟩
abbrev main_call5_v0 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_cst_25 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_c_26 : Ref sig .tc := ⟨.hbm, 166, rfl⟩
abbrev main_call6_v0 : Ref sig .tc := ⟨.hbm, 167, rfl⟩
abbrev main_call6_v1 : Ref sig .tc := ⟨.hbm, 168, rfl⟩
abbrev main_v91 : Ref sig .tc := ⟨.hbm, 169, rfl⟩
abbrev main_cst_27 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := .none

abbrev stage0_0 : Fin 1 → Memref sig .tc .vmem S85x22784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x22784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x22784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x22784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x22784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x22784 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c100_i32 : BitVec 32 := 100#32
  let v25 : BitVec 32 := Scalar.addi c0_i32 c100_i32
  let c1_i32 : BitVec 32 := 1#32
  ⟨c0_i32, v25, c1_i32⟩
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let v133 : Index := Scalar.indexCast arg4
  let c0_32 : Index := 0#32
  ![v133.toNat, 0]
abbrev stage1_0 : Fin 1 → Memref sig .tc .vmem S4x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1x255x19x19 : Shape := ⟨4, ![1, 255, 19, 19]⟩
abbrev S1x255x38x38 : Shape := ⟨4, ![1, 255, 38, 38]⟩
abbrev S1x255x76x76 : Shape := ⟨4, ![1, 255, 76, 76]⟩
abbrev S1083x4 : Shape := ⟨2, ![1083, 4]⟩
abbrev S4332x4 : Shape := ⟨2, ![4332, 4]⟩
abbrev S17328x4 : Shape := ⟨2, ![17328, 4]⟩
abbrev S255x19x19 : Shape := ⟨3, ![255, 19, 19]⟩
abbrev S255x38x38 : Shape := ⟨3, ![255, 38, 38]⟩
abbrev S255x76x76 : Shape := ⟨3, ![255, 76, 76]⟩
abbrev S19x19x255 : Shape := ⟨3, ![19, 19, 255]⟩
abbrev S1083x85 : Shape := ⟨2, ![1083, 85]⟩
abbrev S1083x2 : Shape := ⟨2, ![1083, 2]⟩
abbrev S_ : Shape := ⟨0, ![]⟩
abbrev S1083x1 : Shape := ⟨2, ![1083, 1]⟩
abbrev S1083 : Shape := ⟨1, ![1083]⟩
abbrev S1083x80 : Shape := ⟨2, ![1083, 80]⟩
abbrev S1000 : Shape := ⟨1, ![1000]⟩
abbrev S1000x1 : Shape := ⟨2, ![1000, 1]⟩
abbrev S1000x4 : Shape := ⟨2, ![1000, 4]⟩
abbrev S1000x80 : Shape := ⟨2, ![1000, 80]⟩
abbrev S38x38x255 : Shape := ⟨3, ![38, 38, 255]⟩
abbrev S4332x85 : Shape := ⟨2, ![4332, 85]⟩
abbrev S4332x2 : Shape := ⟨2, ![4332, 2]⟩
abbrev S4332x1 : Shape := ⟨2, ![4332, 1]⟩
abbrev S4332 : Shape := ⟨1, ![4332]⟩
abbrev S4332x80 : Shape := ⟨2, ![4332, 80]⟩
abbrev S76x76x255 : Shape := ⟨3, ![76, 76, 255]⟩
abbrev S17328x85 : Shape := ⟨2, ![17328, 85]⟩
abbrev S17328x2 : Shape := ⟨2, ![17328, 2]⟩
abbrev S17328x1 : Shape := ⟨2, ![17328, 1]⟩
abbrev S17328 : Shape := ⟨1, ![17328]⟩
abbrev S17328x80 : Shape := ⟨2, ![17328, 80]⟩
abbrev S3000x4 : Shape := ⟨2, ![3000, 4]⟩
abbrev S3000x80 : Shape := ⟨2, ![3000, 80]⟩
abbrev S3000 : Shape := ⟨1, ![3000]⟩
abbrev S3000x1 : Shape := ⟨2, ![3000, 1]⟩
abbrev S240000 : Shape := ⟨1, ![240000]⟩
abbrev S2000 : Shape := ⟨1, ![2000]⟩
abbrev S2000x1 : Shape := ⟨2, ![2000, 1]⟩
abbrev S2000x4 : Shape := ⟨2, ![2000, 4]⟩
abbrev S100 : Shape := ⟨1, ![100]⟩
abbrev S1 : Shape := ⟨1, ![1]⟩
abbrev S1x4 : Shape := ⟨2, ![1, 4]⟩
abbrev S4 : Shape := ⟨1, ![4]⟩
abbrev S100x1 : Shape := ⟨2, ![100, 1]⟩
abbrev S100x4 : Shape := ⟨2, ![100, 4]⟩
abbrev S1x100x4 : Shape := ⟨3, ![1, 100, 4]⟩
abbrev S1x100 : Shape := ⟨2, ![1, 100]⟩

abbrev nBuf : Space → Nat
  | .hbm => 663
  | .vmem => 0
  | .smem => 0
  | _ => 0

abbrev hbmTy0_0 (i : Nat) : BufTy := match i % 128 with
  | 0 => ⟨S1x255x19x19, .f32⟩
  | 1 => ⟨S1x255x38x38, .f32⟩
  | 2 => ⟨S1x255x76x76, .f32⟩
  | 3 => ⟨S1083x4, .f32⟩
  | 4 => ⟨S4332x4, .f32⟩
  | 5 => ⟨S17328x4, .f32⟩
  | 6 => ⟨S255x19x19, .f32⟩
  | 7 => ⟨S255x38x38, .f32⟩
  | 8 => ⟨S255x76x76, .f32⟩
  | 9 => ⟨S19x19x255, .f32⟩
  | 10 => ⟨S1083x85, .f32⟩
  | 11 => ⟨S1083x2, .f32⟩
  | 12 => ⟨S1083x2, .f32⟩
  | 13 => ⟨S1083x2, .f32⟩
  | 14 => ⟨S_, .f32⟩
  | 15 => ⟨S1083x2, .f32⟩
  | 16 => ⟨S1083x2, .f32⟩
  | 17 => ⟨S_, .f32⟩
  | 18 => ⟨S1083x2, .f32⟩
  | 19 => ⟨S1083x2, .f32⟩
  | 20 => ⟨S1083x2, .f32⟩
  | 21 => ⟨S1083x2, .f32⟩
  | 22 => ⟨S_, .f32⟩
  | 23 => ⟨S1083x2, .f32⟩
  | 24 => ⟨S1083x2, .f32⟩
  | 25 => ⟨S_, .f32⟩
  | 26 => ⟨S1083x2, .f32⟩
  | 27 => ⟨S1083x2, .f32⟩
  | 28 => ⟨S1083x2, .f32⟩
  | 29 => ⟨S1083x4, .f32⟩
  | 30 => ⟨S1083x1, .f32⟩
  | 31 => ⟨S1083, .f32⟩
  | 32 => ⟨S1083x1, .f32⟩
  | 33 => ⟨S1083, .f32⟩
  | 34 => ⟨S1083, .f32⟩
  | 35 => ⟨S_, .f32⟩
  | 36 => ⟨S1083, .f32⟩
  | 37 => ⟨S1083, .f32⟩
  | 38 => ⟨S1083x1, .f32⟩
  | 39 => ⟨S1083, .f32⟩
  | 40 => ⟨S1083x1, .f32⟩
  | 41 => ⟨S1083, .f32⟩
  | 42 => ⟨S1083, .f32⟩
  | 43 => ⟨S_, .f32⟩
  | 44 => ⟨S1083, .f32⟩
  | 45 => ⟨S1083, .f32⟩
  | 46 => ⟨S1083x1, .f32⟩
  | 47 => ⟨S1083, .f32⟩
  | 48 => ⟨S1083x1, .f32⟩
  | 49 => ⟨S1083, .f32⟩
  | 50 => ⟨S1083, .f32⟩
  | 51 => ⟨S1083x1, .f32⟩
  | 52 => ⟨S1083, .f32⟩
  | 53 => ⟨S1083x1, .f32⟩
  | 54 => ⟨S1083, .f32⟩
  | 55 => ⟨S1083, .f32⟩
  | 56 => ⟨S1083x1, .f32⟩
  | 57 => ⟨S1083, .f32⟩
  | 58 => ⟨S_, .f32⟩
  | 59 => ⟨S1083, .f32⟩
  | 60 => ⟨S1083, .f32⟩
  | 61 => ⟨S_, .f32⟩
  | 62 => ⟨S1083, .f32⟩
  | 63 => ⟨S1083, .f32⟩
  | 64 => ⟨S1083, .f32⟩
  | 65 => ⟨S1083x1, .f32⟩
  | 66 => ⟨S1083, .f32⟩
  | 67 => ⟨S_, .f32⟩
  | 68 => ⟨S1083, .f32⟩
  | 69 => ⟨S1083, .f32⟩
  | 70 => ⟨S_, .f32⟩
  | 71 => ⟨S1083, .f32⟩
  | 72 => ⟨S1083, .f32⟩
  | 73 => ⟨S1083, .f32⟩
  | 74 => ⟨S1083x1, .f32⟩
  | 75 => ⟨S1083, .f32⟩
  | 76 => ⟨S1083, .f32⟩
  | 77 => ⟨S1083, .f32⟩
  | 78 => ⟨S1083x1, .f32⟩
  | 79 => ⟨S1083, .f32⟩
  | 80 => ⟨S1083, .f32⟩
  | 81 => ⟨S1083, .f32⟩
  | 82 => ⟨S_, .f32⟩
  | 83 => ⟨S1083, .f32⟩
  | 84 => ⟨S1083, .f32⟩
  | 85 => ⟨S1083, .f32⟩
  | 86 => ⟨S_, .f32⟩
  | 87 => ⟨S1083, .f32⟩
  | 88 => ⟨S1083, .f32⟩
  | 89 => ⟨S1083, .f32⟩
  | 90 => ⟨S_, .f32⟩
  | 91 => ⟨S1083, .f32⟩
  | 92 => ⟨S1083, .f32⟩
  | 93 => ⟨S1083, .f32⟩
  | 94 => ⟨S_, .f32⟩
  | 95 => ⟨S1083, .f32⟩
  | 96 => ⟨S1083, .f32⟩
  | 97 => ⟨S1083, .f32⟩
  | 98 => ⟨S1083x1, .f32⟩
  | 99 => ⟨S1083x1, .f32⟩
  | 100 => ⟨S1083x1, .f32⟩
  | 101 => ⟨S1083x1, .f32⟩
  | 102 => ⟨S1083x4, .f32⟩
  | 103 => ⟨S1083x1, .f32⟩
  | 104 => ⟨S1083, .f32⟩
  | 105 => ⟨S1083, .f32⟩
  | 106 => ⟨S1083, .f32⟩
  | 107 => ⟨S_, .f32⟩
  | 108 => ⟨S1083, .f32⟩
  | 109 => ⟨S1083, .f32⟩
  | 110 => ⟨S_, .f32⟩
  | 111 => ⟨S1083, .f32⟩
  | 112 => ⟨S1083, .f32⟩
  | 113 => ⟨S1083x80, .f32⟩
  | 114 => ⟨S1083x80, .f32⟩
  | 115 => ⟨S1083x80, .f32⟩
  | 116 => ⟨S_, .f32⟩
  | 117 => ⟨S1083x80, .f32⟩
  | 118 => ⟨S1083x80, .f32⟩
  | 119 => ⟨S_, .f32⟩
  | 120 => ⟨S1083x80, .f32⟩
  | 121 => ⟨S1083x80, .f32⟩
  | 122 => ⟨S1000, .f32⟩
  | 123 => ⟨S1000, .i32⟩
  | 124 => ⟨S_, .i32⟩
  | 125 => ⟨S1000, .i32⟩
  | 126 => ⟨S1000, .i1⟩
  | 127 => ⟨S_, .i32⟩
  | _ => ⟨S1x255x19x19, .f32⟩

abbrev hbmTy0_1 (i : Nat) : BufTy := match i % 128 with
  | 0 => ⟨S1000, .i32⟩
  | 1 => ⟨S1000, .i32⟩
  | 2 => ⟨S1000, .i32⟩
  | 3 => ⟨S1000x1, .i32⟩
  | 4 => ⟨S1000x4, .f32⟩
  | 5 => ⟨S_, .i32⟩
  | 6 => ⟨S1000, .i32⟩
  | 7 => ⟨S1000, .i1⟩
  | 8 => ⟨S_, .i32⟩
  | 9 => ⟨S1000, .i32⟩
  | 10 => ⟨S1000, .i32⟩
  | 11 => ⟨S1000, .i32⟩
  | 12 => ⟨S1000x1, .i32⟩
  | 13 => ⟨S1000x80, .f32⟩
  | 14 => ⟨S_, .f32⟩
  | 15 => ⟨S1000, .f32⟩
  | 16 => ⟨S1000, .i1⟩
  | 17 => ⟨S1000, .f32⟩
  | 18 => ⟨S1000, .f32⟩
  | 19 => ⟨S38x38x255, .f32⟩
  | 20 => ⟨S4332x85, .f32⟩
  | 21 => ⟨S4332x2, .f32⟩
  | 22 => ⟨S4332x2, .f32⟩
  | 23 => ⟨S4332x2, .f32⟩
  | 24 => ⟨S_, .f32⟩
  | 25 => ⟨S4332x2, .f32⟩
  | 26 => ⟨S4332x2, .f32⟩
  | 27 => ⟨S_, .f32⟩
  | 28 => ⟨S4332x2, .f32⟩
  | 29 => ⟨S4332x2, .f32⟩
  | 30 => ⟨S4332x2, .f32⟩
  | 31 => ⟨S4332x2, .f32⟩
  | 32 => ⟨S_, .f32⟩
  | 33 => ⟨S4332x2, .f32⟩
  | 34 => ⟨S4332x2, .f32⟩
  | 35 => ⟨S_, .f32⟩
  | 36 => ⟨S4332x2, .f32⟩
  | 37 => ⟨S4332x2, .f32⟩
  | 38 => ⟨S4332x2, .f32⟩
  | 39 => ⟨S4332x4, .f32⟩
  | 40 => ⟨S4332x1, .f32⟩
  | 41 => ⟨S4332, .f32⟩
  | 42 => ⟨S4332x1, .f32⟩
  | 43 => ⟨S4332, .f32⟩
  | 44 => ⟨S4332, .f32⟩
  | 45 => ⟨S_, .f32⟩
  | 46 => ⟨S4332, .f32⟩
  | 47 => ⟨S4332, .f32⟩
  | 48 => ⟨S4332x1, .f32⟩
  | 49 => ⟨S4332, .f32⟩
  | 50 => ⟨S4332x1, .f32⟩
  | 51 => ⟨S4332, .f32⟩
  | 52 => ⟨S4332, .f32⟩
  | 53 => ⟨S_, .f32⟩
  | 54 => ⟨S4332, .f32⟩
  | 55 => ⟨S4332, .f32⟩
  | 56 => ⟨S4332x1, .f32⟩
  | 57 => ⟨S4332, .f32⟩
  | 58 => ⟨S4332x1, .f32⟩
  | 59 => ⟨S4332, .f32⟩
  | 60 => ⟨S4332, .f32⟩
  | 61 => ⟨S4332x1, .f32⟩
  | 62 => ⟨S4332, .f32⟩
  | 63 => ⟨S4332x1, .f32⟩
  | 64 => ⟨S4332, .f32⟩
  | 65 => ⟨S4332, .f32⟩
  | 66 => ⟨S4332x1, .f32⟩
  | 67 => ⟨S4332, .f32⟩
  | 68 => ⟨S_, .f32⟩
  | 69 => ⟨S4332, .f32⟩
  | 70 => ⟨S4332, .f32⟩
  | 71 => ⟨S_, .f32⟩
  | 72 => ⟨S4332, .f32⟩
  | 73 => ⟨S4332, .f32⟩
  | 74 => ⟨S4332, .f32⟩
  | 75 => ⟨S4332x1, .f32⟩
  | 76 => ⟨S4332, .f32⟩
  | 77 => ⟨S_, .f32⟩
  | 78 => ⟨S4332, .f32⟩
  | 79 => ⟨S4332, .f32⟩
  | 80 => ⟨S_, .f32⟩
  | 81 => ⟨S4332, .f32⟩
  | 82 => ⟨S4332, .f32⟩
  | 83 => ⟨S4332, .f32⟩
  | 84 => ⟨S4332x1, .f32⟩
  | 85 => ⟨S4332, .f32⟩
  | 86 => ⟨S4332, .f32⟩
  | 87 => ⟨S4332, .f32⟩
  | 88 => ⟨S4332x1, .f32⟩
  | 89 => ⟨S4332, .f32⟩
  | 90 => ⟨S4332, .f32⟩
  | 91 => ⟨S4332, .f32⟩
  | 92 => ⟨S_, .f32⟩
  | 93 => ⟨S4332, .f32⟩
  | 94 => ⟨S4332, .f32⟩
  | 95 => ⟨S4332, .f32⟩
  | 96 => ⟨S_, .f32⟩
  | 97 => ⟨S4332, .f32⟩
  | 98 => ⟨S4332, .f32⟩
  | 99 => ⟨S4332, .f32⟩
  | 100 => ⟨S_, .f32⟩
  | 101 => ⟨S4332, .f32⟩
  | 102 => ⟨S4332, .f32⟩
  | 103 => ⟨S4332, .f32⟩
  | 104 => ⟨S_, .f32⟩
  | 105 => ⟨S4332, .f32⟩
  | 106 => ⟨S4332, .f32⟩
  | 107 => ⟨S4332, .f32⟩
  | 108 => ⟨S4332x1, .f32⟩
  | 109 => ⟨S4332x1, .f32⟩
  | 110 => ⟨S4332x1, .f32⟩
  | 111 => ⟨S4332x1, .f32⟩
  | 112 => ⟨S4332x4, .f32⟩
  | 113 => ⟨S4332x1, .f32⟩
  | 114 => ⟨S4332, .f32⟩
  | 115 => ⟨S4332, .f32⟩
  | 116 => ⟨S4332, .f32⟩
  | 117 => ⟨S_, .f32⟩
  | 118 => ⟨S4332, .f32⟩
  | 119 => ⟨S4332, .f32⟩
  | 120 => ⟨S_, .f32⟩
  | 121 => ⟨S4332, .f32⟩
  | 122 => ⟨S4332, .f32⟩
  | 123 => ⟨S4332x80, .f32⟩
  | 124 => ⟨S4332x80, .f32⟩
  | 125 => ⟨S4332x80, .f32⟩
  | 126 => ⟨S_, .f32⟩
  | 127 => ⟨S4332x80, .f32⟩
  | _ => ⟨S1x255x19x19, .f32⟩

abbrev hbmTy0_2 (i : Nat) : BufTy := match i % 128 with
  | 0 => ⟨S4332x80, .f32⟩
  | 1 => ⟨S_, .f32⟩
  | 2 => ⟨S4332x80, .f32⟩
  | 3 => ⟨S4332x80, .f32⟩
  | 4 => ⟨S1000, .f32⟩
  | 5 => ⟨S1000, .i32⟩
  | 6 => ⟨S_, .i32⟩
  | 7 => ⟨S1000, .i32⟩
  | 8 => ⟨S1000, .i1⟩
  | 9 => ⟨S_, .i32⟩
  | 10 => ⟨S1000, .i32⟩
  | 11 => ⟨S1000, .i32⟩
  | 12 => ⟨S1000, .i32⟩
  | 13 => ⟨S1000x1, .i32⟩
  | 14 => ⟨S1000x4, .f32⟩
  | 15 => ⟨S_, .i32⟩
  | 16 => ⟨S1000, .i32⟩
  | 17 => ⟨S1000, .i1⟩
  | 18 => ⟨S_, .i32⟩
  | 19 => ⟨S1000, .i32⟩
  | 20 => ⟨S1000, .i32⟩
  | 21 => ⟨S1000, .i32⟩
  | 22 => ⟨S1000x1, .i32⟩
  | 23 => ⟨S1000x80, .f32⟩
  | 24 => ⟨S_, .f32⟩
  | 25 => ⟨S1000, .f32⟩
  | 26 => ⟨S1000, .i1⟩
  | 27 => ⟨S1000, .f32⟩
  | 28 => ⟨S1000, .f32⟩
  | 29 => ⟨S76x76x255, .f32⟩
  | 30 => ⟨S17328x85, .f32⟩
  | 31 => ⟨S17328x2, .f32⟩
  | 32 => ⟨S17328x2, .f32⟩
  | 33 => ⟨S17328x2, .f32⟩
  | 34 => ⟨S_, .f32⟩
  | 35 => ⟨S17328x2, .f32⟩
  | 36 => ⟨S17328x2, .f32⟩
  | 37 => ⟨S_, .f32⟩
  | 38 => ⟨S17328x2, .f32⟩
  | 39 => ⟨S17328x2, .f32⟩
  | 40 => ⟨S17328x2, .f32⟩
  | 41 => ⟨S17328x2, .f32⟩
  | 42 => ⟨S_, .f32⟩
  | 43 => ⟨S17328x2, .f32⟩
  | 44 => ⟨S17328x2, .f32⟩
  | 45 => ⟨S_, .f32⟩
  | 46 => ⟨S17328x2, .f32⟩
  | 47 => ⟨S17328x2, .f32⟩
  | 48 => ⟨S17328x2, .f32⟩
  | 49 => ⟨S17328x4, .f32⟩
  | 50 => ⟨S17328x1, .f32⟩
  | 51 => ⟨S17328, .f32⟩
  | 52 => ⟨S17328x1, .f32⟩
  | 53 => ⟨S17328, .f32⟩
  | 54 => ⟨S17328, .f32⟩
  | 55 => ⟨S_, .f32⟩
  | 56 => ⟨S17328, .f32⟩
  | 57 => ⟨S17328, .f32⟩
  | 58 => ⟨S17328x1, .f32⟩
  | 59 => ⟨S17328, .f32⟩
  | 60 => ⟨S17328x1, .f32⟩
  | 61 => ⟨S17328, .f32⟩
  | 62 => ⟨S17328, .f32⟩
  | 63 => ⟨S_, .f32⟩
  | 64 => ⟨S17328, .f32⟩
  | 65 => ⟨S17328, .f32⟩
  | 66 => ⟨S17328x1, .f32⟩
  | 67 => ⟨S17328, .f32⟩
  | 68 => ⟨S17328x1, .f32⟩
  | 69 => ⟨S17328, .f32⟩
  | 70 => ⟨S17328, .f32⟩
  | 71 => ⟨S17328x1, .f32⟩
  | 72 => ⟨S17328, .f32⟩
  | 73 => ⟨S17328x1, .f32⟩
  | 74 => ⟨S17328, .f32⟩
  | 75 => ⟨S17328, .f32⟩
  | 76 => ⟨S17328x1, .f32⟩
  | 77 => ⟨S17328, .f32⟩
  | 78 => ⟨S_, .f32⟩
  | 79 => ⟨S17328, .f32⟩
  | 80 => ⟨S17328, .f32⟩
  | 81 => ⟨S_, .f32⟩
  | 82 => ⟨S17328, .f32⟩
  | 83 => ⟨S17328, .f32⟩
  | 84 => ⟨S17328, .f32⟩
  | 85 => ⟨S17328x1, .f32⟩
  | 86 => ⟨S17328, .f32⟩
  | 87 => ⟨S_, .f32⟩
  | 88 => ⟨S17328, .f32⟩
  | 89 => ⟨S17328, .f32⟩
  | 90 => ⟨S_, .f32⟩
  | 91 => ⟨S17328, .f32⟩
  | 92 => ⟨S17328, .f32⟩
  | 93 => ⟨S17328, .f32⟩
  | 94 => ⟨S17328x1, .f32⟩
  | 95 => ⟨S17328, .f32⟩
  | 96 => ⟨S17328, .f32⟩
  | 97 => ⟨S17328, .f32⟩
  | 98 => ⟨S17328x1, .f32⟩
  | 99 => ⟨S17328, .f32⟩
  | 100 => ⟨S17328, .f32⟩
  | 101 => ⟨S17328, .f32⟩
  | 102 => ⟨S_, .f32⟩
  | 103 => ⟨S17328, .f32⟩
  | 104 => ⟨S17328, .f32⟩
  | 105 => ⟨S17328, .f32⟩
  | 106 => ⟨S_, .f32⟩
  | 107 => ⟨S17328, .f32⟩
  | 108 => ⟨S17328, .f32⟩
  | 109 => ⟨S17328, .f32⟩
  | 110 => ⟨S_, .f32⟩
  | 111 => ⟨S17328, .f32⟩
  | 112 => ⟨S17328, .f32⟩
  | 113 => ⟨S17328, .f32⟩
  | 114 => ⟨S_, .f32⟩
  | 115 => ⟨S17328, .f32⟩
  | 116 => ⟨S17328, .f32⟩
  | 117 => ⟨S17328, .f32⟩
  | 118 => ⟨S17328x1, .f32⟩
  | 119 => ⟨S17328x1, .f32⟩
  | 120 => ⟨S17328x1, .f32⟩
  | 121 => ⟨S17328x1, .f32⟩
  | 122 => ⟨S17328x4, .f32⟩
  | 123 => ⟨S17328x1, .f32⟩
  | 124 => ⟨S17328, .f32⟩
  | 125 => ⟨S17328, .f32⟩
  | 126 => ⟨S17328, .f32⟩
  | 127 => ⟨S_, .f32⟩
  | _ => ⟨S1x255x19x19, .f32⟩

abbrev hbmTy0_3 (i : Nat) : BufTy := match i % 128 with
  | 0 => ⟨S17328, .f32⟩
  | 1 => ⟨S17328, .f32⟩
  | 2 => ⟨S_, .f32⟩
  | 3 => ⟨S17328, .f32⟩
  | 4 => ⟨S17328, .f32⟩
  | 5 => ⟨S17328x80, .f32⟩
  | 6 => ⟨S17328x80, .f32⟩
  | 7 => ⟨S17328x80, .f32⟩
  | 8 => ⟨S_, .f32⟩
  | 9 => ⟨S17328x80, .f32⟩
  | 10 => ⟨S17328x80, .f32⟩
  | 11 => ⟨S_, .f32⟩
  | 12 => ⟨S17328x80, .f32⟩
  | 13 => ⟨S17328x80, .f32⟩
  | 14 => ⟨S1000, .f32⟩
  | 15 => ⟨S1000, .i32⟩
  | 16 => ⟨S_, .i32⟩
  | 17 => ⟨S1000, .i32⟩
  | 18 => ⟨S1000, .i1⟩
  | 19 => ⟨S_, .i32⟩
  | 20 => ⟨S1000, .i32⟩
  | 21 => ⟨S1000, .i32⟩
  | 22 => ⟨S1000, .i32⟩
  | 23 => ⟨S1000x1, .i32⟩
  | 24 => ⟨S1000x4, .f32⟩
  | 25 => ⟨S_, .i32⟩
  | 26 => ⟨S1000, .i32⟩
  | 27 => ⟨S1000, .i1⟩
  | 28 => ⟨S_, .i32⟩
  | 29 => ⟨S1000, .i32⟩
  | 30 => ⟨S1000, .i32⟩
  | 31 => ⟨S1000, .i32⟩
  | 32 => ⟨S1000x1, .i32⟩
  | 33 => ⟨S1000x80, .f32⟩
  | 34 => ⟨S_, .f32⟩
  | 35 => ⟨S1000, .f32⟩
  | 36 => ⟨S1000, .i1⟩
  | 37 => ⟨S1000, .f32⟩
  | 38 => ⟨S1000, .f32⟩
  | 39 => ⟨S3000x4, .f32⟩
  | 40 => ⟨S3000x80, .f32⟩
  | 41 => ⟨S3000, .f32⟩
  | 42 => ⟨S3000x1, .f32⟩
  | 43 => ⟨S3000x80, .f32⟩
  | 44 => ⟨S3000x80, .f32⟩
  | 45 => ⟨S_, .f32⟩
  | 46 => ⟨S3000x80, .f32⟩
  | 47 => ⟨S3000x80, .i1⟩
  | 48 => ⟨S3000x80, .f32⟩
  | 49 => ⟨S3000x80, .f32⟩
  | 50 => ⟨S240000, .f32⟩
  | 51 => ⟨S2000, .f32⟩
  | 52 => ⟨S2000, .i32⟩
  | 53 => ⟨S_, .i32⟩
  | 54 => ⟨S_, .i32⟩
  | 55 => ⟨S2000, .i32⟩
  | 56 => ⟨S2000, .i32⟩
  | 57 => ⟨S2000, .i32⟩
  | 58 => ⟨S_, .i32⟩
  | 59 => ⟨S2000, .i32⟩
  | 60 => ⟨S2000, .i1⟩
  | 61 => ⟨S2000, .i32⟩
  | 62 => ⟨S2000, .i32⟩
  | 63 => ⟨S_, .i32⟩
  | 64 => ⟨S2000, .i32⟩
  | 65 => ⟨S2000, .i1⟩
  | 66 => ⟨S2000, .i1⟩
  | 67 => ⟨S_, .i32⟩
  | 68 => ⟨S2000, .i32⟩
  | 69 => ⟨S2000, .i32⟩
  | 70 => ⟨S2000, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S2000, .i32⟩
  | 78 => ⟨S2000, .i32⟩
  | 79 => ⟨S_, .i32⟩
  | 80 => ⟨S2000, .i32⟩
  | 81 => ⟨S2000, .i1⟩
  | 82 => ⟨S_, .i32⟩
  | 83 => ⟨S2000, .i32⟩
  | 84 => ⟨S2000, .i1⟩
  | 85 => ⟨S_, .i32⟩
  | 86 => ⟨S_, .i1⟩
  | 87 => ⟨S2000, .i1⟩
  | 88 => ⟨S2000, .i1⟩
  | 89 => ⟨S2000, .i1⟩
  | 90 => ⟨S2000, .i32⟩
  | 91 => ⟨S2000, .i32⟩
  | 92 => ⟨S2000, .i32⟩
  | 93 => ⟨S_, .i32⟩
  | 94 => ⟨S2000, .i32⟩
  | 95 => ⟨S2000, .i1⟩
  | 96 => ⟨S_, .i32⟩
  | 97 => ⟨S2000, .i32⟩
  | 98 => ⟨S2000, .i32⟩
  | 99 => ⟨S2000, .i32⟩
  | 100 => ⟨S2000x1, .i32⟩
  | 101 => ⟨S2000x4, .f32⟩
  | 102 => ⟨S2000, .f32⟩
  | 103 => ⟨S_, .f32⟩
  | 104 => ⟨S2000, .f32⟩
  | 105 => ⟨S2000, .f32⟩
  | 106 => ⟨S2000x1, .f32⟩
  | 107 => ⟨S2000x4, .f32⟩
  | 108 => ⟨S2000x4, .f32⟩
  | 109 => ⟨S_, .i32⟩
  | 110 => ⟨S100, .i32⟩
  | 111 => ⟨S_, .f32⟩
  | 112 => ⟨S100, .f32⟩
  | 113 => ⟨S_, .i32⟩
  | 114 => ⟨S2000x4, .f32⟩
  | 115 => ⟨S_, .i32⟩
  | 116 => ⟨S2000, .f32⟩
  | 117 => ⟨S100, .i32⟩
  | 118 => ⟨S100, .f32⟩
  | 119 => ⟨S_, .i32⟩
  | 120 => ⟨S_, .i1⟩
  | 121 => ⟨S1, .f32⟩
  | 122 => ⟨S1, .i32⟩
  | 123 => ⟨S_, .i32⟩
  | 124 => ⟨S_, .f32⟩
  | 125 => ⟨S_, .i32⟩
  | 126 => ⟨S_, .i1⟩
  | 127 => ⟨S_, .i32⟩
  | _ => ⟨S1x255x19x19, .f32⟩

abbrev hbmTy0_4 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S1x4, .f32⟩
  | 11 => ⟨S4, .f32⟩
  | 12 => ⟨S1, .f32⟩
  | 13 => ⟨S_, .f32⟩
  | 14 => ⟨S2000x1, .f32⟩
  | 15 => ⟨S2000, .f32⟩
  | 16 => ⟨S2000, .f32⟩
  | 17 => ⟨S2000, .f32⟩
  | 18 => ⟨S1, .f32⟩
  | 19 => ⟨S_, .f32⟩
  | 20 => ⟨S2000x1, .f32⟩
  | 21 => ⟨S2000, .f32⟩
  | 22 => ⟨S2000, .f32⟩
  | 23 => ⟨S2000, .f32⟩
  | 24 => ⟨S1, .f32⟩
  | 25 => ⟨S_, .f32⟩
  | 26 => ⟨S2000x1, .f32⟩
  | 27 => ⟨S2000, .f32⟩
  | 28 => ⟨S2000, .f32⟩
  | 29 => ⟨S2000, .f32⟩
  | 30 => ⟨S1, .f32⟩
  | 31 => ⟨S_, .f32⟩
  | 32 => ⟨S2000x1, .f32⟩
  | 33 => ⟨S2000, .f32⟩
  | 34 => ⟨S2000, .f32⟩
  | 35 => ⟨S2000, .f32⟩
  | 36 => ⟨S2000, .f32⟩
  | 37 => ⟨S_, .f32⟩
  | 38 => ⟨S_, .f32⟩
  | 39 => ⟨S2000, .f32⟩
  | 40 => ⟨S2000, .f32⟩
  | 41 => ⟨S2000, .f32⟩
  | 42 => ⟨S_, .f32⟩
  | 43 => ⟨S_, .f32⟩
  | 44 => ⟨S2000, .f32⟩
  | 45 => ⟨S2000, .f32⟩
  | 46 => ⟨S2000, .f32⟩
  | 47 => ⟨S1, .f32⟩
  | 48 => ⟨S_, .f32⟩
  | 49 => ⟨S1, .f32⟩
  | 50 => ⟨S_, .f32⟩
  | 51 => ⟨S_, .f32⟩
  | 52 => ⟨S_, .f32⟩
  | 53 => ⟨S_, .f32⟩
  | 54 => ⟨S_, .f32⟩
  | 55 => ⟨S1, .f32⟩
  | 56 => ⟨S_, .f32⟩
  | 57 => ⟨S1, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S2000x1, .f32⟩
  | 65 => ⟨S2000, .f32⟩
  | 66 => ⟨S2000x1, .f32⟩
  | 67 => ⟨S2000, .f32⟩
  | 68 => ⟨S2000, .f32⟩
  | 69 => ⟨S_, .f32⟩
  | 70 => ⟨S_, .f32⟩
  | 71 => ⟨S2000, .f32⟩
  | 72 => ⟨S2000, .f32⟩
  | 73 => ⟨S2000x1, .f32⟩
  | 74 => ⟨S2000, .f32⟩
  | 75 => ⟨S2000x1, .f32⟩
  | 76 => ⟨S2000, .f32⟩
  | 77 => ⟨S2000, .f32⟩
  | 78 => ⟨S_, .f32⟩
  | 79 => ⟨S_, .f32⟩
  | 80 => ⟨S2000, .f32⟩
  | 81 => ⟨S2000, .f32⟩
  | 82 => ⟨S2000, .f32⟩
  | 83 => ⟨S2000, .f32⟩
  | 84 => ⟨S2000, .f32⟩
  | 85 => ⟨S2000, .f32⟩
  | 86 => ⟨S_, .f32⟩
  | 87 => ⟨S2000, .f32⟩
  | 88 => ⟨S2000, .f32⟩
  | 89 => ⟨S2000, .f32⟩
  | 90 => ⟨S_, .f32⟩
  | 91 => ⟨S2000, .f32⟩
  | 92 => ⟨S2000, .i1⟩
  | 93 => ⟨S_, .f32⟩
  | 94 => ⟨S_, .f32⟩
  | 95 => ⟨S2000, .f32⟩
  | 96 => ⟨S2000, .f32⟩
  | 97 => ⟨S_, .i32⟩
  | 98 => ⟨S_, .i1⟩
  | 99 => ⟨S_, .i32⟩
  | 100 => ⟨S_, .i32⟩
  | 101 => ⟨S_, .i32⟩
  | 102 => ⟨S1, .i32⟩
  | 103 => ⟨S_, .f32⟩
  | 104 => ⟨S2000, .f32⟩
  | 105 => ⟨S1, .i32⟩
  | 106 => ⟨S100, .i32⟩
  | 107 => ⟨S1, .f32⟩
  | 108 => ⟨S100, .f32⟩
  | 109 => ⟨S_, .i32⟩
  | 110 => ⟨S_, .i32⟩
  | 111 => ⟨S_, .f32⟩
  | 112 => ⟨S100, .f32⟩
  | 113 => ⟨S100, .i1⟩
  | 114 => ⟨S100, .f32⟩
  | 115 => ⟨S_, .i32⟩
  | 116 => ⟨S100, .i32⟩
  | 117 => ⟨S100, .i1⟩
  | 118 => ⟨S_, .i32⟩
  | 119 => ⟨S100, .i32⟩
  | 120 => ⟨S100, .i32⟩
  | 121 => ⟨S100, .i32⟩
  | 122 => ⟨S100x1, .i32⟩
  | 123 => ⟨S100x4, .f32⟩
  | 124 => ⟨S100x1, .f32⟩
  | 125 => ⟨S100x4, .f32⟩
  | 126 => ⟨S100x4, .f32⟩
  | 127 => ⟨S100, .f32⟩
  | _ => ⟨S1x255x19x19, .f32⟩

abbrev hbmTy0_5 (i : Nat) : BufTy := match i % 128 with
  | 0 => ⟨S_, .f32⟩
  | 1 => ⟨S100, .f32⟩
  | 2 => ⟨S100, .i1⟩
  | 3 => ⟨S_, .i32⟩
  | 4 => ⟨S100, .i32⟩
  | 5 => ⟨S100, .i1⟩
  | 6 => ⟨S_, .i32⟩
  | 7 => ⟨S100, .i32⟩
  | 8 => ⟨S100, .i32⟩
  | 9 => ⟨S100, .i32⟩
  | 10 => ⟨S100x1, .i32⟩
  | 11 => ⟨S100, .i32⟩
  | 12 => ⟨S_, .i32⟩
  | 13 => ⟨S_, .i32⟩
  | 14 => ⟨S100, .i32⟩
  | 15 => ⟨S100, .i32⟩
  | 16 => ⟨S_, .f32⟩
  | 17 => ⟨S_, .f32⟩
  | 18 => ⟨S_, .i32⟩
  | 19 => ⟨S1, .i32⟩
  | 20 => ⟨S1x100x4, .f32⟩
  | 21 => ⟨S1x100, .f32⟩
  | 22 => ⟨S1x100, .i32⟩
  | _ => ⟨S1x255x19x19, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x255x19x19, .f32⟩

abbrev bufTy : (tb : Table) → Fin (tcTables nBuf tb) → BufTy
  | .hbm, ⟨i, _⟩ => hbmTy i
  | _, _ => ⟨S1x255x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_16 : Ref sig .tc := ⟨.hbm, 107, rfl⟩
abbrev main_v87 : Ref sig .tc := ⟨.hbm, 108, rfl⟩
abbrev main_v88 : Ref sig .tc := ⟨.hbm, 109, rfl⟩
abbrev main_cst_17 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_18 : Ref sig .tc := ⟨.hbm, 116, rfl⟩
abbrev main_v94 : Ref sig .tc := ⟨.hbm, 117, rfl⟩
abbrev main_v95 : Ref sig .tc := ⟨.hbm, 118, rfl⟩
abbrev main_cst_19 : Ref sig .tc := ⟨.hbm, 119, rfl⟩
abbrev main_v96 : Ref sig .tc := ⟨.hbm, 120, rfl⟩
abbrev main_v97 : Ref sig .tc := ⟨.hbm, 121, rfl⟩
abbrev main_values : Ref sig .tc := ⟨.hbm, 122, rfl⟩
abbrev main_indices : Ref sig .tc := ⟨.hbm, 123, rfl⟩
abbrev main_c : Ref sig .tc := ⟨.hbm, 124, rfl⟩
abbrev main_v98 : Ref sig .tc := ⟨.hbm, 125, rfl⟩
abbrev main_v99 : Ref sig .tc := ⟨.hbm, 126, rfl⟩
abbrev main_c_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_21 : Ref sig .tc := ⟨.hbm, 133, rfl⟩
abbrev main_v105 : Ref sig .tc := ⟨.hbm, 134, rfl⟩
abbrev main_v106 : Ref sig .tc := ⟨.hbm, 135, rfl⟩
abbrev main_c_22 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_23 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_24 : Ref sig .tc := ⟨.hbm, 152, rfl⟩
abbrev main_v121 : Ref sig .tc := ⟨.hbm, 153, rfl⟩
abbrev main_v122 : Ref sig .tc := ⟨.hbm, 154, rfl⟩
abbrev main_cst_25 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_26 : Ref sig .tc := ⟨.hbm, 160, rfl⟩
abbrev main_v127 : Ref sig .tc := ⟨.hbm, 161, rfl⟩
abbrev main_v128 : Ref sig .tc := ⟨.hbm, 162, rfl⟩
abbrev main_cst_27 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_28 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_29 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_30 : Ref sig .tc := ⟨.hbm, 196, rfl⟩
abbrev main_v159 : Ref sig .tc := ⟨.hbm, 197, rfl⟩
abbrev main_v160 : Ref sig .tc := ⟨.hbm, 198, rfl⟩
abbrev main_cst_31 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_cst_32 : Ref sig .tc := ⟨.hbm, 205, rfl⟩
abbrev main_v166 : Ref sig .tc := ⟨.hbm, 206, rfl⟩
abbrev main_v167 : Ref sig .tc := ⟨.hbm, 207, rfl⟩
abbrev main_cst_33 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_34 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_cst_35 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_36 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_37 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_38 : Ref sig .tc := ⟨.hbm, 245, rfl⟩
abbrev main_v200 : Ref sig .tc := ⟨.hbm, 246, rfl⟩
abbrev main_v201 : Ref sig .tc := ⟨.hbm, 247, rfl⟩
abbrev main_cst_39 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_40 : Ref sig .tc := ⟨.hbm, 254, rfl⟩
abbrev main_v207 : Ref sig .tc := ⟨.hbm, 255, rfl⟩
abbrev main_v208 : Ref sig .tc := ⟨.hbm, 256, rfl⟩
abbrev main_cst_41 : Ref sig .tc := ⟨.hbm, 257, rfl⟩
abbrev main_v209 : Ref sig .tc := ⟨.hbm, 258, rfl⟩
abbrev main_v210 : Ref sig .tc := ⟨.hbm, 259, rfl⟩
abbrev main_values_42 : Ref sig .tc := ⟨.hbm, 260, rfl⟩
abbrev main_indices_43 : Ref sig .tc := ⟨.hbm, 261, rfl⟩
abbrev main_c_44 : Ref sig .tc := ⟨.hbm, 262, rfl⟩
abbrev main_v211 : Ref sig .tc := ⟨.hbm, 263, rfl⟩
abbrev main_v212 : Ref sig .tc := ⟨.hbm, 264, rfl⟩
abbrev main_c_45 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_c_46 : Ref sig .tc := ⟨.hbm, 271, rfl⟩
abbrev main_v218 : Ref sig .tc := ⟨.hbm, 272, rfl⟩
abbrev main_v219 : Ref sig .tc := ⟨.hbm, 273, rfl⟩
abbrev main_c_47 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_cst_48 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_49 : Ref sig .tc := ⟨.hbm, 290, rfl⟩
abbrev main_v234 : Ref sig .tc := ⟨.hbm, 291, rfl⟩
abbrev main_v235 : Ref sig .tc := ⟨.hbm, 292, rfl⟩
abbrev main_cst_50 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_cst_51 : Ref sig .tc := ⟨.hbm, 298, rfl⟩
abbrev main_v240 : Ref sig .tc := ⟨.hbm, 299, rfl⟩
abbrev main_v241 : Ref sig .tc := ⟨.hbm, 300, rfl⟩
abbrev main_cst_52 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_53 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_cst_54 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_cst_55 : Ref sig .tc := ⟨.hbm, 334, rfl⟩
abbrev main_v272 : Ref sig .tc := ⟨.hbm, 335, rfl⟩
abbrev main_v273 : Ref sig .tc := ⟨.hbm, 336, rfl⟩
abbrev main_cst_56 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_cst_57 : Ref sig .tc := ⟨.hbm, 343, rfl⟩
abbrev main_v279 : Ref sig .tc := ⟨.hbm, 344, rfl⟩
abbrev main_v280 : Ref sig .tc := ⟨.hbm, 345, rfl⟩
abbrev main_cst_58 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_cst_59 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_cst_60 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_cst_61 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_cst_62 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_cst_63 : Ref sig .tc := ⟨.hbm, 383, rfl⟩
abbrev main_v313 : Ref sig .tc := ⟨.hbm, 384, rfl⟩
abbrev main_v314 : Ref sig .tc := ⟨.hbm, 385, rfl⟩
abbrev main_cst_64 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_cst_65 : Ref sig .tc := ⟨.hbm, 392, rfl⟩
abbrev main_v320 : Ref sig .tc := ⟨.hbm, 393, rfl⟩
abbrev main_v321 : Ref sig .tc := ⟨.hbm, 394, rfl⟩
abbrev main_cst_66 : Ref sig .tc := ⟨.hbm, 395, rfl⟩
abbrev main_v322 : Ref sig .tc := ⟨.hbm, 396, rfl⟩
abbrev main_v323 : Ref sig .tc := ⟨.hbm, 397, rfl⟩
abbrev main_values_67 : Ref sig .tc := ⟨.hbm, 398, rfl⟩
abbrev main_indices_68 : Ref sig .tc := ⟨.hbm, 399, rfl⟩
abbrev main_c_69 : Ref sig .tc := ⟨.hbm, 400, rfl⟩
abbrev main_v324 : Ref sig .tc := ⟨.hbm, 401, rfl⟩
abbrev main_v325 : Ref sig .tc := ⟨.hbm, 402, rfl⟩
abbrev main_c_70 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_c_71 : Ref sig .tc := ⟨.hbm, 409, rfl⟩
abbrev main_v331 : Ref sig .tc := ⟨.hbm, 410, rfl⟩
abbrev main_v332 : Ref sig .tc := ⟨.hbm, 411, rfl⟩
abbrev main_c_72 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_cst_73 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_cst_74 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_values_75 : Ref sig .tc := ⟨.hbm, 435, rfl⟩
abbrev main_indices_76 : Ref sig .tc := ⟨.hbm, 436, rfl⟩
abbrev main_c_77 : Ref sig .tc := ⟨.hbm, 437, rfl⟩
abbrev main_call0_v0 : Ref sig .tc := ⟨.hbm, 438, rfl⟩
abbrev main_call0_v1 : Ref sig .tc := ⟨.hbm, 439, rfl⟩
abbrev main_call0_v2 : Ref sig .tc := ⟨.hbm, 440, rfl⟩
abbrev main_call0_v3 : Ref sig .tc := ⟨.hbm, 441, rfl⟩
abbrev main_call0_v4 : Ref sig .tc := ⟨.hbm, 442, rfl⟩
abbrev main_call0_v5 : Ref sig .tc := ⟨.hbm, 443, rfl⟩
abbrev main_call0_v6 : Ref sig .tc := ⟨.hbm, 444, rfl⟩
abbrev main_call0_v7 : Ref sig .tc := ⟨.hbm, 445, rfl⟩
abbrev main_call0_v8 : Ref sig .tc := ⟨.hbm, 446, rfl⟩
abbrev main_call0_c : Ref sig .tc := ⟨.hbm, 447, rfl⟩
abbrev main_call0_v9 : Ref sig .tc := ⟨.hbm, 448, rfl⟩
abbrev main_call0_v10 : Ref sig .tc := ⟨.hbm, 449, rfl⟩
abbrev main_call0_v11 : Ref sig .tc := ⟨.hbm, 450, rfl⟩
abbrev main_call0_c_0 : Ref sig .tc := ⟨.hbm, 451, rfl⟩
abbrev main_call0_v12 : Ref sig .tc := ⟨.hbm, 452, rfl⟩
abbrev main_call0_v13 : Ref sig .tc := ⟨.hbm, 453, rfl⟩
abbrev main_v353 : Ref sig .tc := ⟨.hbm, 454, rfl⟩
abbrev main_c_78 : Ref sig .tc := ⟨.hbm, 455, rfl⟩
abbrev main_call1_v0 : Ref sig .tc := ⟨.hbm, 456, rfl⟩
abbrev main_call1_c : Ref sig .tc := ⟨.hbm, 457, rfl⟩
abbrev main_call1_v1 : Ref sig .tc := ⟨.hbm, 458, rfl⟩
abbrev main_call1_c_0 : Ref sig .tc := ⟨.hbm, 459, rfl⟩
abbrev main_call1_v2 : Ref sig .tc := ⟨.hbm, 460, rfl⟩
abbrev main_call1_v3 : Ref sig .tc := ⟨.hbm, 461, rfl⟩
abbrev main_call1_v4 : Ref sig .tc := ⟨.hbm, 462, rfl⟩
abbrev main_call1_c_1 : Ref sig .tc := ⟨.hbm, 463, rfl⟩
abbrev main_call1_v5 : Ref sig .tc := ⟨.hbm, 464, rfl⟩
abbrev main_call1_v6 : Ref sig .tc := ⟨.hbm, 465, rfl⟩
abbrev main_call1_c_2 : Ref sig .tc := ⟨.hbm, 466, rfl⟩
abbrev main_call1_v7 : Ref sig .tc := ⟨.hbm, 467, rfl⟩
abbrev main_call1_v8 : Ref sig .tc := ⟨.hbm, 468, rfl⟩
abbrev main_call1_c_3 : Ref sig .tc := ⟨.hbm, 469, rfl⟩
abbrev main_call1_v9 : Ref sig .tc := ⟨.hbm, 470, rfl⟩
abbrev main_call1_v10 : Ref sig .tc := ⟨.hbm, 471, rfl⟩
abbrev main_call1_v11 : Ref sig .tc := ⟨.hbm, 472, rfl⟩
abbrev main_call1_v12 : Ref sig .tc := ⟨.hbm, 473, rfl⟩
abbrev main_call1_v13 : Ref sig .tc := ⟨.hbm, 474, rfl⟩
abbrev main_call1_v14 : Ref sig .tc := ⟨.hbm, 475, rfl⟩
abbrev main_v354 : Ref sig .tc := ⟨.hbm, 476, rfl⟩
abbrev main_c_79 : Ref sig .tc := ⟨.hbm, 477, rfl⟩
abbrev main_v355 : Ref sig .tc := ⟨.hbm, 478, rfl⟩
abbrev main_v356 : Ref sig .tc := ⟨.hbm, 479, rfl⟩
abbrev main_c_80 : Ref sig .tc := ⟨.hbm, 480, rfl⟩
abbrev main_v357 : Ref sig .tc := ⟨.hbm, 481, rfl⟩
abbrev main_v358 : Ref sig .tc := ⟨.hbm, 482, rfl⟩
abbrev main_v359 : Ref sig .tc := ⟨.hbm, 483, rfl⟩
abbrev main_v360 : Ref sig .tc := ⟨.hbm, 484, rfl⟩
abbrev main_v361 : Ref sig .tc := ⟨.hbm, 485, rfl⟩
abbrev main_v362 : Ref sig .tc := ⟨.hbm, 486, rfl⟩
abbrev main_cst_81 : Ref sig .tc := ⟨.hbm, 487, rfl⟩
abbrev main_v363 : Ref sig .tc := ⟨.hbm, 488, rfl⟩
abbrev main_v364 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_c_82 : Ref sig .tc := ⟨.hbm, 493, rfl⟩
abbrev main_v368 : Ref sig .tc := ⟨.hbm, 494, rfl⟩
abbrev main_cst_83 : Ref sig .tc := ⟨.hbm, 495, rfl⟩
abbrev main_v369 : Ref sig .tc := ⟨.hbm, 496, rfl⟩
abbrev main_c_84 : Ref sig .tc := ⟨.hbm, 497, rfl⟩
abbrev main_v370_0 : Ref sig .tc := ⟨.hbm, 498, rfl⟩
abbrev main_v370_1 : Ref sig .tc := ⟨.hbm, 499, rfl⟩
abbrev main_v370_2 : Ref sig .tc := ⟨.hbm, 500, rfl⟩
abbrev main_v370_3 : Ref sig .tc := ⟨.hbm, 501, rfl⟩
abbrev main_v370_4 : Ref sig .tc := ⟨.hbm, 502, rfl⟩
abbrev main_while0c_c_97 : Ref sig .tc := ⟨.hbm, 503, rfl⟩
abbrev main_while0c_v401 : Ref sig .tc := ⟨.hbm, 504, rfl⟩
abbrev main_while0b_values_97 : Ref sig .tc := ⟨.hbm, 505, rfl⟩
abbrev main_while0b_indices_98 : Ref sig .tc := ⟨.hbm, 506, rfl⟩
abbrev main_while0b_v401 : Ref sig .tc := ⟨.hbm, 507, rfl⟩
abbrev main_while0b_v402 : Ref sig .tc := ⟨.hbm, 508, rfl⟩
abbrev main_while0b_c_99 : Ref sig .tc := ⟨.hbm, 509, rfl⟩
abbrev main_while0b_v403 : Ref sig .tc := ⟨.hbm, 510, rfl⟩
abbrev main_while0b_c_100 : Ref sig .tc := ⟨.hbm, 511, rfl⟩
abbrev main_while0b_v404 : Ref sig .tc := ⟨.hbm, 512, rfl⟩
abbrev main_while0b_v405 : Ref sig .tc := ⟨.hbm, 513, rfl⟩
abbrev main_while0b_c_101 : Ref sig .tc := ⟨.hbm, 514, rfl⟩
abbrev main_while0b_c_102 : Ref sig .tc := ⟨.hbm, 515, rfl⟩
abbrev main_while0b_v406 : Ref sig .tc := ⟨.hbm, 516, rfl⟩
abbrev main_while0b_c_103 : Ref sig .tc := ⟨.hbm, 517, rfl⟩
abbrev main_while0b_c_104 : Ref sig .tc := ⟨.hbm, 518, rfl⟩
abbrev main_while0b_v407 : Ref sig .tc := ⟨.hbm, 519, rfl⟩
abbrev main_while0b_c_105 : Ref sig .tc := ⟨.hbm, 520, rfl⟩
abbrev main_while0b_v408 : Ref sig .tc := ⟨.hbm, 521, rfl⟩
abbrev main_while0b_v409 : Ref sig .tc := ⟨.hbm, 522, rfl⟩
abbrev main_while0b_v410 : Ref sig .tc := ⟨.hbm, 523, rfl⟩
abbrev main_while0b_v411 : Ref sig .tc := ⟨.hbm, 524, rfl⟩
abbrev main_while0b_v412 : Ref sig .tc := ⟨.hbm, 525, rfl⟩
abbrev main_while0b_v413 : Ref sig .tc := ⟨.hbm, 526, rfl⟩
abbrev main_while0b_v414 : Ref sig .tc := ⟨.hbm, 527, rfl⟩
abbrev main_while0b_v415 : Ref sig .tc := ⟨.hbm, 528, rfl⟩
abbrev main_while0b_v416 : Ref sig .tc := ⟨.hbm, 529, rfl⟩
abbrev main_while0b_v417 : Ref sig .tc := ⟨.hbm, 530, rfl⟩
abbrev main_while0b_v418 : Ref sig .tc := ⟨.hbm, 531, rfl⟩
abbrev main_while0b_v419 : Ref sig .tc := ⟨.hbm, 532, rfl⟩
abbrev main_while0b_v420 : Ref sig .tc := ⟨.hbm, 533, rfl⟩
abbrev main_while0b_v421 : Ref sig .tc := ⟨.hbm, 534, rfl⟩
abbrev main_while0b_v422 : Ref sig .tc := ⟨.hbm, 535, rfl⟩
abbrev main_while0b_v423 : Ref sig .tc := ⟨.hbm, 536, rfl⟩
abbrev main_while0b_v424 : Ref sig .tc := ⟨.hbm, 537, rfl⟩
abbrev main_while0b_v425 : Ref sig .tc := ⟨.hbm, 538, rfl⟩
abbrev main_while0b_v426 : Ref sig .tc := ⟨.hbm, 539, rfl⟩
abbrev main_while0b_v427 : Ref sig .tc := ⟨.hbm, 540, rfl⟩
abbrev main_while0b_v428 : Ref sig .tc := ⟨.hbm, 541, rfl⟩
abbrev main_while0b_v429 : Ref sig .tc := ⟨.hbm, 542, rfl⟩
abbrev main_while0b_v430 : Ref sig .tc := ⟨.hbm, 543, rfl⟩
abbrev main_while0b_v431 : Ref sig .tc := ⟨.hbm, 544, rfl⟩
abbrev main_while0b_v432 : Ref sig .tc := ⟨.hbm, 545, rfl⟩
abbrev main_while0b_v433 : Ref sig .tc := ⟨.hbm, 546, rfl⟩
abbrev main_while0b_v434 : Ref sig .tc := ⟨.hbm, 547, rfl⟩
abbrev main_while0b_v435 : Ref sig .tc := ⟨.hbm, 548, rfl⟩
abbrev main_while0b_cst_106 : Ref sig .tc := ⟨.hbm, 549, rfl⟩
abbrev main_while0b_call2_v0 : Ref sig .tc := ⟨.hbm, 550, rfl⟩
abbrev main_while0b_call2_v1 : Ref sig .tc := ⟨.hbm, 551, rfl⟩
abbrev main_while0b_v436 : Ref sig .tc := ⟨.hbm, 552, rfl⟩
abbrev main_while0b_v437 : Ref sig .tc := ⟨.hbm, 553, rfl⟩
abbrev main_while0b_cst_107 : Ref sig .tc := ⟨.hbm, 554, rfl⟩
abbrev main_while0b_call3_v0 : Ref sig .tc := ⟨.hbm, 555, rfl⟩
abbrev main_while0b_call3_v1 : Ref sig .tc := ⟨.hbm, 556, rfl⟩
abbrev main_while0b_v438 : Ref sig .tc := ⟨.hbm, 557, rfl⟩
abbrev main_while0b_v439 : Ref sig .tc := ⟨.hbm, 558, rfl⟩
abbrev main_while0b_v440 : Ref sig .tc := ⟨.hbm, 559, rfl⟩
abbrev main_while0b_v441 : Ref sig .tc := ⟨.hbm, 560, rfl⟩
abbrev main_while0b_v442 : Ref sig .tc := ⟨.hbm, 561, rfl⟩
abbrev main_while0b_v443 : Ref sig .tc := ⟨.hbm, 562, rfl⟩
abbrev main_while0b_v444 : Ref sig .tc := ⟨.hbm, 563, rfl⟩
abbrev main_while0b_cst_108 : Ref sig .tc := ⟨.hbm, 564, rfl⟩
abbrev main_while0b_call4_v0 : Ref sig .tc := ⟨.hbm, 565, rfl⟩
abbrev main_while0b_v445 : Ref sig .tc := ⟨.hbm, 566, rfl⟩
abbrev main_while0b_v446 : Ref sig .tc := ⟨.hbm, 567, rfl⟩
abbrev main_while0b_v447 : Ref sig .tc := ⟨.hbm, 568, rfl⟩
abbrev main_while0b_v448 : Ref sig .tc := ⟨.hbm, 569, rfl⟩
abbrev main_while0b_v449 : Ref sig .tc := ⟨.hbm, 570, rfl⟩
abbrev main_while0b_v450 : Ref sig .tc := ⟨.hbm, 571, rfl⟩
abbrev main_while0b_cst_109 : Ref sig .tc := ⟨.hbm, 572, rfl⟩
abbrev main_while0b_call5_v0 : Ref sig .tc := ⟨.hbm, 573, rfl⟩
abbrev main_while0b_v451 : Ref sig .tc := ⟨.hbm, 574, rfl⟩
abbrev main_while0b_v452 : Ref sig .tc := ⟨.hbm, 575, rfl⟩
abbrev main_while0b_v453 : Ref sig .tc := ⟨.hbm, 576, rfl⟩
abbrev main_while0b_v454 : Ref sig .tc := ⟨.hbm, 577, rfl⟩
abbrev main_while0b_v455 : Ref sig .tc := ⟨.hbm, 578, rfl⟩
abbrev main_while0b_v456 : Ref sig .tc := ⟨.hbm, 579, rfl⟩
abbrev main_while0b_v457 : Ref sig .tc := ⟨.hbm, 580, rfl⟩
abbrev main_while0b_cst_110 : Ref sig .tc := ⟨.hbm, 581, rfl⟩
abbrev main_while0b_call6_v0 : Ref sig .tc := ⟨.hbm, 582, rfl⟩
abbrev main_while0b_call6_v1 : Ref sig .tc := ⟨.hbm, 583, rfl⟩
abbrev main_while0b_v458 : Ref sig .tc := ⟨.hbm, 584, rfl⟩
abbrev main_while0b_v459 : Ref sig .tc := ⟨.hbm, 585, rfl⟩
abbrev main_while0b_v460 : Ref sig .tc := ⟨.hbm, 586, rfl⟩
abbrev main_while0b_v461 : Ref sig .tc := ⟨.hbm, 587, rfl⟩
abbrev main_while0b_v462 : Ref sig .tc := ⟨.hbm, 588, rfl⟩
abbrev main_while0b_v463 : Ref sig .tc := ⟨.hbm, 589, rfl⟩
abbrev main_while0b_cst_111 : Ref sig .tc := ⟨.hbm, 590, rfl⟩
abbrev main_while0b_call7_v0 : Ref sig .tc := ⟨.hbm, 591, rfl⟩
abbrev main_while0b_call7_v1 : Ref sig .tc := ⟨.hbm, 592, rfl⟩
abbrev main_while0b_v464 : Ref sig .tc := ⟨.hbm, 593, rfl⟩
abbrev main_while0b_v465 : Ref sig .tc := ⟨.hbm, 594, rfl⟩
abbrev main_while0b_v466 : Ref sig .tc := ⟨.hbm, 595, rfl⟩
abbrev main_while0b_v467 : Ref sig .tc := ⟨.hbm, 596, rfl⟩
abbrev main_while0b_v468 : Ref sig .tc := ⟨.hbm, 597, rfl⟩
abbrev main_while0b_cst_112 : Ref sig .tc := ⟨.hbm, 598, rfl⟩
abbrev main_while0b_v469 : Ref sig .tc := ⟨.hbm, 599, rfl⟩
abbrev main_while0b_v470 : Ref sig .tc := ⟨.hbm, 600, rfl⟩
abbrev main_while0b_v471 : Ref sig .tc := ⟨.hbm, 601, rfl⟩
abbrev main_while0b_cst_113 : Ref sig .tc := ⟨.hbm, 602, rfl⟩
abbrev main_while0b_v472 : Ref sig .tc := ⟨.hbm, 603, rfl⟩
abbrev main_while0b_v473 : Ref sig .tc := ⟨.hbm, 604, rfl⟩
abbrev main_while0b_cst_114 : Ref sig .tc := ⟨.hbm, 605, rfl⟩
abbrev main_while0b_call8_v0 : Ref sig .tc := ⟨.hbm, 606, rfl⟩
abbrev main_while0b_call8_v1 : Ref sig .tc := ⟨.hbm, 607, rfl⟩
abbrev main_while0b_v474 : Ref sig .tc := ⟨.hbm, 608, rfl⟩
abbrev main_while0b_c_115 : Ref sig .tc := ⟨.hbm, 609, rfl⟩
abbrev main_while0b_v475 : Ref sig .tc := ⟨.hbm, 610, rfl⟩
abbrev main_while0b_c_116 : Ref sig .tc := ⟨.hbm, 611, rfl⟩
abbrev main_while0b_v476 : Ref sig .tc := ⟨.hbm, 612, rfl⟩
abbrev main_while0b_v477 : Ref sig .tc := ⟨.hbm, 613, rfl⟩
abbrev main_while0b_v478 : Ref sig .tc := ⟨.hbm, 614, rfl⟩
abbrev main_while0b_cst_117 : Ref sig .tc := ⟨.hbm, 615, rfl⟩
abbrev main_while0b_v479 : Ref sig .tc := ⟨.hbm, 616, rfl⟩
abbrev main_while0b_call9_v0 : Ref sig .tc := ⟨.hbm, 617, rfl⟩
abbrev main_while0b_v480 : Ref sig .tc := ⟨.hbm, 618, rfl⟩
abbrev main_while0b_call10_v0 : Ref sig .tc := ⟨.hbm, 619, rfl⟩
abbrev main_while0b_v481 : Ref sig .tc := ⟨.hbm, 620, rfl⟩
abbrev main_while0b_c_118 : Ref sig .tc := ⟨.hbm, 621, rfl⟩
abbrev main_while0b_v482 : Ref sig .tc := ⟨.hbm, 622, rfl⟩
abbrev main_cst_85 : Ref sig .tc := ⟨.hbm, 623, rfl⟩
abbrev main_v371 : Ref sig .tc := ⟨.hbm, 624, rfl⟩
abbrev main_v372 : Ref sig .tc := ⟨.hbm, 625, rfl⟩
abbrev main_v373 : Ref sig .tc := ⟨.hbm, 626, rfl⟩
abbrev main_c_86 : Ref sig .tc := ⟨.hbm, 627, rfl⟩
abbrev main_v374 : Ref sig .tc := ⟨.hbm, 628, rfl⟩
abbrev main_v375 : Ref sig .tc := ⟨.hbm, 629, rfl⟩
abbrev main_c_87 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_v379 : Ref sig .tc := ⟨.hbm, 634, rfl⟩
abbrev main_v380 : Ref sig .tc := ⟨.hbm, 635, rfl⟩
abbrev main_v381 : Ref sig .tc := ⟨.hbm, 636, rfl⟩
abbrev main_v382 : Ref sig .tc := ⟨.hbm, 637, rfl⟩
abbrev main_v383 : Ref sig .tc := ⟨.hbm, 638, rfl⟩
abbrev main_v384 : Ref sig .tc := ⟨.hbm, 639, rfl⟩
abbrev main_cst_88 : Ref sig .tc := ⟨.hbm, 640, rfl⟩
abbrev main_v385 : Ref sig .tc := ⟨.hbm, 641, rfl⟩
abbrev main_v386 : Ref sig .tc := ⟨.hbm, 642, rfl⟩
abbrev main_c_89 : Ref sig .tc := ⟨.hbm, 643, rfl⟩
abbrev main_v387 : Ref sig .tc := ⟨.hbm, 644, rfl⟩
abbrev main_v388 : Ref sig .tc := ⟨.hbm, 645, rfl⟩
abbrev main_c_90 : Ref sig .tc := ⟨.hbm, 646, rfl⟩
abbrev main_v389 : Ref sig .tc := ⟨.hbm, 647, rfl⟩
abbrev main_v390 : Ref sig .tc := ⟨.hbm, 648, rfl⟩
abbrev main_v391 : Ref sig .tc := ⟨.hbm, 649, rfl⟩
abbrev main_v392 : Ref sig .tc := ⟨.hbm, 650, rfl⟩
abbrev main_v393 : Ref sig .tc := ⟨.hbm, 651, rfl⟩
abbrev main_c_91 : Ref sig .tc := ⟨.hbm, 652, rfl⟩
abbrev main_call11_v0 : Ref sig .tc := ⟨.hbm, 653, rfl⟩
abbrev main_call11_v1 : Ref sig .tc := ⟨.hbm, 654, rfl⟩
abbrev main_v394 : Ref sig .tc := ⟨.hbm, 655, rfl⟩
abbrev main_cst_92 : Ref sig .tc := ⟨.hbm, 656, rfl⟩
abbrev main_v395 : Ref sig .tc := ⟨.hbm, 657, rfl⟩
abbrev main_v396 : Ref sig .tc := ⟨.hbm, 658, rfl⟩
abbrev main_v397 : Ref sig .tc := ⟨.hbm, 659, rfl⟩
abbrev main_v398 : Ref sig .tc := ⟨.hbm, 660, rfl⟩
abbrev main_v399 : Ref sig .tc := ⟨.hbm, 661, rfl⟩
abbrev main_v400 : Ref sig .tc := ⟨.hbm, 662, rfl⟩

abbrev nD : Nat := 1
abbrev τ : Topo := Topo.v7x

variable {F : FTy → Type} [FloatOps F]

abbrev main_while0_count : Scf.Loop 32 := ⟨0#32, 100#32, 1#32⟩
-- ==== Proof.KiBodies.lean ====
/-
  The two kernel bodies of the program, run once each from staging buffers held whole: what each leaves in its output
  buffers, as a function of what its input buffers held (and, for the second, of what its output buffer held: it
  writes 100 of the 128 rows).
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, -/
abbrev Bf (c : Dev nD) {sp : Space} {S : Shape} {e : EltTy} (M : Memref sig .tc sp S e) : Type := Buf (Elt F) (M.view.loc (c : Thread nD τ))
/-- and the buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The buffer held at `f` on the part memref `M` views. -/
abbrev pv (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- What the decode body leaves in its three output buffers, as functions of what its three input buffers hold, with
    the proof that from the six buffers held whole the body runs to its return, the inputs as they were. -/
def decRun (c : Dev nD) (M0 : Memref sig .tc .vmem S85x22784 .f32) (h0 : M0.IsWhole) (M1 : Memref sig .tc .vmem S4x22784 .f32) (h1 : M1.IsWhole)
    (M2 : Memref sig .tc .vmem S1x22784 .f32) (h2 : M2.IsWhole) (M3 : Memref sig .tc .vmem S4x22784 .f32) (h3 : M3.IsWhole)
    (M4 : Memref sig .tc .vmem S1x22784 .f32) (h4 : M4.IsWhole) (M5 : Memref sig .tc .vmem S80x22784 .f32) (h5 : M5.IsWhole)
    (f0 : Bf (F := F) c M0) (f1 : Bf (F := F) c M1) (f2 : Bf (F := F) c M2) :
    Σ' (W3 : Bf (F := F) c M3) (W4 : Bf (F := F) c M4), { W5 : Bf (F := F) c M5 //
      ∀ (f3 : Bf (F := F) c M3) (f4 : Bf (F := F) c M4) (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 W3 ∗ pt c M4 W4 ∗ pt c M5 W5) -∗ Q ⟨⟩))
          ⊢ wp frame (wpE (defs₀ (F := F)) Variants.none c none) E (cc0__decode_kernel M0 h0 M1 h1 M2 h2 M3 h3 M4 h4 M5 h5) Q } := by
  refine ⟨?_, ?_, ?_, fun f3 f4 f5 E Q => ?run⟩
  case run =>
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-- The rows the suppression body writes, last first: the hundred pieces the loop leaves (`Gen.st_k1_t1`), from what its
    three input buffers hold. -/
def nmsPieces (c : Dev nD) (M0 : Memref sig .tc .vmem S4x2048 .f32) (h0 : M0.IsWhole) (M1 : Memref sig .tc .vmem S1x2048 .f32) (h1 : M1.IsWhole)
    (M2 : Memref sig .tc .vmem S1x2048 .f32) (h2 : M2.IsWhole) (M3 : Memref sig .tc .vmem S128x128 .f32) (h3 : M3.IsWhole)
    (f0 : Bf (F := F) c M0) (f1 : Bf (F := F) c M1) (f2 : Bf (F := F) c M2) : List (View.Piece (Elt F) S128x128 .f32) :=
  (st_k1_t1 (F := F) Variants.none c none M0 h0 M1 h1 M2 h2 M3 h3
    (View.readAt (Elt F) M0.view (Rect.unit ![0, 0] S4x2048.size inb_S4x2048_S4x2048_0_0).toLoadRect f0)
    (View.readAt (Elt F) M1.view (Rect.unit ![0, 0] S1x2048.size inb_S1x2048_S1x2048_0_0).toLoadRect f1)
    (iota .tc S1x2048 32 [1] iota_S1x2048_d1_w32) (iota .tc S1x128 32 [1] iota_S1x128_d1_w32)
    (k1_pay9 (View.readAt (Elt F) M2.view (Rect.unit ![0, 0] S1x2048.size inb_S1x2048_S1x2048_0_0).toLoadRect f2)) k1_t1_loop.trips).2

set_option maxHeartbeats 4000000 in
/-- From the four buffers held whole the suppression body runs to its return, the inputs as they were and the rows
    `nmsPieces` written over what the output buffer held. -/
theorem nmsRun (c : Dev nD) (M0 : Memref sig .tc .vmem S4x2048 .f32) (h0 : M0.IsWhole) (M1 : Memref sig .tc .vmem S1x2048 .f32) (h1 : M1.IsWhole)
    (M2 : Memref sig .tc .vmem S1x2048 .f32) (h2 : M2.IsWhole) (M3 : Memref sig .tc .vmem S128x128 .f32) (h3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pv c M3 f3
        ∗ (iprop(pt c M0 f0 ∗ pt c M1 f1 ∗ pt c M2 f2 ∗ pv c M3 (M3.view.writes (Elt F) f3 (nmsPieces c M0 h0 M1 h1 M2 h2 M3 h3 f0 f1 f2))) -∗ Q ⟨⟩))
      ⊢ wp frame (wpE (defs₀ (F := F)) Variants.none c none) E (cc1__nms_kernel M0 h0 M1 h1 M2 h2 M3 h3) Q := by
  iintro ⟨H0, H1, H2, H3, Hk⟩
  sl_exec!
  sl_step
  iapply Hk
  isplitl [H0]; · iexact H0
  isplitl [H1]; · iexact H1
  isplitl [H2]; · iexact H2
  unfold nmsPieces
  iexact H3

end Cert.KernelIdeal.Pf

end
-- ==== Proof.KiRegions.lean ====
/-
  The two kernel calls of the program as regions of its run: from every buffer at a valuation, each call ends with its
  output arrays at what the body leaves in their staging buffers and every other buffer as it was. The second call's
  array holds, on the rows the body does not write, whatever its staging buffer held before: its contents are given
  up to those (`Y`).
-/
module

public import proofs.«01_k».proof.Proof.KiBodies
public import proofs.«01_k».proof.Proof.Gen.KernelIdeal.Regions

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- Every buffer's contents, on every core. -/
abbrev Vals : Type := (c : Dev nD) → (b : Ref sig .tc) → Buf (Elt F) ((c : Thread nD τ).loc b)

variable (V : Vals (F := F))

/-! ## The decode call -/

/-- Input `w`'s block as the fetch stages it. -/
abbrev stg0 (w : Fin cfg0.W) (c : Dev nD) : ((cfg0.win w).xblock (cfg0.grid.coords t0_0)).Idx → Elt F (cfg0.win w).elt :=
  ((cfg0.win w).blk t0_0).view.read (Elt F) (V c (Pipeline.arrRef spec0 w))

/-- The body's run at the staged blocks. -/
abbrev dec (c : Dev nD) := decRun (F := F) c (stage0_0 0) (hstage0_0 0) (stage0_1 0) (hstage0_1 0) (stage0_2 0) (hstage0_2 0)
  (stage0_3 0) (hstage0_3 0) (stage0_4 0) (hstage0_4 0) (stage0_5 0) (hstage0_5 0) (stg0 V 0 c) (stg0 V 1 c) (stg0 V 2 c)

/-- What the decode body leaves in each window's staging buffer: the inputs as found, the outputs at the run's. -/
def rd0 (c : Dev nD) : RDat τ (Elt F) Unit ℕ (UR sig nD τ) ℕ cfg0 c where
  A w := V c (Pipeline.arrRef spec0 w)
  after w _ Y X := match w with
    | ⟨0, _⟩ => X = Y
    | ⟨1, _⟩ => X = Y
    | ⟨2, _⟩ => X = Y
    | ⟨3, _⟩ => X = (dec V c).1
    | ⟨4, _⟩ => X = (dec V c).2.1
    | ⟨5, _⟩ => X = (dec V c).2.2.1
  Φ _ := Pipeline.scopedRest spec0 c
  q _ := fullShare
  owed _ := 0

/-- A fetched window's buffer holds its array's block when the body runs. -/
theorem finds0_0 (c : Dev nD) (X) (h : (rd0 V c).Finds 0 t0_0 X) : X = stg0 V 0 c := by
  obtain ⟨d, rfl⟩ := ((rd0 V c).finds_of_fetch (by decide) X).mp h; rfl
theorem finds0_1 (c : Dev nD) (X) (h : (rd0 V c).Finds 1 t0_0 X) : X = stg0 V 1 c := by
  obtain ⟨d, rfl⟩ := ((rd0 V c).finds_of_fetch (by decide) X).mp h; rfl
theorem finds0_2 (c : Dev nD) (X) (h : (rd0 V c).Finds 2 t0_0 X) : X = stg0 V 2 c := by
  obtain ⟨d, rfl⟩ := ((rd0 V c).finds_of_fetch (by decide) X).mp h; rfl

/-- The decode body meets what the pipeline asks of it. -/
theorem body0 (c : Dev nD) : (rd0 V c).BodyObligation (defs₀ (F := F)) Variants.none () Set.univ := fun t Y hY => by
  obtain rfl := fin_N0 t
  have e0 := finds0_0 V c _ (hY 0)
  have e1 := finds0_1 V c _ (hY 1)
  have e2 := finds0_2 V c _ (hY 2)
  rw [bigSep_W0, bigSep_W0]
  simp only [owns_whole_eq]
  rw [show (rd0 V c).Φ t0_0.castSucc = Pipeline.scopedRest spec0 c from rfl, show (rd0 V c).Φ t0_0.succ = Pipeline.scopedRest spec0 c from rfl,
    show (rd0 V c).owesAt () t0_0.succ = (rd0 V c).owesAt () t0_0.castSucc from rfl]
  iintro ⟨HΦ, Howes, ⟨%f0, %hf0, H0⟩, ⟨%f1, %hf1, H1⟩, ⟨%f2, %hf2, H2⟩, ⟨%f3, -, H3⟩, ⟨%f4, -, H4⟩, ⟨%f5, -, H5⟩⟩
  rw [e0] at hf0; rw [e1] at hf1; rw [e2] at hf2
  subst hf0 hf1 hf2
  iapply ((dec V c).2.2.2 f3 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iexists (stg0 V 0 c); isplitr; · ipureintro; exact e0.symm
    iexists _; isplitr; swap; (· iexact H0); ipureintro; rfl
  isplitl [H1]
  · iexists (stg0 V 1 c); isplitr; · ipureintro; exact e1.symm
    iexists _; isplitr; swap; (· iexact H1); ipureintro; rfl
  isplitl [H2]
  · iexists (stg0 V 2 c); isplitr; · ipureintro; exact e2.symm
    iexists _; isplitr; swap; (· iexact H2); ipureintro; rfl
  isplitl [H3]
  · iexists ((dec V c).1); isplitr; · ipureintro; rfl
    iexists _; isplitr; swap; (· iexact H3); ipureintro; rfl
  isplitl [H4]
  · iexists ((dec V c).2.1); isplitr; · ipureintro; rfl
    iexists _; isplitr; swap; (· iexact H4); ipureintro; rfl
  iexists ((dec V c).2.2.1); isplitr; · ipureintro; rfl
  iexists _; isplitr; swap; (· iexact H5); ipureintro; rfl

/-! ## The suppression call -/

/-- Input `w`'s block as the fetch stages it. -/
abbrev stg1 (w : Fin cfg1.W) (c : Dev nD) : ((cfg1.win w).xblock (cfg1.grid.coords t1_0)).Idx → Elt F (cfg1.win w).elt :=
  ((cfg1.win w).blk t1_0).view.read (Elt F) (V c (Pipeline.arrRef spec1 w))

/-- The rows the body writes, at the staged blocks. -/
abbrev rows1 (c : Dev nD) := nmsPieces (F := F) c (stage1_0 0) (hstage1_0 0) (stage1_1 0) (hstage1_1 0) (stage1_2 0) (hstage1_2 0)
  (stage1_3 0) (hstage1_3 0) (stg1 V 0 c) (stg1 V 1 c) (stg1 V 2 c)

/-- What the suppression body leaves in each window's staging buffer: the inputs as found, the output with the rows
    written over what it held. -/
def rd1 (c : Dev nD) : RDat τ (Elt F) Unit ℕ (UR sig nD τ) ℕ cfg1 c where
  A w := V c (Pipeline.arrRef spec1 w)
  after w _ Y X := match w with
    | ⟨0, _⟩ => X = Y
    | ⟨1, _⟩ => X = Y
    | ⟨2, _⟩ => X = Y
    | ⟨3, _⟩ => X = (stage1_3 0).view.writes (Elt F) Y (rows1 V c)
  Φ _ := Pipeline.scopedRest spec1 c
  q _ := fullShare
  owed _ := 0

theorem finds1_0 (c : Dev nD) (X) (h : (rd1 V c).Finds 0 t1_0 X) : X = stg1 V 0 c := by
  obtain ⟨d, rfl⟩ := ((rd1 V c).finds_of_fetch (by decide) X).mp h; rfl
theorem finds1_1 (c : Dev nD) (X) (h : (rd1 V c).Finds 1 t1_0 X) : X = stg1 V 1 c := by
  obtain ⟨d, rfl⟩ := ((rd1 V c).finds_of_fetch (by decide) X).mp h; rfl
theorem finds1_2 (c : Dev nD) (X) (h : (rd1 V c).Finds 2 t1_0 X) : X = stg1 V 2 c := by
  obtain ⟨d, rfl⟩ := ((rd1 V c).finds_of_fetch (by decide) X).mp h; rfl

/-- The suppression body meets what the pipeline asks of it. -/
theorem body1 (c : Dev nD) : (rd1 V c).BodyObligation (defs₀ (F := F)) Variants.none () Set.univ := fun t Y hY => by
  obtain rfl := fin_N1 t
  have e0 := finds1_0 V c _ (hY 0)
  have e1 := finds1_1 V c _ (hY 1)
  have e2 := finds1_2 V c _ (hY 2)
  rw [bigSep_W1, bigSep_W1]
  simp only [owns_whole_eq]
  rw [show (rd1 V c).Φ t1_0.castSucc = Pipeline.scopedRest spec1 c from rfl, show (rd1 V c).Φ t1_0.succ = Pipeline.scopedRest spec1 c from rfl,
    show (rd1 V c).owesAt () t1_0.succ = (rd1 V c).owesAt () t1_0.castSucc from rfl]
  iintro ⟨HΦ, Howes, ⟨%f0, %hf0, H0⟩, ⟨%f1, %hf1, H1⟩, ⟨%f2, %hf2, H2⟩, ⟨%f3, %hf3, H3⟩⟩
  rw [e0] at hf0; rw [e1] at hf1; rw [e2] at hf2
  subst hf0 hf1 hf2 hf3
  have hs : (stage1_3 0).view.set = Finset.univ := View.set_whole _
  have hrun := nmsRun (F := F) c (stage1_0 0) (hstage1_0 0) (stage1_1 0) (hstage1_1 0) (stage1_2 0) (hstage1_2 0)
    (stage1_3 0) (hstage1_3 0) (stg1 V 0 c) (stg1 V 1 c) (stg1 V 2 c) (Y 3) Set.univ
  unfold pv at hrun
  rw [hs] at hrun
  iapply (hrun _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]
  · iexists (stg1 V 0 c); isplitr; · ipureintro; exact e0.symm
    iexists _; isplitr; swap; (· iexact H0); ipureintro; rfl
  isplitl [H1]
  · iexists (stg1 V 1 c); isplitr; · ipureintro; exact e1.symm
    iexists _; isplitr; swap; (· iexact H1); ipureintro; rfl
  isplitl [H2]
  · iexists (stg1 V 2 c); isplitr; · ipureintro; exact e2.symm
    iexists _; isplitr; swap; (· iexact H2); ipureintro; rfl
  iexists ((stage1_3 0).view.writes (Elt F) (Y 3) (rows1 V c)); isplitr; · ipureintro; rfl
  iexists _; isplitr; swap; (· iexact H3); ipureintro; rfl

end Cert.KernelIdeal.Pf

end
-- ==== Proof.KiRun.lean ====
/-
  The run of the program at any float values: from any memory with zero counters every execution terminates, every
  buffer the kernels do not stage ends at the valuation the statements compute (`U18`, up to the rows the suppression
  body leaves unwritten), and every counter at zero.
-/
module

public import proofs.«01_k».proof.Proof.KiRegions
public import Idealize.ShloMosaic.Lib.Pipeline.RegionsOwned

@[expose] public section

set_option maxRecDepth 4096

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf HostSeg)

variable {F : FTy → Type} [FloatOps F]

local notation "𝕄" => MT nD τ sig Unit (Elt F) ℕ (UR sig nD τ) ℕ

/-! ## What the regions leave in their output arrays -/

/-- The decode call's output array `w`, its staging buffer written back at contents `X`. -/
abbrev wb0 (V : Vals (F := F)) (c : Dev nD) (w : Fin cfg0.W) (X : (cfg0.win w).block.Idx → Elt F (cfg0.win w).elt) :
    Buf (Elt F) ((cfg0.win w).arr.view.loc (c.tc : Thread nD τ)) :=
  ((cfg0.win w).blk t0_0).view.write (Elt F) (V c (Pipeline.arrRef spec0 w)) ((cfg0.win w).cut (cfg0.grid.coords t0_0) X) Finset.univ

/-- The suppression call's output array, its staging buffer written back at contents `X`. -/
abbrev wb1 (V : Vals (F := F)) (c : Dev nD) (X : (cfg1.win 3).block.Idx → Elt F (cfg1.win 3).elt) :
    Buf (Elt F) ((cfg1.win 3).arr.view.loc (c.tc : Thread nD τ)) :=
  ((cfg1.win 3).blk t1_0).view.write (Elt F) (V c (Pipeline.arrRef spec1 3)) ((cfg1.win 3).cut (cfg1.grid.coords t1_0) X) Finset.univ

/-- The contents of the suppression call's staging buffer. -/
abbrev Stg1 : Type := (cfg1.win 3).block.Idx → Elt F (cfg1.win 3).elt

/-! ## The valuations between the statements -/

/-- A valuation of the core's buffers, as contents by name. -/
abbrev ofV (W : Dev nD → Valuation τ sig (Elt F)) : Vals (F := F) := fun c b => W c (Proc.devRef .tc b)

variable (m : (ℓ : Loc nD τ sig) → Buf (Elt F) ℓ)

/-- After the decode call: its three output arrays at what its body leaves, -/
def U3 (c : Dev nD) : Valuation τ sig (Elt F) :=
  Function.update (Function.update (Function.update (V2 m c) main_v14_0 (wb0 (ofV (V2 m)) c 3 (dec (ofV (V2 m)) c).1))
    main_v14_1 (wb0 (ofV (V2 m)) c 4 (dec (ofV (V2 m)) c).2.1)) main_v14_2 (wb0 (ofV (V2 m)) c 5 (dec (ofV (V2 m)) c).2.2.1)
/-- after each host stretch, -/
abbrev U4 (c : Dev nD) : Valuation τ sig (Elt F) := StableHlo.after hostOps1 (U3 m c)
abbrev U5 (c : Dev nD) : Valuation τ sig (Elt F) := StableHlo.after hostOps1_1 (U4 m c)
abbrev U6 (c : Dev nD) : Valuation τ sig (Elt F) := StableHlo.after hostOps1_2 (U5 m c)
abbrev U7 (c : Dev nD) : Valuation τ sig (Elt F) := StableHlo.after hostOps1_3 (U6 m c)
abbrev U8 (c : Dev nD) : Valuation τ sig (Elt F) := StableHlo.after hostOps1_4 (U7 m c)
abbrev U9 (c : Dev nD) : Valuation τ sig (Elt F) := StableHlo.after hostOps1_5 (U8 m c)
abbrev U10 (c : Dev nD) : Valuation τ sig (Elt F) := StableHlo.after hostOps1_6 (U9 m c)
abbrev U11 (c : Dev nD) : Valuation τ sig (Elt F) := StableHlo.after hostOps1_7 (U10 m c)
abbrev U12 (c : Dev nD) : Valuation τ sig (Elt F) := StableHlo.after hostOps1_8 (U11 m c)
abbrev U13 (c : Dev nD) : Valuation τ sig (Elt F) := StableHlo.after hostOps1_9 (U12 m c)
abbrev U14 (c : Dev nD) : Valuation τ sig (Elt F) := StableHlo.after hostOps1_10 (U13 m c)
/-- after the suppression call, its staging buffer having held `Y` before, -/
def U15 (c : Dev nD) (Y : Stg1 (F := F)) : Valuation τ sig (Elt F) :=
  Function.update (U14 m c) main_v77 (wb1 (ofV (U14 m)) c ((stage1_3 0).view.writes (Elt F) Y (rows1 (ofV (U14 m)) c)))
/-- and after the last stretches. -/
abbrev U16 (c : Dev nD) (Y : Stg1 (F := F)) : Valuation τ sig (Elt F) := StableHlo.after hostOps2 (U15 m c Y)
abbrev U17 (c : Dev nD) (Y : Stg1 (F := F)) : Valuation τ sig (Elt F) := StableHlo.after hostOps2_1 (U16 m c Y)
abbrev U18 (c : Dev nD) (Y : Stg1 (F := F)) : Valuation τ sig (Elt F) := StableHlo.after hostOps2_2 (U17 m c Y)

/-! ## The regions over the thread state -/

/-- The proof data of both calls. -/
def rdats : (p : Fin 2) → (c : Dev nD) → RDat τ (Elt F) Unit ℕ (UR sig nD τ) ℕ (Pipeline.pin (pcfgs (F := F)) adm p) c
  | ⟨0, _⟩ => fun c => rd0 (ofV (V2 m)) c
  | ⟨1, _⟩ => fun c => rd1 (ofV (U14 m)) c

abbrev Lz : GSem nD τ sig → Finset Unit := fun _ => ∅
abbrev lz : GSem nD τ sig → Unit → ℕ := fun _ _ => 0
/-- What rides beside the buffers: the core owes nothing. -/
abbrev R (c : Dev nD) : sProp 𝕄 := iprop(∃ W, owes (c : Thread nD τ) (0 : CellTallies nD τ sig Unit) W)

theorem U3_of (c : Dev nD) (r : Ref sig .tc) (h : r ∉ ([main_v14_0, main_v14_1, main_v14_2] : List (Ref sig .tc))) : U3 m c r = V2 m c r := by
  simp only [List.mem_cons, List.not_mem_nil, or_false, not_or] at h
  unfold U3
  rw [Function.update_of_ne (StableHlo.devRef_ne_of_ne h.2.2), Function.update_of_ne (StableHlo.devRef_ne_of_ne h.2.1),
    Function.update_of_ne (StableHlo.devRef_ne_of_ne h.1)]

theorem U15_of (c : Dev nD) (Y : Stg1 (F := F)) (r : Ref sig .tc) (h : r ≠ main_v77) : U15 m c Y r = U14 m c r := by
  unfold U15
  rw [Function.update_of_ne (StableHlo.devRef_ne_of_ne h)]

theorem U3_v14_0 (c : Dev nD) : U3 m c main_v14_0 = wb0 (ofV (V2 m)) c 3 (dec (ofV (V2 m)) c).1 := by
  unfold U3
  rw [Function.update_of_ne (StableHlo.devRef_ne_of_ne (by decide)), Function.update_of_ne (StableHlo.devRef_ne_of_ne (by decide)), Function.update_self]
theorem U3_v14_1 (c : Dev nD) : U3 m c main_v14_1 = wb0 (ofV (V2 m)) c 4 (dec (ofV (V2 m)) c).2.1 := by
  unfold U3
  rw [Function.update_of_ne (StableHlo.devRef_ne_of_ne (by decide)), Function.update_self]
theorem U3_v14_2 (c : Dev nD) : U3 m c main_v14_2 = wb0 (ofV (V2 m)) c 5 (dec (ofV (V2 m)) c).2.2.1 := by
  unfold U3
  rw [Function.update_self]
theorem U15_v77 (c : Dev nD) (Y : Stg1 (F := F)) : U15 m c Y main_v77
    = wb1 (ofV (U14 m)) c ((stage1_3 0).view.writes (Elt F) Y (rows1 (ofV (U14 m)) c)) := by
  unfold U15
  rw [Function.update_self]

attribute [local irreducible] U3 U15

/-- An output array may hold only what is written back of what the body may leave. -/
theorem arrAt0 (V : Vals (F := F)) (c : Dev nD) (w : Fin cfg0.W) (hf : (cfg0.win w).flush t0_0 = true)
    (X₀ : (cfg0.win w).block.Idx → Elt F (cfg0.win w).elt) (hX : ∀ Y X, (rd0 V c).after w t0_0 Y X → X = X₀)
    (G : Buf (Elt F) ((cfg0.win w).arr.view.loc (c.tc : Thread nD τ))) (h : (rd0 V c).ArrAt w cfg0.N G) : G = wb0 V c w X₀ := by
  rw [show cfg0.N = t0_0.val + 1 from rfl, RDat.ArrAt_succ, if_pos hf] at h
  obtain ⟨G₀, X, hG, ⟨Y, -, hYX⟩, rfl⟩ := h
  obtain rfl := hX Y X hYX
  have e : G₀ = V c (Pipeline.arrRef spec0 w) := hG
  rw [e]

theorem arrAt1 (V : Vals (F := F)) (c : Dev nD)
    (G : Buf (Elt F) ((cfg1.win 3).arr.view.loc (c.tc : Thread nD τ))) (h : (rd1 V c).ArrAt 3 cfg1.N G) :
    ∃ Y : Stg1 (F := F), G = wb1 V c ((stage1_3 0).view.writes (Elt F) Y (rows1 V c)) := by
  rw [show cfg1.N = t1_0.val + 1 from rfl, RDat.ArrAt_succ, if_pos (by decide)] at h
  obtain ⟨G₀, X, hG, ⟨Y, -, hYX⟩, rfl⟩ := h
  have e : G₀ = V c (Pipeline.arrRef spec1 3) := hG
  have e' : X = (stage1_3 0).view.writes (Elt F) Y (rows1 V c) := hYX
  exact ⟨Y, by rw [e, e']⟩

set_option maxHeartbeats 4000000 in
set_option backward.isDefEq.respectTransparency.types false in
/-- The decode call over the thread state: entered from every buffer at `V2`, left with every buffer at `U3`. -/
def reg0 : RDat.RegionSeg (pcfgs (F := F)) adm (rdats m) () defs₀ Variants.none Lz lz 0 where
  win := launch0.win.to₀
  block_pos := launch0.block_pos
  stage_whole := launch0.stage_whole
  K := PEmpty
  osem k := k.elim
  ho := Pipeline.OwnSemFacts.none _
  hbody c := body0 (ofV (V2 m)) c
  hwaits := RDat.hwaits_of_owed_zero _ _ _ _ Lz lz 0 fun _ _ => rfl
  pre c := iprop(StableHlo.held (c : Thread nD τ) (Pipeline.ucRefs τ sig) (V2 m c) ∗ R c)
  post c := iprop(StableHlo.held (c : Thread nD τ) (Pipeline.ucRefs τ sig) (U3 m c) ∗ R c)
  X _ := BI.emp
  Y _ := BI.emp
  Z c := Pipeline.unscopedRest (Ix := Unit) (Name := ℕ) (U := UR sig nD τ) (Lvl := ℕ) spec0 c (fun b => V2 m c b)
  hentry c := by
    rw [Pipeline.ownSems0_none, ← Pipeline.unscopedBufs_held c (V2 m c)]
    have hsplit := RDat.arrays_of_unscopedBufs (p := 0) (pcfgs (F := F)) adm (rdats m) launch0.win launch0.arr_whole c
      (fun w => ite_self _) (fun b => V2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest spec0 c from rfl]
    iintro ⟨-, -, Hr⟩; iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    have hjoin := Pipeline.unscopedBufs_split cfgs 0 launch0.win.arr_unscoped launch0.win.arr_inj c
      (Ix := Unit) (Name := ℕ) (U := UR sig nD τ) (Lvl := ℕ) (fun b => U3 m c b)
    have hrest : Pipeline.unscopedRest (Ix := Unit) (Name := ℕ) (U := UR sig nD τ) (Lvl := ℕ) spec0 c (fun b => V2 m c b)
        ⊢ Pipeline.unscopedRest (Ix := Unit) (Name := ℕ) (U := UR sig nD τ) (Lvl := ℕ) spec0 c (fun b => U3 m c b) := by
      unfold Pipeline.unscopedRest
      refine Entails.of_eq (bigSep_congr fun b hb => ?_)
      dsimp only
      rw [U3_of]
      intro h
      refine (Finset.mem_sdiff.mp hb).2 (Finset.mem_image.mpr ?_)
      simp only [List.mem_cons, List.not_mem_nil, or_false] at h
      rcases h with rfl | rfl | rfl
      · exact ⟨3, Finset.mem_univ _, rfl⟩
      · exact ⟨4, Finset.mem_univ _, rfl⟩
      · exact ⟨5, Finset.mem_univ _, rfl⟩
    rw [← Pipeline.unscopedBufs_held c (U3 m c), hjoin, Pipeline.RDat.arraysAt_eq (pcfgs (F := F)) adm (rdats m) 0 c launch0.arr_whole (fun w => ite_self _)]
    rw [bigSep_W0, bigSep_W0]
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, Hrest⟩
    have e0 : G0 = U3 m c main_v13 := by
      rw [show (rdats m 0 c) = rd0 (ofV (V2 m)) c from rfl, RDat.ArrAt_in _ 0 rfl] at h0
      exact h0.trans (U3_of m c main_v13 (by decide)).symm
    have e1 : G1 = U3 m c main_cst := by
      rw [show (rdats m 0 c) = rd0 (ofV (V2 m)) c from rfl, RDat.ArrAt_in _ 1 rfl] at h1
      exact h1.trans (U3_of m c main_cst (by decide)).symm
    have e2 : G2 = U3 m c main_cst_0 := by
      rw [show (rdats m 0 c) = rd0 (ofV (V2 m)) c from rfl, RDat.ArrAt_in _ 2 rfl] at h2
      exact h2.trans (U3_of m c main_cst_0 (by decide)).symm
    have e3 : G3 = U3 m c main_v14_0 := (arrAt0 (ofV (V2 m)) c 3 (by decide) _ (fun _ _ h => h) G3 h3).trans (U3_v14_0 m c).symm
    have e4 : G4 = U3 m c main_v14_1 := (arrAt0 (ofV (V2 m)) c 4 (by decide) _ (fun _ _ h => h) G4 h4).trans (U3_v14_1 m c).symm
    have e5 : G5 = U3 m c main_v14_2 := (arrAt0 (ofV (V2 m)) c 5 (by decide) _ (fun _ _ h => h) G5 h5).trans (U3_v14_2 m c).symm
    subst e0 e1 e2 e3 e4 e5
    imodintro
    isplitr [HO]
    · isplitr [Hrest]
      · isplitl [H0]; · iexact H0
        isplitl [H1]; · iexact H1
        isplitl [H2]; · iexact H2
        isplitl [H3]; · iexact H3
        isplitl [H4]; · iexact H4
        iexact H5
      iapply hrest; iexact Hrest
    unfold RDat.owesAt Pipeline.owesWithin
    icases HO with ⟨%W, -, HO⟩; iexists W; iexact HO

set_option backward.isDefEq.respectTransparency.types false in
/-- The suppression call over the thread state: entered from every buffer at `U14`, left with every buffer at `U15`, for
    some contents its staging buffer held before. -/
def reg1 : RDat.RegionSeg (pcfgs (F := F)) adm (rdats m) () defs₀ Variants.none Lz lz 1 where
  win := launch1.win.to₀
  block_pos := launch1.block_pos
  stage_whole := launch1.stage_whole
  K := PEmpty
  osem k := k.elim
  ho := Pipeline.OwnSemFacts.none _
  hbody c := body1 (ofV (U14 m)) c
  hwaits := RDat.hwaits_of_owed_zero _ _ _ _ Lz lz 1 fun _ _ => rfl
  pre c := iprop(StableHlo.held (c : Thread nD τ) (Pipeline.ucRefs τ sig) (U14 m c) ∗ R c)
  post c := iprop((∃ Y, StableHlo.held (c : Thread nD τ) (Pipeline.ucRefs τ sig) (U15 m c Y)) ∗ R c)
  X _ := BI.emp
  Y _ := BI.emp
  Z c := Pipeline.unscopedRest (Ix := Unit) (Name := ℕ) (U := UR sig nD τ) (Lvl := ℕ) spec1 c (fun b => U14 m c b)
  hentry c := by
    rw [Pipeline.ownSems0_none, ← Pipeline.unscopedBufs_held c (U14 m c)]
    have hsplit := RDat.arrays_of_unscopedBufs (p := 1) (pcfgs (F := F)) adm (rdats m) launch1.win launch1.arr_whole c
      (fun w => ite_self _) (fun b => U14 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Pipeline.scopedRest spec1 c from rfl]
    iintro ⟨-, -, Hr⟩; iexact Hr
  hout c := by
    rw [Pipeline.ownSems0_none, show (rdats m 1 c).Φ (Fin.last _) = Pipeline.scopedRest spec1 c from rfl]
    iintro Hr
    isplitr; · iempintro
    isplitr; · iempintro
    iexact Hr
  hexit c := by
    have hjoin := fun Y => Pipeline.unscopedBufs_split cfgs 1 launch1.win.arr_unscoped launch1.win.arr_inj c
      (Ix := Unit) (Name := ℕ) (U := UR sig nD τ) (Lvl := ℕ) (fun b => U15 m c Y b)
    have hrest : ∀ Y, Pipeline.unscopedRest (Ix := Unit) (Name := ℕ) (U := UR sig nD τ) (Lvl := ℕ) spec1 c (fun b => U14 m c b)
        ⊢ Pipeline.unscopedRest (Ix := Unit) (Name := ℕ) (U := UR sig nD τ) (Lvl := ℕ) spec1 c (fun b => U15 m c Y b) := by
      intro Y
      unfold Pipeline.unscopedRest
      refine Entails.of_eq (bigSep_congr fun b hb => ?_)
      dsimp only
      rw [U15_of]
      intro h
      refine (Finset.mem_sdiff.mp hb).2 (Finset.mem_image.mpr ?_)
      subst h
      exact ⟨3, Finset.mem_univ _, rfl⟩
    rw [Pipeline.RDat.arraysAt_eq (pcfgs (F := F)) adm (rdats m) 1 c launch1.arr_whole (fun w => ite_self _)]
    rw [bigSep_W1]
    iintro ⟨⟨⟨%G0, %h0, H0⟩, ⟨%G1, %h1, H1⟩, ⟨%G2, %h2, H2⟩, ⟨%G3, %h3, H3⟩⟩, HO, -, Hrest⟩
    obtain ⟨Y, e3'⟩ := arrAt1 (ofV (U14 m)) c G3 h3
    have e0 : G0 = U15 m c Y main_v71 := by
      rw [show (rdats m 1 c) = rd1 (ofV (U14 m)) c from rfl, RDat.ArrAt_in _ 0 rfl] at h0
      exact h0.trans (U15_of m c Y main_v71 (by decide)).symm
    have e1 : G1 = U15 m c Y main_v74 := by
      rw [show (rdats m 1 c) = rd1 (ofV (U14 m)) c from rfl, RDat.ArrAt_in _ 1 rfl] at h1
      exact h1.trans (U15_of m c Y main_v74 (by decide)).symm
    have e2 : G2 = U15 m c Y main_v76 := by
      rw [show (rdats m 1 c) = rd1 (ofV (U14 m)) c from rfl, RDat.ArrAt_in _ 2 rfl] at h2
      exact h2.trans (U15_of m c Y main_v76 (by decide)).symm
    have e3 : G3 = U15 m c Y main_v77 := e3'.trans (U15_v77 m c Y).symm
    subst e0 e1 e2 e3
    imodintro
    isplitr [HO]
    · iexists Y
      rw [← Pipeline.unscopedBufs_held c (U15 m c Y), hjoin Y, bigSep_W1]
      isplitr [Hrest]
      · isplitl [H0]; · iexact H0
        isplitl [H1]; · iexact H1
        isplitl [H2]; · iexact H2
        iexact H3
      iapply (hrest Y); iexact Hrest
    unfold RDat.owesAt Pipeline.owesWithin
    icases HO with ⟨%W, -, HO⟩; iexists W; iexact HO

/-! ## The run -/

/-- The program as segments: its host stretches and its two calls. -/
abbrev segs (c : Dev nD) : List (RDat.Seg (pcfgs (F := F)) adm (rdats m) () defs₀ Variants.none Lz lz) :=
  [ .host (HostSeg.ofOps (Ix := Unit) (Name := ℕ) (U := UR sig nD τ) (Lvl := ℕ) (pcfgs (F := F)) defs₀ Variants.none Lz lz (Pipeline.ucRefs τ sig) hostOps0
      (fun op h => Pipeline.sub_ucRefs op ((List.forall_iff_forall_mem.mp hostOps0_sub) op h))
      (fun op h => (List.forall_iff_forall_mem.mp hostOps0_fresh) op h) (V0 m) R),
    .host (HostSeg.ofOps (Ix := Unit) (Name := ℕ) (U := UR sig nD τ) (Lvl := ℕ) (pcfgs (F := F)) defs₀ Variants.none Lz lz (Pipeline.ucRefs τ sig) hostOps0_1
      (fun op h => Pipeline.sub_ucRefs op ((List.forall_iff_forall_mem.mp hostOps0_1_sub) op h))
      (fun op h => (List.forall_iff_forall_mem.mp hostOps0_1_fresh) op h) (V1 m) R),
    .region (reg0 m),
    .host (HostSeg.ofOps (Ix := Unit) (Name := ℕ) (U := UR sig nD τ) (Lvl := ℕ) (pcfgs (F := F)) defs₀ Variants.none Lz lz (Pipeline.ucRefs τ sig) hostOps1
      (fun op h => Pipeline.sub_ucRefs op ((List.forall_iff_forall_mem.mp hostOps1_sub) op h))
      (fun op h => (List.forall_iff_forall_mem.mp hostOps1_fresh) op h) (U3 m) R),
    .host (HostSeg.ofOps (Ix := Unit) (Name := ℕ) (U := UR sig nD τ) (Lvl := ℕ) (pcfgs (F := F)) defs₀ Variants.none Lz lz (Pipeline.ucRefs τ sig) hostOps1_1
      (fun op h => Pipeline.sub_ucRefs op ((List.forall_iff_forall_mem.mp hostOps1_1_sub) op h))
      (fun op h => (List.forall_iff_forall_mem.mp hostOps1_1_fresh) op h) (U4 m) R),
    .host (HostSeg.ofOps (Ix := Unit) (Name := ℕ) (U := UR sig nD τ) (Lvl := ℕ) (pcfgs (F := F)) defs₀ Variants.none Lz lz (Pipeline.ucRefs τ sig) hostOps1_2
      (fun op h => Pipeline.sub_ucRefs op ((List.forall_iff_forall_mem.mp hostOps1_2_sub) op h))
      (fun op h => (List.forall_iff_forall_mem.mp hostOps1_2_fresh) op h) (U5 m) R),
    .host (HostSeg.ofOps (Ix := Unit) (Name := ℕ) (U := UR sig nD τ) (Lvl := ℕ) (pcfgs (F := F)) defs₀ Variants.none Lz lz (Pipeline.ucRefs τ sig) hostOps1_3
      (fun op h => Pipeline.sub_ucRefs op ((List.forall_iff_forall_mem.mp hostOps1_3_sub) op h))
      (fun op h => (List.forall_iff_forall_mem.mp hostOps1_3_fresh) op h) (U6 m) R),
    .host (HostSeg.ofOps (Ix := Unit) (Name := ℕ) (U := UR sig nD τ) (Lvl := ℕ) (pcfgs (F := F)) defs₀ Variants.none Lz lz (Pipeline.ucRefs τ sig) hostOps1_4
      (fun op h => Pipeline.sub_ucRefs op ((List.forall_iff_forall_mem.mp hostOps1_4_sub) op h))
      (fun op h => (List.forall_iff_forall_mem.mp hostOps1_4_fresh) op h) (U7 m) R),
    .host (HostSeg.ofOps (Ix := Unit) (Name := ℕ) (U := UR sig nD τ) (Lvl := ℕ) (pcfgs (F := F)) defs₀ Variants.none Lz lz (Pipeline.ucRefs τ sig) hostOps1_5
      (fun op h => Pipeline.sub_ucRefs op ((List.forall_iff_forall_mem.mp hostOps1_5_sub) op h))
      (fun op h => (List.forall_iff_forall_mem.mp hostOps1_5_fresh) op h) (U8 m) R),
    .host (HostSeg.ofOps (Ix := Unit) (Name := ℕ) (U := UR sig nD τ) (Lvl := ℕ) (pcfgs (F := F)) defs₀ Variants.none Lz lz (Pipeline.ucRefs τ sig) hostOps1_6
      (fun op h => Pipeline.sub_ucRefs op ((List.forall_iff_forall_mem.mp hostOps1_6_sub) op h))
      (fun op h => (List.forall_iff_forall_mem.mp hostOps1_6_fresh) op h) (U9 m) R),
    .host (HostSeg.ofOps (Ix := Unit) (Name := ℕ) (U := UR sig nD τ) (Lvl := ℕ) (pcfgs (F := F)) defs₀ Variants.none Lz lz (Pipeline.ucRefs τ sig) hostOps1_7
      (fun op h => Pipeline.sub_ucRefs op ((List.forall_iff_forall_mem.mp hostOps1_7_sub) op h))
      (fun op h => (List.forall_iff_forall_mem.mp hostOps1_7_fresh) op h) (U10 m) R),
    .host (HostSeg.ofOps (Ix := Unit) (Name := ℕ) (U := UR sig nD τ) (Lvl := ℕ) (pcfgs (F := F)) defs₀ Variants.none Lz lz (Pipeline.ucRefs τ sig) hostOps1_8
      (fun op h => Pipeline.sub_ucRefs op ((List.forall_iff_forall_mem.mp hostOps1_8_sub) op h))
      (fun op h => (List.forall_iff_forall_mem.mp hostOps1_8_fresh) op h) (U11 m) R),
    .host (HostSeg.ofOps (Ix := Unit) (Name := ℕ) (U := UR sig nD τ) (Lvl := ℕ) (pcfgs (F := F)) defs₀ Variants.none Lz lz (Pipeline.ucRefs τ sig) hostOps1_9
      (fun op h => Pipeline.sub_ucRefs op ((List.forall_iff_forall_mem.mp hostOps1_9_sub) op h))
      (fun op h => (List.forall_iff_forall_mem.mp hostOps1_9_fresh) op h) (U12 m) R),
    .host (HostSeg.ofOps (Ix := Unit) (Name := ℕ) (U := UR sig nD τ) (Lvl := ℕ) (pcfgs (F := F)) defs₀ Variants.none Lz lz (Pipeline.ucRefs τ sig) hostOps1_10
      (fun op h => Pipeline.sub_ucRefs op ((List.forall_iff_forall_mem.mp hostOps1_10_sub) op h))
      (fun op h => (List.forall_iff_forall_mem.mp hostOps1_10_fresh) op h) (U13 m) R),
    .region (reg1 m),
    .host (HostSeg.ofOpsEx (Name := ℕ) (U := UR sig nD τ) (pcfgs (F := F)) defs₀ Variants.none Lz lz (Γ := fun _ => Stg1 (F := F)) (Pipeline.ucRefs τ sig) hostOps2
      (fun op h => Pipeline.sub_ucRefs op ((List.forall_iff_forall_mem.mp hostOps2_sub) op h))
      (fun op h => (List.forall_iff_forall_mem.mp hostOps2_fresh) op h) (U15 m) R),
    .host (HostSeg.ofOpsEx (Name := ℕ) (U := UR sig nD τ) (pcfgs (F := F)) defs₀ Variants.none Lz lz (Γ := fun _ => Stg1 (F := F)) (Pipeline.ucRefs τ sig) hostOps2_1
      (fun op h => Pipeline.sub_ucRefs op ((List.forall_iff_forall_mem.mp hostOps2_1_sub) op h))
      (fun op h => (List.forall_iff_forall_mem.mp hostOps2_1_fresh) op h) (U16 m) R),
    .host (HostSeg.ofOpsEx (Name := ℕ) (U := UR sig nD τ) (pcfgs (F := F)) defs₀ Variants.none Lz lz (Γ := fun _ => Stg1 (F := F)) (Pipeline.ucRefs τ sig) hostOps2_2
      (fun op h => Pipeline.sub_ucRefs op ((List.forall_iff_forall_mem.mp hostOps2_2_sub) op h))
      (fun op h => (List.forall_iff_forall_mem.mp hostOps2_2_fresh) op h) (U17 m) R) ]

/-- What the run leaves: every buffer no kernel stages at `U18`, for some contents of the suppression call's staging
    buffer. -/
def Final (s : MemSt nD τ sig (Elt F)) : Prop :=
  ∀ c : Dev nD, ∃ Y : Stg1 (F := F), ∀ b : Ref sig .tc, (Proc.devRef .tc b : DevRef τ sig) ∈ Pipeline.ucRefs τ sig →
    s.mem ((c : Thread nD τ).loc b) = U18 m c Y (Proc.devRef .tc b)

set_option maxHeartbeats 1000000 in
set_option backward.isDefEq.respectTransparency.types false in
/-- At any float values, from any memory with zero counters, every execution of the program terminates, its buffers at
    `Final` and every counter at zero. -/
theorem run_main (ρ : Dev nD → PrngReg) :
    θ_run defs (onTc (τ := τ) (main (F := F))) ⟨m, fun _ => 0, ρ⟩ (fun r => Final m r.2 ∧ r.2.sem = fun _ => 0) := by
  refine RDat.θ_run_regions_kit_dev_sems (pcfgs (F := F)) adm (rdats m) () cellOf_inj emb₁ defs₀ Variants.none Lz lz m ρ main (segs m)
    (fun c Q => by
      rewrite [main_chain c, RDat.Seg.run_eq_chain,
        show (segs m c).map RDat.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by simp only [segs, RDat.Seg.pipes_host, RDat.Seg.pipes_region, RDat.Seg.pipes_nil]; decide)
    (fun _ => 0) (fun _ _ => rfl) (fun _ => BI.emp)
    (initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => iprop(∃ Y, StableHlo.held (c : Thread nD τ) (Pipeline.ucRefs τ sig) (U18 m c Y)))
    (hch := fun c => ⟨.rfl, .rfl, .rfl, .rfl, .rfl, .rfl, .rfl, .rfl, .rfl, .rfl, .rfl, .rfl, .rfl, .rfl, .rfl, .rfl, .rfl, .rfl, .rfl⟩)
    (hinit := ?_) (QY := fun c s => ∃ Y : Stg1 (F := F), ∀ b : Ref sig .tc, (Proc.devRef .tc b : DevRef τ sig) ∈ Pipeline.ucRefs τ sig →
      s.mem ((c : Thread nD τ).loc b) = U18 m c Y (Proc.devRef .tc b))
    (hfin := fun c s' => ?_) (hQ := fun _ h hz => ⟨h, funext fun g => hz g (.inr (regions_no_unscoped g.2))⟩)
  · rw [bigSep_emp_const]
    iintro Hu
    imodintro
    isplitl [Hu]
    · show ownU _ ⊢ BI.own (emb₁ _)
      exact .rfl
    · iempintro
  · have hsplit : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ R c) : sProp 𝕄) := by
      intro c
      rw [← Pipeline.unscopedBufs_held c (V0 m c)]
      iintro ⟨H, -, HO, -, -, -⟩
      isplitl [H]; · iexact H
      iexists ∅; iexact HO
    have hup : ∀ P : sProp 𝕄, P ⊢ (|={Set.univ}=> P : sProp 𝕄) := fun P => by
      iintro H
      imodintro
      iexact H
    exact sep_elim_left.trans ((bigSep_mono fun c _ => hsplit c).trans (hup _))
  · unfold StableHlo.held
    iintro ⟨⟨%Y, Hh⟩, HSI⟩
    ihave Hr := (pointsTo_read_all (Pipeline.ucRefs τ sig) (fun b => ((c : Thread nD τ).1, b)) (U18 m c Y) s') $$ [Hh HSI]
    · isplitl [Hh] <;> iassumption
    icases Hr with ⟨%h, HSI⟩
    imodintro
    isplitr
    · ipureintro
      exact ⟨Y, fun b hb => h (Proc.devRef .tc b) hb⟩
    · iexact HSI

end Cert.KernelIdeal.Pf

end
-- ==== Proof.KiFrame.lean ====
/-
  The run leaves the arguments as launched.
-/
module

public import proofs.«01_k».proof.Proof.KiRun
public import Idealize.ShloMosaic.Lib.StableHlo.RunHlo

@[expose] public section

set_option maxRecDepth 4096

noncomputable section

namespace Cert.KernelIdeal.Pf

open Cert.KernelIdeal Cert.KernelIdeal.Gen

open Idealize.ShloMosaic
open Idealize.ShloMosaic.TcCoe Idealize.ShloMosaic.Tactic
open Idealize.SL Idealize.SL.Sem

variable {F : FTy → Type} [FloatOps F]

variable (m : (ℓ : Loc nD τ sig) → Buf (Elt F) ℓ)

/-- The stretch `hostOps1` changes only what its operations write. -/
theorem U4_of (c : Dev nD) (r : Ref sig .tc) (h : r ∉ hostOps1_W) : U4 m c r = U3 m c r :=
  StableHlo.after_of_writes_sub hostOps1 _ hostOps1_writes h
/-- The stretch `hostOps1_1` changes only what its operations write. -/
theorem U5_of (c : Dev nD) (r : Ref sig .tc) (h : r ∉ hostOps1_1_W) : U5 m c r = U4 m c r :=
  StableHlo.after_of_writes_sub hostOps1_1 _ hostOps1_1_writes h
/-- The stretch `hostOps1_2` changes only what its operations write. -/
theorem U6_of (c : Dev nD) (r : Ref sig .tc) (h : r ∉ hostOps1_2_W) : U6 m c r = U5 m c r :=
  StableHlo.after_of_writes_sub hostOps1_2 _ hostOps1_2_writes h
/-- The stretch `hostOps1_3` changes only what its operations write. -/
theorem U7_of (c : Dev nD) (r : Ref sig .tc) (h : r ∉ hostOps1_3_W) : U7 m c r = U6 m c r :=
  StableHlo.after_of_writes_sub hostOps1_3 _ hostOps1_3_writes h
/-- The stretch `hostOps1_4` changes only what its operations write. -/
theorem U8_of (c : Dev nD) (r : Ref sig .tc) (h : r ∉ hostOps1_4_W) : U8 m c r = U7 m c r :=
  StableHlo.after_of_writes_sub hostOps1_4 _ hostOps1_4_writes h
/-- The stretch `hostOps1_5` changes only what its operations write. -/
theorem U9_of (c : Dev nD) (r : Ref sig .tc) (h : r ∉ hostOps1_5_W) : U9 m c r = U8 m c r :=
  StableHlo.after_of_writes_sub hostOps1_5 _ hostOps1_5_writes h
/-- The stretch `hostOps1_6` changes only what its operations write. -/
theorem U10_of (c : Dev nD) (r : Ref sig .tc) (h : r ∉ hostOps1_6_W) : U10 m c r = U9 m c r :=
  StableHlo.after_of_writes_sub hostOps1_6 _ hostOps1_6_writes h
/-- The stretch `hostOps1_7` changes only what its operations write. -/
theorem U11_of (c : Dev nD) (r : Ref sig .tc) (h : r ∉ hostOps1_7_W) : U11 m c r = U10 m c r :=
  StableHlo.after_of_writes_sub hostOps1_7 _ hostOps1_7_writes h
/-- The stretch `hostOps1_8` changes only what its operations write. -/
theorem U12_of (c : Dev nD) (r : Ref sig .tc) (h : r ∉ hostOps1_8_W) : U12 m c r = U11 m c r :=
  StableHlo.after_of_writes_sub hostOps1_8 _ hostOps1_8_writes h
/-- The stretch `hostOps1_9` changes only what its operations write. -/
theorem U13_of (c : Dev nD) (r : Ref sig .tc) (h : r ∉ hostOps1_9_W) : U13 m c r = U12 m c r :=
  StableHlo.after_of_writes_sub hostOps1_9 _ hostOps1_9_writes h
/-- The stretch `hostOps1_10` changes only what its operations write. -/
theorem U14_of (c : Dev nD) (r : Ref sig .tc) (h : r ∉ hostOps1_10_W) : U14 m c r = U13 m c r :=
  StableHlo.after_of_writes_sub hostOps1_10 _ hostOps1_10_writes h
/-- The stretch `hostOps2` changes only what its operations write. -/
theorem U16_of (c : Dev nD) (Y : Stg1 (F := F)) (r : Ref sig .tc) (h : r ∉ hostOps2_W) : U16 m c Y r = U15 m c Y r :=
  StableHlo.after_of_writes_sub hostOps2 _ hostOps2_writes h
/-- The stretch `hostOps2_1` changes only what its operations write. -/
theorem U17_of (c : Dev nD) (Y : Stg1 (F := F)) (r : Ref sig .tc) (h : r ∉ hostOps2_1_W) : U17 m c Y r = U16 m c Y r :=
  StableHlo.after_of_writes_sub hostOps2_1 _ hostOps2_1_writes h
/-- The stretch `hostOps2_2` changes only what its operations write. -/
theorem U18_of (c : Dev nD) (Y : Stg1 (F := F)) (r : Ref sig .tc) (h : r ∉ hostOps2_2_W) : U18 m c Y r = U17 m c Y r :=
  StableHlo.after_of_writes_sub hostOps2_2 _ hostOps2_2_writes h
/-- Nothing writes argument 0. -/
theorem U18_arg0 (c : Dev nD) (Y : Stg1 (F := F)) : U18 m c Y main_arg0 = m ((c : Thread nD τ).loc main_arg0) :=
  (U18_of m c Y main_arg0 (by decide)).trans <| (U17_of m c Y main_arg0 (by decide)).trans <| (U16_of m c Y main_arg0 (by decide)).trans <| (U15_of m c Y main_arg0 (by decide)).trans <|
    (U14_of m c main_arg0 (by decide)).trans <| (U13_of m c main_arg0 (by decide)).trans <| (U12_of m c main_arg0 (by decide)).trans <| (U11_of m c main_arg0 (by decide)).trans <| (U10_of m c main_arg0 (by decide)).trans <| (U9_of m c main_arg0 (by decide)).trans <| (U8_of m c main_arg0 (by decide)).trans <| (U7_of m c main_arg0 (by decide)).trans <| (U6_of m c main_arg0 (by decide)).trans <| (U5_of m c main_arg0 (by decide)).trans <| (U4_of m c main_arg0 (by decide)).trans <|
    (U3_of m c main_arg0 (by decide)).trans <| (V2_of m c main_arg0 (by decide)).trans <| (V1_of m c main_arg0 (by decide))
/-- Nothing writes argument 1. -/
theorem U18_arg1 (c : Dev nD) (Y : Stg1 (F := F)) : U18 m c Y main_arg1 = m ((c : Thread nD τ).loc main_arg1) :=
  (U18_of m c Y main_arg1 (by decide)).trans <| (U17_of m c Y main_arg1 (by decide)).trans <| (U16_of m c Y main_arg1 (by decide)).trans <| (U15_of m c Y main_arg1 (by decide)).trans <|
    (U14_of m c main_arg1 (by decide)).trans <| (U13_of m c main_arg1 (by decide)).trans <| (U12_of m c main_arg1 (by decide)).trans <| (U11_of m c main_arg1 (by decide)).trans <| (U10_of m c main_arg1 (by decide)).trans <| (U9_of m c main_arg1 (by decide)).trans <| (U8_of m c main_arg1 (by decide)).trans <| (U7_of m c main_arg1 (by decide)).trans <| (U6_of m c main_arg1 (by decide)).trans <| (U5_of m c main_arg1 (by decide)).trans <| (U4_of m c main_arg1 (by decide)).trans <|
    (U3_of m c main_arg1 (by decide)).trans <| (V2_of m c main_arg1 (by decide)).trans <| (V1_of m c main_arg1 (by decide))
/-- Nothing writes argument 2. -/
theorem U18_arg2 (c : Dev nD) (Y : Stg1 (F := F)) : U18 m c Y main_arg2 = m ((c : Thread nD τ).loc main_arg2) :=
  (U18_of m c Y main_arg2 (by decide)).trans <| (U17_of m c Y main_arg2 (by decide)).trans <| (U16_of m c Y main_arg2 (by decide)).trans <| (U15_of m c Y main_arg2 (by decide)).trans <|
    (U14_of m c main_arg2 (by decide)).trans <| (U13_of m c main_arg2 (by decide)).trans <| (U12_of m c main_arg2 (by decide)).trans <| (U11_of m c main_arg2 (by decide)).trans <| (U10_of m c main_arg2 (by decide)).trans <| (U9_of m c main_arg2 (by decide)).trans <| (U8_of m c main_arg2 (by decide)).trans <| (U7_of m c main_arg2 (by decide)).trans <| (U6_of m c main_arg2 (by decide)).trans <| (U5_of m c main_arg2 (by decide)).trans <| (U4_of m c main_arg2 (by decide)).trans <|
    (U3_of m c main_arg2 (by decide)).trans <| (V2_of m c main_arg2 (by decide)).trans <| (V1_of m c main_arg2 (by decide))

/-- What the run leaves: the arguments as launched. -/
theorem Final.args {s : MemSt nD τ sig (Elt F)} (h : Final m s) (c : Dev nD) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2) := by
  obtain ⟨Y, hY⟩ := h c
  exact ⟨(hY main_arg0 (by decide)).trans (U18_arg0 m c Y), (hY main_arg1 (by decide)).trans (U18_arg1 m c Y),
    (hY main_arg2 (by decide)).trans (U18_arg2 m c Y)⟩

/-- Every execution ends with the arguments as launched and every counter at zero. -/
theorem frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  θ_run_mono (run_main m ρ) fun _ h => ⟨h.1.args m, h.2⟩

end Cert.KernelIdeal.Pf

end
-- ==== Proof.RfFrame.lean ====
/-
  The reference's run leaves the arguments as launched, and every counter at zero.
-/
module

public import proofs.«01_k».proof.Proof.Gen.ReferenceIdeal.Run
public import Idealize.ShloMosaic.Lib.Quiescent
public import Idealize.ShloMosaic.Lib.StableHlo.RunHlo

@[expose] public section

set_option maxRecDepth 4096

noncomputable section

namespace Cert.ReferenceIdeal.Pf

open Cert.ReferenceIdeal Cert.ReferenceIdeal.Gen Cert.ReferenceIdeal.Value

open Idealize.ShloMosaic
open Idealize.ShloMosaic.TcCoe Idealize.ShloMosaic.Tactic
open Idealize.SL Idealize.SL.Sem

variable {F : FTy → Type} [FloatOps F]

open Idealize.ShloMosaic.StableHlo
variable (m : (ℓ : Loc nD τ sig) → Buf (Elt F) ℓ)

/-- The reference each operation of `hostOps0_5` writes, in order. -/
abbrev hostOps0_5_W : List (Ref sig .tc) := [main_cst_85, main_v371, main_v372, main_v373, main_c_86, main_v374, main_v375, main_c_87, main_v376, main_v377, main_v378, main_v379, main_v380, main_v381, main_v382, main_v383, main_v384, main_cst_88, main_v385, main_v386, main_c_89, main_v387, main_v388, main_c_90, main_v389, main_v390, main_v391, main_v392, main_v393, main_c_91]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_call11_v0, main_call11_v1, main_v394]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_cst_92, main_v395, main_v396, main_v397, main_v398, main_v399, main_v400]
theorem hostOps0_7_writes : (hostOps0_7 : List (HloOp τ sig (Elt F))).Forall fun op => op.writes ⊆ (hostOps0_7_W.map (Proc.devRef (τ := τ) .tc)).toFinset :=
  StableHlo.forall_writes_sub_of_map rfl

/-- The stretches before the loop change only what their operations write. -/
theorem pre_of (V : Valuation τ sig (Elt F)) (r : Ref sig .tc) (h0 : r ∉ hostOps0_W) (h1 : r ∉ hostOps0_1_W) (h2 : r ∉ hostOps0_2_W) (h3 : r ∉ hostOps0_3_W) (h4 : r ∉ hostOps0_4_W) :
    afterL preI V (Proc.devRef .tc r) = V (Proc.devRef .tc r) := by
  simp only [afterL_cons, afterL_nil]
  rw [after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]
/-- The loop body changes only what its operations write. -/
theorem body_of (V : Valuation τ sig (Elt F)) (r : Ref sig .tc) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) (h9 : r ∉ while0Ops0_9_W) (h10 : r ∉ while0Ops0_10_W) (h11 : r ∉ while0Ops0_11_W) (h12 : r ∉ while0Ops0_12_W) (h13 : r ∉ while0Ops0_13_W) (h14 : r ∉ while0Ops0_14_W) (h15 : r ∉ while0Ops0_15_W) (h16 : r ∉ while0Ops0_16_W) (h17 : r ∉ while0Ops0_17_W) :
    afterL bodyI V (Proc.devRef .tc r) = V (Proc.devRef .tc r) := by
  simp only [afterL_cons, afterL_nil]
  rw [after_of_writes_sub while0Ops0_17 _ while0Ops0_17_writes h17, after_of_writes_sub while0Ops0_16 _ while0Ops0_16_writes h16, after_of_writes_sub while0Ops0_15 _ while0Ops0_15_writes h15, after_of_writes_sub while0Ops0_14 _ while0Ops0_14_writes h14, after_of_writes_sub while0Ops0_13 _ while0Ops0_13_writes h13, after_of_writes_sub while0Ops0_12 _ while0Ops0_12_writes h12, after_of_writes_sub while0Ops0_11 _ while0Ops0_11_writes h11, after_of_writes_sub while0Ops0_10 _ while0Ops0_10_writes h10, after_of_writes_sub while0Ops0_9 _ while0Ops0_9_writes h9, after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]
/-- The stretches after the loop change only what their operations write. -/
theorem post_of (V : Valuation τ sig (Elt F)) (r : Ref sig .tc) (h0 : r ∉ hostOps0_5_W) (h1 : r ∉ hostOps0_6_W) (h2 : r ∉ hostOps0_7_W) :
    afterL postI V (Proc.devRef .tc r) = V (Proc.devRef .tc r) := by
  simp only [afterL_cons, afterL_nil]
  rw [after_of_writes_sub hostOps0_7 _ hostOps0_7_writes h2, after_of_writes_sub hostOps0_6 _ hostOps0_6_writes h1, after_of_writes_sub hostOps0_5 _ hostOps0_5_writes h0]
/-- A buffer the loop does not write is at every trip as at the entry. -/
theorem atK_of (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) (h9 : r ∉ while0Ops0_9_W) (h10 : r ∉ while0Ops0_10_W) (h11 : r ∉ while0Ops0_11_W) (h12 : r ∉ while0Ops0_12_W) (h13 : r ∉ while0Ops0_13_W) (h14 : r ∉ while0Ops0_14_W) (h15 : r ∉ while0Ops0_15_W) (h16 : r ∉ while0Ops0_16_W) (h17 : r ∉ while0Ops0_17_W) (c : Dev nD) (k : ℕ) :
    atK m k c (Proc.devRef .tc r) = entryContents preI m c (Proc.devRef .tc r) := by
  induction k with
  | zero => rfl
  | succ k ih =>
    rw [show atK m (k + 1) c = afterL bodyI (after condOps (atK m k c)) from rfl,
      body_of _ r h0 h1 h2 h3 h4 h5 h6 h7 h8 h9 h10 h11 h12 h13 h14 h15 h16 h17,
      after_of_writes_sub condOps _ condOps_writes hc, ih]
/-- A buffer no operation of the program writes ends as launched. -/
theorem final_of (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) (h9 : r ∉ while0Ops0_9_W) (h10 : r ∉ while0Ops0_10_W) (h11 : r ∉ while0Ops0_11_W) (h12 : r ∉ while0Ops0_12_W) (h13 : r ∉ while0Ops0_13_W) (h14 : r ∉ while0Ops0_14_W) (h15 : r ∉ while0Ops0_15_W) (h16 : r ∉ while0Ops0_16_W) (h17 : r ∉ while0Ops0_17_W)
    (p0 : r ∉ hostOps0_W) (p1 : r ∉ hostOps0_1_W) (p2 : r ∉ hostOps0_2_W) (p3 : r ∉ hostOps0_3_W) (p4 : r ∉ hostOps0_4_W) (q0 : r ∉ hostOps0_5_W) (q1 : r ∉ hostOps0_6_W) (q2 : r ∉ hostOps0_7_W) (c : Dev nD) :
    finalContents condOps preI bodyI postI 100 m c (Proc.devRef .tc r) = m ((c : Thread nD τ).loc r) := by
  rw [finalContents, post_of _ r q0 q1 q2, after_of_writes_sub condOps _ condOps_writes hc]
  exact (atK_of m r hc h0 h1 h2 h3 h4 h5 h6 h7 h8 h9 h10 h11 h12 h13 h14 h15 h16 h17 c 100).trans (pre_of _ r p0 p1 p2 p3 p4)

/-- Nothing writes argument 0. -/
theorem final_arg0 (c : Dev nD) : finalContents condOps preI bodyI postI 100 m c (Proc.devRef .tc main_arg0) = m ((c : Thread nD τ).loc main_arg0) :=
  final_of m main_arg0 (by decide +kernel) (by decide +kernel) (by decide +kernel) (by decide +kernel) (by decide +kernel) (by decide +kernel) (by decide +kernel) (by decide +kernel) (by decide +kernel) (by decide +kernel) (by decide +kernel) (by decide +kernel) (by decide +kernel)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) c
/-- Nothing writes argument 1. -/
theorem final_arg1 (c : Dev nD) : finalContents condOps preI bodyI postI 100 m c (Proc.devRef .tc main_arg1) = m ((c : Thread nD τ).loc main_arg1) :=
  final_of m main_arg1 (by decide +kernel) (by decide +kernel) (by decide +kernel) (by decide +kernel) (by decide +kernel) (by decide +kernel) (by decide +kernel) (by decide +kernel) (by decide +kernel) (by decide +kernel) (by decide +kernel) (by decide +kernel) (by decide +kernel)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) c
/-- Nothing writes argument 2. -/
theorem final_arg2 (c : Dev nD) : finalContents condOps preI bodyI postI 100 m c (Proc.devRef .tc main_arg2) = m ((c : Thread nD τ).loc main_arg2) :=
  final_of m main_arg2 (by decide +kernel) (by decide +kernel) (by decide +kernel) (by decide +kernel) (by decide +kernel) (by decide +kernel) (by decide +kernel) (by decide +kernel) (by decide +kernel) (by decide +kernel) (by decide +kernel) (by decide +kernel) (by decide +kernel)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) c

/-- Every execution ends with the arguments as launched and every counter at zero. -/
theorem frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  refine θ_run_mono (run_fold m ρ) fun r h => ⟨fun c => ?_, ?_⟩
  · exact ⟨(h c main_arg0 (by decide)).trans (final_arg0 m c), (h c main_arg1 (by decide)).trans (final_arg1 m c), (h c main_arg2 (by decide)).trans (final_arg2 m c)⟩
  · exact sem_eq_zero_of_no_sems (by decide) _

end Cert.ReferenceIdeal.Pf

end
-- ==== Proof.Read.lean ====
/-
  A straight line of host operations in which every buffer is written once, read one operation at a time: after the
  whole line a buffer holds its operation's function of what its operands hold after the whole line.
-/
module

public import Idealize.ShloMosaic.Lib.StableHlo.RunRead

@[expose] public section

namespace Cert.Pf

open Idealize.ShloMosaic Idealize.ShloMosaic.StableHlo

variable {τ : Topo} {sig : RefSig} {Val : EltTy → Type}

/-- `W` lists what the line `ops` writes, in order. -/
abbrev Writes (ops : List (HloOp τ sig Val)) (W : List (Ref sig .tc)) : Prop :=
  ops.map HloOp.writes = W.map fun w => {Proc.devRef (τ := τ) .tc w}

variable {ops : List (HloOp τ sig Val)} {W : List (Ref sig .tc)}

/-- What the line leaves at a buffer no later operation writes is what the operation at position `i` leaves there. -/
theorem read_op (hW : Writes ops W) {i : ℕ} {op : HloOp τ sig Val} (hi : ops[i]? = some op) {r : Ref sig .tc}
    (hr : r ∉ W.drop (i + 1)) (V : Valuation τ sig Val) :
    after ops V (Proc.devRef .tc r) = op.result (upto ops V i) (Proc.devRef .tc r) := by
  obtain ⟨h, rfl⟩ := List.getElem?_eq_some_iff.mp hi
  refine after_last_write (rest := ops.drop (i + 1)) (W.drop (i + 1)) (List.drop_eq_getElem_cons h) ?_ hr V
  rw [List.map_drop, List.map_drop, hW]

/-- A buffer no operation from position `i` on writes holds before that operation what it holds after the line. -/
theorem upto_eq (hW : Writes ops W) (i : ℕ) {r : Ref sig .tc} (hr : r ∉ W.drop i) (V : Valuation τ sig Val) :
    upto ops V i (Proc.devRef .tc r) = after ops V (Proc.devRef .tc r) := by
  have h : after ops V = after (ops.drop i) (upto ops V i) := by
    unfold upto
    generalize hA : ops.take i = A
    generalize hB : ops.drop i = B
    have hAB : ops = A ++ B := by rw [← hA, ← hB, List.take_append_drop]
    rw [hAB]
    clear hAB hA hB hr hW
    induction A generalizing V with
    | nil => rfl
    | cons op l ih => exact ih _
  rw [h]
  exact (after_unwritten (W.drop i) (by rw [List.map_drop, List.map_drop, hW]) hr _).symm

variable {a b c y : Ref sig .tc}

theorem read_nullary (hW : Writes ops W) {i : ℕ} {v : y.ty.Contents Val} {hy}
    (hi : ops[i]? = some (nullary y v hy)) (hr : y ∉ W.drop (i + 1)) (V : Valuation τ sig Val) :
    after ops V (Proc.devRef .tc y) = v :=
  (read_op hW hi hr V).trans (nullary_result' v hy _)

theorem read_unary (hW : Writes ops W) {i : ℕ} {f : a.ty.Contents Val → y.ty.Contents Val} {ha hy}
    (hi : ops[i]? = some (unary a y f ha hy)) (hr : y ∉ W.drop (i + 1)) (h1 : a ∉ W.drop i) (V : Valuation τ sig Val) :
    after ops V (Proc.devRef .tc y) = f (after ops V (Proc.devRef .tc a)) :=
  (read_op hW hi hr V).trans ((unary_result' f ha hy _).trans (by rw [upto_eq hW i h1 V]))

theorem read_binary (hW : Writes ops W) {i : ℕ} {f : a.ty.Contents Val → b.ty.Contents Val → y.ty.Contents Val} {ha hb hy}
    (hi : ops[i]? = some (binary a b y f ha hb hy)) (hr : y ∉ W.drop (i + 1)) (h1 : a ∉ W.drop i) (h2 : b ∉ W.drop i)
    (V : Valuation τ sig Val) :
    after ops V (Proc.devRef .tc y) = f (after ops V (Proc.devRef .tc a)) (after ops V (Proc.devRef .tc b)) :=
  (read_op hW hi hr V).trans ((binary_result' f ha hb hy _).trans (by rw [upto_eq hW i h1 V, upto_eq hW i h2 V]))

theorem read_ternary (hW : Writes ops W) {i : ℕ}
    {f : c.ty.Contents Val → a.ty.Contents Val → b.ty.Contents Val → y.ty.Contents Val} {hc ha hb hy}
    (hi : ops[i]? = some (ternary c a b y f hc ha hb hy)) (hr : y ∉ W.drop (i + 1)) (h0 : c ∉ W.drop i) (h1 : a ∉ W.drop i)
    (h2 : b ∉ W.drop i) (V : Valuation τ sig Val) :
    after ops V (Proc.devRef .tc y)
      = f (after ops V (Proc.devRef .tc c)) (after ops V (Proc.devRef .tc a)) (after ops V (Proc.devRef .tc b)) :=
  (read_op hW hi hr V).trans ((ternary_result' f hc ha hb hy _).trans
    (by rw [upto_eq hW i h0 V, upto_eq hW i h1 V, upto_eq hW i h2 V]))

theorem read_reshape (hW : Writes ops W) {i : ℕ} {he : a.ty.elt = y.ty.elt} {hn ha hy}
    (hi : ops[i]? = some (reshape a y he hn ha hy)) (hr : y ∉ W.drop (i + 1)) (h1 : a ∉ W.drop i) (V : Valuation τ sig Val) :
    after ops V (Proc.devRef .tc y) = fun j => he ▸ shapeCast y.ty.shape (after ops V (Proc.devRef .tc a)) hn j :=
  (read_op hW hi hr V).trans ((reshape_result' he hn ha hy _).trans (by rw [upto_eq hW i h1 V]))

theorem read_nary (hW : Writes ops W) {i n : ℕ} {xs : Fin n → Ref sig .tc}
    {f : ((k : Fin n) → (xs k).ty.Contents Val) → y.ty.Contents Val} {hxs hy}
    (hi : ops[i]? = some (nary xs y f hxs hy)) (hr : y ∉ W.drop (i + 1)) (h1 : ∀ k, xs k ∉ W.drop i)
    (V : Valuation τ sig Val) :
    after ops V (Proc.devRef .tc y) = f (fun k => after ops V (Proc.devRef .tc (xs k))) :=
  (read_op hW hi hr V).trans ((nary_result' xs f hxs hy _).trans
    (congrArg f (funext fun k => upto_eq hW i (h1 k) V)))

/-! The operations of a called function name their buffers together with the type held there. -/

variable {Ta Tb Tc Ty : BufTy} {xa : TRef sig Ta} {xb : TRef sig Tb} {xc : TRef sig Tc} {xy : TRef sig Ty}

theorem read_tunary (hW : Writes ops W) {i : ℕ} (f : Ta.Contents Val → Ty.Contents Val)
    (hi : ops[i]? = some (TRef.unary xa xy f)) (hr : xy.ref ∉ W.drop (i + 1)) (h1 : xa.ref ∉ W.drop i)
    (V : Valuation τ sig Val) {A : Ta.Contents Val} (hA : HEq (after ops V (Proc.devRef .tc xa.ref)) A) :
    HEq (after ops V (Proc.devRef .tc xy.ref)) (f A) := by
  have h := read_unary hW hi hr h1 V
  obtain ⟨ra, rfl, _, _⟩ := xa
  obtain ⟨ry, rfl, _, _⟩ := xy
  obtain rfl := eq_of_heq hA
  exact heq_of_eq h

theorem read_tbinary (hW : Writes ops W) {i : ℕ} (f : Ta.Contents Val → Tb.Contents Val → Ty.Contents Val)
    (hi : ops[i]? = some (TRef.binary xa xb xy f)) (hr : xy.ref ∉ W.drop (i + 1)) (h1 : xa.ref ∉ W.drop i)
    (h2 : xb.ref ∉ W.drop i) (V : Valuation τ sig Val) {A : Ta.Contents Val} {B : Tb.Contents Val}
    (hA : HEq (after ops V (Proc.devRef .tc xa.ref)) A) (hB : HEq (after ops V (Proc.devRef .tc xb.ref)) B) :
    HEq (after ops V (Proc.devRef .tc xy.ref)) (f A B) := by
  have h := read_binary hW hi hr h1 h2 V
  obtain ⟨ra, rfl, _, _⟩ := xa
  obtain ⟨rb, rfl, _, _⟩ := xb
  obtain ⟨ry, rfl, _, _⟩ := xy
  obtain rfl := eq_of_heq hA
  obtain rfl := eq_of_heq hB
  exact heq_of_eq h

theorem read_tternary (hW : Writes ops W) {i : ℕ} (f : Tc.Contents Val → Ta.Contents Val → Tb.Contents Val → Ty.Contents Val)
    (hi : ops[i]? = some (TRef.ternary xc xa xb xy f)) (hr : xy.ref ∉ W.drop (i + 1)) (h0 : xc.ref ∉ W.drop i)
    (h1 : xa.ref ∉ W.drop i) (h2 : xb.ref ∉ W.drop i) (V : Valuation τ sig Val)
    {C : Tc.Contents Val} {A : Ta.Contents Val} {B : Tb.Contents Val}
    (hC : HEq (after ops V (Proc.devRef .tc xc.ref)) C)
    (hA : HEq (after ops V (Proc.devRef .tc xa.ref)) A) (hB : HEq (after ops V (Proc.devRef .tc xb.ref)) B) :
    HEq (after ops V (Proc.devRef .tc xy.ref)) (f C A B) := by
  have h := read_ternary hW hi hr h0 h1 h2 V
  obtain ⟨rc, rfl, _, _⟩ := xc
  obtain ⟨ra, rfl, _, _⟩ := xa
  obtain ⟨rb, rfl, _, _⟩ := xb
  obtain ⟨ry, rfl, _, _⟩ := xy
  obtain rfl := eq_of_heq hC
  obtain rfl := eq_of_heq hA
  obtain rfl := eq_of_heq hB
  exact heq_of_eq h

end Cert.Pf
-- ==== Proof.RfPre.lean ====
/-
  The reference before its loop, one operation at a time.
  Names for the buffers after it.
-/
module

public import proofs.«01_k».proof.Proof.Gen.ReferenceIdeal.Run
public import proofs.«01_k».proof.Proof.Read

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

/-- The operations, in order. -/
abbrev preL : List (HloOp τ sig (Elt F)) := hostOps0 ++ (hostOps0_1 ++ (hostOps0_2 ++ (hostOps0_3 ++ (hostOps0_4))))
/-- What they write, in order. -/
abbrev preW : List (Ref sig .tc) := [main_cst, main_cst_0, main_cst_1, main_v0, main_v1, main_v2, main_v3, main_v4, main_v5, main_v6, main_v7, main_cst_2, main_v8, main_v9, main_cst_3, main_v10, main_v11, main_v12, main_v13, main_cst_4, main_v14, main_v15, main_cst_5, main_v16, main_v17, main_v18, main_v19, main_v20, main_v21, main_v22, main_v23, main_v24, main_cst_6, main_v25, main_v26, main_v27, main_v28, main_v29, main_v30, main_v31, main_cst_7, main_v32, main_v33, main_v34, main_v35, main_v36, main_v37, main_v38, main_v39, main_v40, main_v41, main_v42, main_v43, main_v44, main_v45, main_cst_8, main_v46, main_v47, main_cst_9, main_v48, main_v49, main_v50, main_v51, main_v52, main_cst_10, main_v53, main_v54, main_cst_11, main_v55, main_v56, main_v57, main_v58, main_v59, main_v60, main_v61, main_v62, main_v63, main_v64, main_v65, main_cst_12, main_v66, main_v67, main_v68, main_cst_13, main_v69, main_v70, main_v71, main_cst_14, main_v72, main_v73, main_v74, main_cst_15, main_v75, main_v76, main_v77, main_v78, main_v79, main_v80, main_v81, main_v82, main_v83, main_v84, main_v85, main_v86, main_cst_16, main_v87, main_v88, main_cst_17, main_v89, main_v90, main_v91, main_v92, main_v93, main_cst_18, main_v94, main_v95, main_cst_19, main_v96, main_v97, main_values, main_indices, main_c, main_v98, main_v99, main_c_20, main_v100, main_v101, main_v102, main_v103, main_v104, main_c_21, main_v105, main_v106, main_c_22, main_v107, main_v108, main_v109, main_v110, main_v111, main_cst_23, main_v112, main_v113, main_v114, main_v115, main_v116, main_v117, main_v118, main_v119, main_v120, main_cst_24, main_v121, main_v122, main_cst_25, main_v123, main_v124, main_v125, main_v126, main_cst_26, main_v127, main_v128, main_cst_27, main_v129, main_v130, main_v131, main_v132, main_v133, main_v134, main_v135, main_v136, main_v137, main_cst_28, main_v138, main_v139, main_v140, main_v141, main_v142, main_v143, main_v144, main_cst_29, main_v145, main_v146, main_v147, main_v148, main_v149, main_v150, main_v151, main_v152, main_v153, main_v154, main_v155, main_v156, main_v157, main_v158, main_cst_30, main_v159, main_v160, main_cst_31, main_v161, main_v162, main_v163, main_v164, main_v165, main_cst_32, main_v166, main_v167, main_cst_33, main_v168, main_v169, main_v170, main_v171, main_v172, main_v173, main_v174, main_v175, main_v176, main_v177, main_v178, main_cst_34, main_v179, main_v180, main_v181, main_cst_35, main_v182, main_v183, main_v184, main_cst_36, main_v185, main_v186, main_v187, main_cst_37, main_v188, main_v189, main_v190, main_v191, main_v192, main_v193, main_v194, main_v195, main_v196, main_v197, main_v198, main_v199, main_cst_38, main_v200, main_v201, main_cst_39, main_v202, main_v203, main_v204, main_v205, main_v206, main_cst_40, main_v207, main_v208, main_cst_41, main_v209, main_v210, main_values_42, main_indices_43, main_c_44, main_v211, main_v212, main_c_45, main_v213, main_v214, main_v215, main_v216, main_v217, main_c_46, main_v218, main_v219, main_c_47, main_v220, main_v221, main_v222, main_v223, main_v224, main_cst_48, main_v225, main_v226, main_v227, main_v228, main_v229, main_v230, main_v231, main_v232, main_v233, main_cst_49, main_v234, main_v235, main_cst_50, main_v236, main_v237, main_v238, main_v239, main_cst_51, main_v240, main_v241, main_cst_52, main_v242, main_v243, main_v244, main_v245, main_v246, main_v247, main_v248, main_v249, main_v250, main_cst_53, main_v251, main_v252, main_v253, main_v254, main_v255, main_v256, main_v257, main_cst_54, main_v258, main_v259, main_v260, main_v261, main_v262, main_v263, main_v264, main_v265, main_v266, main_v267, main_v268, main_v269, main_v270, main_v271, main_cst_55, main_v272, main_v273, main_cst_56, main_v274, main_v275, main_v276, main_v277, main_v278, main_cst_57, main_v279, main_v280, main_cst_58, main_v281, main_v282, main_v283, main_v284, main_v285, main_v286, main_v287, main_v288, main_v289, main_v290, main_v291, main_cst_59, main_v292, main_v293, main_v294, main_cst_60, main_v295, main_v296, main_v297, main_cst_61, main_v298, main_v299, main_v300, main_cst_62, main_v301, main_v302, main_v303, main_v304, main_v305, main_v306, main_v307, main_v308, main_v309, main_v310, main_v311, main_v312, main_cst_63, main_v313, main_v314, main_cst_64, main_v315, main_v316, main_v317, main_v318, main_v319, main_cst_65, main_v320, main_v321, main_cst_66, main_v322, main_v323, main_values_67, main_indices_68, main_c_69, main_v324, main_v325, main_c_70, main_v326, main_v327, main_v328, main_v329, main_v330, main_c_71, main_v331, main_v332, main_c_72, main_v333, main_v334, main_v335, main_v336, main_v337, main_cst_73, main_v338, main_v339, main_v340, main_v341, main_v342, main_v343, main_v344, main_v345, main_v346, main_v347, main_cst_74, main_v348, main_v349, main_v350, main_v351, main_v352, main_values_75, main_indices_76, main_c_77, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v353, main_c_78, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v354, main_c_79, main_v355, main_v356, main_c_80, main_v357, main_v358, main_v359, main_v360, main_v361, main_v362, main_cst_81, main_v363, main_v364, main_v365, main_v366, main_v367, main_c_82, main_v368, main_cst_83, main_v369, main_c_84, main_v370_0, main_v370_1, main_v370_2, main_v370_3, main_v370_4]
/-- Each operation writes its one buffer. -/
theorem pre_writes : Writes (preL (F := F)) preW := rfl

variable (V : Valuation τ sig (Elt F))

/-! Each buffer after the operations run on contents `V`. -/

def x_arg0 : S1x255x19x19.Idx → Elt F .f32 := after preL V (Proc.devRef .tc main_arg0)
def x_arg1 : S1x255x38x38.Idx → Elt F .f32 := after preL V (Proc.devRef .tc main_arg1)
def x_arg2 : S1x255x76x76.Idx → Elt F .f32 := after preL V (Proc.devRef .tc main_arg2)
def x_cst : S1083x4.Idx → Elt F .f32 := after preL V (Proc.devRef .tc main_cst)
def x_cst_0 : S4332x4.Idx → Elt F .f32 := after preL V (Proc.devRef .tc main_cst_0)
def x_cst_1 : S17328x4.Idx → Elt F .f32 := after preL V (Proc.devRef .tc main_cst_1)
def x_v0 : S255x19x19.Idx → Elt F .f32 := after preL V (Proc.devRef .tc main_v0)
def x_v1 : S255x38x38.Idx → Elt F .f32 := after preL V (Proc.devRef .tc main_v1)
def x_v2 : S255x76x76.Idx → Elt F .f32 := after preL V (Proc.devRef .tc main_v2)
def x_v3 : S19x19x255.Idx → Elt F .f32 := after preL V (Proc.devRef .tc main_v3)
def x_v4 : S1083x85.Idx → Elt F .f32 := after preL V (Proc.devRef .tc main_v4)
def x_v5 : S1083x2.Idx → Elt F .f32 := after preL V (Proc.devRef .tc main_v5)
def x_v6 : S1083x2.Idx → Elt F .f32 := after preL V (Proc.devRef .tc main_v6)
def x_v7 : S1083x2.Idx → Elt F .f32 := after preL V (Proc.devRef .tc main_v7)
def x_cst_2 : S_.Idx → Elt F .f32 := after preL V (Proc.devRef .tc main_cst_2)
def x_v8 : S1083x2.Idx → Elt F .f32 := after preL V (Proc.devRef .tc main_v8)
def x_v9 : S1083x2.Idx → Elt F .f32 := after preL V (Proc.devRef .tc main_v9)
def x_cst_3 : S_.Idx → Elt F .f32 := after preL V (Proc.devRef .tc main_cst_3)
def x_v10 : S1083x2.Idx → Elt F .f32 := after preL V (Proc.devRef .tc main_v10)
def x_v11 : S1083x2.Idx → Elt F .f32 := after preL V (Proc.devRef .tc main_v11)
def x_v12 : S1083x2.Idx → Elt F .f32 := after preL V (Proc.devRef .tc main_v12)
def x_v13 : S1083x2.Idx → Elt F .f32 := after preL V (Proc.devRef .tc main_v13)
def x_cst_4 : S_.Idx → Elt F .f32 := after preL V (Proc.devRef .tc main_cst_4)
def x_v14 : S1083x2.Idx → Elt F .f32 := after preL V (Proc.devRef .tc main_v14)
def x_v15 : S1083x2.Idx → Elt F .f32 := after preL V (Proc.devRef .tc main_v15)
def x_cst_5 : S_.Idx → Elt F .f32 := after preL V (Proc.devRef .tc main_cst_5)
def x_v16 : S1083x2.Idx → Elt F .f32 := after preL V (Proc.devRef .tc main_v16)
def x_v17 : S1083x2.Idx → Elt F .f32 := after preL V (Proc.devRef .tc main_v17)
def x_v18 : S1083x2.Idx → Elt F .f32 := after preL V (Proc.devRef .tc main_v18)
def x_v19 : S1083x4.Idx → Elt F .f32 := after preL V (Proc.devRef .tc main_v19)
def x_v20 : S1083x1.Idx → Elt F .f32 := after preL V (Proc.devRef .tc main_v20)
def x_v21 : S1083.Idx → Elt F .f32 := after preL V (Proc.devRef .tc main_v21)
def x_v22 : S1083x1.Idx → Elt F .f32 := after preL V (Proc.devRef .tc main_v22)
def x_v23 : S1083.Idx → Elt F .f32 := after preL V (Proc.devRef .tc main_v23)
def x_v24 : S1083.Idx → Elt F .f32 := after preL V (Proc.devRef .tc main_v24)
def x_cst_6 : S_.Idx → Elt F .f32 := after preL V (Proc.devRef .tc main_cst_6)
def x_v25 : S1083.Idx → Elt F .f32 := after preL V (Proc.devRef .tc main_v25)
def x_v26 : S1083.Idx → Elt F .f32 := after preL V (Proc.devRef .tc main_v26)
def x_v27 : S1083x1.Idx → Elt F .f32 := after preL V (Proc.devRef .tc main_v27)
def x_v28 : S1083.Idx → Elt F .f32 := after preL V (Proc.devRef .tc main_v28)
def x_v29 : S1083x1.Idx → Elt F .f32 := after preL V (Proc.devRef .tc main_v29)
def x_v30 : S1083.Idx → Elt F .f32 := after preL V (Proc.devRef .tc main_v30)
def x_v31 : S1083.Idx → Elt F .f32 := after preL V (Proc.devRef .tc main_v31)
def x_cst_7 : S_.Idx → Elt F .f32 := after preL V (Proc.devRef .tc main_cst_7)
def x_v32 : S1083.Idx → Elt F .f32 := after preL V (Proc.devRef .tc main_v32)
def x_v33 : S1083.Idx → Elt F .f32 := after preL V (Proc.devRef .tc main_v33)
def x_v34 : S1083x1.Idx → Elt F .f32 := after preL V (Proc.devRef .tc main_v34)
def x_v35 : S1083.Idx → Elt F .f32 := after preL V (Proc.devRef .tc main_v35)
def x_v36 : S1083x1.Idx → Elt F .f32 := after preL V (Proc.devRef .tc main_v36)
def x_v37 : S1083.Idx → Elt F .f32 := after preL V (Proc.devRef .tc main_v37)
def x_v38 : S1083.Idx → Elt F .f32 := after preL V (Proc.devRef .tc main_v38)
def x_v39 : S1083x1.Idx → Elt F .f32 := after preL V (Proc.devRef .tc main_v39)
def x_v40 : S1083.Idx → Elt F .f32 := after preL V (Proc.devRef .tc main_v40)
def x_v41 : S1083x1.Idx → Elt F .f32 := after preL V (Proc.devRef .tc main_v41)
def x_v42 : S1083.Idx → Elt F .f32 := after preL V (Proc.devRef .tc main_v42)
def x_v43 : S1083.Idx → Elt F .f32 := after preL V (Proc.devRef .tc main_v43)
def x_v44 : S1083x1.Idx → Elt F .f32 := after preL V (Proc.devRef .tc main_v44)
def x_v45 : S1083.Idx → Elt F .f32 := after preL V (Proc.devRef .tc main_v45)
def x_cst_8 : S_.Idx → Elt F .f32 := after preL V (Proc.devRef .tc main_cst_8)
def x_v46 : S1083.Idx → Elt F .f32 := after preL V (Proc.devRef .tc main_v46)
def x_v47 : S1083.Idx → Elt F .f32 := after preL V (Proc.devRef .tc main_v47)
def x_cst_9 : S_.Idx → Elt F .f32 := after preL V (Proc.devRef .tc main_cst_9)
def x_v48 : S1083.Idx → Elt F .f32 := after preL V (Proc.devRef .tc main_v48)
def x_v49 : S1083.Idx → Elt F .f32 := after preL V (Proc.devRef .tc main_v49)
def x_v50 : S1083.Idx → Elt F .f32 := after preL V (Proc.devRef .tc main_v50)
def x_v51 : S1083x1.Idx → Elt F .f32 := after preL V (Proc.devRef .tc main_v51)
def x_v52 : S1083.Idx → Elt F .f32 := after preL V (Proc.devRef .tc main_v52)
def x_cst_10 : S_.Idx → Elt F .f32 := after preL V (Proc.devRef .tc main_cst_10)
def x_v53 : S1083.Idx → Elt F .f32 := after preL V (Proc.devRef .tc main_v53)
def x_v54 : S1083.Idx → Elt F .f32 := after preL V (Proc.devRef .tc main_v54)
def x_cst_11 : S_.Idx → Elt F .f32 := after preL V (Proc.devRef .tc main_cst_11)
def x_v55 : S1083.Idx → Elt F .f32 := after preL V (Proc.devRef .tc main_v55)
def x_v56 : S1083.Idx → Elt F .f32 := after preL V (Proc.devRef .tc main_v56)
def x_v57 : S1083.Idx → Elt F .f32 := after preL V (Proc.devRef .tc main_v57)
def x_v58 : S1083x1.Idx → Elt F .f32 := after preL V (Proc.devRef .tc main_v58)
def x_v59 : S1083.Idx → Elt F .f32 := after preL V (Proc.devRef .tc main_v59)
def x_v60 : S1083.Idx → Elt F .f32 := after preL V (Proc.devRef .tc main_v60)
def x_v61 : S1083.Idx → Elt F .f32 := after preL V (Proc.devRef .tc main_v61)
def x_v62 : S1083x1.Idx → Elt F .f32 := after preL V (Proc.devRef .tc main_v62)
def x_v63 : S1083.Idx → Elt F .f32 := after preL V (Proc.devRef .tc main_v63)
def x_v64 : S1083.Idx → Elt F .f32 := after preL V (Proc.devRef .tc main_v64)
def x_v65 : S1083.Idx → Elt F .f32 := after preL V (Proc.devRef .tc main_v65)
def x_cst_12 : S_.Idx → Elt F .f32 := after preL V (Proc.devRef .tc main_cst_12)
def x_v66 : S1083.Idx → Elt F .f32 := after preL V (Proc.devRef .tc main_v66)
def x_v67 : S1083.Idx → Elt F .f32 := after preL V (Proc.devRef .tc main_v67)
def x_v68 : S1083.Idx → Elt F .f32 := after preL V (Proc.devRef .tc main_v68)
def x_cst_13 : S_.Idx → Elt F .f32 := after preL V (Proc.devRef .tc main_cst_13)
def x_v69 : S1083.Idx → Elt F .f32 := after preL V (Proc.devRef .tc main_v69)
def x_v70 : S1083.Idx → Elt F .f32 := after preL V (Proc.devRef .tc main_v70)
def x_v71 : S1083.Idx → Elt F .f32 := after preL V (Proc.devRef .tc main_v71)
def x_cst_14 : S_.Idx → Elt F .f32 := after preL V (Proc.devRef .tc main_cst_14)
def x_v72 : S1083.Idx → Elt F .f32 := after preL V (Proc.devRef .tc main_v72)
def x_v73 : S1083.Idx → Elt F .f32 := after preL V (Proc.devRef .tc main_v73)
def x_v74 : S1083.Idx → Elt F .f32 := after preL V (Proc.devRef .tc main_v74)
def x_cst_15 : S_.Idx → Elt F .f32 := after preL V (Proc.devRef .tc main_cst_15)
def x_v75 : S1083.Idx → Elt F .f32 := after preL V (Proc.devRef .tc main_v75)
def x_v76 : S1083.Idx → Elt F .f32 := after preL V (Proc.devRef .tc main_v76)
def x_v77 : S1083.Idx → Elt F .f32 := after preL V (Proc.devRef .tc main_v77)
def x_v78 : S1083x1.Idx → Elt F .f32 := after preL V (Proc.devRef .tc main_v78)
def x_v79 : S1083x1.Idx → Elt F .f32 := after preL V (Proc.devRef .tc main_v79)
def x_v80 : S1083x1.Idx → Elt F .f32 := after preL V (Proc.devRef .tc main_v80)
def x_v81 : S1083x1.Idx → Elt F .f32 := after preL V (Proc.devRef .tc main_v81)
def x_v82 : S1083x4.Idx → Elt F .f32 := after preL V (Proc.devRef .tc main_v82)
def x_v83 : S1083x1.Idx → Elt F .f32 := after preL V (Proc.devRef .tc main_v83)
def x_v84 : S1083.Idx → Elt F .f32 := after preL V (Proc.devRef .tc main_v84)
def x_v85 : S1083.Idx → Elt F .f32 := after preL V (Proc.devRef .tc main_v85)
def x_v86 : S1083.Idx → Elt F .f32 := after preL V (Proc.devRef .tc main_v86)
def x_cst_16 : S_.Idx → Elt F .f32 := after preL V (Proc.devRef .tc main_cst_16)
def x_v87 : S1083.Idx → Elt F .f32 := after preL V (Proc.devRef .tc main_v87)
def x_v88 : S1083.Idx → Elt F .f32 := after preL V (Proc.devRef .tc main_v88)
def x_cst_17 : S_.Idx → Elt F .f32 := after preL V (Proc.devRef .tc main_cst_17)
def x_v89 : S1083.Idx → Elt F .f32 := after preL V (Proc.devRef .tc main_v89)
def x_v90 : S1083.Idx → Elt F .f32 := after preL V (Proc.devRef .tc main_v90)
def x_v91 : S1083x80.Idx → Elt F .f32 := after preL V (Proc.devRef .tc main_v91)
def x_v92 : S1083x80.Idx → Elt F .f32 := after preL V (Proc.devRef .tc main_v92)
def x_v93 : S1083x80.Idx → Elt F .f32 := after preL V (Proc.devRef .tc main_v93)
def x_cst_18 : S_.Idx → Elt F .f32 := after preL V (Proc.devRef .tc main_cst_18)
def x_v94 : S1083x80.Idx → Elt F .f32 := after preL V (Proc.devRef .tc main_v94)
def x_v95 : S1083x80.Idx → Elt F .f32 := after preL V (Proc.devRef .tc main_v95)
def x_cst_19 : S_.Idx → Elt F .f32 := after preL V (Proc.devRef .tc main_cst_19)
def x_v96 : S1083x80.Idx → Elt F .f32 := after preL V (Proc.devRef .tc main_v96)
def x_v97 : S1083x80.Idx → Elt F .f32 := after preL V (Proc.devRef .tc main_v97)
def x_values : S1000.Idx → Elt F .f32 := after preL V (Proc.devRef .tc main_values)
def x_indices : S1000.Idx → Elt F .i32 := after preL V (Proc.devRef .tc main_indices)
def x_c : S_.Idx → Elt F .i32 := after preL V (Proc.devRef .tc main_c)
def x_v98 : S1000.Idx → Elt F .i32 := after preL V (Proc.devRef .tc main_v98)
def x_v99 : S1000.Idx → Elt F .i1 := after preL V (Proc.devRef .tc main_v99)
def x_c_20 : S_.Idx → Elt F .i32 := after preL V (Proc.devRef .tc main_c_20)
def x_v100 : S1000.Idx → Elt F .i32 := after preL V (Proc.devRef .tc main_v100)
def x_v101 : S1000.Idx → Elt F .i32 := after preL V (Proc.devRef .tc main_v101)
def x_v102 : S1000.Idx → Elt F .i32 := after preL V (Proc.devRef .tc main_v102)
def x_v103 : S1000x1.Idx → Elt F .i32 := after preL V (Proc.devRef .tc main_v103)
def x_v104 : S1000x4.Idx → Elt F .f32 := after preL V (Proc.devRef .tc main_v104)
def x_c_21 : S_.Idx → Elt F .i32 := after preL V (Proc.devRef .tc main_c_21)
def x_v105 : S1000.Idx → Elt F .i32 := after preL V (Proc.devRef .tc main_v105)
def x_v106 : S1000.Idx → Elt F .i1 := after preL V (Proc.devRef .tc main_v106)
def x_c_22 : S_.Idx → Elt F .i32 := after preL V (Proc.devRef .tc main_c_22)
def x_v107 : S1000.Idx → Elt F .i32 := after preL V (Proc.devRef .tc main_v107)
def x_v108 : S1000.Idx → Elt F .i32 := after preL V (Proc.devRef .tc main_v108)
def x_v109 : S1000.Idx → Elt F .i32 := after preL V (Proc.devRef .tc main_v109)
def x_v110 : S1000x1.Idx → Elt F .i32 := after preL V (Proc.devRef .tc main_v110)
def x_v111 : S1000x80.Idx → Elt F .f32 := after preL V (Proc.devRef .tc main_v111)
def x_cst_23 : S_.Idx → Elt F .f32 := after preL V (Proc.devRef .tc main_cst_23)
def x_v112 : S1000.Idx → Elt F .f32 := after preL V (Proc.devRef .tc main_v112)
def x_v113 : S1000.Idx → Elt F .i1 := after preL V (Proc.devRef .tc main_v113)
def x_v114 : S1000.Idx → Elt F .f32 := after preL V (Proc.devRef .tc main_v114)
def x_v115 : S1000.Idx → Elt F .f32 := after preL V (Proc.devRef .tc main_v115)
def x_v116 : S38x38x255.Idx → Elt F .f32 := after preL V (Proc.devRef .tc main_v116)
def x_v117 : S4332x85.Idx → Elt F .f32 := after preL V (Proc.devRef .tc main_v117)
def x_v118 : S4332x2.Idx → Elt F .f32 := after preL V (Proc.devRef .tc main_v118)
def x_v119 : S4332x2.Idx → Elt F .f32 := after preL V (Proc.devRef .tc main_v119)
def x_v120 : S4332x2.Idx → Elt F .f32 := after preL V (Proc.devRef .tc main_v120)
def x_cst_24 : S_.Idx → Elt F .f32 := after preL V (Proc.devRef .tc main_cst_24)
def x_v121 : S4332x2.Idx → Elt F .f32 := after preL V (Proc.devRef .tc main_v121)
def x_v122 : S4332x2.Idx → Elt F .f32 := after preL V (Proc.devRef .tc main_v122)
def x_cst_25 : S_.Idx → Elt F .f32 := after preL V (Proc.devRef .tc main_cst_25)
def x_v123 : S4332x2.Idx → Elt F .f32 := after preL V (Proc.devRef .tc main_v123)
def x_v124 : S4332x2.Idx → Elt F .f32 := after preL V (Proc.devRef .tc main_v124)
def x_v125 : S4332x2.Idx → Elt F .f32 := after preL V (Proc.devRef .tc main_v125)
def x_v126 : S4332x2.Idx → Elt F .f32 := after preL V (Proc.devRef .tc main_v126)
def x_cst_26 : S_.Idx → Elt F .f32 := after preL V (Proc.devRef .tc main_cst_26)
def x_v127 : S4332x2.Idx → Elt F .f32 := after preL V (Proc.devRef .tc main_v127)
def x_v128 : S4332x2.Idx → Elt F .f32 := after preL V (Proc.devRef .tc main_v128)
def x_cst_27 : S_.Idx → Elt F .f32 := after preL V (Proc.devRef .tc main_cst_27)
def x_v129 : S4332x2.Idx → Elt F .f32 := after preL V (Proc.devRef .tc main_v129)
def x_v130 : S4332x2.Idx → Elt F .f32 := after preL V (Proc.devRef .tc main_v130)
def x_v131 : S4332x2.Idx → Elt F .f32 := after preL V (Proc.devRef .tc main_v131)
def x_v132 : S4332x4.Idx → Elt F .f32 := after preL V (Proc.devRef .tc main_v132)
def x_v133 : S4332x1.Idx → Elt F .f32 := after preL V (Proc.devRef .tc main_v133)
def x_v134 : S4332.Idx → Elt F .f32 := after preL V (Proc.devRef .tc main_v134)
def x_v135 : S4332x1.Idx → Elt F .f32 := after preL V (Proc.devRef .tc main_v135)
def x_v136 : S4332.Idx → Elt F .f32 := after preL V (Proc.devRef .tc main_v136)
def x_v137 : S4332.Idx → Elt F .f32 := after preL V (Proc.devRef .tc main_v137)
def x_cst_28 : S_.Idx → Elt F .f32 := after preL V (Proc.devRef .tc main_cst_28)
def x_v138 : S4332.Idx → Elt F .f32 := after preL V (Proc.devRef .tc main_v138)
def x_v139 : S4332.Idx → Elt F .f32 := after preL V (Proc.devRef .tc main_v139)
def x_v140 : S4332x1.Idx → Elt F .f32 := after preL V (Proc.devRef .tc main_v140)
def x_v141 : S4332.Idx → Elt F .f32 := after preL V (Proc.devRef .tc main_v141)
def x_v142 : S4332x1.Idx → Elt F .f32 := after preL V (Proc.devRef .tc main_v142)
def x_v143 : S4332.Idx → Elt F .f32 := after preL V (Proc.devRef .tc main_v143)
def x_v144 : S4332.Idx → Elt F .f32 := after preL V (Proc.devRef .tc main_v144)
def x_cst_29 : S_.Idx → Elt F .f32 := after preL V (Proc.devRef .tc main_cst_29)
def x_v145 : S4332.Idx → Elt F .f32 := after preL V (Proc.devRef .tc main_v145)
def x_v146 : S4332.Idx → Elt F .f32 := after preL V (Proc.devRef .tc main_v146)
def x_v147 : S4332x1.Idx → Elt F .f32 := after preL V (Proc.devRef .tc main_v147)
def x_v148 : S4332.Idx → Elt F .f32 := after preL V (Proc.devRef .tc main_v148)
def x_v149 : S4332x1.Idx → Elt F .f32 := after preL V (Proc.devRef .tc main_v149)
def x_v150 : S4332.Idx → Elt F .f32 := after preL V (Proc.devRef .tc main_v150)
def x_v151 : S4332.Idx → Elt F .f32 := after preL V (Proc.devRef .tc main_v151)
def x_v152 : S4332x1.Idx → Elt F .f32 := after preL V (Proc.devRef .tc main_v152)
def x_v153 : S4332.Idx → Elt F .f32 := after preL V (Proc.devRef .tc main_v153)
def x_v154 : S4332x1.Idx → Elt F .f32 := after preL V (Proc.devRef .tc main_v154)
def x_v155 : S4332.Idx → Elt F .f32 := after preL V (Proc.devRef .tc main_v155)
def x_v156 : S4332.Idx → Elt F .f32 := after preL V (Proc.devRef .tc main_v156)
def x_v157 : S4332x1.Idx → Elt F .f32 := after preL V (Proc.devRef .tc main_v157)
def x_v158 : S4332.Idx → Elt F .f32 := after preL V (Proc.devRef .tc main_v158)
def x_cst_30 : S_.Idx → Elt F .f32 := after preL V (Proc.devRef .tc main_cst_30)
def x_v159 : S4332.Idx → Elt F .f32 := after preL V (Proc.devRef .tc main_v159)
def x_v160 : S4332.Idx → Elt F .f32 := after preL V (Proc.devRef .tc main_v160)
def x_cst_31 : S_.Idx → Elt F .f32 := after preL V (Proc.devRef .tc main_cst_31)
def x_v161 : S4332.Idx → Elt F .f32 := after preL V (Proc.devRef .tc main_v161)
def x_v162 : S4332.Idx → Elt F .f32 := after preL V (Proc.devRef .tc main_v162)
def x_v163 : S4332.Idx → Elt F .f32 := after preL V (Proc.devRef .tc main_v163)
def x_v164 : S4332x1.Idx → Elt F .f32 := after preL V (Proc.devRef .tc main_v164)
def x_v165 : S4332.Idx → Elt F .f32 := after preL V (Proc.devRef .tc main_v165)
def x_cst_32 : S_.Idx → Elt F .f32 := after preL V (Proc.devRef .tc main_cst_32)
def x_v166 : S4332.Idx → Elt F .f32 := after preL V (Proc.devRef .tc main_v166)
def x_v167 : S4332.Idx → Elt F .f32 := after preL V (Proc.devRef .tc main_v167)
def x_cst_33 : S_.Idx → Elt F .f32 := after preL V (Proc.devRef .tc main_cst_33)
def x_v168 : S4332.Idx → Elt F .f32 := after preL V (Proc.devRef .tc main_v168)
def x_v169 : S4332.Idx → Elt F .f32 := after preL V (Proc.devRef .tc main_v169)
def x_v170 : S4332.Idx → Elt F .f32 := after preL V (Proc.devRef .tc main_v170)
def x_v171 : S4332x1.Idx → Elt F .f32 := after preL V (Proc.devRef .tc main_v171)
def x_v172 : S4332.Idx → Elt F .f32 := after preL V (Proc.devRef .tc main_v172)
def x_v173 : S4332.Idx → Elt F .f32 := after preL V (Proc.devRef .tc main_v173)
def x_v174 : S4332.Idx → Elt F .f32 := after preL V (Proc.devRef .tc main_v174)
def x_v175 : S4332x1.Idx → Elt F .f32 := after preL V (Proc.devRef .tc main_v175)
def x_v176 : S4332.Idx → Elt F .f32 := after preL V (Proc.devRef .tc main_v176)
def x_v177 : S4332.Idx → Elt F .f32 := after preL V (Proc.devRef .tc main_v177)
def x_v178 : S4332.Idx → Elt F .f32 := after preL V (Proc.devRef .tc main_v178)
def x_cst_34 : S_.Idx → Elt F .f32 := after preL V (Proc.devRef .tc main_cst_34)
def x_v179 : S4332.Idx → Elt F .f32 := after preL V (Proc.devRef .tc main_v179)
def x_v180 : S4332.Idx → Elt F .f32 := after preL V (Proc.devRef .tc main_v180)
def x_v181 : S4332.Idx → Elt F .f32 := after preL V (Proc.devRef .tc main_v181)
def x_cst_35 : S_.Idx → Elt F .f32 := after preL V (Proc.devRef .tc main_cst_35)
def x_v182 : S4332.Idx → Elt F .f32 := after preL V (Proc.devRef .tc main_v182)
def x_v183 : S4332.Idx → Elt F .f32 := after preL V (Proc.devRef .tc main_v183)
def x_v184 : S4332.Idx → Elt F .f32 := after preL V (Proc.devRef .tc main_v184)
def x_cst_36 : S_.Idx → Elt F .f32 := after preL V (Proc.devRef .tc main_cst_36)
def x_v185 : S4332.Idx → Elt F .f32 := after preL V (Proc.devRef .tc main_v185)
def x_v186 : S4332.Idx → Elt F .f32 := after preL V (Proc.devRef .tc main_v186)
def x_v187 : S4332.Idx → Elt F .f32 := after preL V (Proc.devRef .tc main_v187)
def x_cst_37 : S_.Idx → Elt F .f32 := after preL V (Proc.devRef .tc main_cst_37)
def x_v188 : S4332.Idx → Elt F .f32 := after preL V (Proc.devRef .tc main_v188)
def x_v189 : S4332.Idx → Elt F .f32 := after preL V (Proc.devRef .tc main_v189)
def x_v190 : S4332.Idx → Elt F .f32 := after preL V (Proc.devRef .tc main_v190)
def x_v191 : S4332x1.Idx → Elt F .f32 := after preL V (Proc.devRef .tc main_v191)
def x_v192 : S4332x1.Idx → Elt F .f32 := after preL V (Proc.devRef .tc main_v192)
def x_v193 : S4332x1.Idx → Elt F .f32 := after preL V (Proc.devRef .tc main_v193)
def x_v194 : S4332x1.Idx → Elt F .f32 := after preL V (Proc.devRef .tc main_v194)
def x_v195 : S4332x4.Idx → Elt F .f32 := after preL V (Proc.devRef .tc main_v195)
def x_v196 : S4332x1.Idx → Elt F .f32 := after preL V (Proc.devRef .tc main_v196)
def x_v197 : S4332.Idx → Elt F .f32 := after preL V (Proc.devRef .tc main_v197)
def x_v198 : S4332.Idx → Elt F .f32 := after preL V (Proc.devRef .tc main_v198)
def x_v199 : S4332.Idx → Elt F .f32 := after preL V (Proc.devRef .tc main_v199)
def x_cst_38 : S_.Idx → Elt F .f32 := after preL V (Proc.devRef .tc main_cst_38)
def x_v200 : S4332.Idx → Elt F .f32 := after preL V (Proc.devRef .tc main_v200)
def x_v201 : S4332.Idx → Elt F .f32 := after preL V (Proc.devRef .tc main_v201)
def x_cst_39 : S_.Idx → Elt F .f32 := after preL V (Proc.devRef .tc main_cst_39)
def x_v202 : S4332.Idx → Elt F .f32 := after preL V (Proc.devRef .tc main_v202)
def x_v203 : S4332.Idx → Elt F .f32 := after preL V (Proc.devRef .tc main_v203)
def x_v204 : S4332x80.Idx → Elt F .f32 := after preL V (Proc.devRef .tc main_v204)
def x_v205 : S4332x80.Idx → Elt F .f32 := after preL V (Proc.devRef .tc main_v205)
def x_v206 : S4332x80.Idx → Elt F .f32 := after preL V (Proc.devRef .tc main_v206)
def x_cst_40 : S_.Idx → Elt F .f32 := after preL V (Proc.devRef .tc main_cst_40)
def x_v207 : S4332x80.Idx → Elt F .f32 := after preL V (Proc.devRef .tc main_v207)
def x_v208 : S4332x80.Idx → Elt F .f32 := after preL V (Proc.devRef .tc main_v208)
def x_cst_41 : S_.Idx → Elt F .f32 := after preL V (Proc.devRef .tc main_cst_41)
def x_v209 : S4332x80.Idx → Elt F .f32 := after preL V (Proc.devRef .tc main_v209)
def x_v210 : S4332x80.Idx → Elt F .f32 := after preL V (Proc.devRef .tc main_v210)
def x_values_42 : S1000.Idx → Elt F .f32 := after preL V (Proc.devRef .tc main_values_42)
def x_indices_43 : S1000.Idx → Elt F .i32 := after preL V (Proc.devRef .tc main_indices_43)
def x_c_44 : S_.Idx → Elt F .i32 := after preL V (Proc.devRef .tc main_c_44)
def x_v211 : S1000.Idx → Elt F .i32 := after preL V (Proc.devRef .tc main_v211)
def x_v212 : S1000.Idx → Elt F .i1 := after preL V (Proc.devRef .tc main_v212)
def x_c_45 : S_.Idx → Elt F .i32 := after preL V (Proc.devRef .tc main_c_45)
def x_v213 : S1000.Idx → Elt F .i32 := after preL V (Proc.devRef .tc main_v213)
def x_v214 : S1000.Idx → Elt F .i32 := after preL V (Proc.devRef .tc main_v214)
def x_v215 : S1000.Idx → Elt F .i32 := after preL V (Proc.devRef .tc main_v215)
def x_v216 : S1000x1.Idx → Elt F .i32 := after preL V (Proc.devRef .tc main_v216)
def x_v217 : S1000x4.Idx → Elt F .f32 := after preL V (Proc.devRef .tc main_v217)
def x_c_46 : S_.Idx → Elt F .i32 := after preL V (Proc.devRef .tc main_c_46)
def x_v218 : S1000.Idx → Elt F .i32 := after preL V (Proc.devRef .tc main_v218)
def x_v219 : S1000.Idx → Elt F .i1 := after preL V (Proc.devRef .tc main_v219)
def x_c_47 : S_.Idx → Elt F .i32 := after preL V (Proc.devRef .tc main_c_47)
def x_v220 : S1000.Idx → Elt F .i32 := after preL V (Proc.devRef .tc main_v220)
def x_v221 : S1000.Idx → Elt F .i32 := after preL V (Proc.devRef .tc main_v221)
def x_v222 : S1000.Idx → Elt F .i32 := after preL V (Proc.devRef .tc main_v222)
def x_v223 : S1000x1.Idx → Elt F .i32 := after preL V (Proc.devRef .tc main_v223)
def x_v224 : S1000x80.Idx → Elt F .f32 := after preL V (Proc.devRef .tc main_v224)
def x_cst_48 : S_.Idx → Elt F .f32 := after preL V (Proc.devRef .tc main_cst_48)
def x_v225 : S1000.Idx → Elt F .f32 := after preL V (Proc.devRef .tc main_v225)
def x_v226 : S1000.Idx → Elt F .i1 := after preL V (Proc.devRef .tc main_v226)
def x_v227 : S1000.Idx → Elt F .f32 := after preL V (Proc.devRef .tc main_v227)
def x_v228 : S1000.Idx → Elt F .f32 := after preL V (Proc.devRef .tc main_v228)
def x_v229 : S76x76x255.Idx → Elt F .f32 := after preL V (Proc.devRef .tc main_v229)
def x_v230 : S17328x85.Idx → Elt F .f32 := after preL V (Proc.devRef .tc main_v230)
def x_v231 : S17328x2.Idx → Elt F .f32 := after preL V (Proc.devRef .tc main_v231)
def x_v232 : S17328x2.Idx → Elt F .f32 := after preL V (Proc.devRef .tc main_v232)
def x_v233 : S17328x2.Idx → Elt F .f32 := after preL V (Proc.devRef .tc main_v233)
def x_cst_49 : S_.Idx → Elt F .f32 := after preL V (Proc.devRef .tc main_cst_49)
def x_v234 : S17328x2.Idx → Elt F .f32 := after preL V (Proc.devRef .tc main_v234)
def x_v235 : S17328x2.Idx → Elt F .f32 := after preL V (Proc.devRef .tc main_v235)
def x_cst_50 : S_.Idx → Elt F .f32 := after preL V (Proc.devRef .tc main_cst_50)
def x_v236 : S17328x2.Idx → Elt F .f32 := after preL V (Proc.devRef .tc main_v236)
def x_v237 : S17328x2.Idx → Elt F .f32 := after preL V (Proc.devRef .tc main_v237)
def x_v238 : S17328x2.Idx → Elt F .f32 := after preL V (Proc.devRef .tc main_v238)
def x_v239 : S17328x2.Idx → Elt F .f32 := after preL V (Proc.devRef .tc main_v239)
def x_cst_51 : S_.Idx → Elt F .f32 := after preL V (Proc.devRef .tc main_cst_51)
def x_v240 : S17328x2.Idx → Elt F .f32 := after preL V (Proc.devRef .tc main_v240)
def x_v241 : S17328x2.Idx → Elt F .f32 := after preL V (Proc.devRef .tc main_v241)
def x_cst_52 : S_.Idx → Elt F .f32 := after preL V (Proc.devRef .tc main_cst_52)
def x_v242 : S17328x2.Idx → Elt F .f32 := after preL V (Proc.devRef .tc main_v242)
def x_v243 : S17328x2.Idx → Elt F .f32 := after preL V (Proc.devRef .tc main_v243)
def x_v244 : S17328x2.Idx → Elt F .f32 := after preL V (Proc.devRef .tc main_v244)
def x_v245 : S17328x4.Idx → Elt F .f32 := after preL V (Proc.devRef .tc main_v245)
def x_v246 : S17328x1.Idx → Elt F .f32 := after preL V (Proc.devRef .tc main_v246)
def x_v247 : S17328.Idx → Elt F .f32 := after preL V (Proc.devRef .tc main_v247)
def x_v248 : S17328x1.Idx → Elt F .f32 := after preL V (Proc.devRef .tc main_v248)
def x_v249 : S17328.Idx → Elt F .f32 := after preL V (Proc.devRef .tc main_v249)
def x_v250 : S17328.Idx → Elt F .f32 := after preL V (Proc.devRef .tc main_v250)
def x_cst_53 : S_.Idx → Elt F .f32 := after preL V (Proc.devRef .tc main_cst_53)
def x_v251 : S17328.Idx → Elt F .f32 := after preL V (Proc.devRef .tc main_v251)
def x_v252 : S17328.Idx → Elt F .f32 := after preL V (Proc.devRef .tc main_v252)
def x_v253 : S17328x1.Idx → Elt F .f32 := after preL V (Proc.devRef .tc main_v253)
def x_v254 : S17328.Idx → Elt F .f32 := after preL V (Proc.devRef .tc main_v254)
def x_v255 : S17328x1.Idx → Elt F .f32 := after preL V (Proc.devRef .tc main_v255)
def x_v256 : S17328.Idx → Elt F .f32 := after preL V (Proc.devRef .tc main_v256)
def x_v257 : S17328.Idx → Elt F .f32 := after preL V (Proc.devRef .tc main_v257)
def x_cst_54 : S_.Idx → Elt F .f32 := after preL V (Proc.devRef .tc main_cst_54)
def x_v258 : S17328.Idx → Elt F .f32 := after preL V (Proc.devRef .tc main_v258)
def x_v259 : S17328.Idx → Elt F .f32 := after preL V (Proc.devRef .tc main_v259)
def x_v260 : S17328x1.Idx → Elt F .f32 := after preL V (Proc.devRef .tc main_v260)
def x_v261 : S17328.Idx → Elt F .f32 := after preL V (Proc.devRef .tc main_v261)
def x_v262 : S17328x1.Idx → Elt F .f32 := after preL V (Proc.devRef .tc main_v262)
def x_v263 : S17328.Idx → Elt F .f32 := after preL V (Proc.devRef .tc main_v263)
def x_v264 : S17328.Idx → Elt F .f32 := after preL V (Proc.devRef .tc main_v264)
def x_v265 : S17328x1.Idx → Elt F .f32 := after preL V (Proc.devRef .tc main_v265)
def x_v266 : S17328.Idx → Elt F .f32 := after preL V (Proc.devRef .tc main_v266)
def x_v267 : S17328x1.Idx → Elt F .f32 := after preL V (Proc.devRef .tc main_v267)
def x_v268 : S17328.Idx → Elt F .f32 := after preL V (Proc.devRef .tc main_v268)
def x_v269 : S17328.Idx → Elt F .f32 := after preL V (Proc.devRef .tc main_v269)
def x_v270 : S17328x1.Idx → Elt F .f32 := after preL V (Proc.devRef .tc main_v270)
def x_v271 : S17328.Idx → Elt F .f32 := after preL V (Proc.devRef .tc main_v271)
def x_cst_55 : S_.Idx → Elt F .f32 := after preL V (Proc.devRef .tc main_cst_55)
def x_v272 : S17328.Idx → Elt F .f32 := after preL V (Proc.devRef .tc main_v272)
def x_v273 : S17328.Idx → Elt F .f32 := after preL V (Proc.devRef .tc main_v273)
def x_cst_56 : S_.Idx → Elt F .f32 := after preL V (Proc.devRef .tc main_cst_56)
def x_v274 : S17328.Idx → Elt F .f32 := after preL V (Proc.devRef .tc main_v274)
def x_v275 : S17328.Idx → Elt F .f32 := after preL V (Proc.devRef .tc main_v275)
def x_v276 : S17328.Idx → Elt F .f32 := after preL V (Proc.devRef .tc main_v276)
def x_v277 : S17328x1.Idx → Elt F .f32 := after preL V (Proc.devRef .tc main_v277)
def x_v278 : S17328.Idx → Elt F .f32 := after preL V (Proc.devRef .tc main_v278)
def x_cst_57 : S_.Idx → Elt F .f32 := after preL V (Proc.devRef .tc main_cst_57)
def x_v279 : S17328.Idx → Elt F .f32 := after preL V (Proc.devRef .tc main_v279)
def x_v280 : S17328.Idx → Elt F .f32 := after preL V (Proc.devRef .tc main_v280)
def x_cst_58 : S_.Idx → Elt F .f32 := after preL V (Proc.devRef .tc main_cst_58)
def x_v281 : S17328.Idx → Elt F .f32 := after preL V (Proc.devRef .tc main_v281)
def x_v282 : S17328.Idx → Elt F .f32 := after preL V (Proc.devRef .tc main_v282)
def x_v283 : S17328.Idx → Elt F .f32 := after preL V (Proc.devRef .tc main_v283)
def x_v284 : S17328x1.Idx → Elt F .f32 := after preL V (Proc.devRef .tc main_v284)
def x_v285 : S17328.Idx → Elt F .f32 := after preL V (Proc.devRef .tc main_v285)
def x_v286 : S17328.Idx → Elt F .f32 := after preL V (Proc.devRef .tc main_v286)
def x_v287 : S17328.Idx → Elt F .f32 := after preL V (Proc.devRef .tc main_v287)
def x_v288 : S17328x1.Idx → Elt F .f32 := after preL V (Proc.devRef .tc main_v288)
def x_v289 : S17328.Idx → Elt F .f32 := after preL V (Proc.devRef .tc main_v289)
def x_v290 : S17328.Idx → Elt F .f32 := after preL V (Proc.devRef .tc main_v290)
def x_v291 : S17328.Idx → Elt F .f32 := after preL V (Proc.devRef .tc main_v291)
def x_cst_59 : S_.Idx → Elt F .f32 := after preL V (Proc.devRef .tc main_cst_59)
def x_v292 : S17328.Idx → Elt F .f32 := after preL V (Proc.devRef .tc main_v292)
def x_v293 : S17328.Idx → Elt F .f32 := after preL V (Proc.devRef .tc main_v293)
def x_v294 : S17328.Idx → Elt F .f32 := after preL V (Proc.devRef .tc main_v294)
def x_cst_60 : S_.Idx → Elt F .f32 := after preL V (Proc.devRef .tc main_cst_60)
def x_v295 : S17328.Idx → Elt F .f32 := after preL V (Proc.devRef .tc main_v295)
def x_v296 : S17328.Idx → Elt F .f32 := after preL V (Proc.devRef .tc main_v296)
def x_v297 : S17328.Idx → Elt F .f32 := after preL V (Proc.devRef .tc main_v297)
def x_cst_61 : S_.Idx → Elt F .f32 := after preL V (Proc.devRef .tc main_cst_61)
def x_v298 : S17328.Idx → Elt F .f32 := after preL V (Proc.devRef .tc main_v298)
def x_v299 : S17328.Idx → Elt F .f32 := after preL V (Proc.devRef .tc main_v299)
def x_v300 : S17328.Idx → Elt F .f32 := after preL V (Proc.devRef .tc main_v300)
def x_cst_62 : S_.Idx → Elt F .f32 := after preL V (Proc.devRef .tc main_cst_62)
def x_v301 : S17328.Idx → Elt F .f32 := after preL V (Proc.devRef .tc main_v301)
def x_v302 : S17328.Idx → Elt F .f32 := after preL V (Proc.devRef .tc main_v302)
def x_v303 : S17328.Idx → Elt F .f32 := after preL V (Proc.devRef .tc main_v303)
def x_v304 : S17328x1.Idx → Elt F .f32 := after preL V (Proc.devRef .tc main_v304)
def x_v305 : S17328x1.Idx → Elt F .f32 := after preL V (Proc.devRef .tc main_v305)
def x_v306 : S17328x1.Idx → Elt F .f32 := after preL V (Proc.devRef .tc main_v306)
def x_v307 : S17328x1.Idx → Elt F .f32 := after preL V (Proc.devRef .tc main_v307)
def x_v308 : S17328x4.Idx → Elt F .f32 := after preL V (Proc.devRef .tc main_v308)
def x_v309 : S17328x1.Idx → Elt F .f32 := after preL V (Proc.devRef .tc main_v309)
def x_v310 : S17328.Idx → Elt F .f32 := after preL V (Proc.devRef .tc main_v310)
def x_v311 : S17328.Idx → Elt F .f32 := after preL V (Proc.devRef .tc main_v311)
def x_v312 : S17328.Idx → Elt F .f32 := after preL V (Proc.devRef .tc main_v312)
def x_cst_63 : S_.Idx → Elt F .f32 := after preL V (Proc.devRef .tc main_cst_63)
def x_v313 : S17328.Idx → Elt F .f32 := after preL V (Proc.devRef .tc main_v313)
def x_v314 : S17328.Idx → Elt F .f32 := after preL V (Proc.devRef .tc main_v314)
def x_cst_64 : S_.Idx → Elt F .f32 := after preL V (Proc.devRef .tc main_cst_64)
def x_v315 : S17328.Idx → Elt F .f32 := after preL V (Proc.devRef .tc main_v315)
def x_v316 : S17328.Idx → Elt F .f32 := after preL V (Proc.devRef .tc main_v316)
def x_v317 : S17328x80.Idx → Elt F .f32 := after preL V (Proc.devRef .tc main_v317)
def x_v318 : S17328x80.Idx → Elt F .f32 := after preL V (Proc.devRef .tc main_v318)
def x_v319 : S17328x80.Idx → Elt F .f32 := after preL V (Proc.devRef .tc main_v319)
def x_cst_65 : S_.Idx → Elt F .f32 := after preL V (Proc.devRef .tc main_cst_65)
def x_v320 : S17328x80.Idx → Elt F .f32 := after preL V (Proc.devRef .tc main_v320)
def x_v321 : S17328x80.Idx → Elt F .f32 := after preL V (Proc.devRef .tc main_v321)
def x_cst_66 : S_.Idx → Elt F .f32 := after preL V (Proc.devRef .tc main_cst_66)
def x_v322 : S17328x80.Idx → Elt F .f32 := after preL V (Proc.devRef .tc main_v322)
def x_v323 : S17328x80.Idx → Elt F .f32 := after preL V (Proc.devRef .tc main_v323)
def x_values_67 : S1000.Idx → Elt F .f32 := after preL V (Proc.devRef .tc main_values_67)
def x_indices_68 : S1000.Idx → Elt F .i32 := after preL V (Proc.devRef .tc main_indices_68)
def x_c_69 : S_.Idx → Elt F .i32 := after preL V (Proc.devRef .tc main_c_69)
def x_v324 : S1000.Idx → Elt F .i32 := after preL V (Proc.devRef .tc main_v324)
def x_v325 : S1000.Idx → Elt F .i1 := after preL V (Proc.devRef .tc main_v325)
def x_c_70 : S_.Idx → Elt F .i32 := after preL V (Proc.devRef .tc main_c_70)
def x_v326 : S1000.Idx → Elt F .i32 := after preL V (Proc.devRef .tc main_v326)
def x_v327 : S1000.Idx → Elt F .i32 := after preL V (Proc.devRef .tc main_v327)
def x_v328 : S1000.Idx → Elt F .i32 := after preL V (Proc.devRef .tc main_v328)
def x_v329 : S1000x1.Idx → Elt F .i32 := after preL V (Proc.devRef .tc main_v329)
def x_v330 : S1000x4.Idx → Elt F .f32 := after preL V (Proc.devRef .tc main_v330)
def x_c_71 : S_.Idx → Elt F .i32 := after preL V (Proc.devRef .tc main_c_71)
def x_v331 : S1000.Idx → Elt F .i32 := after preL V (Proc.devRef .tc main_v331)
def x_v332 : S1000.Idx → Elt F .i1 := after preL V (Proc.devRef .tc main_v332)
def x_c_72 : S_.Idx → Elt F .i32 := after preL V (Proc.devRef .tc main_c_72)
def x_v333 : S1000.Idx → Elt F .i32 := after preL V (Proc.devRef .tc main_v333)
def x_v334 : S1000.Idx → Elt F .i32 := after preL V (Proc.devRef .tc main_v334)
def x_v335 : S1000.Idx → Elt F .i32 := after preL V (Proc.devRef .tc main_v335)
def x_v336 : S1000x1.Idx → Elt F .i32 := after preL V (Proc.devRef .tc main_v336)
def x_v337 : S1000x80.Idx → Elt F .f32 := after preL V (Proc.devRef .tc main_v337)
def x_cst_73 : S_.Idx → Elt F .f32 := after preL V (Proc.devRef .tc main_cst_73)
def x_v338 : S1000.Idx → Elt F .f32 := after preL V (Proc.devRef .tc main_v338)
def x_v339 : S1000.Idx → Elt F .i1 := after preL V (Proc.devRef .tc main_v339)
def x_v340 : S1000.Idx → Elt F .f32 := after preL V (Proc.devRef .tc main_v340)
def x_v341 : S1000.Idx → Elt F .f32 := after preL V (Proc.devRef .tc main_v341)
def x_v342 : S3000x4.Idx → Elt F .f32 := after preL V (Proc.devRef .tc main_v342)
def x_v343 : S3000x80.Idx → Elt F .f32 := after preL V (Proc.devRef .tc main_v343)
def x_v344 : S3000.Idx → Elt F .f32 := after preL V (Proc.devRef .tc main_v344)
def x_v345 : S3000x1.Idx → Elt F .f32 := after preL V (Proc.devRef .tc main_v345)
def x_v346 : S3000x80.Idx → Elt F .f32 := after preL V (Proc.devRef .tc main_v346)
def x_v347 : S3000x80.Idx → Elt F .f32 := after preL V (Proc.devRef .tc main_v347)
def x_cst_74 : S_.Idx → Elt F .f32 := after preL V (Proc.devRef .tc main_cst_74)
def x_v348 : S3000x80.Idx → Elt F .f32 := after preL V (Proc.devRef .tc main_v348)
def x_v349 : S3000x80.Idx → Elt F .i1 := after preL V (Proc.devRef .tc main_v349)
def x_v350 : S3000x80.Idx → Elt F .f32 := after preL V (Proc.devRef .tc main_v350)
def x_v351 : S3000x80.Idx → Elt F .f32 := after preL V (Proc.devRef .tc main_v351)
def x_v352 : S240000.Idx → Elt F .f32 := after preL V (Proc.devRef .tc main_v352)
def x_values_75 : S2000.Idx → Elt F .f32 := after preL V (Proc.devRef .tc main_values_75)
def x_indices_76 : S2000.Idx → Elt F .i32 := after preL V (Proc.devRef .tc main_indices_76)
def x_c_77 : S_.Idx → Elt F .i32 := after preL V (Proc.devRef .tc main_c_77)
def x_call0_v0 : S_.Idx → Elt F .i32 := after preL V (Proc.devRef .tc main_call0_v0)
def x_call0_v1 : S2000.Idx → Elt F .i32 := after preL V (Proc.devRef .tc main_call0_v1)
def x_call0_v2 : S2000.Idx → Elt F .i32 := after preL V (Proc.devRef .tc main_call0_v2)
def x_call0_v3 : S2000.Idx → Elt F .i32 := after preL V (Proc.devRef .tc main_call0_v3)
def x_call0_v4 : S_.Idx → Elt F .i32 := after preL V (Proc.devRef .tc main_call0_v4)
def x_call0_v5 : S2000.Idx → Elt F .i32 := after preL V (Proc.devRef .tc main_call0_v5)
def x_call0_v6 : S2000.Idx → Elt F .i1 := after preL V (Proc.devRef .tc main_call0_v6)
def x_call0_v7 : S2000.Idx → Elt F .i32 := after preL V (Proc.devRef .tc main_call0_v7)
def x_call0_v8 : S2000.Idx → Elt F .i32 := after preL V (Proc.devRef .tc main_call0_v8)
def x_call0_c : S_.Idx → Elt F .i32 := after preL V (Proc.devRef .tc main_call0_c)
def x_call0_v9 : S2000.Idx → Elt F .i32 := after preL V (Proc.devRef .tc main_call0_v9)
def x_call0_v10 : S2000.Idx → Elt F .i1 := after preL V (Proc.devRef .tc main_call0_v10)
def x_call0_v11 : S2000.Idx → Elt F .i1 := after preL V (Proc.devRef .tc main_call0_v11)
def x_call0_c_0 : S_.Idx → Elt F .i32 := after preL V (Proc.devRef .tc main_call0_c_0)
def x_call0_v12 : S2000.Idx → Elt F .i32 := after preL V (Proc.devRef .tc main_call0_v12)
def x_call0_v13 : S2000.Idx → Elt F .i32 := after preL V (Proc.devRef .tc main_call0_v13)
def x_v353 : S2000.Idx → Elt F .i32 := after preL V (Proc.devRef .tc main_v353)
def x_c_78 : S_.Idx → Elt F .i32 := after preL V (Proc.devRef .tc main_c_78)
def x_call1_v0 : S_.Idx → Elt F .i32 := after preL V (Proc.devRef .tc main_call1_v0)
def x_call1_c : S_.Idx → Elt F .i32 := after preL V (Proc.devRef .tc main_call1_c)
def x_call1_v1 : S_.Idx → Elt F .i1 := after preL V (Proc.devRef .tc main_call1_v1)
def x_call1_c_0 : S_.Idx → Elt F .i32 := after preL V (Proc.devRef .tc main_call1_c_0)
def x_call1_v2 : S_.Idx → Elt F .i32 := after preL V (Proc.devRef .tc main_call1_v2)
def x_call1_v3 : S2000.Idx → Elt F .i32 := after preL V (Proc.devRef .tc main_call1_v3)
def x_call1_v4 : S2000.Idx → Elt F .i32 := after preL V (Proc.devRef .tc main_call1_v4)
def x_call1_c_1 : S_.Idx → Elt F .i32 := after preL V (Proc.devRef .tc main_call1_c_1)
def x_call1_v5 : S2000.Idx → Elt F .i32 := after preL V (Proc.devRef .tc main_call1_v5)
def x_call1_v6 : S2000.Idx → Elt F .i1 := after preL V (Proc.devRef .tc main_call1_v6)
def x_call1_c_2 : S_.Idx → Elt F .i32 := after preL V (Proc.devRef .tc main_call1_c_2)
def x_call1_v7 : S2000.Idx → Elt F .i32 := after preL V (Proc.devRef .tc main_call1_v7)
def x_call1_v8 : S2000.Idx → Elt F .i1 := after preL V (Proc.devRef .tc main_call1_v8)
def x_call1_c_3 : S_.Idx → Elt F .i32 := after preL V (Proc.devRef .tc main_call1_c_3)
def x_call1_v9 : S_.Idx → Elt F .i1 := after preL V (Proc.devRef .tc main_call1_v9)
def x_call1_v10 : S2000.Idx → Elt F .i1 := after preL V (Proc.devRef .tc main_call1_v10)
def x_call1_v11 : S2000.Idx → Elt F .i1 := after preL V (Proc.devRef .tc main_call1_v11)
def x_call1_v12 : S2000.Idx → Elt F .i1 := after preL V (Proc.devRef .tc main_call1_v12)
def x_call1_v13 : S2000.Idx → Elt F .i32 := after preL V (Proc.devRef .tc main_call1_v13)
def x_call1_v14 : S2000.Idx → Elt F .i32 := after preL V (Proc.devRef .tc main_call1_v14)
def x_v354 : S2000.Idx → Elt F .i32 := after preL V (Proc.devRef .tc main_v354)
def x_c_79 : S_.Idx → Elt F .i32 := after preL V (Proc.devRef .tc main_c_79)
def x_v355 : S2000.Idx → Elt F .i32 := after preL V (Proc.devRef .tc main_v355)
def x_v356 : S2000.Idx → Elt F .i1 := after preL V (Proc.devRef .tc main_v356)
def x_c_80 : S_.Idx → Elt F .i32 := after preL V (Proc.devRef .tc main_c_80)
def x_v357 : S2000.Idx → Elt F .i32 := after preL V (Proc.devRef .tc main_v357)
def x_v358 : S2000.Idx → Elt F .i32 := after preL V (Proc.devRef .tc main_v358)
def x_v359 : S2000.Idx → Elt F .i32 := after preL V (Proc.devRef .tc main_v359)
def x_v360 : S2000x1.Idx → Elt F .i32 := after preL V (Proc.devRef .tc main_v360)
def x_v361 : S2000x4.Idx → Elt F .f32 := after preL V (Proc.devRef .tc main_v361)
def x_v362 : S2000.Idx → Elt F .f32 := after preL V (Proc.devRef .tc main_v362)
def x_cst_81 : S_.Idx → Elt F .f32 := after preL V (Proc.devRef .tc main_cst_81)
def x_v363 : S2000.Idx → Elt F .f32 := after preL V (Proc.devRef .tc main_v363)
def x_v364 : S2000.Idx → Elt F .f32 := after preL V (Proc.devRef .tc main_v364)
def x_v365 : S2000x1.Idx → Elt F .f32 := after preL V (Proc.devRef .tc main_v365)
def x_v366 : S2000x4.Idx → Elt F .f32 := after preL V (Proc.devRef .tc main_v366)
def x_v367 : S2000x4.Idx → Elt F .f32 := after preL V (Proc.devRef .tc main_v367)
def x_c_82 : S_.Idx → Elt F .i32 := after preL V (Proc.devRef .tc main_c_82)
def x_v368 : S100.Idx → Elt F .i32 := after preL V (Proc.devRef .tc main_v368)
def x_cst_83 : S_.Idx → Elt F .f32 := after preL V (Proc.devRef .tc main_cst_83)
def x_v369 : S100.Idx → Elt F .f32 := after preL V (Proc.devRef .tc main_v369)
def x_c_84 : S_.Idx → Elt F .i32 := after preL V (Proc.devRef .tc main_c_84)
def x_v370_0 : S2000x4.Idx → Elt F .f32 := after preL V (Proc.devRef .tc main_v370_0)
def x_v370_1 : S_.Idx → Elt F .i32 := after preL V (Proc.devRef .tc main_v370_1)
def x_v370_2 : S2000.Idx → Elt F .f32 := after preL V (Proc.devRef .tc main_v370_2)
def x_v370_3 : S100.Idx → Elt F .i32 := after preL V (Proc.devRef .tc main_v370_3)
def x_v370_4 : S100.Idx → Elt F .f32 := after preL V (Proc.devRef .tc main_v370_4)

end Cert.ReferenceIdeal.Pf

end
-- ==== Proof.RfPost.lean ====
/-
  The reference after its loop, one operation at a time.
  Names for the buffers after it.
-/
module

public import proofs.«01_k».proof.Proof.Gen.ReferenceIdeal.Run
public import proofs.«01_k».proof.Proof.Read

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

/-- The operations, in order. -/
abbrev postL : List (HloOp τ sig (Elt F)) := hostOps0_5 ++ (hostOps0_6 ++ (hostOps0_7))
/-- What they write, in order. -/
abbrev postW : List (Ref sig .tc) := [main_cst_85, main_v371, main_v372, main_v373, main_c_86, main_v374, main_v375, main_c_87, main_v376, main_v377, main_v378, main_v379, main_v380, main_v381, main_v382, main_v383, main_v384, main_cst_88, main_v385, main_v386, main_c_89, main_v387, main_v388, main_c_90, main_v389, main_v390, main_v391, main_v392, main_v393, main_c_91, main_call11_v0, main_call11_v1, main_v394, main_cst_92, main_v395, main_v396, main_v397, main_v398, main_v399, main_v400]
/-- Each operation writes its one buffer. -/
theorem post_writes : Writes (postL (F := F)) postW := rfl

variable (V : Valuation τ sig (Elt F))

/-! Each buffer after the operations run on contents `V`. -/

def y_v370_4 : S100.Idx → Elt F .f32 := after postL V (Proc.devRef .tc main_v370_4)
def y_v370_3 : S100.Idx → Elt F .i32 := after postL V (Proc.devRef .tc main_v370_3)
def y_v361 : S2000x4.Idx → Elt F .f32 := after postL V (Proc.devRef .tc main_v361)
def y_v354 : S2000.Idx → Elt F .i32 := after postL V (Proc.devRef .tc main_v354)
def y_cst_85 : S_.Idx → Elt F .f32 := after postL V (Proc.devRef .tc main_cst_85)
def y_v371 : S100.Idx → Elt F .f32 := after postL V (Proc.devRef .tc main_v371)
def y_v372 : S100.Idx → Elt F .i1 := after postL V (Proc.devRef .tc main_v372)
def y_v373 : S100.Idx → Elt F .f32 := after postL V (Proc.devRef .tc main_v373)
def y_c_86 : S_.Idx → Elt F .i32 := after postL V (Proc.devRef .tc main_c_86)
def y_v374 : S100.Idx → Elt F .i32 := after postL V (Proc.devRef .tc main_v374)
def y_v375 : S100.Idx → Elt F .i1 := after postL V (Proc.devRef .tc main_v375)
def y_c_87 : S_.Idx → Elt F .i32 := after postL V (Proc.devRef .tc main_c_87)
def y_v376 : S100.Idx → Elt F .i32 := after postL V (Proc.devRef .tc main_v376)
def y_v377 : S100.Idx → Elt F .i32 := after postL V (Proc.devRef .tc main_v377)
def y_v378 : S100.Idx → Elt F .i32 := after postL V (Proc.devRef .tc main_v378)
def y_v379 : S100x1.Idx → Elt F .i32 := after postL V (Proc.devRef .tc main_v379)
def y_v380 : S100x4.Idx → Elt F .f32 := after postL V (Proc.devRef .tc main_v380)
def y_v381 : S100x1.Idx → Elt F .f32 := after postL V (Proc.devRef .tc main_v381)
def y_v382 : S100x4.Idx → Elt F .f32 := after postL V (Proc.devRef .tc main_v382)
def y_v383 : S100x4.Idx → Elt F .f32 := after postL V (Proc.devRef .tc main_v383)
def y_v384 : S100.Idx → Elt F .f32 := after postL V (Proc.devRef .tc main_v384)
def y_cst_88 : S_.Idx → Elt F .f32 := after postL V (Proc.devRef .tc main_cst_88)
def y_v385 : S100.Idx → Elt F .f32 := after postL V (Proc.devRef .tc main_v385)
def y_v386 : S100.Idx → Elt F .i1 := after postL V (Proc.devRef .tc main_v386)
def y_c_89 : S_.Idx → Elt F .i32 := after postL V (Proc.devRef .tc main_c_89)
def y_v387 : S100.Idx → Elt F .i32 := after postL V (Proc.devRef .tc main_v387)
def y_v388 : S100.Idx → Elt F .i1 := after postL V (Proc.devRef .tc main_v388)
def y_c_90 : S_.Idx → Elt F .i32 := after postL V (Proc.devRef .tc main_c_90)
def y_v389 : S100.Idx → Elt F .i32 := after postL V (Proc.devRef .tc main_v389)
def y_v390 : S100.Idx → Elt F .i32 := after postL V (Proc.devRef .tc main_v390)
def y_v391 : S100.Idx → Elt F .i32 := after postL V (Proc.devRef .tc main_v391)
def y_v392 : S100x1.Idx → Elt F .i32 := after postL V (Proc.devRef .tc main_v392)
def y_v393 : S100.Idx → Elt F .i32 := after postL V (Proc.devRef .tc main_v393)
def y_c_91 : S_.Idx → Elt F .i32 := after postL V (Proc.devRef .tc main_c_91)
def y_call11_v0 : S_.Idx → Elt F .i32 := after postL V (Proc.devRef .tc main_call11_v0)
def y_call11_v1 : S100.Idx → Elt F .i32 := after postL V (Proc.devRef .tc main_call11_v1)
def y_v394 : S100.Idx → Elt F .i32 := after postL V (Proc.devRef .tc main_v394)
def y_cst_92 : S_.Idx → Elt F .f32 := after postL V (Proc.devRef .tc main_cst_92)
def y_v395 : S_.Idx → Elt F .f32 := after postL V (Proc.devRef .tc main_v395)
def y_v396 : S_.Idx → Elt F .i32 := after postL V (Proc.devRef .tc main_v396)
def y_v397 : S1.Idx → Elt F .i32 := after postL V (Proc.devRef .tc main_v397)
def y_v398 : S1x100x4.Idx → Elt F .f32 := after postL V (Proc.devRef .tc main_v398)
def y_v399 : S1x100.Idx → Elt F .f32 := after postL V (Proc.devRef .tc main_v399)
def y_v400 : S1x100.Idx → Elt F .i32 := after postL V (Proc.devRef .tc main_v400)

end Cert.ReferenceIdeal.Pf

end
-- ==== Proof.RfLink.lean ====
/-
  The reference's contents at the loop's entry and after it, under the names of the operations before and after the loop.
-/
module

public import proofs.«01_k».proof.Proof.RfPre
public import proofs.«01_k».proof.Proof.RfPost
public import proofs.«01_k».proof.Proof.RfFrame

@[expose] public section

set_option maxRecDepth 8192

noncomputable section

namespace Cert.ReferenceIdeal.Pf

open Cert.ReferenceIdeal Cert.ReferenceIdeal.Gen Cert.ReferenceIdeal.Value
open Idealize.ShloMosaic Idealize.ShloMosaic.StableHlo
open Idealize.ShloMosaic.TcCoe

variable {F : FTy → Type} [FloatOps F]

variable (m : (ℓ : Loc nD τ sig) → Buf (Elt F) ℓ) (c : Dev nD)

/-- The loop's entry is what the operations before it leave. -/
theorem entry_eq : entryContents preI m c = after preL (launchContents m c) := by
  simp only [entryContents, afterL_cons, afterL_nil, preL, after_append]

/-- The contents after the loop. -/
abbrev leaves : Valuation τ sig (Elt F) := after condOps (atTrip condOps bodyI (entryContents preI m) 100 c)

/-- The program ends with what the operations after the loop leave. -/
theorem final_eq : finalContents condOps preI bodyI postI 100 m c = after postL (leaves m c) := by
  simp only [finalContents, afterL_cons, afterL_nil, postL, after_append]

/-- The operations after the loop change only what they write. -/
theorem after_post (V : Valuation τ sig (Elt F)) (r : Ref sig .tc) (h0 : r ∉ hostOps0_5_W) (h1 : r ∉ hostOps0_6_W) (h2 : r ∉ hostOps0_7_W) :
    after postL V (Proc.devRef .tc r) = V (Proc.devRef .tc r) := by
  rw [← post_of V r h0 h1 h2]
  simp only [afterL_cons, afterL_nil, postL, after_append]

/-- The list of picks after the loop. -/
theorem leaves_3 : y_v370_3 (leaves m c) = (STEP^[100] (entryContents preI m c)) (Proc.devRef .tc main_v370_3) :=
  (after_post _ main_v370_3 (by decide) (by decide) (by decide)).trans
    ((cond_keeps _ main_v370_3 (by decide)).trans (atK_agree m c 100 main_v370_3 (by decide)))

/-- The list of scores after the loop. -/
theorem leaves_4 : y_v370_4 (leaves m c) = (STEP^[100] (entryContents preI m c)) (Proc.devRef .tc main_v370_4) :=
  (after_post _ main_v370_4 (by decide) (by decide) (by decide)).trans
    ((cond_keeps _ main_v370_4 (by decide)).trans (atK_agree m c 100 main_v370_4 (by decide)))

/-- The loop keeps the candidates' classes. -/
theorem leaves_cls : y_v354 (leaves m c) = x_v354 (launchContents m c) := by
  refine (after_post _ main_v354 (by decide +kernel) (by decide +kernel) (by decide +kernel)).trans ?_
  refine (after_of_writes_sub condOps _ condOps_writes (by decide +kernel)).trans ?_
  refine (atK_of m main_v354 (by decide +kernel) (by decide +kernel) (by decide +kernel) (by decide +kernel) (by decide +kernel) (by decide +kernel) (by decide +kernel)
    (by decide +kernel) (by decide +kernel) (by decide +kernel) (by decide +kernel) (by decide +kernel) (by decide +kernel) (by decide +kernel)
    (by decide +kernel) (by decide +kernel) (by decide +kernel) (by decide +kernel) (by decide +kernel) c 100).trans ?_
  rw [entry_eq]
  rfl

/-- The loop keeps the candidates' boxes. -/
theorem leaves_box : y_v361 (leaves m c) = x_v361 (launchContents m c) := by
  refine (after_post _ main_v361 (by decide +kernel) (by decide +kernel) (by decide +kernel)).trans ?_
  refine (after_of_writes_sub condOps _ condOps_writes (by decide +kernel)).trans ?_
  refine (atK_of m main_v361 (by decide +kernel) (by decide +kernel) (by decide +kernel) (by decide +kernel) (by decide +kernel) (by decide +kernel) (by decide +kernel)
    (by decide +kernel) (by decide +kernel) (by decide +kernel) (by decide +kernel) (by decide +kernel) (by decide +kernel) (by decide +kernel)
    (by decide +kernel) (by decide +kernel) (by decide +kernel) (by decide +kernel) (by decide +kernel) c 100).trans ?_
  rw [entry_eq]
  rfl

/-- The arguments before the loop are as launched. -/
theorem entry_arg0 : x_arg0 (launchContents m c) = m ((c : Thread nD τ).loc main_arg0) := by
  unfold x_arg0
  rw [← entry_eq]
  exact pre_of _ main_arg0 (by decide +kernel) (by decide +kernel) (by decide +kernel) (by decide +kernel) (by decide +kernel)
theorem entry_arg1 : x_arg1 (launchContents m c) = m ((c : Thread nD τ).loc main_arg1) := by
  unfold x_arg1
  rw [← entry_eq]
  exact pre_of _ main_arg1 (by decide +kernel) (by decide +kernel) (by decide +kernel) (by decide +kernel) (by decide +kernel)
theorem entry_arg2 : x_arg2 (launchContents m c) = m ((c : Thread nD τ).loc main_arg2) := by
  unfold x_arg2
  rw [← entry_eq]
  exact pre_of _ main_arg2 (by decide +kernel) (by decide +kernel) (by decide +kernel) (by decide +kernel) (by decide +kernel)

/-- The results under the names of the operations after the loop. -/
theorem final_397 : finalContents condOps preI bodyI postI 100 m c (Proc.devRef .tc main_v397) = y_v397 (leaves m c) := by
  rw [final_eq]
  rfl
theorem final_398 : finalContents condOps preI bodyI postI 100 m c (Proc.devRef .tc main_v398) = y_v398 (leaves m c) := by
  rw [final_eq]
  rfl
theorem final_399 : finalContents condOps preI bodyI postI 100 m c (Proc.devRef .tc main_v399) = y_v399 (leaves m c) := by
  rw [final_eq]
  rfl
theorem final_400 : finalContents condOps preI bodyI postI 100 m c (Proc.devRef .tc main_v400) = y_v400 (leaves m c) := by
  rw [final_eq]
  rfl

end Cert.ReferenceIdeal.Pf

end
-- ==== Proof.KiPre.lean ====
/-
  The host operations before the decode call, one at a time.
  Names for the buffers after it.
-/
module

public import proofs.«01_k».proof.Proof.Gen.KernelIdeal.Launch
public import proofs.«01_k».proof.Proof.Read

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

/-- The operations, in order. -/
abbrev preL : List (HloOp τ sig (Elt F)) := hostOps0 ++ (hostOps0_1)
/-- What they write, in order. -/
abbrev preW : List (Ref sig .tc) := [main_cst, main_cst_0, main_v0, main_v1, main_v2, main_v3, main_v4, main_v5, main_v6, main_v7, main_v8, main_v9, main_v10, main_v11, main_v12, main_c, main_call0_v0, main_v13]
/-- Each operation writes its one buffer. -/
theorem pre_writes : Writes (preL (F := F)) preW := rfl

variable (V : Valuation τ sig (Elt F))

/-! Each buffer after the operations run on contents `V`. -/

def x_arg0 : S1x255x19x19.Idx → Elt F .f32 := after preL V (Proc.devRef .tc main_arg0)
def x_arg1 : S1x255x38x38.Idx → Elt F .f32 := after preL V (Proc.devRef .tc main_arg1)
def x_arg2 : S1x255x76x76.Idx → Elt F .f32 := after preL V (Proc.devRef .tc main_arg2)
def x_cst : S4x22784.Idx → Elt F .f32 := after preL V (Proc.devRef .tc main_cst)
def x_cst_0 : S1x22784.Idx → Elt F .f32 := after preL V (Proc.devRef .tc main_cst_0)
def x_v0 : S255x19x19.Idx → Elt F .f32 := after preL V (Proc.devRef .tc main_v0)
def x_v1 : S3x85x361.Idx → Elt F .f32 := after preL V (Proc.devRef .tc main_v1)
def x_v2 : S85x361x3.Idx → Elt F .f32 := after preL V (Proc.devRef .tc main_v2)
def x_v3 : S85x1083.Idx → Elt F .f32 := after preL V (Proc.devRef .tc main_v3)
def x_v4 : S255x38x38.Idx → Elt F .f32 := after preL V (Proc.devRef .tc main_v4)
def x_v5 : S3x85x1444.Idx → Elt F .f32 := after preL V (Proc.devRef .tc main_v5)
def x_v6 : S85x1444x3.Idx → Elt F .f32 := after preL V (Proc.devRef .tc main_v6)
def x_v7 : S85x4332.Idx → Elt F .f32 := after preL V (Proc.devRef .tc main_v7)
def x_v8 : S255x76x76.Idx → Elt F .f32 := after preL V (Proc.devRef .tc main_v8)
def x_v9 : S3x85x5776.Idx → Elt F .f32 := after preL V (Proc.devRef .tc main_v9)
def x_v10 : S85x5776x3.Idx → Elt F .f32 := after preL V (Proc.devRef .tc main_v10)
def x_v11 : S85x17328.Idx → Elt F .f32 := after preL V (Proc.devRef .tc main_v11)
def x_v12 : S85x22743.Idx → Elt F .f32 := after preL V (Proc.devRef .tc main_v12)
def x_c : S_.Idx → Elt F .i32 := after preL V (Proc.devRef .tc main_c)
def x_call0_v0 : S_.Idx → Elt F .f32 := after preL V (Proc.devRef .tc main_call0_v0)
def x_v13 : S85x22784.Idx → Elt F .f32 := after preL V (Proc.devRef .tc main_v13)

end Cert.KernelIdeal.Pf

end
-- ==== Proof.KiMid.lean ====
/-
  The host operations between the decode call and the suppression call, one at a time.
  Names for the buffers after it.
-/
module

public import proofs.«01_k».proof.Proof.Gen.KernelIdeal.Launch
public import proofs.«01_k».proof.Proof.Read

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

/-- The operations, in order. -/
abbrev midL : List (HloOp τ sig (Elt F)) := hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10))))))))))
/-- What they write, in order. -/
abbrev midW : List (Ref sig .tc) := [main_v15, main_v16, main_values, main_indices, main_c_1, main_v17, main_v18, main_cst_2, main_v19, main_v20, main_v21, main_v22, main_v23, main_values_3, main_indices_4, main_c_5, main_v24, main_v25, main_cst_6, main_v26, main_v27, main_v28, main_v29, main_v30, main_values_7, main_indices_8, main_c_9, main_v31, main_v32, main_cst_10, main_v33, main_v34, main_v35, main_v36, main_v37, main_v38, main_c_11, main_v39, main_v40, main_c_12, main_v41, main_v42, main_v43, main_v44, main_v45, main_c_13, main_v46, main_v47, main_c_14, main_v48, main_v49, main_v50, main_v51, main_v52, main_v53, main_v54, main_v55, main_cst_15, main_v56, main_v57, main_v58, main_v59, main_v60, main_v61, main_values_16, main_indices_17, main_c_18, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v62, main_c_19, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v63, main_c_20, main_v64, main_v65, main_c_21, main_v66, main_v67, main_v68, main_v69, main_v70, main_c_22, main_call3_v0, main_v71, main_v72, main_c_23, main_call4_v0, main_v73, main_v74, main_cst_24, main_call5_v0, main_v75, main_v76]
/-- Each operation writes its one buffer. -/
theorem mid_writes : Writes (midL (F := F)) midW := rfl

variable (V : Valuation τ sig (Elt F))

/-! Each buffer after the operations run on contents `V`. -/

def y_v14_1 : S1x22784.Idx → Elt F .f32 := after midL V (Proc.devRef .tc main_v14_1)
def y_v14_0 : S4x22784.Idx → Elt F .f32 := after midL V (Proc.devRef .tc main_v14_0)
def y_v14_2 : S80x22784.Idx → Elt F .f32 := after midL V (Proc.devRef .tc main_v14_2)
def y_v15 : S22784.Idx → Elt F .f32 := after midL V (Proc.devRef .tc main_v15)
def y_v16 : S1083.Idx → Elt F .f32 := after midL V (Proc.devRef .tc main_v16)
def y_values : S1000.Idx → Elt F .f32 := after midL V (Proc.devRef .tc main_values)
def y_indices : S1000.Idx → Elt F .i32 := after midL V (Proc.devRef .tc main_indices)
def y_c_1 : S_.Idx → Elt F .i32 := after midL V (Proc.devRef .tc main_c_1)
def y_v17 : S1000.Idx → Elt F .i32 := after midL V (Proc.devRef .tc main_v17)
def y_v18 : S1000.Idx → Elt F .i32 := after midL V (Proc.devRef .tc main_v18)
def y_cst_2 : S_.Idx → Elt F .f32 := after midL V (Proc.devRef .tc main_cst_2)
def y_v19 : S1000.Idx → Elt F .f32 := after midL V (Proc.devRef .tc main_v19)
def y_v20 : S1000.Idx → Elt F .i1 := after midL V (Proc.devRef .tc main_v20)
def y_v21 : S1000.Idx → Elt F .f32 := after midL V (Proc.devRef .tc main_v21)
def y_v22 : S1000.Idx → Elt F .f32 := after midL V (Proc.devRef .tc main_v22)
def y_v23 : S4332.Idx → Elt F .f32 := after midL V (Proc.devRef .tc main_v23)
def y_values_3 : S1000.Idx → Elt F .f32 := after midL V (Proc.devRef .tc main_values_3)
def y_indices_4 : S1000.Idx → Elt F .i32 := after midL V (Proc.devRef .tc main_indices_4)
def y_c_5 : S_.Idx → Elt F .i32 := after midL V (Proc.devRef .tc main_c_5)
def y_v24 : S1000.Idx → Elt F .i32 := after midL V (Proc.devRef .tc main_v24)
def y_v25 : S1000.Idx → Elt F .i32 := after midL V (Proc.devRef .tc main_v25)
def y_cst_6 : S_.Idx → Elt F .f32 := after midL V (Proc.devRef .tc main_cst_6)
def y_v26 : S1000.Idx → Elt F .f32 := after midL V (Proc.devRef .tc main_v26)
def y_v27 : S1000.Idx → Elt F .i1 := after midL V (Proc.devRef .tc main_v27)
def y_v28 : S1000.Idx → Elt F .f32 := after midL V (Proc.devRef .tc main_v28)
def y_v29 : S1000.Idx → Elt F .f32 := after midL V (Proc.devRef .tc main_v29)
def y_v30 : S17328.Idx → Elt F .f32 := after midL V (Proc.devRef .tc main_v30)
def y_values_7 : S1000.Idx → Elt F .f32 := after midL V (Proc.devRef .tc main_values_7)
def y_indices_8 : S1000.Idx → Elt F .i32 := after midL V (Proc.devRef .tc main_indices_8)
def y_c_9 : S_.Idx → Elt F .i32 := after midL V (Proc.devRef .tc main_c_9)
def y_v31 : S1000.Idx → Elt F .i32 := after midL V (Proc.devRef .tc main_v31)
def y_v32 : S1000.Idx → Elt F .i32 := after midL V (Proc.devRef .tc main_v32)
def y_cst_10 : S_.Idx → Elt F .f32 := after midL V (Proc.devRef .tc main_cst_10)
def y_v33 : S1000.Idx → Elt F .f32 := after midL V (Proc.devRef .tc main_v33)
def y_v34 : S1000.Idx → Elt F .i1 := after midL V (Proc.devRef .tc main_v34)
def y_v35 : S1000.Idx → Elt F .f32 := after midL V (Proc.devRef .tc main_v35)
def y_v36 : S1000.Idx → Elt F .f32 := after midL V (Proc.devRef .tc main_v36)
def y_v37 : S3000.Idx → Elt F .i32 := after midL V (Proc.devRef .tc main_v37)
def y_v38 : S3000.Idx → Elt F .f32 := after midL V (Proc.devRef .tc main_v38)
def y_c_11 : S_.Idx → Elt F .i32 := after midL V (Proc.devRef .tc main_c_11)
def y_v39 : S3000.Idx → Elt F .i32 := after midL V (Proc.devRef .tc main_v39)
def y_v40 : S3000.Idx → Elt F .i1 := after midL V (Proc.devRef .tc main_v40)
def y_c_12 : S_.Idx → Elt F .i32 := after midL V (Proc.devRef .tc main_c_12)
def y_v41 : S3000.Idx → Elt F .i32 := after midL V (Proc.devRef .tc main_v41)
def y_v42 : S3000.Idx → Elt F .i32 := after midL V (Proc.devRef .tc main_v42)
def y_v43 : S3000.Idx → Elt F .i32 := after midL V (Proc.devRef .tc main_v43)
def y_v44 : S3000x1.Idx → Elt F .i32 := after midL V (Proc.devRef .tc main_v44)
def y_v45 : S4x3000.Idx → Elt F .f32 := after midL V (Proc.devRef .tc main_v45)
def y_c_13 : S_.Idx → Elt F .i32 := after midL V (Proc.devRef .tc main_c_13)
def y_v46 : S3000.Idx → Elt F .i32 := after midL V (Proc.devRef .tc main_v46)
def y_v47 : S3000.Idx → Elt F .i1 := after midL V (Proc.devRef .tc main_v47)
def y_c_14 : S_.Idx → Elt F .i32 := after midL V (Proc.devRef .tc main_c_14)
def y_v48 : S3000.Idx → Elt F .i32 := after midL V (Proc.devRef .tc main_v48)
def y_v49 : S3000.Idx → Elt F .i32 := after midL V (Proc.devRef .tc main_v49)
def y_v50 : S3000.Idx → Elt F .i32 := after midL V (Proc.devRef .tc main_v50)
def y_v51 : S3000x1.Idx → Elt F .i32 := after midL V (Proc.devRef .tc main_v51)
def y_v52 : S80x3000.Idx → Elt F .f32 := after midL V (Proc.devRef .tc main_v52)
def y_v53 : S1x3000.Idx → Elt F .f32 := after midL V (Proc.devRef .tc main_v53)
def y_v54 : S80x3000.Idx → Elt F .f32 := after midL V (Proc.devRef .tc main_v54)
def y_v55 : S80x3000.Idx → Elt F .f32 := after midL V (Proc.devRef .tc main_v55)
def y_cst_15 : S_.Idx → Elt F .f32 := after midL V (Proc.devRef .tc main_cst_15)
def y_v56 : S80x3000.Idx → Elt F .f32 := after midL V (Proc.devRef .tc main_v56)
def y_v57 : S80x3000.Idx → Elt F .i1 := after midL V (Proc.devRef .tc main_v57)
def y_v58 : S80x3000.Idx → Elt F .f32 := after midL V (Proc.devRef .tc main_v58)
def y_v59 : S80x3000.Idx → Elt F .f32 := after midL V (Proc.devRef .tc main_v59)
def y_v60 : S3000x80.Idx → Elt F .f32 := after midL V (Proc.devRef .tc main_v60)
def y_v61 : S240000.Idx → Elt F .f32 := after midL V (Proc.devRef .tc main_v61)
def y_values_16 : S2000.Idx → Elt F .f32 := after midL V (Proc.devRef .tc main_values_16)
def y_indices_17 : S2000.Idx → Elt F .i32 := after midL V (Proc.devRef .tc main_indices_17)
def y_c_18 : S_.Idx → Elt F .i32 := after midL V (Proc.devRef .tc main_c_18)
def y_call1_v0 : S_.Idx → Elt F .i32 := after midL V (Proc.devRef .tc main_call1_v0)
def y_call1_v1 : S2000.Idx → Elt F .i32 := after midL V (Proc.devRef .tc main_call1_v1)
def y_call1_v2 : S2000.Idx → Elt F .i32 := after midL V (Proc.devRef .tc main_call1_v2)
def y_call1_v3 : S2000.Idx → Elt F .i32 := after midL V (Proc.devRef .tc main_call1_v3)
def y_call1_v4 : S_.Idx → Elt F .i32 := after midL V (Proc.devRef .tc main_call1_v4)
def y_call1_v5 : S2000.Idx → Elt F .i32 := after midL V (Proc.devRef .tc main_call1_v5)
def y_call1_v6 : S2000.Idx → Elt F .i1 := after midL V (Proc.devRef .tc main_call1_v6)
def y_call1_v7 : S2000.Idx → Elt F .i32 := after midL V (Proc.devRef .tc main_call1_v7)
def y_call1_v8 : S2000.Idx → Elt F .i32 := after midL V (Proc.devRef .tc main_call1_v8)
def y_call1_c : S_.Idx → Elt F .i32 := after midL V (Proc.devRef .tc main_call1_c)
def y_call1_v9 : S2000.Idx → Elt F .i32 := after midL V (Proc.devRef .tc main_call1_v9)
def y_call1_v10 : S2000.Idx → Elt F .i1 := after midL V (Proc.devRef .tc main_call1_v10)
def y_call1_v11 : S2000.Idx → Elt F .i1 := after midL V (Proc.devRef .tc main_call1_v11)
def y_call1_c_0 : S_.Idx → Elt F .i32 := after midL V (Proc.devRef .tc main_call1_c_0)
def y_call1_v12 : S2000.Idx → Elt F .i32 := after midL V (Proc.devRef .tc main_call1_v12)
def y_call1_v13 : S2000.Idx → Elt F .i32 := after midL V (Proc.devRef .tc main_call1_v13)
def y_v62 : S2000.Idx → Elt F .i32 := after midL V (Proc.devRef .tc main_v62)
def y_c_19 : S_.Idx → Elt F .i32 := after midL V (Proc.devRef .tc main_c_19)
def y_call2_v0 : S_.Idx → Elt F .i32 := after midL V (Proc.devRef .tc main_call2_v0)
def y_call2_c : S_.Idx → Elt F .i32 := after midL V (Proc.devRef .tc main_call2_c)
def y_call2_v1 : S_.Idx → Elt F .i1 := after midL V (Proc.devRef .tc main_call2_v1)
def y_call2_c_0 : S_.Idx → Elt F .i32 := after midL V (Proc.devRef .tc main_call2_c_0)
def y_call2_v2 : S_.Idx → Elt F .i32 := after midL V (Proc.devRef .tc main_call2_v2)
def y_call2_v3 : S2000.Idx → Elt F .i32 := after midL V (Proc.devRef .tc main_call2_v3)
def y_call2_v4 : S2000.Idx → Elt F .i32 := after midL V (Proc.devRef .tc main_call2_v4)
def y_call2_c_1 : S_.Idx → Elt F .i32 := after midL V (Proc.devRef .tc main_call2_c_1)
def y_call2_v5 : S2000.Idx → Elt F .i32 := after midL V (Proc.devRef .tc main_call2_v5)
def y_call2_v6 : S2000.Idx → Elt F .i1 := after midL V (Proc.devRef .tc main_call2_v6)
def y_call2_c_2 : S_.Idx → Elt F .i32 := after midL V (Proc.devRef .tc main_call2_c_2)
def y_call2_v7 : S2000.Idx → Elt F .i32 := after midL V (Proc.devRef .tc main_call2_v7)
def y_call2_v8 : S2000.Idx → Elt F .i1 := after midL V (Proc.devRef .tc main_call2_v8)
def y_call2_c_3 : S_.Idx → Elt F .i32 := after midL V (Proc.devRef .tc main_call2_c_3)
def y_call2_v9 : S_.Idx → Elt F .i1 := after midL V (Proc.devRef .tc main_call2_v9)
def y_call2_v10 : S2000.Idx → Elt F .i1 := after midL V (Proc.devRef .tc main_call2_v10)
def y_call2_v11 : S2000.Idx → Elt F .i1 := after midL V (Proc.devRef .tc main_call2_v11)
def y_call2_v12 : S2000.Idx → Elt F .i1 := after midL V (Proc.devRef .tc main_call2_v12)
def y_call2_v13 : S2000.Idx → Elt F .i32 := after midL V (Proc.devRef .tc main_call2_v13)
def y_call2_v14 : S2000.Idx → Elt F .i32 := after midL V (Proc.devRef .tc main_call2_v14)
def y_v63 : S2000.Idx → Elt F .i32 := after midL V (Proc.devRef .tc main_v63)
def y_c_20 : S_.Idx → Elt F .i32 := after midL V (Proc.devRef .tc main_c_20)
def y_v64 : S2000.Idx → Elt F .i32 := after midL V (Proc.devRef .tc main_v64)
def y_v65 : S2000.Idx → Elt F .i1 := after midL V (Proc.devRef .tc main_v65)
def y_c_21 : S_.Idx → Elt F .i32 := after midL V (Proc.devRef .tc main_c_21)
def y_v66 : S2000.Idx → Elt F .i32 := after midL V (Proc.devRef .tc main_v66)
def y_v67 : S2000.Idx → Elt F .i32 := after midL V (Proc.devRef .tc main_v67)
def y_v68 : S2000.Idx → Elt F .i32 := after midL V (Proc.devRef .tc main_v68)
def y_v69 : S2000x1.Idx → Elt F .i32 := after midL V (Proc.devRef .tc main_v69)
def y_v70 : S4x2000.Idx → Elt F .f32 := after midL V (Proc.devRef .tc main_v70)
def y_c_22 : S_.Idx → Elt F .i32 := after midL V (Proc.devRef .tc main_c_22)
def y_call3_v0 : S_.Idx → Elt F .f32 := after midL V (Proc.devRef .tc main_call3_v0)
def y_v71 : S4x2048.Idx → Elt F .f32 := after midL V (Proc.devRef .tc main_v71)
def y_v72 : S2000.Idx → Elt F .f32 := after midL V (Proc.devRef .tc main_v72)
def y_c_23 : S_.Idx → Elt F .i32 := after midL V (Proc.devRef .tc main_c_23)
def y_call4_v0 : S_.Idx → Elt F .f32 := after midL V (Proc.devRef .tc main_call4_v0)
def y_v73 : S2048.Idx → Elt F .f32 := after midL V (Proc.devRef .tc main_v73)
def y_v74 : S1x2048.Idx → Elt F .f32 := after midL V (Proc.devRef .tc main_v74)
def y_cst_24 : S_.Idx → Elt F .f32 := after midL V (Proc.devRef .tc main_cst_24)
def y_call5_v0 : S_.Idx → Elt F .f32 := after midL V (Proc.devRef .tc main_call5_v0)
def y_v75 : S2048.Idx → Elt F .f32 := after midL V (Proc.devRef .tc main_v75)
def y_v76 : S1x2048.Idx → Elt F .f32 := after midL V (Proc.devRef .tc main_v76)

end Cert.KernelIdeal.Pf

end
-- ==== Proof.KiPost.lean ====
/-
  The host operations after the suppression call, one at a time.
  Names for the buffers after it.
-/
module

public import proofs.«01_k».proof.Proof.Gen.KernelIdeal.Launch
public import proofs.«01_k».proof.Proof.Read

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

/-- The operations, in order. -/
abbrev postL : List (HloOp τ sig (Elt F)) := hostOps2 ++ (hostOps2_1 ++ (hostOps2_2))
/-- What they write, in order. -/
abbrev postW : List (Ref sig .tc) := [main_v78, main_v79, main_v80, main_v81, main_v82, main_cst_25, main_v83, main_v84, main_v85, main_v86, main_v87, main_v88, main_v89, main_v90, main_c_26, main_call6_v0, main_call6_v1, main_v91, main_cst_27, main_v92, main_v93, main_v94, main_v95, main_v96, main_v97]
/-- Each operation writes its one buffer. -/
theorem post_writes : Writes (postL (F := F)) postW := rfl

variable (V : Valuation τ sig (Elt F))

/-! Each buffer after the operations run on contents `V`. -/

def z_v77 : S128x128.Idx → Elt F .f32 := after postL V (Proc.devRef .tc main_v77)
def z_v78 : S100x1.Idx → Elt F .f32 := after postL V (Proc.devRef .tc main_v78)
def z_v79 : S100.Idx → Elt F .f32 := after postL V (Proc.devRef .tc main_v79)
def z_v80 : S100x1.Idx → Elt F .f32 := after postL V (Proc.devRef .tc main_v80)
def z_v81 : S100.Idx → Elt F .f32 := after postL V (Proc.devRef .tc main_v81)
def z_v82 : S100x4.Idx → Elt F .f32 := after postL V (Proc.devRef .tc main_v82)
def z_cst_25 : S_.Idx → Elt F .f32 := after postL V (Proc.devRef .tc main_cst_25)
def z_v83 : S100.Idx → Elt F .f32 := after postL V (Proc.devRef .tc main_v83)
def z_v84 : S100.Idx → Elt F .i1 := after postL V (Proc.devRef .tc main_v84)
def z_v85 : S100.Idx → Elt F .f32 := after postL V (Proc.devRef .tc main_v85)
def z_v86 : S100x1.Idx → Elt F .f32 := after postL V (Proc.devRef .tc main_v86)
def z_v87 : S100x4.Idx → Elt F .f32 := after postL V (Proc.devRef .tc main_v87)
def z_v88 : S100x4.Idx → Elt F .f32 := after postL V (Proc.devRef .tc main_v88)
def z_v89 : S100.Idx → Elt F .f32 := after postL V (Proc.devRef .tc main_v89)
def z_v90 : S100.Idx → Elt F .i32 := after postL V (Proc.devRef .tc main_v90)
def z_c_26 : S_.Idx → Elt F .i32 := after postL V (Proc.devRef .tc main_c_26)
def z_call6_v0 : S_.Idx → Elt F .i32 := after postL V (Proc.devRef .tc main_call6_v0)
def z_call6_v1 : S100.Idx → Elt F .i32 := after postL V (Proc.devRef .tc main_call6_v1)
def z_v91 : S100.Idx → Elt F .i32 := after postL V (Proc.devRef .tc main_v91)
def z_cst_27 : S_.Idx → Elt F .f32 := after postL V (Proc.devRef .tc main_cst_27)
def z_v92 : S_.Idx → Elt F .f32 := after postL V (Proc.devRef .tc main_v92)
def z_v93 : S_.Idx → Elt F .i32 := after postL V (Proc.devRef .tc main_v93)
def z_v94 : S1.Idx → Elt F .i32 := after postL V (Proc.devRef .tc main_v94)
def z_v95 : S1x100x4.Idx → Elt F .f32 := after postL V (Proc.devRef .tc main_v95)
def z_v96 : S1x100.Idx → Elt F .f32 := after postL V (Proc.devRef .tc main_v96)
def z_v97 : S1x100.Idx → Elt F .i32 := after postL V (Proc.devRef .tc main_v97)

end Cert.KernelIdeal.Pf

end
-- ==== Proof.KiLink.lean ====
/-
  The kernel's contents between its calls, under the names of the operations before, between and after the calls.
-/
module

public import proofs.«01_k».proof.Proof.KiPre
public import proofs.«01_k».proof.Proof.KiMid
public import proofs.«01_k».proof.Proof.KiPost
public import proofs.«01_k».proof.Proof.KiFrame

@[expose] public section

set_option maxRecDepth 8192

noncomputable section

namespace Cert.KernelIdeal.Pf

open Cert.KernelIdeal Cert.KernelIdeal.Gen
open Idealize.ShloMosaic Idealize.ShloMosaic.StableHlo
open Idealize.ShloMosaic.TcCoe

variable {F : FTy → Type} [FloatOps F]

variable (m : (ℓ : Loc nD τ sig) → Buf (Elt F) ℓ) (c : Dev nD)

/-- The contents before the decode call. -/
theorem pre_eq : after preL (V0 m c) = V2 m c := by
  simp only [preL, after_append]
/-- The contents before the suppression call. -/
theorem mid_eq : after midL (U3 m c) = U14 m c := by
  simp only [midL, after_append]
/-- The contents at the end. -/
theorem post_eq (Y : Stg1 (F := F)) : after postL (U15 m c Y) = U18 m c Y := by
  simp only [postL, after_append]

/-- The decode call's operands. -/
theorem pre_13 : x_v13 (V0 m c) = V2 m c main_v13 := by
  unfold x_v13
  rw [pre_eq]
theorem pre_cst : x_cst (V0 m c) = V2 m c main_cst := by
  unfold x_cst
  rw [pre_eq]
theorem pre_cst_0 : x_cst_0 (V0 m c) = V2 m c main_cst_0 := by
  unfold x_cst_0
  rw [pre_eq]

/-- The arguments before the decode call are as launched. -/
theorem pre_arg0 : x_arg0 (V0 m c) = m ((c : Thread nD τ).loc main_arg0) := by
  unfold x_arg0
  rw [pre_eq]
  exact (V2_of m c main_arg0 (by decide)).trans (V1_of m c main_arg0 (by decide))
theorem pre_arg1 : x_arg1 (V0 m c) = m ((c : Thread nD τ).loc main_arg1) := by
  unfold x_arg1
  rw [pre_eq]
  exact (V2_of m c main_arg1 (by decide)).trans (V1_of m c main_arg1 (by decide))
theorem pre_arg2 : x_arg2 (V0 m c) = m ((c : Thread nD τ).loc main_arg2) := by
  unfold x_arg2
  rw [pre_eq]
  exact (V2_of m c main_arg2 (by decide)).trans (V1_of m c main_arg2 (by decide))

/-- The operations between the calls change only what they write. -/
theorem after_mid (r : Ref sig .tc) (h0 : r ∉ hostOps1_W) (h1 : r ∉ hostOps1_1_W) (h2 : r ∉ hostOps1_2_W) (h3 : r ∉ hostOps1_3_W)
    (h4 : r ∉ hostOps1_4_W) (h5 : r ∉ hostOps1_5_W) (h6 : r ∉ hostOps1_6_W) (h7 : r ∉ hostOps1_7_W) (h8 : r ∉ hostOps1_8_W)
    (h9 : r ∉ hostOps1_9_W) (h10 : r ∉ hostOps1_10_W) : after midL (U3 m c) r = U3 m c r := by
  rw [mid_eq, U14_of m c r h10, U13_of m c r h9, U12_of m c r h8, U11_of m c r h7, U10_of m c r h6, U9_of m c r h5, U8_of m c r h4,
    U7_of m c r h3, U6_of m c r h2, U5_of m c r h1, U4_of m c r h0]

/-- The decode call's results, still there before the suppression call. -/
theorem mid_14_0 : y_v14_0 (U3 m c) = U3 m c main_v14_0 :=
  after_mid m c main_v14_0 (by decide) (by decide) (by decide) (by decide) (by decide) (by decide) (by decide) (by decide) (by decide) (by decide) (by decide)
theorem mid_14_1 : y_v14_1 (U3 m c) = U3 m c main_v14_1 :=
  after_mid m c main_v14_1 (by decide) (by decide) (by decide) (by decide) (by decide) (by decide) (by decide) (by decide) (by decide) (by decide) (by decide)
theorem mid_14_2 : y_v14_2 (U3 m c) = U3 m c main_v14_2 :=
  after_mid m c main_v14_2 (by decide) (by decide) (by decide) (by decide) (by decide) (by decide) (by decide) (by decide) (by decide) (by decide) (by decide)

/-- The suppression call's operands. -/
theorem mid_71 : y_v71 (U3 m c) = U14 m c main_v71 := by
  unfold y_v71
  rw [mid_eq]
theorem mid_74 : y_v74 (U3 m c) = U14 m c main_v74 := by
  unfold y_v74
  rw [mid_eq]
theorem mid_76 : y_v76 (U3 m c) = U14 m c main_v76 := by
  unfold y_v76
  rw [mid_eq]

variable (Y : Stg1 (F := F))

/-- The suppression call's result, still there at the end. -/
theorem post_77 : z_v77 (U15 m c Y) = U15 m c Y main_v77 := by
  unfold z_v77
  rw [post_eq]
  exact (U18_of m c Y main_v77 (by decide)).trans <| (U17_of m c Y main_v77 (by decide)).trans (U16_of m c Y main_v77 (by decide))

/-- The results under the names of the operations after the calls. -/
theorem post_94 : z_v94 (U15 m c Y) = U18 m c Y main_v94 := by
  unfold z_v94
  rw [post_eq]
theorem post_95 : z_v95 (U15 m c Y) = U18 m c Y main_v95 := by
  unfold z_v95
  rw [post_eq]
theorem post_96 : z_v96 (U15 m c Y) = U18 m c Y main_v96 := by
  unfold z_v96
  rw [post_eq]
theorem post_97 : z_v97 (U15 m c Y) = U18 m c Y main_v97 := by
  unfold z_v97
  rw [post_eq]

end Cert.KernelIdeal.Pf

end
-- ==== Proof.KiDec.lean ====
/-
  What the decode call leaves in its three output arrays, as the body's payloads of its three input arrays.
-/
module

public import proofs.«01_k».proof.Proof.KiRun
public import Idealize.ShloMosaic.Lib.VecWindow

@[expose] public section

noncomputable section

namespace Cert.KernelIdeal.Pf

open Cert.KernelIdeal Cert.KernelIdeal.Gen
open Idealize.ShloMosaic
open Idealize.ShloMosaic.TcCoe

variable {F : FTy → Type} [FloatOps F]
variable (V : Vals (F := F)) (c : Dev nD)

/-- The staged blocks are the arrays: one block covers each. -/
theorem stg0_0 : stg0 V 0 c = V c main_v13 :=
  Memref.read_access_unit_zero (Elt F) main_v13 (off := fun a => (cfg0.win 0).kind.off ((cfg0.win 0).index t0_0 a) ((cfg0.win 0).size a)) (funext fun a => by fin_cases a <;> rfl) _ _
theorem stg0_1 : stg0 V 1 c = V c main_cst :=
  Memref.read_access_unit_zero (Elt F) main_cst (off := fun a => (cfg0.win 1).kind.off ((cfg0.win 1).index t0_0 a) ((cfg0.win 1).size a)) (funext fun a => by fin_cases a <;> rfl) _ _
theorem stg0_2 : stg0 V 2 c = V c main_cst_0 :=
  Memref.read_access_unit_zero (Elt F) main_cst_0 (off := fun a => (cfg0.win 2).kind.off ((cfg0.win 2).index t0_0 a) ((cfg0.win 2).size a)) (funext fun a => by fin_cases a <;> rfl) _ _

/-- Writing a whole block back leaves the block. -/
theorem wb0_3 (X : S4x22784.Idx → Elt F .f32) : wb0 V c 3 X = X :=
  Memref.write_access_unit_zero_univ (Elt F) main_v14_0 (off := fun a => (cfg0.win 3).kind.off ((cfg0.win 3).index t0_0 a) ((cfg0.win 3).size a)) (funext fun a => by fin_cases a <;> rfl) _ _ _
theorem wb0_4 (X : S1x22784.Idx → Elt F .f32) : wb0 V c 4 X = X :=
  Memref.write_access_unit_zero_univ (Elt F) main_v14_1 (off := fun a => (cfg0.win 4).kind.off ((cfg0.win 4).index t0_0 a) ((cfg0.win 4).size a)) (funext fun a => by fin_cases a <;> rfl) _ _ _
theorem wb0_5 (X : S80x22784.Idx → Elt F .f32) : wb0 V c 5 X = X :=
  Memref.write_access_unit_zero_univ (Elt F) main_v14_2 (off := fun a => (cfg0.win 5).kind.off ((cfg0.win 5).index t0_0 a) ((cfg0.win 5).size a)) (funext fun a => by fin_cases a <;> rfl) _ _ _

/-- A load of a whole staging buffer reads its contents. -/
theorem load_whole (b : Ref sig .tc) (f : b.ty.Contents (Elt F)) {off : Fin b.ty.shape.rank → ℕ}
    (inb : ∀ a, off a + b.ty.shape.size a ≤ b.ty.shape.size a) :
    View.readAt (Elt F) (Memref.whole b).view (Rect.unit off b.ty.shape.size inb).toLoadRect f = f :=
  (View.readAt_full _ _ inb).trans (View.read_whole b f)

/-- A store of a whole staging buffer leaves its payload. -/
theorem store_whole (b : Ref sig .tc) (f : b.ty.Contents (Elt F)) {off : Fin b.ty.shape.rank → ℕ}
    (inb : ∀ a, off a + b.ty.shape.size a ≤ b.ty.shape.size a) (w : (Rect.unit off b.ty.shape.size inb).shape.Idx → Elt F b.ty.elt) :
    (View.whole b).writes (Elt F) f [⟨Rect.unit off b.ty.shape.size inb, w⟩] = w :=
  View.read_writes_full (Val := Elt F) (View.whole b) f inb w []

/-- The three loads of the decode body. -/
theorem load0_0 (f : S85x22784.Idx → Elt F .f32) :
    View.readAt (Elt F) (stage0_0 0).view (Rect.unit ![0, 0] S85x22784.size inb_S85x22784_S85x22784_0_0).toLoadRect f = f :=
  load_whole cc0_stg0_0 f _
theorem load0_1 (f : S4x22784.Idx → Elt F .f32) :
    View.readAt (Elt F) (stage0_1 0).view (Rect.unit ![0, 0] S4x22784.size inb_S4x22784_S4x22784_0_0).toLoadRect f = f :=
  load_whole cc0_stg1_0 f _
theorem load0_2 (f : S1x22784.Idx → Elt F .f32) :
    View.readAt (Elt F) (stage0_2 0).view (Rect.unit ![0, 0] S1x22784.size inb_S1x22784_S1x22784_0_0).toLoadRect f = f :=
  load_whole cc0_stg2_0 f _

/-- The box rows the decode body leaves, of its input buffers `A` (the raw values), `B` (the anchors) and `S` (the strides). -/
def boxRows (A : S85x22784.Idx → Elt F .f32) (B : S4x22784.Idx → Elt F .f32) (S : S1x22784.Idx → Elt F .f32) :
    S4x22784.Idx → Elt F .f32 :=
  k0_pay1 (k0_pay5 A B S) (k0_pay6 A B S) (k0_pay7 A B) (k0_pay8 A B) (k0_pay9 A B S) (k0_pay10 A B S) k0_pay11

/-- What the decode body leaves in its box buffer. -/
theorem dec_box : (dec V c).1 = boxRows (stg0 V 0 c) (stg0 V 1 c) (stg0 V 2 c) := by
  unfold dec decRun
  dsimp only
  unfold decRun.sl.H3_1
  refine (store_whole cc0_stg3_0 _ _ _).trans ?_
  unfold decRun.sl.r_1 decRun.sl.r_2 decRun.sl.r_3 decRun.sl.r_4 decRun.sl.r_5 decRun.sl.r_6 boxRows
  rw [load0_0, load0_1, load0_2]

/-- What it leaves in its confidence buffer. -/
theorem dec_conf : (dec V c).2.1 = k0_pay2 (k0_pay4 (stg0 V 0 c)) := by
  unfold dec decRun
  dsimp only
  unfold decRun.sl.H4_1
  refine (store_whole cc0_stg4_0 _ _ _).trans ?_
  unfold decRun.sl.r
  rw [load0_0]

/-- What it leaves in its class buffer. -/
theorem dec_cls : (dec V c).2.2.1 = k0_pay3 (k0_pay4 (stg0 V 0 c)) := by
  unfold dec decRun
  dsimp only
  unfold decRun.sl.H5_1
  refine (store_whole cc0_stg5_0 _ _ _).trans ?_
  unfold decRun.sl.r
  rw [load0_0]

variable (m : (b : Loc nD τ sig) → Buf (Elt F) b)

/-- After the decode call, the boxes, the confidences and the class scores. -/
theorem U3_box : U3 m c main_v14_0 = boxRows (V2 m c main_v13) (V2 m c main_cst) (V2 m c main_cst_0) := by
  rw [U3_v14_0, wb0_3, dec_box, stg0_0, stg0_1, stg0_2]
theorem U3_conf : U3 m c main_v14_1 = k0_pay2 (k0_pay4 (V2 m c main_v13)) := by
  rw [U3_v14_1, wb0_4, dec_conf, stg0_0]
theorem U3_cls : U3 m c main_v14_2 = k0_pay3 (k0_pay4 (V2 m c main_v13)) := by
  rw [U3_v14_2, wb0_5, dec_cls, stg0_0]

end Cert.KernelIdeal.Pf

end
-- ==== Proof.RfPreA.lean ====
/-
  The reference before its loop, one operation at a time.
  What each operation says of its buffer.
-/
module

public import proofs.«01_k».proof.Proof.RfPre

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

variable (V : Valuation τ sig (Elt F))

theorem x_cst_eq : x_cst V = (fun i => FloatOps.ofBits .f32 (lit0 (S1083x4.rowMajor i))) := read_nullary pre_writes (i := 0) (y := main_cst) rfl (by decide +kernel) V
theorem x_cst_0_eq : x_cst_0 V = (fun i => FloatOps.ofBits .f32 (lit1 (S4332x4.rowMajor i))) := read_nullary pre_writes (i := 1) (y := main_cst_0) rfl (by decide +kernel) V
theorem x_cst_1_eq : x_cst_1 V = (fun i => FloatOps.ofBits .f32 (lit2 (S17328x4.rowMajor i))) := read_nullary pre_writes (i := 2) (y := main_cst_1) rfl (by decide +kernel) V
theorem x_v0_eq : x_v0 V = shapeCast S255x19x19 (x_arg0 V) shapeCasts_S1x255x19x19_S255x19x19 := read_reshape pre_writes (i := 3) (a := main_arg0) (y := main_v0) rfl (by decide +kernel) (by decide +kernel) V
theorem x_v1_eq : x_v1 V = shapeCast S255x38x38 (x_arg1 V) shapeCasts_S1x255x38x38_S255x38x38 := read_reshape pre_writes (i := 4) (a := main_arg1) (y := main_v1) rfl (by decide +kernel) (by decide +kernel) V
theorem x_v2_eq : x_v2 V = shapeCast S255x76x76 (x_arg2 V) shapeCasts_S1x255x76x76_S255x76x76 := read_reshape pre_writes (i := 5) (a := main_arg2) (y := main_v2) rfl (by decide +kernel) (by decide +kernel) V
theorem x_v3_eq : x_v3 V = transpose S19x19x255 [1, 2, 0] (x_v0 V) transposes_S255x19x19_S19x19x255_1_2_0 := read_unary pre_writes (i := 6) (a := main_v0) (y := main_v3) rfl (by decide +kernel) (by decide +kernel) V
theorem x_v4_eq : x_v4 V = shapeCast S1083x85 (x_v3 V) shapeCasts_S19x19x255_S1083x85 := read_reshape pre_writes (i := 7) (a := main_v3) (y := main_v4) rfl (by decide +kernel) (by decide +kernel) V
theorem x_v5_eq : x_v5 V = extractStridedSlice S1083x2 ![0, 0] (x_v4 V) slices_S1083x85_S1083x2_0_0 := read_unary pre_writes (i := 8) (a := main_v4) (y := main_v5) rfl (by decide +kernel) (by decide +kernel) V
theorem x_v6_eq : x_v6 V = Host.negf (x_v5 V) := read_unary pre_writes (i := 9) (a := main_v5) (y := main_v6) rfl (by decide +kernel) (by decide +kernel) V
theorem x_v7_eq : x_v7 V = Host.exp (x_v6 V) := read_unary pre_writes (i := 10) (a := main_v6) (y := main_v7) rfl (by decide +kernel) (by decide +kernel) V
theorem x_cst_2_eq : x_cst_2 V = (constant S_ .f32 0x3F800000#32) := read_nullary pre_writes (i := 11) (y := main_cst_2) rfl (by decide +kernel) V
theorem x_v8_eq : x_v8 V = (broadcastInDim S1083x2 ![] bcast_S_S1083x2) (x_cst_2 V) := read_unary pre_writes (i := 12) (a := main_cst_2) (y := main_v8) rfl (by decide +kernel) (by decide +kernel) V
theorem x_v9_eq : x_v9 V = addf (x_v8 V) (x_v7 V) := read_binary pre_writes (i := 13) (a := main_v8) (b := main_v7) (y := main_v9) rfl (by decide +kernel) (by decide +kernel) (by decide +kernel) V
theorem x_cst_3_eq : x_cst_3 V = (constant S_ .f32 0x3F800000#32) := read_nullary pre_writes (i := 14) (y := main_cst_3) rfl (by decide +kernel) V
theorem x_v10_eq : x_v10 V = (broadcastInDim S1083x2 ![] bcast_S_S1083x2) (x_cst_3 V) := read_unary pre_writes (i := 15) (a := main_cst_3) (y := main_v10) rfl (by decide +kernel) (by decide +kernel) V
theorem x_v11_eq : x_v11 V = Host.divf (x_v10 V) (x_v9 V) := read_binary pre_writes (i := 16) (a := main_v10) (b := main_v9) (y := main_v11) rfl (by decide +kernel) (by decide +kernel) (by decide +kernel) V
theorem x_v12_eq : x_v12 V = Host.negf (x_v11 V) := read_unary pre_writes (i := 17) (a := main_v11) (y := main_v12) rfl (by decide +kernel) (by decide +kernel) V
theorem x_v13_eq : x_v13 V = Host.exp (x_v12 V) := read_unary pre_writes (i := 18) (a := main_v12) (y := main_v13) rfl (by decide +kernel) (by decide +kernel) V
theorem x_cst_4_eq : x_cst_4 V = (constant S_ .f32 0x3F800000#32) := read_nullary pre_writes (i := 19) (y := main_cst_4) rfl (by decide +kernel) V
theorem x_v14_eq : x_v14 V = (broadcastInDim S1083x2 ![] bcast_S_S1083x2) (x_cst_4 V) := read_unary pre_writes (i := 20) (a := main_cst_4) (y := main_v14) rfl (by decide +kernel) (by decide +kernel) V
theorem x_v15_eq : x_v15 V = addf (x_v14 V) (x_v13 V) := read_binary pre_writes (i := 21) (a := main_v14) (b := main_v13) (y := main_v15) rfl (by decide +kernel) (by decide +kernel) (by decide +kernel) V
theorem x_cst_5_eq : x_cst_5 V = (constant S_ .f32 0x3F800000#32) := read_nullary pre_writes (i := 22) (y := main_cst_5) rfl (by decide +kernel) V
theorem x_v16_eq : x_v16 V = (broadcastInDim S1083x2 ![] bcast_S_S1083x2) (x_cst_5 V) := read_unary pre_writes (i := 23) (a := main_cst_5) (y := main_v16) rfl (by decide +kernel) (by decide +kernel) V
theorem x_v17_eq : x_v17 V = Host.divf (x_v16 V) (x_v15 V) := read_binary pre_writes (i := 24) (a := main_v16) (b := main_v15) (y := main_v17) rfl (by decide +kernel) (by decide +kernel) (by decide +kernel) V
theorem x_v18_eq : x_v18 V = extractStridedSlice S1083x2 ![0, 2] (x_v4 V) slices_S1083x85_S1083x2_0_2 := read_unary pre_writes (i := 25) (a := main_v4) (y := main_v18) rfl (by decide +kernel) (by decide +kernel) V
theorem x_v19_eq : x_v19 V = (fun a b => concatenate S1083x4 1 [⟨S1083x2, a⟩, ⟨S1083x2, b⟩] concatenates_S1083x2_S1083x2_S1083x4_d1) (x_v17 V) (x_v18 V) := read_binary pre_writes (i := 26) (a := main_v17) (b := main_v18) (y := main_v19) rfl (by decide +kernel) (by decide +kernel) (by decide +kernel) V
theorem x_v20_eq : x_v20 V = extractStridedSlice S1083x1 ![0, 0] (x_cst V) slices_S1083x4_S1083x1_0_0 := read_unary pre_writes (i := 27) (a := main_cst) (y := main_v20) rfl (by decide +kernel) (by decide +kernel) V
theorem x_v21_eq : x_v21 V = shapeCast S1083 (x_v20 V) shapeCasts_S1083x1_S1083 := read_reshape pre_writes (i := 28) (a := main_v20) (y := main_v21) rfl (by decide +kernel) (by decide +kernel) V
theorem x_v22_eq : x_v22 V = extractStridedSlice S1083x1 ![0, 2] (x_cst V) slices_S1083x4_S1083x1_0_2 := read_unary pre_writes (i := 29) (a := main_cst) (y := main_v22) rfl (by decide +kernel) (by decide +kernel) V
theorem x_v23_eq : x_v23 V = shapeCast S1083 (x_v22 V) shapeCasts_S1083x1_S1083 := read_reshape pre_writes (i := 30) (a := main_v22) (y := main_v23) rfl (by decide +kernel) (by decide +kernel) V
theorem x_v24_eq : x_v24 V = addf (x_v21 V) (x_v23 V) := read_binary pre_writes (i := 31) (a := main_v21) (b := main_v23) (y := main_v24) rfl (by decide +kernel) (by decide +kernel) (by decide +kernel) V
theorem x_cst_6_eq : x_cst_6 V = (constant S_ .f32 0x3F000000#32) := read_nullary pre_writes (i := 32) (y := main_cst_6) rfl (by decide +kernel) V
theorem x_v25_eq : x_v25 V = (broadcastInDim S1083 ![] bcast_S_S1083) (x_cst_6 V) := read_unary pre_writes (i := 33) (a := main_cst_6) (y := main_v25) rfl (by decide +kernel) (by decide +kernel) V
theorem x_v26_eq : x_v26 V = mulf (x_v24 V) (x_v25 V) := read_binary pre_writes (i := 34) (a := main_v24) (b := main_v25) (y := main_v26) rfl (by decide +kernel) (by decide +kernel) (by decide +kernel) V
theorem x_v27_eq : x_v27 V = extractStridedSlice S1083x1 ![0, 1] (x_cst V) slices_S1083x4_S1083x1_0_1 := read_unary pre_writes (i := 35) (a := main_cst) (y := main_v27) rfl (by decide +kernel) (by decide +kernel) V
theorem x_v28_eq : x_v28 V = shapeCast S1083 (x_v27 V) shapeCasts_S1083x1_S1083 := read_reshape pre_writes (i := 36) (a := main_v27) (y := main_v28) rfl (by decide +kernel) (by decide +kernel) V
theorem x_v29_eq : x_v29 V = extractStridedSlice S1083x1 ![0, 3] (x_cst V) slices_S1083x4_S1083x1_0_3 := read_unary pre_writes (i := 37) (a := main_cst) (y := main_v29) rfl (by decide +kernel) (by decide +kernel) V
theorem x_v30_eq : x_v30 V = shapeCast S1083 (x_v29 V) shapeCasts_S1083x1_S1083 := read_reshape pre_writes (i := 38) (a := main_v29) (y := main_v30) rfl (by decide +kernel) (by decide +kernel) V
theorem x_v31_eq : x_v31 V = addf (x_v28 V) (x_v30 V) := read_binary pre_writes (i := 39) (a := main_v28) (b := main_v30) (y := main_v31) rfl (by decide +kernel) (by decide +kernel) (by decide +kernel) V
theorem x_cst_7_eq : x_cst_7 V = (constant S_ .f32 0x3F000000#32) := read_nullary pre_writes (i := 40) (y := main_cst_7) rfl (by decide +kernel) V
theorem x_v32_eq : x_v32 V = (broadcastInDim S1083 ![] bcast_S_S1083) (x_cst_7 V) := read_unary pre_writes (i := 41) (a := main_cst_7) (y := main_v32) rfl (by decide +kernel) (by decide +kernel) V
theorem x_v33_eq : x_v33 V = mulf (x_v31 V) (x_v32 V) := read_binary pre_writes (i := 42) (a := main_v31) (b := main_v32) (y := main_v33) rfl (by decide +kernel) (by decide +kernel) (by decide +kernel) V
theorem x_v34_eq : x_v34 V = extractStridedSlice S1083x1 ![0, 2] (x_cst V) slices_S1083x4_S1083x1_0_2 := read_unary pre_writes (i := 43) (a := main_cst) (y := main_v34) rfl (by decide +kernel) (by decide +kernel) V
theorem x_v35_eq : x_v35 V = shapeCast S1083 (x_v34 V) shapeCasts_S1083x1_S1083 := read_reshape pre_writes (i := 44) (a := main_v34) (y := main_v35) rfl (by decide +kernel) (by decide +kernel) V
theorem x_v36_eq : x_v36 V = extractStridedSlice S1083x1 ![0, 0] (x_cst V) slices_S1083x4_S1083x1_0_0 := read_unary pre_writes (i := 45) (a := main_cst) (y := main_v36) rfl (by decide +kernel) (by decide +kernel) V
theorem x_v37_eq : x_v37 V = shapeCast S1083 (x_v36 V) shapeCasts_S1083x1_S1083 := read_reshape pre_writes (i := 46) (a := main_v36) (y := main_v37) rfl (by decide +kernel) (by decide +kernel) V
theorem x_v38_eq : x_v38 V = subf (x_v35 V) (x_v37 V) := read_binary pre_writes (i := 47) (a := main_v35) (b := main_v37) (y := main_v38) rfl (by decide +kernel) (by decide +kernel) (by decide +kernel) V
theorem x_v39_eq : x_v39 V = extractStridedSlice S1083x1 ![0, 3] (x_cst V) slices_S1083x4_S1083x1_0_3 := read_unary pre_writes (i := 48) (a := main_cst) (y := main_v39) rfl (by decide +kernel) (by decide +kernel) V
theorem x_v40_eq : x_v40 V = shapeCast S1083 (x_v39 V) shapeCasts_S1083x1_S1083 := read_reshape pre_writes (i := 49) (a := main_v39) (y := main_v40) rfl (by decide +kernel) (by decide +kernel) V
theorem x_v41_eq : x_v41 V = extractStridedSlice S1083x1 ![0, 1] (x_cst V) slices_S1083x4_S1083x1_0_1 := read_unary pre_writes (i := 50) (a := main_cst) (y := main_v41) rfl (by decide +kernel) (by decide +kernel) V
theorem x_v42_eq : x_v42 V = shapeCast S1083 (x_v41 V) shapeCasts_S1083x1_S1083 := read_reshape pre_writes (i := 51) (a := main_v41) (y := main_v42) rfl (by decide +kernel) (by decide +kernel) V
theorem x_v43_eq : x_v43 V = subf (x_v40 V) (x_v42 V) := read_binary pre_writes (i := 52) (a := main_v40) (b := main_v42) (y := main_v43) rfl (by decide +kernel) (by decide +kernel) (by decide +kernel) V
theorem x_v44_eq : x_v44 V = extractStridedSlice S1083x1 ![0, 0] (x_v19 V) slices_S1083x4_S1083x1_0_0 := read_unary pre_writes (i := 53) (a := main_v19) (y := main_v44) rfl (by decide +kernel) (by decide +kernel) V
theorem x_v45_eq : x_v45 V = shapeCast S1083 (x_v44 V) shapeCasts_S1083x1_S1083 := read_reshape pre_writes (i := 54) (a := main_v44) (y := main_v45) rfl (by decide +kernel) (by decide +kernel) V
theorem x_cst_8_eq : x_cst_8 V = (constant S_ .f32 0x3F000000#32) := read_nullary pre_writes (i := 55) (y := main_cst_8) rfl (by decide +kernel) V
theorem x_v46_eq : x_v46 V = (broadcastInDim S1083 ![] bcast_S_S1083) (x_cst_8 V) := read_unary pre_writes (i := 56) (a := main_cst_8) (y := main_v46) rfl (by decide +kernel) (by decide +kernel) V
theorem x_v47_eq : x_v47 V = subf (x_v45 V) (x_v46 V) := read_binary pre_writes (i := 57) (a := main_v45) (b := main_v46) (y := main_v47) rfl (by decide +kernel) (by decide +kernel) (by decide +kernel) V
theorem x_cst_9_eq : x_cst_9 V = (constant S_ .f32 0x42000000#32) := read_nullary pre_writes (i := 58) (y := main_cst_9) rfl (by decide +kernel) V
theorem x_v48_eq : x_v48 V = (broadcastInDim S1083 ![] bcast_S_S1083) (x_cst_9 V) := read_unary pre_writes (i := 59) (a := main_cst_9) (y := main_v48) rfl (by decide +kernel) (by decide +kernel) V
theorem x_v49_eq : x_v49 V = mulf (x_v47 V) (x_v48 V) := read_binary pre_writes (i := 60) (a := main_v47) (b := main_v48) (y := main_v49) rfl (by decide +kernel) (by decide +kernel) (by decide +kernel) V
theorem x_v50_eq : x_v50 V = addf (x_v49 V) (x_v26 V) := read_binary pre_writes (i := 61) (a := main_v49) (b := main_v26) (y := main_v50) rfl (by decide +kernel) (by decide +kernel) (by decide +kernel) V
theorem x_v51_eq : x_v51 V = extractStridedSlice S1083x1 ![0, 1] (x_v19 V) slices_S1083x4_S1083x1_0_1 := read_unary pre_writes (i := 62) (a := main_v19) (y := main_v51) rfl (by decide +kernel) (by decide +kernel) V
theorem x_v52_eq : x_v52 V = shapeCast S1083 (x_v51 V) shapeCasts_S1083x1_S1083 := read_reshape pre_writes (i := 63) (a := main_v51) (y := main_v52) rfl (by decide +kernel) (by decide +kernel) V
theorem x_cst_10_eq : x_cst_10 V = (constant S_ .f32 0x3F000000#32) := read_nullary pre_writes (i := 64) (y := main_cst_10) rfl (by decide +kernel) V
theorem x_v53_eq : x_v53 V = (broadcastInDim S1083 ![] bcast_S_S1083) (x_cst_10 V) := read_unary pre_writes (i := 65) (a := main_cst_10) (y := main_v53) rfl (by decide +kernel) (by decide +kernel) V
theorem x_v54_eq : x_v54 V = subf (x_v52 V) (x_v53 V) := read_binary pre_writes (i := 66) (a := main_v52) (b := main_v53) (y := main_v54) rfl (by decide +kernel) (by decide +kernel) (by decide +kernel) V
theorem x_cst_11_eq : x_cst_11 V = (constant S_ .f32 0x42000000#32) := read_nullary pre_writes (i := 67) (y := main_cst_11) rfl (by decide +kernel) V
theorem x_v55_eq : x_v55 V = (broadcastInDim S1083 ![] bcast_S_S1083) (x_cst_11 V) := read_unary pre_writes (i := 68) (a := main_cst_11) (y := main_v55) rfl (by decide +kernel) (by decide +kernel) V
theorem x_v56_eq : x_v56 V = mulf (x_v54 V) (x_v55 V) := read_binary pre_writes (i := 69) (a := main_v54) (b := main_v55) (y := main_v56) rfl (by decide +kernel) (by decide +kernel) (by decide +kernel) V
theorem x_v57_eq : x_v57 V = addf (x_v56 V) (x_v33 V) := read_binary pre_writes (i := 70) (a := main_v56) (b := main_v33) (y := main_v57) rfl (by decide +kernel) (by decide +kernel) (by decide +kernel) V
theorem x_v58_eq : x_v58 V = extractStridedSlice S1083x1 ![0, 2] (x_v19 V) slices_S1083x4_S1083x1_0_2 := read_unary pre_writes (i := 71) (a := main_v19) (y := main_v58) rfl (by decide +kernel) (by decide +kernel) V
theorem x_v59_eq : x_v59 V = shapeCast S1083 (x_v58 V) shapeCasts_S1083x1_S1083 := read_reshape pre_writes (i := 72) (a := main_v58) (y := main_v59) rfl (by decide +kernel) (by decide +kernel) V
theorem x_v60_eq : x_v60 V = Host.exp (x_v59 V) := read_unary pre_writes (i := 73) (a := main_v59) (y := main_v60) rfl (by decide +kernel) (by decide +kernel) V
theorem x_v61_eq : x_v61 V = mulf (x_v60 V) (x_v38 V) := read_binary pre_writes (i := 74) (a := main_v60) (b := main_v38) (y := main_v61) rfl (by decide +kernel) (by decide +kernel) (by decide +kernel) V
theorem x_v62_eq : x_v62 V = extractStridedSlice S1083x1 ![0, 3] (x_v19 V) slices_S1083x4_S1083x1_0_3 := read_unary pre_writes (i := 75) (a := main_v19) (y := main_v62) rfl (by decide +kernel) (by decide +kernel) V
theorem x_v63_eq : x_v63 V = shapeCast S1083 (x_v62 V) shapeCasts_S1083x1_S1083 := read_reshape pre_writes (i := 76) (a := main_v62) (y := main_v63) rfl (by decide +kernel) (by decide +kernel) V
theorem x_v64_eq : x_v64 V = Host.exp (x_v63 V) := read_unary pre_writes (i := 77) (a := main_v63) (y := main_v64) rfl (by decide +kernel) (by decide +kernel) V
theorem x_v65_eq : x_v65 V = mulf (x_v64 V) (x_v43 V) := read_binary pre_writes (i := 78) (a := main_v64) (b := main_v43) (y := main_v65) rfl (by decide +kernel) (by decide +kernel) (by decide +kernel) V
theorem x_cst_12_eq : x_cst_12 V = (constant S_ .f32 0x3F000000#32) := read_nullary pre_writes (i := 79) (y := main_cst_12) rfl (by decide +kernel) V
theorem x_v66_eq : x_v66 V = (broadcastInDim S1083 ![] bcast_S_S1083) (x_cst_12 V) := read_unary pre_writes (i := 80) (a := main_cst_12) (y := main_v66) rfl (by decide +kernel) (by decide +kernel) V
theorem x_v67_eq : x_v67 V = mulf (x_v61 V) (x_v66 V) := read_binary pre_writes (i := 81) (a := main_v61) (b := main_v66) (y := main_v67) rfl (by decide +kernel) (by decide +kernel) (by decide +kernel) V
theorem x_v68_eq : x_v68 V = subf (x_v50 V) (x_v67 V) := read_binary pre_writes (i := 82) (a := main_v50) (b := main_v67) (y := main_v68) rfl (by decide +kernel) (by decide +kernel) (by decide +kernel) V
theorem x_cst_13_eq : x_cst_13 V = (constant S_ .f32 0x3F000000#32) := read_nullary pre_writes (i := 83) (y := main_cst_13) rfl (by decide +kernel) V
theorem x_v69_eq : x_v69 V = (broadcastInDim S1083 ![] bcast_S_S1083) (x_cst_13 V) := read_unary pre_writes (i := 84) (a := main_cst_13) (y := main_v69) rfl (by decide +kernel) (by decide +kernel) V
theorem x_v70_eq : x_v70 V = mulf (x_v65 V) (x_v69 V) := read_binary pre_writes (i := 85) (a := main_v65) (b := main_v69) (y := main_v70) rfl (by decide +kernel) (by decide +kernel) (by decide +kernel) V
theorem x_v71_eq : x_v71 V = subf (x_v57 V) (x_v70 V) := read_binary pre_writes (i := 86) (a := main_v57) (b := main_v70) (y := main_v71) rfl (by decide +kernel) (by decide +kernel) (by decide +kernel) V
theorem x_cst_14_eq : x_cst_14 V = (constant S_ .f32 0x3F000000#32) := read_nullary pre_writes (i := 87) (y := main_cst_14) rfl (by decide +kernel) V
theorem x_v72_eq : x_v72 V = (broadcastInDim S1083 ![] bcast_S_S1083) (x_cst_14 V) := read_unary pre_writes (i := 88) (a := main_cst_14) (y := main_v72) rfl (by decide +kernel) (by decide +kernel) V
theorem x_v73_eq : x_v73 V = mulf (x_v61 V) (x_v72 V) := read_binary pre_writes (i := 89) (a := main_v61) (b := main_v72) (y := main_v73) rfl (by decide +kernel) (by decide +kernel) (by decide +kernel) V
theorem x_v74_eq : x_v74 V = addf (x_v50 V) (x_v73 V) := read_binary pre_writes (i := 90) (a := main_v50) (b := main_v73) (y := main_v74) rfl (by decide +kernel) (by decide +kernel) (by decide +kernel) V
theorem x_cst_15_eq : x_cst_15 V = (constant S_ .f32 0x3F000000#32) := read_nullary pre_writes (i := 91) (y := main_cst_15) rfl (by decide +kernel) V
theorem x_v75_eq : x_v75 V = (broadcastInDim S1083 ![] bcast_S_S1083) (x_cst_15 V) := read_unary pre_writes (i := 92) (a := main_cst_15) (y := main_v75) rfl (by decide +kernel) (by decide +kernel) V
theorem x_v76_eq : x_v76 V = mulf (x_v65 V) (x_v75 V) := read_binary pre_writes (i := 93) (a := main_v65) (b := main_v75) (y := main_v76) rfl (by decide +kernel) (by decide +kernel) (by decide +kernel) V
theorem x_v77_eq : x_v77 V = addf (x_v57 V) (x_v76 V) := read_binary pre_writes (i := 94) (a := main_v57) (b := main_v76) (y := main_v77) rfl (by decide +kernel) (by decide +kernel) (by decide +kernel) V
theorem x_v78_eq : x_v78 V = (broadcastInDim S1083x1 ![0] bcast_S1083_S1083x1_0) (x_v68 V) := read_unary pre_writes (i := 95) (a := main_v68) (y := main_v78) rfl (by decide +kernel) (by decide +kernel) V
theorem x_v79_eq : x_v79 V = (broadcastInDim S1083x1 ![0] bcast_S1083_S1083x1_0) (x_v71 V) := read_unary pre_writes (i := 96) (a := main_v71) (y := main_v79) rfl (by decide +kernel) (by decide +kernel) V
theorem x_v80_eq : x_v80 V = (broadcastInDim S1083x1 ![0] bcast_S1083_S1083x1_0) (x_v74 V) := read_unary pre_writes (i := 97) (a := main_v74) (y := main_v80) rfl (by decide +kernel) (by decide +kernel) V
theorem x_v81_eq : x_v81 V = (broadcastInDim S1083x1 ![0] bcast_S1083_S1083x1_0) (x_v77 V) := read_unary pre_writes (i := 98) (a := main_v77) (y := main_v81) rfl (by decide +kernel) (by decide +kernel) V
theorem x_v82_eq : x_v82 V = concatenate S1083x4 1 [⟨S1083x1, x_v78 V⟩, ⟨S1083x1, x_v79 V⟩, ⟨S1083x1, x_v80 V⟩, ⟨S1083x1, x_v81 V⟩] concatenates_S1083x1_S1083x1_S1083x1_S1083x1_S1083x4_d1 := read_nary pre_writes (i := 99) (y := main_v82) rfl (by decide +kernel) (by decide +kernel) V
theorem x_v83_eq : x_v83 V = extractStridedSlice S1083x1 ![0, 4] (x_v4 V) slices_S1083x85_S1083x1_0_4 := read_unary pre_writes (i := 100) (a := main_v4) (y := main_v83) rfl (by decide +kernel) (by decide +kernel) V
theorem x_v84_eq : x_v84 V = shapeCast S1083 (x_v83 V) shapeCasts_S1083x1_S1083 := read_reshape pre_writes (i := 101) (a := main_v83) (y := main_v84) rfl (by decide +kernel) (by decide +kernel) V
theorem x_v85_eq : x_v85 V = Host.negf (x_v84 V) := read_unary pre_writes (i := 102) (a := main_v84) (y := main_v85) rfl (by decide +kernel) (by decide +kernel) V
theorem x_v86_eq : x_v86 V = Host.exp (x_v85 V) := read_unary pre_writes (i := 103) (a := main_v85) (y := main_v86) rfl (by decide +kernel) (by decide +kernel) V
theorem x_cst_16_eq : x_cst_16 V = (constant S_ .f32 0x3F800000#32) := read_nullary pre_writes (i := 104) (y := main_cst_16) rfl (by decide +kernel) V
theorem x_v87_eq : x_v87 V = (broadcastInDim S1083 ![] bcast_S_S1083) (x_cst_16 V) := read_unary pre_writes (i := 105) (a := main_cst_16) (y := main_v87) rfl (by decide +kernel) (by decide +kernel) V
theorem x_v88_eq : x_v88 V = addf (x_v87 V) (x_v86 V) := read_binary pre_writes (i := 106) (a := main_v87) (b := main_v86) (y := main_v88) rfl (by decide +kernel) (by decide +kernel) (by decide +kernel) V
theorem x_cst_17_eq : x_cst_17 V = (constant S_ .f32 0x3F800000#32) := read_nullary pre_writes (i := 107) (y := main_cst_17) rfl (by decide +kernel) V
theorem x_v89_eq : x_v89 V = (broadcastInDim S1083 ![] bcast_S_S1083) (x_cst_17 V) := read_unary pre_writes (i := 108) (a := main_cst_17) (y := main_v89) rfl (by decide +kernel) (by decide +kernel) V
theorem x_v90_eq : x_v90 V = Host.divf (x_v89 V) (x_v88 V) := read_binary pre_writes (i := 109) (a := main_v89) (b := main_v88) (y := main_v90) rfl (by decide +kernel) (by decide +kernel) (by decide +kernel) V
theorem x_v91_eq : x_v91 V = extractStridedSlice S1083x80 ![0, 5] (x_v4 V) slices_S1083x85_S1083x80_0_5 := read_unary pre_writes (i := 110) (a := main_v4) (y := main_v91) rfl (by decide +kernel) (by decide +kernel) V
theorem x_v92_eq : x_v92 V = Host.negf (x_v91 V) := read_unary pre_writes (i := 111) (a := main_v91) (y := main_v92) rfl (by decide +kernel) (by decide +kernel) V
theorem x_v93_eq : x_v93 V = Host.exp (x_v92 V) := read_unary pre_writes (i := 112) (a := main_v92) (y := main_v93) rfl (by decide +kernel) (by decide +kernel) V
theorem x_cst_18_eq : x_cst_18 V = (constant S_ .f32 0x3F800000#32) := read_nullary pre_writes (i := 113) (y := main_cst_18) rfl (by decide +kernel) V
theorem x_v94_eq : x_v94 V = (broadcastInDim S1083x80 ![] bcast_S_S1083x80) (x_cst_18 V) := read_unary pre_writes (i := 114) (a := main_cst_18) (y := main_v94) rfl (by decide +kernel) (by decide +kernel) V
theorem x_v95_eq : x_v95 V = addf (x_v94 V) (x_v93 V) := read_binary pre_writes (i := 115) (a := main_v94) (b := main_v93) (y := main_v95) rfl (by decide +kernel) (by decide +kernel) (by decide +kernel) V
theorem x_cst_19_eq : x_cst_19 V = (constant S_ .f32 0x3F800000#32) := read_nullary pre_writes (i := 116) (y := main_cst_19) rfl (by decide +kernel) V
theorem x_v96_eq : x_v96 V = (broadcastInDim S1083x80 ![] bcast_S_S1083x80) (x_cst_19 V) := read_unary pre_writes (i := 117) (a := main_cst_19) (y := main_v96) rfl (by decide +kernel) (by decide +kernel) V
theorem x_v97_eq : x_v97 V = Host.divf (x_v96 V) (x_v95 V) := read_binary pre_writes (i := 118) (a := main_v96) (b := main_v95) (y := main_v97) rfl (by decide +kernel) (by decide +kernel) (by decide +kernel) V
theorem x_values_eq : x_values V = (Host.topK S1000 0 (FloatOps.cmpfTotal .gt) (x_v90 V) sliceFits_S1083_S1000).1 := read_unary pre_writes (i := 119) (a := main_v90) (y := main_values) rfl (by decide +kernel) (by decide +kernel) V
theorem x_indices_eq : x_indices V = (Host.topK S1000 0 (FloatOps.cmpfTotal .gt) (x_v90 V) sliceFits_S1083_S1000).2 := read_unary pre_writes (i := 120) (a := main_v90) (y := main_indices) rfl (by decide +kernel) (by decide +kernel) V
theorem x_c_eq : x_c V = (constantI S_ 32 0#32) := read_nullary pre_writes (i := 121) (y := main_c) rfl (by decide +kernel) V
theorem x_v98_eq : x_v98 V = (broadcastInDim S1000 ![] bcast_S_S1000) (x_c V) := read_unary pre_writes (i := 122) (a := main_c) (y := main_v98) rfl (by decide +kernel) (by decide +kernel) V
theorem x_v99_eq : x_v99 V = (cmpi .slt) (x_indices V) (x_v98 V) := read_binary pre_writes (i := 123) (a := main_indices) (b := main_v98) (y := main_v99) rfl (by decide +kernel) (by decide +kernel) (by decide +kernel) V
theorem x_c_20_eq : x_c_20 V = (constantI S_ 32 1083#32) := read_nullary pre_writes (i := 124) (y := main_c_20) rfl (by decide +kernel) V

end Cert.ReferenceIdeal.Pf

end
-- ==== Proof.RfPreB.lean ====
/-
  The reference before its loop, one operation at a time.
  What each operation says of its buffer.
-/
module

public import proofs.«01_k».proof.Proof.RfPre

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

variable (V : Valuation τ sig (Elt F))

theorem x_v100_eq : x_v100 V = (broadcastInDim S1000 ![] bcast_S_S1000) (x_c_20 V) := read_unary pre_writes (i := 125) (a := main_c_20) (y := main_v100) rfl (by decide +kernel) (by decide +kernel) V
theorem x_v101_eq : x_v101 V = addi (x_indices V) (x_v100 V) := read_binary pre_writes (i := 126) (a := main_indices) (b := main_v100) (y := main_v101) rfl (by decide +kernel) (by decide +kernel) (by decide +kernel) V
theorem x_v102_eq : x_v102 V = select (x_v99 V) (x_v101 V) (x_indices V) := read_ternary pre_writes (i := 127) (c := main_v99) (a := main_v101) (b := main_indices) (y := main_v102) rfl (by decide +kernel) (by decide +kernel) (by decide +kernel) (by decide +kernel) V
theorem x_v103_eq : x_v103 V = (broadcastInDim S1000x1 ![0] bcast_S1000_S1000x1_0) (x_v102 V) := read_unary pre_writes (i := 128) (a := main_v102) (y := main_v103) rfl (by decide +kernel) (by decide +kernel) V
theorem x_v104_eq : x_v104 V = Host.gather gather_S1083x4_S1000x1_S1000x4_1_0_n_n_0_1_14 (x_v82 V) (x_v103 V) := read_binary pre_writes (i := 129) (a := main_v82) (b := main_v103) (y := main_v104) rfl (by decide +kernel) (by decide +kernel) (by decide +kernel) V
theorem x_c_21_eq : x_c_21 V = (constantI S_ 32 0#32) := read_nullary pre_writes (i := 130) (y := main_c_21) rfl (by decide +kernel) V
theorem x_v105_eq : x_v105 V = (broadcastInDim S1000 ![] bcast_S_S1000) (x_c_21 V) := read_unary pre_writes (i := 131) (a := main_c_21) (y := main_v105) rfl (by decide +kernel) (by decide +kernel) V
theorem x_v106_eq : x_v106 V = (cmpi .slt) (x_indices V) (x_v105 V) := read_binary pre_writes (i := 132) (a := main_indices) (b := main_v105) (y := main_v106) rfl (by decide +kernel) (by decide +kernel) (by decide +kernel) V
theorem x_c_22_eq : x_c_22 V = (constantI S_ 32 1083#32) := read_nullary pre_writes (i := 133) (y := main_c_22) rfl (by decide +kernel) V
theorem x_v107_eq : x_v107 V = (broadcastInDim S1000 ![] bcast_S_S1000) (x_c_22 V) := read_unary pre_writes (i := 134) (a := main_c_22) (y := main_v107) rfl (by decide +kernel) (by decide +kernel) V
theorem x_v108_eq : x_v108 V = addi (x_indices V) (x_v107 V) := read_binary pre_writes (i := 135) (a := main_indices) (b := main_v107) (y := main_v108) rfl (by decide +kernel) (by decide +kernel) (by decide +kernel) V
theorem x_v109_eq : x_v109 V = select (x_v106 V) (x_v108 V) (x_indices V) := read_ternary pre_writes (i := 136) (c := main_v106) (a := main_v108) (b := main_indices) (y := main_v109) rfl (by decide +kernel) (by decide +kernel) (by decide +kernel) (by decide +kernel) V
theorem x_v110_eq : x_v110 V = (broadcastInDim S1000x1 ![0] bcast_S1000_S1000x1_0) (x_v109 V) := read_unary pre_writes (i := 137) (a := main_v109) (y := main_v110) rfl (by decide +kernel) (by decide +kernel) V
theorem x_v111_eq : x_v111 V = Host.gather gather_S1083x80_S1000x1_S1000x80_1_0_n_n_0_1_180 (x_v97 V) (x_v110 V) := read_binary pre_writes (i := 138) (a := main_v97) (b := main_v110) (y := main_v111) rfl (by decide +kernel) (by decide +kernel) (by decide +kernel) V
theorem x_cst_23_eq : x_cst_23 V = (constant S_ .f32 0x3BA3D70A#32) := read_nullary pre_writes (i := 139) (y := main_cst_23) rfl (by decide +kernel) V
theorem x_v112_eq : x_v112 V = (broadcastInDim S1000 ![] bcast_S_S1000) (x_cst_23 V) := read_unary pre_writes (i := 140) (a := main_cst_23) (y := main_v112) rfl (by decide +kernel) (by decide +kernel) V
theorem x_v113_eq : x_v113 V = (cmpf .oge) (x_values V) (x_v112 V) := read_binary pre_writes (i := 141) (a := main_values) (b := main_v112) (y := main_v113) rfl (by decide +kernel) (by decide +kernel) (by decide +kernel) V
theorem x_v114_eq : x_v114 V = (uitofp .f32) (x_v113 V) := read_unary pre_writes (i := 142) (a := main_v113) (y := main_v114) rfl (by decide +kernel) (by decide +kernel) V
theorem x_v115_eq : x_v115 V = mulf (x_values V) (x_v114 V) := read_binary pre_writes (i := 143) (a := main_values) (b := main_v114) (y := main_v115) rfl (by decide +kernel) (by decide +kernel) (by decide +kernel) V
theorem x_v116_eq : x_v116 V = transpose S38x38x255 [1, 2, 0] (x_v1 V) transposes_S255x38x38_S38x38x255_1_2_0 := read_unary pre_writes (i := 144) (a := main_v1) (y := main_v116) rfl (by decide +kernel) (by decide +kernel) V
theorem x_v117_eq : x_v117 V = shapeCast S4332x85 (x_v116 V) shapeCasts_S38x38x255_S4332x85 := read_reshape pre_writes (i := 145) (a := main_v116) (y := main_v117) rfl (by decide +kernel) (by decide +kernel) V
theorem x_v118_eq : x_v118 V = extractStridedSlice S4332x2 ![0, 0] (x_v117 V) slices_S4332x85_S4332x2_0_0 := read_unary pre_writes (i := 146) (a := main_v117) (y := main_v118) rfl (by decide +kernel) (by decide +kernel) V
theorem x_v119_eq : x_v119 V = Host.negf (x_v118 V) := read_unary pre_writes (i := 147) (a := main_v118) (y := main_v119) rfl (by decide +kernel) (by decide +kernel) V
theorem x_v120_eq : x_v120 V = Host.exp (x_v119 V) := read_unary pre_writes (i := 148) (a := main_v119) (y := main_v120) rfl (by decide +kernel) (by decide +kernel) V
theorem x_cst_24_eq : x_cst_24 V = (constant S_ .f32 0x3F800000#32) := read_nullary pre_writes (i := 149) (y := main_cst_24) rfl (by decide +kernel) V
theorem x_v121_eq : x_v121 V = (broadcastInDim S4332x2 ![] bcast_S_S4332x2) (x_cst_24 V) := read_unary pre_writes (i := 150) (a := main_cst_24) (y := main_v121) rfl (by decide +kernel) (by decide +kernel) V
theorem x_v122_eq : x_v122 V = addf (x_v121 V) (x_v120 V) := read_binary pre_writes (i := 151) (a := main_v121) (b := main_v120) (y := main_v122) rfl (by decide +kernel) (by decide +kernel) (by decide +kernel) V
theorem x_cst_25_eq : x_cst_25 V = (constant S_ .f32 0x3F800000#32) := read_nullary pre_writes (i := 152) (y := main_cst_25) rfl (by decide +kernel) V
theorem x_v123_eq : x_v123 V = (broadcastInDim S4332x2 ![] bcast_S_S4332x2) (x_cst_25 V) := read_unary pre_writes (i := 153) (a := main_cst_25) (y := main_v123) rfl (by decide +kernel) (by decide +kernel) V
theorem x_v124_eq : x_v124 V = Host.divf (x_v123 V) (x_v122 V) := read_binary pre_writes (i := 154) (a := main_v123) (b := main_v122) (y := main_v124) rfl (by decide +kernel) (by decide +kernel) (by decide +kernel) V
theorem x_v125_eq : x_v125 V = Host.negf (x_v124 V) := read_unary pre_writes (i := 155) (a := main_v124) (y := main_v125) rfl (by decide +kernel) (by decide +kernel) V
theorem x_v126_eq : x_v126 V = Host.exp (x_v125 V) := read_unary pre_writes (i := 156) (a := main_v125) (y := main_v126) rfl (by decide +kernel) (by decide +kernel) V
theorem x_cst_26_eq : x_cst_26 V = (constant S_ .f32 0x3F800000#32) := read_nullary pre_writes (i := 157) (y := main_cst_26) rfl (by decide +kernel) V
theorem x_v127_eq : x_v127 V = (broadcastInDim S4332x2 ![] bcast_S_S4332x2) (x_cst_26 V) := read_unary pre_writes (i := 158) (a := main_cst_26) (y := main_v127) rfl (by decide +kernel) (by decide +kernel) V
theorem x_v128_eq : x_v128 V = addf (x_v127 V) (x_v126 V) := read_binary pre_writes (i := 159) (a := main_v127) (b := main_v126) (y := main_v128) rfl (by decide +kernel) (by decide +kernel) (by decide +kernel) V
theorem x_cst_27_eq : x_cst_27 V = (constant S_ .f32 0x3F800000#32) := read_nullary pre_writes (i := 160) (y := main_cst_27) rfl (by decide +kernel) V
theorem x_v129_eq : x_v129 V = (broadcastInDim S4332x2 ![] bcast_S_S4332x2) (x_cst_27 V) := read_unary pre_writes (i := 161) (a := main_cst_27) (y := main_v129) rfl (by decide +kernel) (by decide +kernel) V
theorem x_v130_eq : x_v130 V = Host.divf (x_v129 V) (x_v128 V) := read_binary pre_writes (i := 162) (a := main_v129) (b := main_v128) (y := main_v130) rfl (by decide +kernel) (by decide +kernel) (by decide +kernel) V
theorem x_v131_eq : x_v131 V = extractStridedSlice S4332x2 ![0, 2] (x_v117 V) slices_S4332x85_S4332x2_0_2 := read_unary pre_writes (i := 163) (a := main_v117) (y := main_v131) rfl (by decide +kernel) (by decide +kernel) V
theorem x_v132_eq : x_v132 V = (fun a b => concatenate S4332x4 1 [⟨S4332x2, a⟩, ⟨S4332x2, b⟩] concatenates_S4332x2_S4332x2_S4332x4_d1) (x_v130 V) (x_v131 V) := read_binary pre_writes (i := 164) (a := main_v130) (b := main_v131) (y := main_v132) rfl (by decide +kernel) (by decide +kernel) (by decide +kernel) V
theorem x_v133_eq : x_v133 V = extractStridedSlice S4332x1 ![0, 0] (x_cst_0 V) slices_S4332x4_S4332x1_0_0 := read_unary pre_writes (i := 165) (a := main_cst_0) (y := main_v133) rfl (by decide +kernel) (by decide +kernel) V
theorem x_v134_eq : x_v134 V = shapeCast S4332 (x_v133 V) shapeCasts_S4332x1_S4332 := read_reshape pre_writes (i := 166) (a := main_v133) (y := main_v134) rfl (by decide +kernel) (by decide +kernel) V
theorem x_v135_eq : x_v135 V = extractStridedSlice S4332x1 ![0, 2] (x_cst_0 V) slices_S4332x4_S4332x1_0_2 := read_unary pre_writes (i := 167) (a := main_cst_0) (y := main_v135) rfl (by decide +kernel) (by decide +kernel) V
theorem x_v136_eq : x_v136 V = shapeCast S4332 (x_v135 V) shapeCasts_S4332x1_S4332 := read_reshape pre_writes (i := 168) (a := main_v135) (y := main_v136) rfl (by decide +kernel) (by decide +kernel) V
theorem x_v137_eq : x_v137 V = addf (x_v134 V) (x_v136 V) := read_binary pre_writes (i := 169) (a := main_v134) (b := main_v136) (y := main_v137) rfl (by decide +kernel) (by decide +kernel) (by decide +kernel) V
theorem x_cst_28_eq : x_cst_28 V = (constant S_ .f32 0x3F000000#32) := read_nullary pre_writes (i := 170) (y := main_cst_28) rfl (by decide +kernel) V
theorem x_v138_eq : x_v138 V = (broadcastInDim S4332 ![] bcast_S_S4332) (x_cst_28 V) := read_unary pre_writes (i := 171) (a := main_cst_28) (y := main_v138) rfl (by decide +kernel) (by decide +kernel) V
theorem x_v139_eq : x_v139 V = mulf (x_v137 V) (x_v138 V) := read_binary pre_writes (i := 172) (a := main_v137) (b := main_v138) (y := main_v139) rfl (by decide +kernel) (by decide +kernel) (by decide +kernel) V
theorem x_v140_eq : x_v140 V = extractStridedSlice S4332x1 ![0, 1] (x_cst_0 V) slices_S4332x4_S4332x1_0_1 := read_unary pre_writes (i := 173) (a := main_cst_0) (y := main_v140) rfl (by decide +kernel) (by decide +kernel) V
theorem x_v141_eq : x_v141 V = shapeCast S4332 (x_v140 V) shapeCasts_S4332x1_S4332 := read_reshape pre_writes (i := 174) (a := main_v140) (y := main_v141) rfl (by decide +kernel) (by decide +kernel) V
theorem x_v142_eq : x_v142 V = extractStridedSlice S4332x1 ![0, 3] (x_cst_0 V) slices_S4332x4_S4332x1_0_3 := read_unary pre_writes (i := 175) (a := main_cst_0) (y := main_v142) rfl (by decide +kernel) (by decide +kernel) V
theorem x_v143_eq : x_v143 V = shapeCast S4332 (x_v142 V) shapeCasts_S4332x1_S4332 := read_reshape pre_writes (i := 176) (a := main_v142) (y := main_v143) rfl (by decide +kernel) (by decide +kernel) V
theorem x_v144_eq : x_v144 V = addf (x_v141 V) (x_v143 V) := read_binary pre_writes (i := 177) (a := main_v141) (b := main_v143) (y := main_v144) rfl (by decide +kernel) (by decide +kernel) (by decide +kernel) V
theorem x_cst_29_eq : x_cst_29 V = (constant S_ .f32 0x3F000000#32) := read_nullary pre_writes (i := 178) (y := main_cst_29) rfl (by decide +kernel) V
theorem x_v145_eq : x_v145 V = (broadcastInDim S4332 ![] bcast_S_S4332) (x_cst_29 V) := read_unary pre_writes (i := 179) (a := main_cst_29) (y := main_v145) rfl (by decide +kernel) (by decide +kernel) V
theorem x_v146_eq : x_v146 V = mulf (x_v144 V) (x_v145 V) := read_binary pre_writes (i := 180) (a := main_v144) (b := main_v145) (y := main_v146) rfl (by decide +kernel) (by decide +kernel) (by decide +kernel) V
theorem x_v147_eq : x_v147 V = extractStridedSlice S4332x1 ![0, 2] (x_cst_0 V) slices_S4332x4_S4332x1_0_2 := read_unary pre_writes (i := 181) (a := main_cst_0) (y := main_v147) rfl (by decide +kernel) (by decide +kernel) V
theorem x_v148_eq : x_v148 V = shapeCast S4332 (x_v147 V) shapeCasts_S4332x1_S4332 := read_reshape pre_writes (i := 182) (a := main_v147) (y := main_v148) rfl (by decide +kernel) (by decide +kernel) V
theorem x_v149_eq : x_v149 V = extractStridedSlice S4332x1 ![0, 0] (x_cst_0 V) slices_S4332x4_S4332x1_0_0 := read_unary pre_writes (i := 183) (a := main_cst_0) (y := main_v149) rfl (by decide +kernel) (by decide +kernel) V
theorem x_v150_eq : x_v150 V = shapeCast S4332 (x_v149 V) shapeCasts_S4332x1_S4332 := read_reshape pre_writes (i := 184) (a := main_v149) (y := main_v150) rfl (by decide +kernel) (by decide +kernel) V
theorem x_v151_eq : x_v151 V = subf (x_v148 V) (x_v150 V) := read_binary pre_writes (i := 185) (a := main_v148) (b := main_v150) (y := main_v151) rfl (by decide +kernel) (by decide +kernel) (by decide +kernel) V
theorem x_v152_eq : x_v152 V = extractStridedSlice S4332x1 ![0, 3] (x_cst_0 V) slices_S4332x4_S4332x1_0_3 := read_unary pre_writes (i := 186) (a := main_cst_0) (y := main_v152) rfl (by decide +kernel) (by decide +kernel) V
theorem x_v153_eq : x_v153 V = shapeCast S4332 (x_v152 V) shapeCasts_S4332x1_S4332 := read_reshape pre_writes (i := 187) (a := main_v152) (y := main_v153) rfl (by decide +kernel) (by decide +kernel) V
theorem x_v154_eq : x_v154 V = extractStridedSlice S4332x1 ![0, 1] (x_cst_0 V) slices_S4332x4_S4332x1_0_1 := read_unary pre_writes (i := 188) (a := main_cst_0) (y := main_v154) rfl (by decide +kernel) (by decide +kernel) V
theorem x_v155_eq : x_v155 V = shapeCast S4332 (x_v154 V) shapeCasts_S4332x1_S4332 := read_reshape pre_writes (i := 189) (a := main_v154) (y := main_v155) rfl (by decide +kernel) (by decide +kernel) V
theorem x_v156_eq : x_v156 V = subf (x_v153 V) (x_v155 V) := read_binary pre_writes (i := 190) (a := main_v153) (b := main_v155) (y := main_v156) rfl (by decide +kernel) (by decide +kernel) (by decide +kernel) V
theorem x_v157_eq : x_v157 V = extractStridedSlice S4332x1 ![0, 0] (x_v132 V) slices_S4332x4_S4332x1_0_0 := read_unary pre_writes (i := 191) (a := main_v132) (y := main_v157) rfl (by decide +kernel) (by decide +kernel) V
theorem x_v158_eq : x_v158 V = shapeCast S4332 (x_v157 V) shapeCasts_S4332x1_S4332 := read_reshape pre_writes (i := 192) (a := main_v157) (y := main_v158) rfl (by decide +kernel) (by decide +kernel) V
theorem x_cst_30_eq : x_cst_30 V = (constant S_ .f32 0x3F000000#32) := read_nullary pre_writes (i := 193) (y := main_cst_30) rfl (by decide +kernel) V
theorem x_v159_eq : x_v159 V = (broadcastInDim S4332 ![] bcast_S_S4332) (x_cst_30 V) := read_unary pre_writes (i := 194) (a := main_cst_30) (y := main_v159) rfl (by decide +kernel) (by decide +kernel) V
theorem x_v160_eq : x_v160 V = subf (x_v158 V) (x_v159 V) := read_binary pre_writes (i := 195) (a := main_v158) (b := main_v159) (y := main_v160) rfl (by decide +kernel) (by decide +kernel) (by decide +kernel) V
theorem x_cst_31_eq : x_cst_31 V = (constant S_ .f32 0x41800000#32) := read_nullary pre_writes (i := 196) (y := main_cst_31) rfl (by decide +kernel) V
theorem x_v161_eq : x_v161 V = (broadcastInDim S4332 ![] bcast_S_S4332) (x_cst_31 V) := read_unary pre_writes (i := 197) (a := main_cst_31) (y := main_v161) rfl (by decide +kernel) (by decide +kernel) V
theorem x_v162_eq : x_v162 V = mulf (x_v160 V) (x_v161 V) := read_binary pre_writes (i := 198) (a := main_v160) (b := main_v161) (y := main_v162) rfl (by decide +kernel) (by decide +kernel) (by decide +kernel) V
theorem x_v163_eq : x_v163 V = addf (x_v162 V) (x_v139 V) := read_binary pre_writes (i := 199) (a := main_v162) (b := main_v139) (y := main_v163) rfl (by decide +kernel) (by decide +kernel) (by decide +kernel) V
theorem x_v164_eq : x_v164 V = extractStridedSlice S4332x1 ![0, 1] (x_v132 V) slices_S4332x4_S4332x1_0_1 := read_unary pre_writes (i := 200) (a := main_v132) (y := main_v164) rfl (by decide +kernel) (by decide +kernel) V
theorem x_v165_eq : x_v165 V = shapeCast S4332 (x_v164 V) shapeCasts_S4332x1_S4332 := read_reshape pre_writes (i := 201) (a := main_v164) (y := main_v165) rfl (by decide +kernel) (by decide +kernel) V
theorem x_cst_32_eq : x_cst_32 V = (constant S_ .f32 0x3F000000#32) := read_nullary pre_writes (i := 202) (y := main_cst_32) rfl (by decide +kernel) V
theorem x_v166_eq : x_v166 V = (broadcastInDim S4332 ![] bcast_S_S4332) (x_cst_32 V) := read_unary pre_writes (i := 203) (a := main_cst_32) (y := main_v166) rfl (by decide +kernel) (by decide +kernel) V
theorem x_v167_eq : x_v167 V = subf (x_v165 V) (x_v166 V) := read_binary pre_writes (i := 204) (a := main_v165) (b := main_v166) (y := main_v167) rfl (by decide +kernel) (by decide +kernel) (by decide +kernel) V
theorem x_cst_33_eq : x_cst_33 V = (constant S_ .f32 0x41800000#32) := read_nullary pre_writes (i := 205) (y := main_cst_33) rfl (by decide +kernel) V
theorem x_v168_eq : x_v168 V = (broadcastInDim S4332 ![] bcast_S_S4332) (x_cst_33 V) := read_unary pre_writes (i := 206) (a := main_cst_33) (y := main_v168) rfl (by decide +kernel) (by decide +kernel) V
theorem x_v169_eq : x_v169 V = mulf (x_v167 V) (x_v168 V) := read_binary pre_writes (i := 207) (a := main_v167) (b := main_v168) (y := main_v169) rfl (by decide +kernel) (by decide +kernel) (by decide +kernel) V
theorem x_v170_eq : x_v170 V = addf (x_v169 V) (x_v146 V) := read_binary pre_writes (i := 208) (a := main_v169) (b := main_v146) (y := main_v170) rfl (by decide +kernel) (by decide +kernel) (by decide +kernel) V
theorem x_v171_eq : x_v171 V = extractStridedSlice S4332x1 ![0, 2] (x_v132 V) slices_S4332x4_S4332x1_0_2 := read_unary pre_writes (i := 209) (a := main_v132) (y := main_v171) rfl (by decide +kernel) (by decide +kernel) V
theorem x_v172_eq : x_v172 V = shapeCast S4332 (x_v171 V) shapeCasts_S4332x1_S4332 := read_reshape pre_writes (i := 210) (a := main_v171) (y := main_v172) rfl (by decide +kernel) (by decide +kernel) V
theorem x_v173_eq : x_v173 V = Host.exp (x_v172 V) := read_unary pre_writes (i := 211) (a := main_v172) (y := main_v173) rfl (by decide +kernel) (by decide +kernel) V
theorem x_v174_eq : x_v174 V = mulf (x_v173 V) (x_v151 V) := read_binary pre_writes (i := 212) (a := main_v173) (b := main_v151) (y := main_v174) rfl (by decide +kernel) (by decide +kernel) (by decide +kernel) V
theorem x_v175_eq : x_v175 V = extractStridedSlice S4332x1 ![0, 3] (x_v132 V) slices_S4332x4_S4332x1_0_3 := read_unary pre_writes (i := 213) (a := main_v132) (y := main_v175) rfl (by decide +kernel) (by decide +kernel) V
theorem x_v176_eq : x_v176 V = shapeCast S4332 (x_v175 V) shapeCasts_S4332x1_S4332 := read_reshape pre_writes (i := 214) (a := main_v175) (y := main_v176) rfl (by decide +kernel) (by decide +kernel) V
theorem x_v177_eq : x_v177 V = Host.exp (x_v176 V) := read_unary pre_writes (i := 215) (a := main_v176) (y := main_v177) rfl (by decide +kernel) (by decide +kernel) V
theorem x_v178_eq : x_v178 V = mulf (x_v177 V) (x_v156 V) := read_binary pre_writes (i := 216) (a := main_v177) (b := main_v156) (y := main_v178) rfl (by decide +kernel) (by decide +kernel) (by decide +kernel) V
theorem x_cst_34_eq : x_cst_34 V = (constant S_ .f32 0x3F000000#32) := read_nullary pre_writes (i := 217) (y := main_cst_34) rfl (by decide +kernel) V
theorem x_v179_eq : x_v179 V = (broadcastInDim S4332 ![] bcast_S_S4332) (x_cst_34 V) := read_unary pre_writes (i := 218) (a := main_cst_34) (y := main_v179) rfl (by decide +kernel) (by decide +kernel) V
theorem x_v180_eq : x_v180 V = mulf (x_v174 V) (x_v179 V) := read_binary pre_writes (i := 219) (a := main_v174) (b := main_v179) (y := main_v180) rfl (by decide +kernel) (by decide +kernel) (by decide +kernel) V
theorem x_v181_eq : x_v181 V = subf (x_v163 V) (x_v180 V) := read_binary pre_writes (i := 220) (a := main_v163) (b := main_v180) (y := main_v181) rfl (by decide +kernel) (by decide +kernel) (by decide +kernel) V
theorem x_cst_35_eq : x_cst_35 V = (constant S_ .f32 0x3F000000#32) := read_nullary pre_writes (i := 221) (y := main_cst_35) rfl (by decide +kernel) V
theorem x_v182_eq : x_v182 V = (broadcastInDim S4332 ![] bcast_S_S4332) (x_cst_35 V) := read_unary pre_writes (i := 222) (a := main_cst_35) (y := main_v182) rfl (by decide +kernel) (by decide +kernel) V
theorem x_v183_eq : x_v183 V = mulf (x_v178 V) (x_v182 V) := read_binary pre_writes (i := 223) (a := main_v178) (b := main_v182) (y := main_v183) rfl (by decide +kernel) (by decide +kernel) (by decide +kernel) V
theorem x_v184_eq : x_v184 V = subf (x_v170 V) (x_v183 V) := read_binary pre_writes (i := 224) (a := main_v170) (b := main_v183) (y := main_v184) rfl (by decide +kernel) (by decide +kernel) (by decide +kernel) V
theorem x_cst_36_eq : x_cst_36 V = (constant S_ .f32 0x3F000000#32) := read_nullary pre_writes (i := 225) (y := main_cst_36) rfl (by decide +kernel) V
theorem x_v185_eq : x_v185 V = (broadcastInDim S4332 ![] bcast_S_S4332) (x_cst_36 V) := read_unary pre_writes (i := 226) (a := main_cst_36) (y := main_v185) rfl (by decide +kernel) (by decide +kernel) V
theorem x_v186_eq : x_v186 V = mulf (x_v174 V) (x_v185 V) := read_binary pre_writes (i := 227) (a := main_v174) (b := main_v185) (y := main_v186) rfl (by decide +kernel) (by decide +kernel) (by decide +kernel) V
theorem x_v187_eq : x_v187 V = addf (x_v163 V) (x_v186 V) := read_binary pre_writes (i := 228) (a := main_v163) (b := main_v186) (y := main_v187) rfl (by decide +kernel) (by decide +kernel) (by decide +kernel) V
theorem x_cst_37_eq : x_cst_37 V = (constant S_ .f32 0x3F000000#32) := read_nullary pre_writes (i := 229) (y := main_cst_37) rfl (by decide +kernel) V
theorem x_v188_eq : x_v188 V = (broadcastInDim S4332 ![] bcast_S_S4332) (x_cst_37 V) := read_unary pre_writes (i := 230) (a := main_cst_37) (y := main_v188) rfl (by decide +kernel) (by decide +kernel) V
theorem x_v189_eq : x_v189 V = mulf (x_v178 V) (x_v188 V) := read_binary pre_writes (i := 231) (a := main_v178) (b := main_v188) (y := main_v189) rfl (by decide +kernel) (by decide +kernel) (by decide +kernel) V
theorem x_v190_eq : x_v190 V = addf (x_v170 V) (x_v189 V) := read_binary pre_writes (i := 232) (a := main_v170) (b := main_v189) (y := main_v190) rfl (by decide +kernel) (by decide +kernel) (by decide +kernel) V
theorem x_v191_eq : x_v191 V = (broadcastInDim S4332x1 ![0] bcast_S4332_S4332x1_0) (x_v181 V) := read_unary pre_writes (i := 233) (a := main_v181) (y := main_v191) rfl (by decide +kernel) (by decide +kernel) V
theorem x_v192_eq : x_v192 V = (broadcastInDim S4332x1 ![0] bcast_S4332_S4332x1_0) (x_v184 V) := read_unary pre_writes (i := 234) (a := main_v184) (y := main_v192) rfl (by decide +kernel) (by decide +kernel) V
theorem x_v193_eq : x_v193 V = (broadcastInDim S4332x1 ![0] bcast_S4332_S4332x1_0) (x_v187 V) := read_unary pre_writes (i := 235) (a := main_v187) (y := main_v193) rfl (by decide +kernel) (by decide +kernel) V
theorem x_v194_eq : x_v194 V = (broadcastInDim S4332x1 ![0] bcast_S4332_S4332x1_0) (x_v190 V) := read_unary pre_writes (i := 236) (a := main_v190) (y := main_v194) rfl (by decide +kernel) (by decide +kernel) V
theorem x_v195_eq : x_v195 V = concatenate S4332x4 1 [⟨S4332x1, x_v191 V⟩, ⟨S4332x1, x_v192 V⟩, ⟨S4332x1, x_v193 V⟩, ⟨S4332x1, x_v194 V⟩] concatenates_S4332x1_S4332x1_S4332x1_S4332x1_S4332x4_d1 := read_nary pre_writes (i := 237) (y := main_v195) rfl (by decide +kernel) (by decide +kernel) V
theorem x_v196_eq : x_v196 V = extractStridedSlice S4332x1 ![0, 4] (x_v117 V) slices_S4332x85_S4332x1_0_4 := read_unary pre_writes (i := 238) (a := main_v117) (y := main_v196) rfl (by decide +kernel) (by decide +kernel) V
theorem x_v197_eq : x_v197 V = shapeCast S4332 (x_v196 V) shapeCasts_S4332x1_S4332 := read_reshape pre_writes (i := 239) (a := main_v196) (y := main_v197) rfl (by decide +kernel) (by decide +kernel) V
theorem x_v198_eq : x_v198 V = Host.negf (x_v197 V) := read_unary pre_writes (i := 240) (a := main_v197) (y := main_v198) rfl (by decide +kernel) (by decide +kernel) V
theorem x_v199_eq : x_v199 V = Host.exp (x_v198 V) := read_unary pre_writes (i := 241) (a := main_v198) (y := main_v199) rfl (by decide +kernel) (by decide +kernel) V
theorem x_cst_38_eq : x_cst_38 V = (constant S_ .f32 0x3F800000#32) := read_nullary pre_writes (i := 242) (y := main_cst_38) rfl (by decide +kernel) V
theorem x_v200_eq : x_v200 V = (broadcastInDim S4332 ![] bcast_S_S4332) (x_cst_38 V) := read_unary pre_writes (i := 243) (a := main_cst_38) (y := main_v200) rfl (by decide +kernel) (by decide +kernel) V
theorem x_v201_eq : x_v201 V = addf (x_v200 V) (x_v199 V) := read_binary pre_writes (i := 244) (a := main_v200) (b := main_v199) (y := main_v201) rfl (by decide +kernel) (by decide +kernel) (by decide +kernel) V
theorem x_cst_39_eq : x_cst_39 V = (constant S_ .f32 0x3F800000#32) := read_nullary pre_writes (i := 245) (y := main_cst_39) rfl (by decide +kernel) V
theorem x_v202_eq : x_v202 V = (broadcastInDim S4332 ![] bcast_S_S4332) (x_cst_39 V) := read_unary pre_writes (i := 246) (a := main_cst_39) (y := main_v202) rfl (by decide +kernel) (by decide +kernel) V
theorem x_v203_eq : x_v203 V = Host.divf (x_v202 V) (x_v201 V) := read_binary pre_writes (i := 247) (a := main_v202) (b := main_v201) (y := main_v203) rfl (by decide +kernel) (by decide +kernel) (by decide +kernel) V
theorem x_v204_eq : x_v204 V = extractStridedSlice S4332x80 ![0, 5] (x_v117 V) slices_S4332x85_S4332x80_0_5 := read_unary pre_writes (i := 248) (a := main_v117) (y := main_v204) rfl (by decide +kernel) (by decide +kernel) V
theorem x_v205_eq : x_v205 V = Host.negf (x_v204 V) := read_unary pre_writes (i := 249) (a := main_v204) (y := main_v205) rfl (by decide +kernel) (by decide +kernel) V

end Cert.ReferenceIdeal.Pf

end
-- ==== Proof.RfPreC.lean ====
/-
  The reference before its loop, one operation at a time.
  What each operation says of its buffer.
-/
module

public import proofs.«01_k».proof.Proof.RfPre

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

variable (V : Valuation τ sig (Elt F))

theorem x_v206_eq : x_v206 V = Host.exp (x_v205 V) := read_unary pre_writes (i := 250) (a := main_v205) (y := main_v206) rfl (by decide +kernel) (by decide +kernel) V
theorem x_cst_40_eq : x_cst_40 V = (constant S_ .f32 0x3F800000#32) := read_nullary pre_writes (i := 251) (y := main_cst_40) rfl (by decide +kernel) V
theorem x_v207_eq : x_v207 V = (broadcastInDim S4332x80 ![] bcast_S_S4332x80) (x_cst_40 V) := read_unary pre_writes (i := 252) (a := main_cst_40) (y := main_v207) rfl (by decide +kernel) (by decide +kernel) V
theorem x_v208_eq : x_v208 V = addf (x_v207 V) (x_v206 V) := read_binary pre_writes (i := 253) (a := main_v207) (b := main_v206) (y := main_v208) rfl (by decide +kernel) (by decide +kernel) (by decide +kernel) V
theorem x_cst_41_eq : x_cst_41 V = (constant S_ .f32 0x3F800000#32) := read_nullary pre_writes (i := 254) (y := main_cst_41) rfl (by decide +kernel) V
theorem x_v209_eq : x_v209 V = (broadcastInDim S4332x80 ![] bcast_S_S4332x80) (x_cst_41 V) := read_unary pre_writes (i := 255) (a := main_cst_41) (y := main_v209) rfl (by decide +kernel) (by decide +kernel) V
theorem x_v210_eq : x_v210 V = Host.divf (x_v209 V) (x_v208 V) := read_binary pre_writes (i := 256) (a := main_v209) (b := main_v208) (y := main_v210) rfl (by decide +kernel) (by decide +kernel) (by decide +kernel) V
theorem x_values_42_eq : x_values_42 V = (Host.topK S1000 0 (FloatOps.cmpfTotal .gt) (x_v203 V) sliceFits_S4332_S1000).1 := read_unary pre_writes (i := 257) (a := main_v203) (y := main_values_42) rfl (by decide +kernel) (by decide +kernel) V
theorem x_indices_43_eq : x_indices_43 V = (Host.topK S1000 0 (FloatOps.cmpfTotal .gt) (x_v203 V) sliceFits_S4332_S1000).2 := read_unary pre_writes (i := 258) (a := main_v203) (y := main_indices_43) rfl (by decide +kernel) (by decide +kernel) V
theorem x_c_44_eq : x_c_44 V = (constantI S_ 32 0#32) := read_nullary pre_writes (i := 259) (y := main_c_44) rfl (by decide +kernel) V
theorem x_v211_eq : x_v211 V = (broadcastInDim S1000 ![] bcast_S_S1000) (x_c_44 V) := read_unary pre_writes (i := 260) (a := main_c_44) (y := main_v211) rfl (by decide +kernel) (by decide +kernel) V
theorem x_v212_eq : x_v212 V = (cmpi .slt) (x_indices_43 V) (x_v211 V) := read_binary pre_writes (i := 261) (a := main_indices_43) (b := main_v211) (y := main_v212) rfl (by decide +kernel) (by decide +kernel) (by decide +kernel) V
theorem x_c_45_eq : x_c_45 V = (constantI S_ 32 4332#32) := read_nullary pre_writes (i := 262) (y := main_c_45) rfl (by decide +kernel) V
theorem x_v213_eq : x_v213 V = (broadcastInDim S1000 ![] bcast_S_S1000) (x_c_45 V) := read_unary pre_writes (i := 263) (a := main_c_45) (y := main_v213) rfl (by decide +kernel) (by decide +kernel) V
theorem x_v214_eq : x_v214 V = addi (x_indices_43 V) (x_v213 V) := read_binary pre_writes (i := 264) (a := main_indices_43) (b := main_v213) (y := main_v214) rfl (by decide +kernel) (by decide +kernel) (by decide +kernel) V
theorem x_v215_eq : x_v215 V = select (x_v212 V) (x_v214 V) (x_indices_43 V) := read_ternary pre_writes (i := 265) (c := main_v212) (a := main_v214) (b := main_indices_43) (y := main_v215) rfl (by decide +kernel) (by decide +kernel) (by decide +kernel) (by decide +kernel) V
theorem x_v216_eq : x_v216 V = (broadcastInDim S1000x1 ![0] bcast_S1000_S1000x1_0) (x_v215 V) := read_unary pre_writes (i := 266) (a := main_v215) (y := main_v216) rfl (by decide +kernel) (by decide +kernel) V
theorem x_v217_eq : x_v217 V = Host.gather gather_S4332x4_S1000x1_S1000x4_1_0_n_n_0_1_14 (x_v195 V) (x_v216 V) := read_binary pre_writes (i := 267) (a := main_v195) (b := main_v216) (y := main_v217) rfl (by decide +kernel) (by decide +kernel) (by decide +kernel) V
theorem x_c_46_eq : x_c_46 V = (constantI S_ 32 0#32) := read_nullary pre_writes (i := 268) (y := main_c_46) rfl (by decide +kernel) V
theorem x_v218_eq : x_v218 V = (broadcastInDim S1000 ![] bcast_S_S1000) (x_c_46 V) := read_unary pre_writes (i := 269) (a := main_c_46) (y := main_v218) rfl (by decide +kernel) (by decide +kernel) V
theorem x_v219_eq : x_v219 V = (cmpi .slt) (x_indices_43 V) (x_v218 V) := read_binary pre_writes (i := 270) (a := main_indices_43) (b := main_v218) (y := main_v219) rfl (by decide +kernel) (by decide +kernel) (by decide +kernel) V
theorem x_c_47_eq : x_c_47 V = (constantI S_ 32 4332#32) := read_nullary pre_writes (i := 271) (y := main_c_47) rfl (by decide +kernel) V
theorem x_v220_eq : x_v220 V = (broadcastInDim S1000 ![] bcast_S_S1000) (x_c_47 V) := read_unary pre_writes (i := 272) (a := main_c_47) (y := main_v220) rfl (by decide +kernel) (by decide +kernel) V
theorem x_v221_eq : x_v221 V = addi (x_indices_43 V) (x_v220 V) := read_binary pre_writes (i := 273) (a := main_indices_43) (b := main_v220) (y := main_v221) rfl (by decide +kernel) (by decide +kernel) (by decide +kernel) V
theorem x_v222_eq : x_v222 V = select (x_v219 V) (x_v221 V) (x_indices_43 V) := read_ternary pre_writes (i := 274) (c := main_v219) (a := main_v221) (b := main_indices_43) (y := main_v222) rfl (by decide +kernel) (by decide +kernel) (by decide +kernel) (by decide +kernel) V
theorem x_v223_eq : x_v223 V = (broadcastInDim S1000x1 ![0] bcast_S1000_S1000x1_0) (x_v222 V) := read_unary pre_writes (i := 275) (a := main_v222) (y := main_v223) rfl (by decide +kernel) (by decide +kernel) V
theorem x_v224_eq : x_v224 V = Host.gather gather_S4332x80_S1000x1_S1000x80_1_0_n_n_0_1_180 (x_v210 V) (x_v223 V) := read_binary pre_writes (i := 276) (a := main_v210) (b := main_v223) (y := main_v224) rfl (by decide +kernel) (by decide +kernel) (by decide +kernel) V
theorem x_cst_48_eq : x_cst_48 V = (constant S_ .f32 0x3BA3D70A#32) := read_nullary pre_writes (i := 277) (y := main_cst_48) rfl (by decide +kernel) V
theorem x_v225_eq : x_v225 V = (broadcastInDim S1000 ![] bcast_S_S1000) (x_cst_48 V) := read_unary pre_writes (i := 278) (a := main_cst_48) (y := main_v225) rfl (by decide +kernel) (by decide +kernel) V
theorem x_v226_eq : x_v226 V = (cmpf .oge) (x_values_42 V) (x_v225 V) := read_binary pre_writes (i := 279) (a := main_values_42) (b := main_v225) (y := main_v226) rfl (by decide +kernel) (by decide +kernel) (by decide +kernel) V
theorem x_v227_eq : x_v227 V = (uitofp .f32) (x_v226 V) := read_unary pre_writes (i := 280) (a := main_v226) (y := main_v227) rfl (by decide +kernel) (by decide +kernel) V
theorem x_v228_eq : x_v228 V = mulf (x_values_42 V) (x_v227 V) := read_binary pre_writes (i := 281) (a := main_values_42) (b := main_v227) (y := main_v228) rfl (by decide +kernel) (by decide +kernel) (by decide +kernel) V
theorem x_v229_eq : x_v229 V = transpose S76x76x255 [1, 2, 0] (x_v2 V) transposes_S255x76x76_S76x76x255_1_2_0 := read_unary pre_writes (i := 282) (a := main_v2) (y := main_v229) rfl (by decide +kernel) (by decide +kernel) V
theorem x_v230_eq : x_v230 V = shapeCast S17328x85 (x_v229 V) shapeCasts_S76x76x255_S17328x85 := read_reshape pre_writes (i := 283) (a := main_v229) (y := main_v230) rfl (by decide +kernel) (by decide +kernel) V
theorem x_v231_eq : x_v231 V = extractStridedSlice S17328x2 ![0, 0] (x_v230 V) slices_S17328x85_S17328x2_0_0 := read_unary pre_writes (i := 284) (a := main_v230) (y := main_v231) rfl (by decide +kernel) (by decide +kernel) V
theorem x_v232_eq : x_v232 V = Host.negf (x_v231 V) := read_unary pre_writes (i := 285) (a := main_v231) (y := main_v232) rfl (by decide +kernel) (by decide +kernel) V
theorem x_v233_eq : x_v233 V = Host.exp (x_v232 V) := read_unary pre_writes (i := 286) (a := main_v232) (y := main_v233) rfl (by decide +kernel) (by decide +kernel) V
theorem x_cst_49_eq : x_cst_49 V = (constant S_ .f32 0x3F800000#32) := read_nullary pre_writes (i := 287) (y := main_cst_49) rfl (by decide +kernel) V
theorem x_v234_eq : x_v234 V = (broadcastInDim S17328x2 ![] bcast_S_S17328x2) (x_cst_49 V) := read_unary pre_writes (i := 288) (a := main_cst_49) (y := main_v234) rfl (by decide +kernel) (by decide +kernel) V
theorem x_v235_eq : x_v235 V = addf (x_v234 V) (x_v233 V) := read_binary pre_writes (i := 289) (a := main_v234) (b := main_v233) (y := main_v235) rfl (by decide +kernel) (by decide +kernel) (by decide +kernel) V
theorem x_cst_50_eq : x_cst_50 V = (constant S_ .f32 0x3F800000#32) := read_nullary pre_writes (i := 290) (y := main_cst_50) rfl (by decide +kernel) V
theorem x_v236_eq : x_v236 V = (broadcastInDim S17328x2 ![] bcast_S_S17328x2) (x_cst_50 V) := read_unary pre_writes (i := 291) (a := main_cst_50) (y := main_v236) rfl (by decide +kernel) (by decide +kernel) V
theorem x_v237_eq : x_v237 V = Host.divf (x_v236 V) (x_v235 V) := read_binary pre_writes (i := 292) (a := main_v236) (b := main_v235) (y := main_v237) rfl (by decide +kernel) (by decide +kernel) (by decide +kernel) V
theorem x_v238_eq : x_v238 V = Host.negf (x_v237 V) := read_unary pre_writes (i := 293) (a := main_v237) (y := main_v238) rfl (by decide +kernel) (by decide +kernel) V
theorem x_v239_eq : x_v239 V = Host.exp (x_v238 V) := read_unary pre_writes (i := 294) (a := main_v238) (y := main_v239) rfl (by decide +kernel) (by decide +kernel) V
theorem x_cst_51_eq : x_cst_51 V = (constant S_ .f32 0x3F800000#32) := read_nullary pre_writes (i := 295) (y := main_cst_51) rfl (by decide +kernel) V
theorem x_v240_eq : x_v240 V = (broadcastInDim S17328x2 ![] bcast_S_S17328x2) (x_cst_51 V) := read_unary pre_writes (i := 296) (a := main_cst_51) (y := main_v240) rfl (by decide +kernel) (by decide +kernel) V
theorem x_v241_eq : x_v241 V = addf (x_v240 V) (x_v239 V) := read_binary pre_writes (i := 297) (a := main_v240) (b := main_v239) (y := main_v241) rfl (by decide +kernel) (by decide +kernel) (by decide +kernel) V
theorem x_cst_52_eq : x_cst_52 V = (constant S_ .f32 0x3F800000#32) := read_nullary pre_writes (i := 298) (y := main_cst_52) rfl (by decide +kernel) V
theorem x_v242_eq : x_v242 V = (broadcastInDim S17328x2 ![] bcast_S_S17328x2) (x_cst_52 V) := read_unary pre_writes (i := 299) (a := main_cst_52) (y := main_v242) rfl (by decide +kernel) (by decide +kernel) V
theorem x_v243_eq : x_v243 V = Host.divf (x_v242 V) (x_v241 V) := read_binary pre_writes (i := 300) (a := main_v242) (b := main_v241) (y := main_v243) rfl (by decide +kernel) (by decide +kernel) (by decide +kernel) V
theorem x_v244_eq : x_v244 V = extractStridedSlice S17328x2 ![0, 2] (x_v230 V) slices_S17328x85_S17328x2_0_2 := read_unary pre_writes (i := 301) (a := main_v230) (y := main_v244) rfl (by decide +kernel) (by decide +kernel) V
theorem x_v245_eq : x_v245 V = (fun a b => concatenate S17328x4 1 [⟨S17328x2, a⟩, ⟨S17328x2, b⟩] concatenates_S17328x2_S17328x2_S17328x4_d1) (x_v243 V) (x_v244 V) := read_binary pre_writes (i := 302) (a := main_v243) (b := main_v244) (y := main_v245) rfl (by decide +kernel) (by decide +kernel) (by decide +kernel) V
theorem x_v246_eq : x_v246 V = extractStridedSlice S17328x1 ![0, 0] (x_cst_1 V) slices_S17328x4_S17328x1_0_0 := read_unary pre_writes (i := 303) (a := main_cst_1) (y := main_v246) rfl (by decide +kernel) (by decide +kernel) V
theorem x_v247_eq : x_v247 V = shapeCast S17328 (x_v246 V) shapeCasts_S17328x1_S17328 := read_reshape pre_writes (i := 304) (a := main_v246) (y := main_v247) rfl (by decide +kernel) (by decide +kernel) V
theorem x_v248_eq : x_v248 V = extractStridedSlice S17328x1 ![0, 2] (x_cst_1 V) slices_S17328x4_S17328x1_0_2 := read_unary pre_writes (i := 305) (a := main_cst_1) (y := main_v248) rfl (by decide +kernel) (by decide +kernel) V
theorem x_v249_eq : x_v249 V = shapeCast S17328 (x_v248 V) shapeCasts_S17328x1_S17328 := read_reshape pre_writes (i := 306) (a := main_v248) (y := main_v249) rfl (by decide +kernel) (by decide +kernel) V
theorem x_v250_eq : x_v250 V = addf (x_v247 V) (x_v249 V) := read_binary pre_writes (i := 307) (a := main_v247) (b := main_v249) (y := main_v250) rfl (by decide +kernel) (by decide +kernel) (by decide +kernel) V
theorem x_cst_53_eq : x_cst_53 V = (constant S_ .f32 0x3F000000#32) := read_nullary pre_writes (i := 308) (y := main_cst_53) rfl (by decide +kernel) V
theorem x_v251_eq : x_v251 V = (broadcastInDim S17328 ![] bcast_S_S17328) (x_cst_53 V) := read_unary pre_writes (i := 309) (a := main_cst_53) (y := main_v251) rfl (by decide +kernel) (by decide +kernel) V
theorem x_v252_eq : x_v252 V = mulf (x_v250 V) (x_v251 V) := read_binary pre_writes (i := 310) (a := main_v250) (b := main_v251) (y := main_v252) rfl (by decide +kernel) (by decide +kernel) (by decide +kernel) V
theorem x_v253_eq : x_v253 V = extractStridedSlice S17328x1 ![0, 1] (x_cst_1 V) slices_S17328x4_S17328x1_0_1 := read_unary pre_writes (i := 311) (a := main_cst_1) (y := main_v253) rfl (by decide +kernel) (by decide +kernel) V
theorem x_v254_eq : x_v254 V = shapeCast S17328 (x_v253 V) shapeCasts_S17328x1_S17328 := read_reshape pre_writes (i := 312) (a := main_v253) (y := main_v254) rfl (by decide +kernel) (by decide +kernel) V
theorem x_v255_eq : x_v255 V = extractStridedSlice S17328x1 ![0, 3] (x_cst_1 V) slices_S17328x4_S17328x1_0_3 := read_unary pre_writes (i := 313) (a := main_cst_1) (y := main_v255) rfl (by decide +kernel) (by decide +kernel) V
theorem x_v256_eq : x_v256 V = shapeCast S17328 (x_v255 V) shapeCasts_S17328x1_S17328 := read_reshape pre_writes (i := 314) (a := main_v255) (y := main_v256) rfl (by decide +kernel) (by decide +kernel) V
theorem x_v257_eq : x_v257 V = addf (x_v254 V) (x_v256 V) := read_binary pre_writes (i := 315) (a := main_v254) (b := main_v256) (y := main_v257) rfl (by decide +kernel) (by decide +kernel) (by decide +kernel) V
theorem x_cst_54_eq : x_cst_54 V = (constant S_ .f32 0x3F000000#32) := read_nullary pre_writes (i := 316) (y := main_cst_54) rfl (by decide +kernel) V
theorem x_v258_eq : x_v258 V = (broadcastInDim S17328 ![] bcast_S_S17328) (x_cst_54 V) := read_unary pre_writes (i := 317) (a := main_cst_54) (y := main_v258) rfl (by decide +kernel) (by decide +kernel) V
theorem x_v259_eq : x_v259 V = mulf (x_v257 V) (x_v258 V) := read_binary pre_writes (i := 318) (a := main_v257) (b := main_v258) (y := main_v259) rfl (by decide +kernel) (by decide +kernel) (by decide +kernel) V
theorem x_v260_eq : x_v260 V = extractStridedSlice S17328x1 ![0, 2] (x_cst_1 V) slices_S17328x4_S17328x1_0_2 := read_unary pre_writes (i := 319) (a := main_cst_1) (y := main_v260) rfl (by decide +kernel) (by decide +kernel) V
theorem x_v261_eq : x_v261 V = shapeCast S17328 (x_v260 V) shapeCasts_S17328x1_S17328 := read_reshape pre_writes (i := 320) (a := main_v260) (y := main_v261) rfl (by decide +kernel) (by decide +kernel) V
theorem x_v262_eq : x_v262 V = extractStridedSlice S17328x1 ![0, 0] (x_cst_1 V) slices_S17328x4_S17328x1_0_0 := read_unary pre_writes (i := 321) (a := main_cst_1) (y := main_v262) rfl (by decide +kernel) (by decide +kernel) V
theorem x_v263_eq : x_v263 V = shapeCast S17328 (x_v262 V) shapeCasts_S17328x1_S17328 := read_reshape pre_writes (i := 322) (a := main_v262) (y := main_v263) rfl (by decide +kernel) (by decide +kernel) V
theorem x_v264_eq : x_v264 V = subf (x_v261 V) (x_v263 V) := read_binary pre_writes (i := 323) (a := main_v261) (b := main_v263) (y := main_v264) rfl (by decide +kernel) (by decide +kernel) (by decide +kernel) V
theorem x_v265_eq : x_v265 V = extractStridedSlice S17328x1 ![0, 3] (x_cst_1 V) slices_S17328x4_S17328x1_0_3 := read_unary pre_writes (i := 324) (a := main_cst_1) (y := main_v265) rfl (by decide +kernel) (by decide +kernel) V
theorem x_v266_eq : x_v266 V = shapeCast S17328 (x_v265 V) shapeCasts_S17328x1_S17328 := read_reshape pre_writes (i := 325) (a := main_v265) (y := main_v266) rfl (by decide +kernel) (by decide +kernel) V
theorem x_v267_eq : x_v267 V = extractStridedSlice S17328x1 ![0, 1] (x_cst_1 V) slices_S17328x4_S17328x1_0_1 := read_unary pre_writes (i := 326) (a := main_cst_1) (y := main_v267) rfl (by decide +kernel) (by decide +kernel) V
theorem x_v268_eq : x_v268 V = shapeCast S17328 (x_v267 V) shapeCasts_S17328x1_S17328 := read_reshape pre_writes (i := 327) (a := main_v267) (y := main_v268) rfl (by decide +kernel) (by decide +kernel) V
theorem x_v269_eq : x_v269 V = subf (x_v266 V) (x_v268 V) := read_binary pre_writes (i := 328) (a := main_v266) (b := main_v268) (y := main_v269) rfl (by decide +kernel) (by decide +kernel) (by decide +kernel) V
theorem x_v270_eq : x_v270 V = extractStridedSlice S17328x1 ![0, 0] (x_v245 V) slices_S17328x4_S17328x1_0_0 := read_unary pre_writes (i := 329) (a := main_v245) (y := main_v270) rfl (by decide +kernel) (by decide +kernel) V
theorem x_v271_eq : x_v271 V = shapeCast S17328 (x_v270 V) shapeCasts_S17328x1_S17328 := read_reshape pre_writes (i := 330) (a := main_v270) (y := main_v271) rfl (by decide +kernel) (by decide +kernel) V
theorem x_cst_55_eq : x_cst_55 V = (constant S_ .f32 0x3F000000#32) := read_nullary pre_writes (i := 331) (y := main_cst_55) rfl (by decide +kernel) V
theorem x_v272_eq : x_v272 V = (broadcastInDim S17328 ![] bcast_S_S17328) (x_cst_55 V) := read_unary pre_writes (i := 332) (a := main_cst_55) (y := main_v272) rfl (by decide +kernel) (by decide +kernel) V
theorem x_v273_eq : x_v273 V = subf (x_v271 V) (x_v272 V) := read_binary pre_writes (i := 333) (a := main_v271) (b := main_v272) (y := main_v273) rfl (by decide +kernel) (by decide +kernel) (by decide +kernel) V
theorem x_cst_56_eq : x_cst_56 V = (constant S_ .f32 0x41000000#32) := read_nullary pre_writes (i := 334) (y := main_cst_56) rfl (by decide +kernel) V
theorem x_v274_eq : x_v274 V = (broadcastInDim S17328 ![] bcast_S_S17328) (x_cst_56 V) := read_unary pre_writes (i := 335) (a := main_cst_56) (y := main_v274) rfl (by decide +kernel) (by decide +kernel) V
theorem x_v275_eq : x_v275 V = mulf (x_v273 V) (x_v274 V) := read_binary pre_writes (i := 336) (a := main_v273) (b := main_v274) (y := main_v275) rfl (by decide +kernel) (by decide +kernel) (by decide +kernel) V
theorem x_v276_eq : x_v276 V = addf (x_v275 V) (x_v252 V) := read_binary pre_writes (i := 337) (a := main_v275) (b := main_v252) (y := main_v276) rfl (by decide +kernel) (by decide +kernel) (by decide +kernel) V
theorem x_v277_eq : x_v277 V = extractStridedSlice S17328x1 ![0, 1] (x_v245 V) slices_S17328x4_S17328x1_0_1 := read_unary pre_writes (i := 338) (a := main_v245) (y := main_v277) rfl (by decide +kernel) (by decide +kernel) V
theorem x_v278_eq : x_v278 V = shapeCast S17328 (x_v277 V) shapeCasts_S17328x1_S17328 := read_reshape pre_writes (i := 339) (a := main_v277) (y := main_v278) rfl (by decide +kernel) (by decide +kernel) V
theorem x_cst_57_eq : x_cst_57 V = (constant S_ .f32 0x3F000000#32) := read_nullary pre_writes (i := 340) (y := main_cst_57) rfl (by decide +kernel) V
theorem x_v279_eq : x_v279 V = (broadcastInDim S17328 ![] bcast_S_S17328) (x_cst_57 V) := read_unary pre_writes (i := 341) (a := main_cst_57) (y := main_v279) rfl (by decide +kernel) (by decide +kernel) V
theorem x_v280_eq : x_v280 V = subf (x_v278 V) (x_v279 V) := read_binary pre_writes (i := 342) (a := main_v278) (b := main_v279) (y := main_v280) rfl (by decide +kernel) (by decide +kernel) (by decide +kernel) V
theorem x_cst_58_eq : x_cst_58 V = (constant S_ .f32 0x41000000#32) := read_nullary pre_writes (i := 343) (y := main_cst_58) rfl (by decide +kernel) V
theorem x_v281_eq : x_v281 V = (broadcastInDim S17328 ![] bcast_S_S17328) (x_cst_58 V) := read_unary pre_writes (i := 344) (a := main_cst_58) (y := main_v281) rfl (by decide +kernel) (by decide +kernel) V
theorem x_v282_eq : x_v282 V = mulf (x_v280 V) (x_v281 V) := read_binary pre_writes (i := 345) (a := main_v280) (b := main_v281) (y := main_v282) rfl (by decide +kernel) (by decide +kernel) (by decide +kernel) V
theorem x_v283_eq : x_v283 V = addf (x_v282 V) (x_v259 V) := read_binary pre_writes (i := 346) (a := main_v282) (b := main_v259) (y := main_v283) rfl (by decide +kernel) (by decide +kernel) (by decide +kernel) V
theorem x_v284_eq : x_v284 V = extractStridedSlice S17328x1 ![0, 2] (x_v245 V) slices_S17328x4_S17328x1_0_2 := read_unary pre_writes (i := 347) (a := main_v245) (y := main_v284) rfl (by decide +kernel) (by decide +kernel) V
theorem x_v285_eq : x_v285 V = shapeCast S17328 (x_v284 V) shapeCasts_S17328x1_S17328 := read_reshape pre_writes (i := 348) (a := main_v284) (y := main_v285) rfl (by decide +kernel) (by decide +kernel) V
theorem x_v286_eq : x_v286 V = Host.exp (x_v285 V) := read_unary pre_writes (i := 349) (a := main_v285) (y := main_v286) rfl (by decide +kernel) (by decide +kernel) V
theorem x_v287_eq : x_v287 V = mulf (x_v286 V) (x_v264 V) := read_binary pre_writes (i := 350) (a := main_v286) (b := main_v264) (y := main_v287) rfl (by decide +kernel) (by decide +kernel) (by decide +kernel) V
theorem x_v288_eq : x_v288 V = extractStridedSlice S17328x1 ![0, 3] (x_v245 V) slices_S17328x4_S17328x1_0_3 := read_unary pre_writes (i := 351) (a := main_v245) (y := main_v288) rfl (by decide +kernel) (by decide +kernel) V
theorem x_v289_eq : x_v289 V = shapeCast S17328 (x_v288 V) shapeCasts_S17328x1_S17328 := read_reshape pre_writes (i := 352) (a := main_v288) (y := main_v289) rfl (by decide +kernel) (by decide +kernel) V
theorem x_v290_eq : x_v290 V = Host.exp (x_v289 V) := read_unary pre_writes (i := 353) (a := main_v289) (y := main_v290) rfl (by decide +kernel) (by decide +kernel) V
theorem x_v291_eq : x_v291 V = mulf (x_v290 V) (x_v269 V) := read_binary pre_writes (i := 354) (a := main_v290) (b := main_v269) (y := main_v291) rfl (by decide +kernel) (by decide +kernel) (by decide +kernel) V
theorem x_cst_59_eq : x_cst_59 V = (constant S_ .f32 0x3F000000#32) := read_nullary pre_writes (i := 355) (y := main_cst_59) rfl (by decide +kernel) V
theorem x_v292_eq : x_v292 V = (broadcastInDim S17328 ![] bcast_S_S17328) (x_cst_59 V) := read_unary pre_writes (i := 356) (a := main_cst_59) (y := main_v292) rfl (by decide +kernel) (by decide +kernel) V
theorem x_v293_eq : x_v293 V = mulf (x_v287 V) (x_v292 V) := read_binary pre_writes (i := 357) (a := main_v287) (b := main_v292) (y := main_v293) rfl (by decide +kernel) (by decide +kernel) (by decide +kernel) V
theorem x_v294_eq : x_v294 V = subf (x_v276 V) (x_v293 V) := read_binary pre_writes (i := 358) (a := main_v276) (b := main_v293) (y := main_v294) rfl (by decide +kernel) (by decide +kernel) (by decide +kernel) V
theorem x_cst_60_eq : x_cst_60 V = (constant S_ .f32 0x3F000000#32) := read_nullary pre_writes (i := 359) (y := main_cst_60) rfl (by decide +kernel) V
theorem x_v295_eq : x_v295 V = (broadcastInDim S17328 ![] bcast_S_S17328) (x_cst_60 V) := read_unary pre_writes (i := 360) (a := main_cst_60) (y := main_v295) rfl (by decide +kernel) (by decide +kernel) V
theorem x_v296_eq : x_v296 V = mulf (x_v291 V) (x_v295 V) := read_binary pre_writes (i := 361) (a := main_v291) (b := main_v295) (y := main_v296) rfl (by decide +kernel) (by decide +kernel) (by decide +kernel) V
theorem x_v297_eq : x_v297 V = subf (x_v283 V) (x_v296 V) := read_binary pre_writes (i := 362) (a := main_v283) (b := main_v296) (y := main_v297) rfl (by decide +kernel) (by decide +kernel) (by decide +kernel) V
theorem x_cst_61_eq : x_cst_61 V = (constant S_ .f32 0x3F000000#32) := read_nullary pre_writes (i := 363) (y := main_cst_61) rfl (by decide +kernel) V
theorem x_v298_eq : x_v298 V = (broadcastInDim S17328 ![] bcast_S_S17328) (x_cst_61 V) := read_unary pre_writes (i := 364) (a := main_cst_61) (y := main_v298) rfl (by decide +kernel) (by decide +kernel) V
theorem x_v299_eq : x_v299 V = mulf (x_v287 V) (x_v298 V) := read_binary pre_writes (i := 365) (a := main_v287) (b := main_v298) (y := main_v299) rfl (by decide +kernel) (by decide +kernel) (by decide +kernel) V
theorem x_v300_eq : x_v300 V = addf (x_v276 V) (x_v299 V) := read_binary pre_writes (i := 366) (a := main_v276) (b := main_v299) (y := main_v300) rfl (by decide +kernel) (by decide +kernel) (by decide +kernel) V
theorem x_cst_62_eq : x_cst_62 V = (constant S_ .f32 0x3F000000#32) := read_nullary pre_writes (i := 367) (y := main_cst_62) rfl (by decide +kernel) V
theorem x_v301_eq : x_v301 V = (broadcastInDim S17328 ![] bcast_S_S17328) (x_cst_62 V) := read_unary pre_writes (i := 368) (a := main_cst_62) (y := main_v301) rfl (by decide +kernel) (by decide +kernel) V
theorem x_v302_eq : x_v302 V = mulf (x_v291 V) (x_v301 V) := read_binary pre_writes (i := 369) (a := main_v291) (b := main_v301) (y := main_v302) rfl (by decide +kernel) (by decide +kernel) (by decide +kernel) V
theorem x_v303_eq : x_v303 V = addf (x_v283 V) (x_v302 V) := read_binary pre_writes (i := 370) (a := main_v283) (b := main_v302) (y := main_v303) rfl (by decide +kernel) (by decide +kernel) (by decide +kernel) V
theorem x_v304_eq : x_v304 V = (broadcastInDim S17328x1 ![0] bcast_S17328_S17328x1_0) (x_v294 V) := read_unary pre_writes (i := 371) (a := main_v294) (y := main_v304) rfl (by decide +kernel) (by decide +kernel) V
theorem x_v305_eq : x_v305 V = (broadcastInDim S17328x1 ![0] bcast_S17328_S17328x1_0) (x_v297 V) := read_unary pre_writes (i := 372) (a := main_v297) (y := main_v305) rfl (by decide +kernel) (by decide +kernel) V
theorem x_v306_eq : x_v306 V = (broadcastInDim S17328x1 ![0] bcast_S17328_S17328x1_0) (x_v300 V) := read_unary pre_writes (i := 373) (a := main_v300) (y := main_v306) rfl (by decide +kernel) (by decide +kernel) V
theorem x_v307_eq : x_v307 V = (broadcastInDim S17328x1 ![0] bcast_S17328_S17328x1_0) (x_v303 V) := read_unary pre_writes (i := 374) (a := main_v303) (y := main_v307) rfl (by decide +kernel) (by decide +kernel) V

end Cert.ReferenceIdeal.Pf

end
-- ==== Proof.RfPreD.lean ====
/-
  The reference before its loop, one operation at a time.
  What each operation says of its buffer.
-/
module

public import proofs.«01_k».proof.Proof.RfPre

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

variable (V : Valuation τ sig (Elt F))

theorem x_v308_eq : x_v308 V = concatenate S17328x4 1 [⟨S17328x1, x_v304 V⟩, ⟨S17328x1, x_v305 V⟩, ⟨S17328x1, x_v306 V⟩, ⟨S17328x1, x_v307 V⟩] concatenates_S17328x1_S17328x1_S17328x1_S17328x1_S17328x4_d1 := read_nary pre_writes (i := 375) (y := main_v308) rfl (by decide +kernel) (by decide +kernel) V
theorem x_v309_eq : x_v309 V = extractStridedSlice S17328x1 ![0, 4] (x_v230 V) slices_S17328x85_S17328x1_0_4 := read_unary pre_writes (i := 376) (a := main_v230) (y := main_v309) rfl (by decide +kernel) (by decide +kernel) V
theorem x_v310_eq : x_v310 V = shapeCast S17328 (x_v309 V) shapeCasts_S17328x1_S17328 := read_reshape pre_writes (i := 377) (a := main_v309) (y := main_v310) rfl (by decide +kernel) (by decide +kernel) V
theorem x_v311_eq : x_v311 V = Host.negf (x_v310 V) := read_unary pre_writes (i := 378) (a := main_v310) (y := main_v311) rfl (by decide +kernel) (by decide +kernel) V
theorem x_v312_eq : x_v312 V = Host.exp (x_v311 V) := read_unary pre_writes (i := 379) (a := main_v311) (y := main_v312) rfl (by decide +kernel) (by decide +kernel) V
theorem x_cst_63_eq : x_cst_63 V = (constant S_ .f32 0x3F800000#32) := read_nullary pre_writes (i := 380) (y := main_cst_63) rfl (by decide +kernel) V
theorem x_v313_eq : x_v313 V = (broadcastInDim S17328 ![] bcast_S_S17328) (x_cst_63 V) := read_unary pre_writes (i := 381) (a := main_cst_63) (y := main_v313) rfl (by decide +kernel) (by decide +kernel) V
theorem x_v314_eq : x_v314 V = addf (x_v313 V) (x_v312 V) := read_binary pre_writes (i := 382) (a := main_v313) (b := main_v312) (y := main_v314) rfl (by decide +kernel) (by decide +kernel) (by decide +kernel) V
theorem x_cst_64_eq : x_cst_64 V = (constant S_ .f32 0x3F800000#32) := read_nullary pre_writes (i := 383) (y := main_cst_64) rfl (by decide +kernel) V
theorem x_v315_eq : x_v315 V = (broadcastInDim S17328 ![] bcast_S_S17328) (x_cst_64 V) := read_unary pre_writes (i := 384) (a := main_cst_64) (y := main_v315) rfl (by decide +kernel) (by decide +kernel) V
theorem x_v316_eq : x_v316 V = Host.divf (x_v315 V) (x_v314 V) := read_binary pre_writes (i := 385) (a := main_v315) (b := main_v314) (y := main_v316) rfl (by decide +kernel) (by decide +kernel) (by decide +kernel) V
theorem x_v317_eq : x_v317 V = extractStridedSlice S17328x80 ![0, 5] (x_v230 V) slices_S17328x85_S17328x80_0_5 := read_unary pre_writes (i := 386) (a := main_v230) (y := main_v317) rfl (by decide +kernel) (by decide +kernel) V
theorem x_v318_eq : x_v318 V = Host.negf (x_v317 V) := read_unary pre_writes (i := 387) (a := main_v317) (y := main_v318) rfl (by decide +kernel) (by decide +kernel) V
theorem x_v319_eq : x_v319 V = Host.exp (x_v318 V) := read_unary pre_writes (i := 388) (a := main_v318) (y := main_v319) rfl (by decide +kernel) (by decide +kernel) V
theorem x_cst_65_eq : x_cst_65 V = (constant S_ .f32 0x3F800000#32) := read_nullary pre_writes (i := 389) (y := main_cst_65) rfl (by decide +kernel) V
theorem x_v320_eq : x_v320 V = (broadcastInDim S17328x80 ![] bcast_S_S17328x80) (x_cst_65 V) := read_unary pre_writes (i := 390) (a := main_cst_65) (y := main_v320) rfl (by decide +kernel) (by decide +kernel) V
theorem x_v321_eq : x_v321 V = addf (x_v320 V) (x_v319 V) := read_binary pre_writes (i := 391) (a := main_v320) (b := main_v319) (y := main_v321) rfl (by decide +kernel) (by decide +kernel) (by decide +kernel) V
theorem x_cst_66_eq : x_cst_66 V = (constant S_ .f32 0x3F800000#32) := read_nullary pre_writes (i := 392) (y := main_cst_66) rfl (by decide +kernel) V
theorem x_v322_eq : x_v322 V = (broadcastInDim S17328x80 ![] bcast_S_S17328x80) (x_cst_66 V) := read_unary pre_writes (i := 393) (a := main_cst_66) (y := main_v322) rfl (by decide +kernel) (by decide +kernel) V
theorem x_v323_eq : x_v323 V = Host.divf (x_v322 V) (x_v321 V) := read_binary pre_writes (i := 394) (a := main_v322) (b := main_v321) (y := main_v323) rfl (by decide +kernel) (by decide +kernel) (by decide +kernel) V
theorem x_values_67_eq : x_values_67 V = (Host.topK S1000 0 (FloatOps.cmpfTotal .gt) (x_v316 V) sliceFits_S17328_S1000).1 := read_unary pre_writes (i := 395) (a := main_v316) (y := main_values_67) rfl (by decide +kernel) (by decide +kernel) V
theorem x_indices_68_eq : x_indices_68 V = (Host.topK S1000 0 (FloatOps.cmpfTotal .gt) (x_v316 V) sliceFits_S17328_S1000).2 := read_unary pre_writes (i := 396) (a := main_v316) (y := main_indices_68) rfl (by decide +kernel) (by decide +kernel) V
theorem x_c_69_eq : x_c_69 V = (constantI S_ 32 0#32) := read_nullary pre_writes (i := 397) (y := main_c_69) rfl (by decide +kernel) V
theorem x_v324_eq : x_v324 V = (broadcastInDim S1000 ![] bcast_S_S1000) (x_c_69 V) := read_unary pre_writes (i := 398) (a := main_c_69) (y := main_v324) rfl (by decide +kernel) (by decide +kernel) V
theorem x_v325_eq : x_v325 V = (cmpi .slt) (x_indices_68 V) (x_v324 V) := read_binary pre_writes (i := 399) (a := main_indices_68) (b := main_v324) (y := main_v325) rfl (by decide +kernel) (by decide +kernel) (by decide +kernel) V
theorem x_c_70_eq : x_c_70 V = (constantI S_ 32 17328#32) := read_nullary pre_writes (i := 400) (y := main_c_70) rfl (by decide +kernel) V
theorem x_v326_eq : x_v326 V = (broadcastInDim S1000 ![] bcast_S_S1000) (x_c_70 V) := read_unary pre_writes (i := 401) (a := main_c_70) (y := main_v326) rfl (by decide +kernel) (by decide +kernel) V
theorem x_v327_eq : x_v327 V = addi (x_indices_68 V) (x_v326 V) := read_binary pre_writes (i := 402) (a := main_indices_68) (b := main_v326) (y := main_v327) rfl (by decide +kernel) (by decide +kernel) (by decide +kernel) V
theorem x_v328_eq : x_v328 V = select (x_v325 V) (x_v327 V) (x_indices_68 V) := read_ternary pre_writes (i := 403) (c := main_v325) (a := main_v327) (b := main_indices_68) (y := main_v328) rfl (by decide +kernel) (by decide +kernel) (by decide +kernel) (by decide +kernel) V
theorem x_v329_eq : x_v329 V = (broadcastInDim S1000x1 ![0] bcast_S1000_S1000x1_0) (x_v328 V) := read_unary pre_writes (i := 404) (a := main_v328) (y := main_v329) rfl (by decide +kernel) (by decide +kernel) V
theorem x_v330_eq : x_v330 V = Host.gather gather_S17328x4_S1000x1_S1000x4_1_0_n_n_0_1_14 (x_v308 V) (x_v329 V) := read_binary pre_writes (i := 405) (a := main_v308) (b := main_v329) (y := main_v330) rfl (by decide +kernel) (by decide +kernel) (by decide +kernel) V
theorem x_c_71_eq : x_c_71 V = (constantI S_ 32 0#32) := read_nullary pre_writes (i := 406) (y := main_c_71) rfl (by decide +kernel) V
theorem x_v331_eq : x_v331 V = (broadcastInDim S1000 ![] bcast_S_S1000) (x_c_71 V) := read_unary pre_writes (i := 407) (a := main_c_71) (y := main_v331) rfl (by decide +kernel) (by decide +kernel) V
theorem x_v332_eq : x_v332 V = (cmpi .slt) (x_indices_68 V) (x_v331 V) := read_binary pre_writes (i := 408) (a := main_indices_68) (b := main_v331) (y := main_v332) rfl (by decide +kernel) (by decide +kernel) (by decide +kernel) V
theorem x_c_72_eq : x_c_72 V = (constantI S_ 32 17328#32) := read_nullary pre_writes (i := 409) (y := main_c_72) rfl (by decide +kernel) V
theorem x_v333_eq : x_v333 V = (broadcastInDim S1000 ![] bcast_S_S1000) (x_c_72 V) := read_unary pre_writes (i := 410) (a := main_c_72) (y := main_v333) rfl (by decide +kernel) (by decide +kernel) V
theorem x_v334_eq : x_v334 V = addi (x_indices_68 V) (x_v333 V) := read_binary pre_writes (i := 411) (a := main_indices_68) (b := main_v333) (y := main_v334) rfl (by decide +kernel) (by decide +kernel) (by decide +kernel) V
theorem x_v335_eq : x_v335 V = select (x_v332 V) (x_v334 V) (x_indices_68 V) := read_ternary pre_writes (i := 412) (c := main_v332) (a := main_v334) (b := main_indices_68) (y := main_v335) rfl (by decide +kernel) (by decide +kernel) (by decide +kernel) (by decide +kernel) V
theorem x_v336_eq : x_v336 V = (broadcastInDim S1000x1 ![0] bcast_S1000_S1000x1_0) (x_v335 V) := read_unary pre_writes (i := 413) (a := main_v335) (y := main_v336) rfl (by decide +kernel) (by decide +kernel) V
theorem x_v337_eq : x_v337 V = Host.gather gather_S17328x80_S1000x1_S1000x80_1_0_n_n_0_1_180 (x_v323 V) (x_v336 V) := read_binary pre_writes (i := 414) (a := main_v323) (b := main_v336) (y := main_v337) rfl (by decide +kernel) (by decide +kernel) (by decide +kernel) V
theorem x_cst_73_eq : x_cst_73 V = (constant S_ .f32 0x3BA3D70A#32) := read_nullary pre_writes (i := 415) (y := main_cst_73) rfl (by decide +kernel) V
theorem x_v338_eq : x_v338 V = (broadcastInDim S1000 ![] bcast_S_S1000) (x_cst_73 V) := read_unary pre_writes (i := 416) (a := main_cst_73) (y := main_v338) rfl (by decide +kernel) (by decide +kernel) V
theorem x_v339_eq : x_v339 V = (cmpf .oge) (x_values_67 V) (x_v338 V) := read_binary pre_writes (i := 417) (a := main_values_67) (b := main_v338) (y := main_v339) rfl (by decide +kernel) (by decide +kernel) (by decide +kernel) V
theorem x_v340_eq : x_v340 V = (uitofp .f32) (x_v339 V) := read_unary pre_writes (i := 418) (a := main_v339) (y := main_v340) rfl (by decide +kernel) (by decide +kernel) V
theorem x_v341_eq : x_v341 V = mulf (x_values_67 V) (x_v340 V) := read_binary pre_writes (i := 419) (a := main_values_67) (b := main_v340) (y := main_v341) rfl (by decide +kernel) (by decide +kernel) (by decide +kernel) V
theorem x_v342_eq : x_v342 V = concatenate S3000x4 0 [⟨S1000x4, x_v104 V⟩, ⟨S1000x4, x_v217 V⟩, ⟨S1000x4, x_v330 V⟩] concatenates_S1000x4_S1000x4_S1000x4_S3000x4_d0 := read_nary pre_writes (i := 420) (y := main_v342) rfl (by decide +kernel) (by decide +kernel) V
theorem x_v343_eq : x_v343 V = concatenate S3000x80 0 [⟨S1000x80, x_v111 V⟩, ⟨S1000x80, x_v224 V⟩, ⟨S1000x80, x_v337 V⟩] concatenates_S1000x80_S1000x80_S1000x80_S3000x80_d0 := read_nary pre_writes (i := 421) (y := main_v343) rfl (by decide +kernel) (by decide +kernel) V
theorem x_v344_eq : x_v344 V = concatenate S3000 0 [⟨S1000, x_v115 V⟩, ⟨S1000, x_v228 V⟩, ⟨S1000, x_v341 V⟩] concatenates_S1000_S1000_S1000_S3000_d0 := read_nary pre_writes (i := 422) (y := main_v344) rfl (by decide +kernel) (by decide +kernel) V
theorem x_v345_eq : x_v345 V = (broadcastInDim S3000x1 ![0] bcast_S3000_S3000x1_0) (x_v344 V) := read_unary pre_writes (i := 423) (a := main_v344) (y := main_v345) rfl (by decide +kernel) (by decide +kernel) V
theorem x_v346_eq : x_v346 V = (broadcastInDim S3000x80 ![0, 1] bcast_S3000x1_S3000x80_0_1) (x_v345 V) := read_unary pre_writes (i := 424) (a := main_v345) (y := main_v346) rfl (by decide +kernel) (by decide +kernel) V
theorem x_v347_eq : x_v347 V = mulf (x_v343 V) (x_v346 V) := read_binary pre_writes (i := 425) (a := main_v343) (b := main_v346) (y := main_v347) rfl (by decide +kernel) (by decide +kernel) (by decide +kernel) V
theorem x_cst_74_eq : x_cst_74 V = (constant S_ .f32 0x3D4CCCCD#32) := read_nullary pre_writes (i := 426) (y := main_cst_74) rfl (by decide +kernel) V
theorem x_v348_eq : x_v348 V = (broadcastInDim S3000x80 ![] bcast_S_S3000x80) (x_cst_74 V) := read_unary pre_writes (i := 427) (a := main_cst_74) (y := main_v348) rfl (by decide +kernel) (by decide +kernel) V
theorem x_v349_eq : x_v349 V = (cmpf .ogt) (x_v347 V) (x_v348 V) := read_binary pre_writes (i := 428) (a := main_v347) (b := main_v348) (y := main_v349) rfl (by decide +kernel) (by decide +kernel) (by decide +kernel) V
theorem x_v350_eq : x_v350 V = (uitofp .f32) (x_v349 V) := read_unary pre_writes (i := 429) (a := main_v349) (y := main_v350) rfl (by decide +kernel) (by decide +kernel) V
theorem x_v351_eq : x_v351 V = mulf (x_v347 V) (x_v350 V) := read_binary pre_writes (i := 430) (a := main_v347) (b := main_v350) (y := main_v351) rfl (by decide +kernel) (by decide +kernel) (by decide +kernel) V
theorem x_v352_eq : x_v352 V = shapeCast S240000 (x_v351 V) shapeCasts_S3000x80_S240000 := read_reshape pre_writes (i := 431) (a := main_v351) (y := main_v352) rfl (by decide +kernel) (by decide +kernel) V
theorem x_values_75_eq : x_values_75 V = (Host.topK S2000 0 (FloatOps.cmpfTotal .gt) (x_v352 V) sliceFits_S240000_S2000).1 := read_unary pre_writes (i := 432) (a := main_v352) (y := main_values_75) rfl (by decide +kernel) (by decide +kernel) V
theorem x_indices_76_eq : x_indices_76 V = (Host.topK S2000 0 (FloatOps.cmpfTotal .gt) (x_v352 V) sliceFits_S240000_S2000).2 := read_unary pre_writes (i := 433) (a := main_v352) (y := main_indices_76) rfl (by decide +kernel) (by decide +kernel) V
theorem x_c_77_eq : x_c_77 V = (constantI S_ 32 80#32) := read_nullary pre_writes (i := 434) (y := main_c_77) rfl (by decide +kernel) V
theorem x_call0_v0_eq : x_call0_v0 V = id (x_c_77 V) := eq_of_heq (read_tunary pre_writes (i := 435) (xa := TRef.of (T := ⟨S_, .i32⟩) main_c_77) (xy := TRef.of (T := ⟨S_, .i32⟩) main_call0_v0) (A := x_c_77 V) id rfl (by decide +kernel) (by decide +kernel) V HEq.rfl)
theorem x_call0_v1_eq : x_call0_v1 V = (broadcastInDim S2000 ![] bcast_S_S2000) (x_call0_v0 V) := eq_of_heq (read_tunary pre_writes (i := 436) (xa := TRef.of (T := ⟨S_, .i32⟩) main_call0_v0) (xy := TRef.of (T := ⟨S2000, .i32⟩) main_call0_v1) (A := x_call0_v0 V) (broadcastInDim S2000 ![] bcast_S_S2000) rfl (by decide +kernel) (by decide +kernel) V HEq.rfl)
theorem x_call0_v2_eq : x_call0_v2 V = Host.divsi (x_indices_76 V) (x_call0_v1 V) := eq_of_heq (read_tbinary pre_writes (i := 437) (xa := TRef.of (T := ⟨S2000, .i32⟩) main_indices_76) (xb := TRef.of (T := ⟨S2000, .i32⟩) main_call0_v1) (xy := TRef.of (T := ⟨S2000, .i32⟩) main_call0_v2) (A := x_indices_76 V) (B := x_call0_v1 V) Host.divsi rfl (by decide +kernel) (by decide +kernel) (by decide +kernel) V HEq.rfl HEq.rfl)
theorem x_call0_v3_eq : x_call0_v3 V = signi (x_indices_76 V) := eq_of_heq (read_tunary pre_writes (i := 438) (xa := TRef.of (T := ⟨S2000, .i32⟩) main_indices_76) (xy := TRef.of (T := ⟨S2000, .i32⟩) main_call0_v3) (A := x_indices_76 V) signi rfl (by decide +kernel) (by decide +kernel) V HEq.rfl)
theorem x_call0_v4_eq : x_call0_v4 V = signi (x_call0_v0 V) := eq_of_heq (read_tunary pre_writes (i := 439) (xa := TRef.of (T := ⟨S_, .i32⟩) main_call0_v0) (xy := TRef.of (T := ⟨S_, .i32⟩) main_call0_v4) (A := x_call0_v0 V) signi rfl (by decide +kernel) (by decide +kernel) V HEq.rfl)
theorem x_call0_v5_eq : x_call0_v5 V = (broadcastInDim S2000 ![] bcast_S_S2000) (x_call0_v4 V) := eq_of_heq (read_tunary pre_writes (i := 440) (xa := TRef.of (T := ⟨S_, .i32⟩) main_call0_v4) (xy := TRef.of (T := ⟨S2000, .i32⟩) main_call0_v5) (A := x_call0_v4 V) (broadcastInDim S2000 ![] bcast_S_S2000) rfl (by decide +kernel) (by decide +kernel) V HEq.rfl)
theorem x_call0_v6_eq : x_call0_v6 V = (cmpi .ne) (x_call0_v3 V) (x_call0_v5 V) := eq_of_heq (read_tbinary pre_writes (i := 441) (xa := TRef.of (T := ⟨S2000, .i32⟩) main_call0_v3) (xb := TRef.of (T := ⟨S2000, .i32⟩) main_call0_v5) (xy := TRef.of (T := ⟨S2000, .i1⟩) main_call0_v6) (A := x_call0_v3 V) (B := x_call0_v5 V) (cmpi .ne) rfl (by decide +kernel) (by decide +kernel) (by decide +kernel) V HEq.rfl HEq.rfl)
theorem x_call0_v7_eq : x_call0_v7 V = (broadcastInDim S2000 ![] bcast_S_S2000) (x_call0_v0 V) := eq_of_heq (read_tunary pre_writes (i := 442) (xa := TRef.of (T := ⟨S_, .i32⟩) main_call0_v0) (xy := TRef.of (T := ⟨S2000, .i32⟩) main_call0_v7) (A := x_call0_v0 V) (broadcastInDim S2000 ![] bcast_S_S2000) rfl (by decide +kernel) (by decide +kernel) V HEq.rfl)
theorem x_call0_v8_eq : x_call0_v8 V = Host.remsi (x_indices_76 V) (x_call0_v7 V) := eq_of_heq (read_tbinary pre_writes (i := 443) (xa := TRef.of (T := ⟨S2000, .i32⟩) main_indices_76) (xb := TRef.of (T := ⟨S2000, .i32⟩) main_call0_v7) (xy := TRef.of (T := ⟨S2000, .i32⟩) main_call0_v8) (A := x_indices_76 V) (B := x_call0_v7 V) Host.remsi rfl (by decide +kernel) (by decide +kernel) (by decide +kernel) V HEq.rfl HEq.rfl)
theorem x_call0_c_eq : x_call0_c V = (constantI S_ 32 0#32) := read_nullary pre_writes (i := 444) (y := main_call0_c) rfl (by decide +kernel) V
theorem x_call0_v9_eq : x_call0_v9 V = (broadcastInDim S2000 ![] bcast_S_S2000) (x_call0_c V) := eq_of_heq (read_tunary pre_writes (i := 445) (xa := TRef.of (T := ⟨S_, .i32⟩) main_call0_c) (xy := TRef.of (T := ⟨S2000, .i32⟩) main_call0_v9) (A := x_call0_c V) (broadcastInDim S2000 ![] bcast_S_S2000) rfl (by decide +kernel) (by decide +kernel) V HEq.rfl)
theorem x_call0_v10_eq : x_call0_v10 V = (cmpi .ne) (x_call0_v8 V) (x_call0_v9 V) := eq_of_heq (read_tbinary pre_writes (i := 446) (xa := TRef.of (T := ⟨S2000, .i32⟩) main_call0_v8) (xb := TRef.of (T := ⟨S2000, .i32⟩) main_call0_v9) (xy := TRef.of (T := ⟨S2000, .i1⟩) main_call0_v10) (A := x_call0_v8 V) (B := x_call0_v9 V) (cmpi .ne) rfl (by decide +kernel) (by decide +kernel) (by decide +kernel) V HEq.rfl HEq.rfl)
theorem x_call0_v11_eq : x_call0_v11 V = andi (x_call0_v6 V) (x_call0_v10 V) := eq_of_heq (read_tbinary pre_writes (i := 447) (xa := TRef.of (T := ⟨S2000, .i1⟩) main_call0_v6) (xb := TRef.of (T := ⟨S2000, .i1⟩) main_call0_v10) (xy := TRef.of (T := ⟨S2000, .i1⟩) main_call0_v11) (A := x_call0_v6 V) (B := x_call0_v10 V) andi rfl (by decide +kernel) (by decide +kernel) (by decide +kernel) V HEq.rfl HEq.rfl)
theorem x_call0_c_0_eq : x_call0_c_0 V = (constantI S_ 32 1#32) := read_nullary pre_writes (i := 448) (y := main_call0_c_0) rfl (by decide +kernel) V
theorem x_call0_v12_eq : x_call0_v12 V = (broadcastInDim S2000 ![] bcast_S_S2000) (x_call0_c_0 V) := eq_of_heq (read_tunary pre_writes (i := 449) (xa := TRef.of (T := ⟨S_, .i32⟩) main_call0_c_0) (xy := TRef.of (T := ⟨S2000, .i32⟩) main_call0_v12) (A := x_call0_c_0 V) (broadcastInDim S2000 ![] bcast_S_S2000) rfl (by decide +kernel) (by decide +kernel) V HEq.rfl)
theorem x_call0_v13_eq : x_call0_v13 V = subi (x_call0_v2 V) (x_call0_v12 V) := eq_of_heq (read_tbinary pre_writes (i := 450) (xa := TRef.of (T := ⟨S2000, .i32⟩) main_call0_v2) (xb := TRef.of (T := ⟨S2000, .i32⟩) main_call0_v12) (xy := TRef.of (T := ⟨S2000, .i32⟩) main_call0_v13) (A := x_call0_v2 V) (B := x_call0_v12 V) subi rfl (by decide +kernel) (by decide +kernel) (by decide +kernel) V HEq.rfl HEq.rfl)
theorem x_v353_eq : x_v353 V = select (x_call0_v11 V) (x_call0_v13 V) (x_call0_v2 V) := eq_of_heq (read_tternary pre_writes (i := 451) (xc := TRef.of (T := ⟨S2000, .i1⟩) main_call0_v11) (xa := TRef.of (T := ⟨S2000, .i32⟩) main_call0_v13) (xb := TRef.of (T := ⟨S2000, .i32⟩) main_call0_v2) (xy := TRef.of (T := ⟨S2000, .i32⟩) main_v353) (C := x_call0_v11 V) (A := x_call0_v13 V) (B := x_call0_v2 V) select rfl (by decide +kernel) (by decide +kernel) (by decide +kernel) (by decide +kernel) V HEq.rfl HEq.rfl HEq.rfl)
theorem x_c_78_eq : x_c_78 V = (constantI S_ 32 80#32) := read_nullary pre_writes (i := 452) (y := main_c_78) rfl (by decide +kernel) V
theorem x_call1_v0_eq : x_call1_v0 V = id (x_c_78 V) := eq_of_heq (read_tunary pre_writes (i := 453) (xa := TRef.of (T := ⟨S_, .i32⟩) main_c_78) (xy := TRef.of (T := ⟨S_, .i32⟩) main_call1_v0) (A := x_c_78 V) id rfl (by decide +kernel) (by decide +kernel) V HEq.rfl)
theorem x_call1_c_eq : x_call1_c V = (constantI S_ 32 0#32) := read_nullary pre_writes (i := 454) (y := main_call1_c) rfl (by decide +kernel) V
theorem x_call1_v1_eq : x_call1_v1 V = (cmpi .eq) (x_call1_v0 V) (x_call1_c V) := eq_of_heq (read_tbinary pre_writes (i := 455) (xa := TRef.of (T := ⟨S_, .i32⟩) main_call1_v0) (xb := TRef.of (T := ⟨S_, .i32⟩) main_call1_c) (xy := TRef.of (T := ⟨S_, .i1⟩) main_call1_v1) (A := x_call1_v0 V) (B := x_call1_c V) (cmpi .eq) rfl (by decide +kernel) (by decide +kernel) (by decide +kernel) V HEq.rfl HEq.rfl)
theorem x_call1_c_0_eq : x_call1_c_0 V = (constantI S_ 32 1#32) := read_nullary pre_writes (i := 456) (y := main_call1_c_0) rfl (by decide +kernel) V
theorem x_call1_v2_eq : x_call1_v2 V = select (x_call1_v1 V) (x_call1_c_0 V) (x_call1_v0 V) := eq_of_heq (read_tternary pre_writes (i := 457) (xc := TRef.of (T := ⟨S_, .i1⟩) main_call1_v1) (xa := TRef.of (T := ⟨S_, .i32⟩) main_call1_c_0) (xb := TRef.of (T := ⟨S_, .i32⟩) main_call1_v0) (xy := TRef.of (T := ⟨S_, .i32⟩) main_call1_v2) (C := x_call1_v1 V) (A := x_call1_c_0 V) (B := x_call1_v0 V) select rfl (by decide +kernel) (by decide +kernel) (by decide +kernel) (by decide +kernel) V HEq.rfl HEq.rfl HEq.rfl)
theorem x_call1_v3_eq : x_call1_v3 V = (broadcastInDim S2000 ![] bcast_S_S2000) (x_call1_v2 V) := eq_of_heq (read_tunary pre_writes (i := 458) (xa := TRef.of (T := ⟨S_, .i32⟩) main_call1_v2) (xy := TRef.of (T := ⟨S2000, .i32⟩) main_call1_v3) (A := x_call1_v2 V) (broadcastInDim S2000 ![] bcast_S_S2000) rfl (by decide +kernel) (by decide +kernel) V HEq.rfl)
theorem x_call1_v4_eq : x_call1_v4 V = Host.remsi (x_indices_76 V) (x_call1_v3 V) := eq_of_heq (read_tbinary pre_writes (i := 459) (xa := TRef.of (T := ⟨S2000, .i32⟩) main_indices_76) (xb := TRef.of (T := ⟨S2000, .i32⟩) main_call1_v3) (xy := TRef.of (T := ⟨S2000, .i32⟩) main_call1_v4) (A := x_indices_76 V) (B := x_call1_v3 V) Host.remsi rfl (by decide +kernel) (by decide +kernel) (by decide +kernel) V HEq.rfl HEq.rfl)
theorem x_call1_c_1_eq : x_call1_c_1 V = (constantI S_ 32 0#32) := read_nullary pre_writes (i := 460) (y := main_call1_c_1) rfl (by decide +kernel) V
theorem x_call1_v5_eq : x_call1_v5 V = (broadcastInDim S2000 ![] bcast_S_S2000) (x_call1_c_1 V) := eq_of_heq (read_tunary pre_writes (i := 461) (xa := TRef.of (T := ⟨S_, .i32⟩) main_call1_c_1) (xy := TRef.of (T := ⟨S2000, .i32⟩) main_call1_v5) (A := x_call1_c_1 V) (broadcastInDim S2000 ![] bcast_S_S2000) rfl (by decide +kernel) (by decide +kernel) V HEq.rfl)
theorem x_call1_v6_eq : x_call1_v6 V = (cmpi .ne) (x_call1_v4 V) (x_call1_v5 V) := eq_of_heq (read_tbinary pre_writes (i := 462) (xa := TRef.of (T := ⟨S2000, .i32⟩) main_call1_v4) (xb := TRef.of (T := ⟨S2000, .i32⟩) main_call1_v5) (xy := TRef.of (T := ⟨S2000, .i1⟩) main_call1_v6) (A := x_call1_v4 V) (B := x_call1_v5 V) (cmpi .ne) rfl (by decide +kernel) (by decide +kernel) (by decide +kernel) V HEq.rfl HEq.rfl)
theorem x_call1_c_2_eq : x_call1_c_2 V = (constantI S_ 32 0#32) := read_nullary pre_writes (i := 463) (y := main_call1_c_2) rfl (by decide +kernel) V
theorem x_call1_v7_eq : x_call1_v7 V = (broadcastInDim S2000 ![] bcast_S_S2000) (x_call1_c_2 V) := eq_of_heq (read_tunary pre_writes (i := 464) (xa := TRef.of (T := ⟨S_, .i32⟩) main_call1_c_2) (xy := TRef.of (T := ⟨S2000, .i32⟩) main_call1_v7) (A := x_call1_c_2 V) (broadcastInDim S2000 ![] bcast_S_S2000) rfl (by decide +kernel) (by decide +kernel) V HEq.rfl)
theorem x_call1_v8_eq : x_call1_v8 V = (cmpi .slt) (x_call1_v4 V) (x_call1_v7 V) := eq_of_heq (read_tbinary pre_writes (i := 465) (xa := TRef.of (T := ⟨S2000, .i32⟩) main_call1_v4) (xb := TRef.of (T := ⟨S2000, .i32⟩) main_call1_v7) (xy := TRef.of (T := ⟨S2000, .i1⟩) main_call1_v8) (A := x_call1_v4 V) (B := x_call1_v7 V) (cmpi .slt) rfl (by decide +kernel) (by decide +kernel) (by decide +kernel) V HEq.rfl HEq.rfl)
theorem x_call1_c_3_eq : x_call1_c_3 V = (constantI S_ 32 0#32) := read_nullary pre_writes (i := 466) (y := main_call1_c_3) rfl (by decide +kernel) V
theorem x_call1_v9_eq : x_call1_v9 V = (cmpi .slt) (x_call1_v2 V) (x_call1_c_3 V) := eq_of_heq (read_tbinary pre_writes (i := 467) (xa := TRef.of (T := ⟨S_, .i32⟩) main_call1_v2) (xb := TRef.of (T := ⟨S_, .i32⟩) main_call1_c_3) (xy := TRef.of (T := ⟨S_, .i1⟩) main_call1_v9) (A := x_call1_v2 V) (B := x_call1_c_3 V) (cmpi .slt) rfl (by decide +kernel) (by decide +kernel) (by decide +kernel) V HEq.rfl HEq.rfl)
theorem x_call1_v10_eq : x_call1_v10 V = (broadcastInDim S2000 ![] bcast_S_S2000) (x_call1_v9 V) := eq_of_heq (read_tunary pre_writes (i := 468) (xa := TRef.of (T := ⟨S_, .i1⟩) main_call1_v9) (xy := TRef.of (T := ⟨S2000, .i1⟩) main_call1_v10) (A := x_call1_v9 V) (broadcastInDim S2000 ![] bcast_S_S2000) rfl (by decide +kernel) (by decide +kernel) V HEq.rfl)
theorem x_call1_v11_eq : x_call1_v11 V = (cmpi .ne) (x_call1_v8 V) (x_call1_v10 V) := eq_of_heq (read_tbinary pre_writes (i := 469) (xa := TRef.of (T := ⟨S2000, .i1⟩) main_call1_v8) (xb := TRef.of (T := ⟨S2000, .i1⟩) main_call1_v10) (xy := TRef.of (T := ⟨S2000, .i1⟩) main_call1_v11) (A := x_call1_v8 V) (B := x_call1_v10 V) (cmpi .ne) rfl (by decide +kernel) (by decide +kernel) (by decide +kernel) V HEq.rfl HEq.rfl)
theorem x_call1_v12_eq : x_call1_v12 V = andi (x_call1_v11 V) (x_call1_v6 V) := eq_of_heq (read_tbinary pre_writes (i := 470) (xa := TRef.of (T := ⟨S2000, .i1⟩) main_call1_v11) (xb := TRef.of (T := ⟨S2000, .i1⟩) main_call1_v6) (xy := TRef.of (T := ⟨S2000, .i1⟩) main_call1_v12) (A := x_call1_v11 V) (B := x_call1_v6 V) andi rfl (by decide +kernel) (by decide +kernel) (by decide +kernel) V HEq.rfl HEq.rfl)
theorem x_call1_v13_eq : x_call1_v13 V = (broadcastInDim S2000 ![] bcast_S_S2000) (x_call1_v2 V) := eq_of_heq (read_tunary pre_writes (i := 471) (xa := TRef.of (T := ⟨S_, .i32⟩) main_call1_v2) (xy := TRef.of (T := ⟨S2000, .i32⟩) main_call1_v13) (A := x_call1_v2 V) (broadcastInDim S2000 ![] bcast_S_S2000) rfl (by decide +kernel) (by decide +kernel) V HEq.rfl)
theorem x_call1_v14_eq : x_call1_v14 V = addi (x_call1_v4 V) (x_call1_v13 V) := eq_of_heq (read_tbinary pre_writes (i := 472) (xa := TRef.of (T := ⟨S2000, .i32⟩) main_call1_v4) (xb := TRef.of (T := ⟨S2000, .i32⟩) main_call1_v13) (xy := TRef.of (T := ⟨S2000, .i32⟩) main_call1_v14) (A := x_call1_v4 V) (B := x_call1_v13 V) addi rfl (by decide +kernel) (by decide +kernel) (by decide +kernel) V HEq.rfl HEq.rfl)
theorem x_v354_eq : x_v354 V = select (x_call1_v12 V) (x_call1_v14 V) (x_call1_v4 V) := eq_of_heq (read_tternary pre_writes (i := 473) (xc := TRef.of (T := ⟨S2000, .i1⟩) main_call1_v12) (xa := TRef.of (T := ⟨S2000, .i32⟩) main_call1_v14) (xb := TRef.of (T := ⟨S2000, .i32⟩) main_call1_v4) (xy := TRef.of (T := ⟨S2000, .i32⟩) main_v354) (C := x_call1_v12 V) (A := x_call1_v14 V) (B := x_call1_v4 V) select rfl (by decide +kernel) (by decide +kernel) (by decide +kernel) (by decide +kernel) V HEq.rfl HEq.rfl HEq.rfl)
theorem x_c_79_eq : x_c_79 V = (constantI S_ 32 0#32) := read_nullary pre_writes (i := 474) (y := main_c_79) rfl (by decide +kernel) V
theorem x_v355_eq : x_v355 V = (broadcastInDim S2000 ![] bcast_S_S2000) (x_c_79 V) := read_unary pre_writes (i := 475) (a := main_c_79) (y := main_v355) rfl (by decide +kernel) (by decide +kernel) V
theorem x_v356_eq : x_v356 V = (cmpi .slt) (x_v353 V) (x_v355 V) := read_binary pre_writes (i := 476) (a := main_v353) (b := main_v355) (y := main_v356) rfl (by decide +kernel) (by decide +kernel) (by decide +kernel) V
theorem x_c_80_eq : x_c_80 V = (constantI S_ 32 3000#32) := read_nullary pre_writes (i := 477) (y := main_c_80) rfl (by decide +kernel) V
theorem x_v357_eq : x_v357 V = (broadcastInDim S2000 ![] bcast_S_S2000) (x_c_80 V) := read_unary pre_writes (i := 478) (a := main_c_80) (y := main_v357) rfl (by decide +kernel) (by decide +kernel) V
theorem x_v358_eq : x_v358 V = addi (x_v353 V) (x_v357 V) := read_binary pre_writes (i := 479) (a := main_v353) (b := main_v357) (y := main_v358) rfl (by decide +kernel) (by decide +kernel) (by decide +kernel) V
theorem x_v359_eq : x_v359 V = select (x_v356 V) (x_v358 V) (x_v353 V) := read_ternary pre_writes (i := 480) (c := main_v356) (a := main_v358) (b := main_v353) (y := main_v359) rfl (by decide +kernel) (by decide +kernel) (by decide +kernel) (by decide +kernel) V
theorem x_v360_eq : x_v360 V = (broadcastInDim S2000x1 ![0] bcast_S2000_S2000x1_0) (x_v359 V) := read_unary pre_writes (i := 481) (a := main_v359) (y := main_v360) rfl (by decide +kernel) (by decide +kernel) V
theorem x_v361_eq : x_v361 V = Host.gather gather_S3000x4_S2000x1_S2000x4_1_0_n_n_0_1_14 (x_v342 V) (x_v360 V) := read_binary pre_writes (i := 482) (a := main_v342) (b := main_v360) (y := main_v361) rfl (by decide +kernel) (by decide +kernel) (by decide +kernel) V
theorem x_v362_eq : x_v362 V = (sitofp .f32) (x_v354 V) := read_unary pre_writes (i := 483) (a := main_v354) (y := main_v362) rfl (by decide +kernel) (by decide +kernel) V
theorem x_cst_81_eq : x_cst_81 V = (constant S_ .f32 0x45800000#32) := read_nullary pre_writes (i := 484) (y := main_cst_81) rfl (by decide +kernel) V
theorem x_v363_eq : x_v363 V = (broadcastInDim S2000 ![] bcast_S_S2000) (x_cst_81 V) := read_unary pre_writes (i := 485) (a := main_cst_81) (y := main_v363) rfl (by decide +kernel) (by decide +kernel) V
theorem x_v364_eq : x_v364 V = mulf (x_v362 V) (x_v363 V) := read_binary pre_writes (i := 486) (a := main_v362) (b := main_v363) (y := main_v364) rfl (by decide +kernel) (by decide +kernel) (by decide +kernel) V
theorem x_v365_eq : x_v365 V = (broadcastInDim S2000x1 ![0] bcast_S2000_S2000x1_0) (x_v364 V) := read_unary pre_writes (i := 487) (a := main_v364) (y := main_v365) rfl (by decide +kernel) (by decide +kernel) V
theorem x_v366_eq : x_v366 V = (broadcastInDim S2000x4 ![0, 1] bcast_S2000x1_S2000x4_0_1) (x_v365 V) := read_unary pre_writes (i := 488) (a := main_v365) (y := main_v366) rfl (by decide +kernel) (by decide +kernel) V
theorem x_v367_eq : x_v367 V = addf (x_v361 V) (x_v366 V) := read_binary pre_writes (i := 489) (a := main_v361) (b := main_v366) (y := main_v367) rfl (by decide +kernel) (by decide +kernel) (by decide +kernel) V
theorem x_c_82_eq : x_c_82 V = (constantI S_ 32 0#32) := read_nullary pre_writes (i := 490) (y := main_c_82) rfl (by decide +kernel) V
theorem x_v368_eq : x_v368 V = (broadcastInDim S100 ![] bcast_S_S100) (x_c_82 V) := read_unary pre_writes (i := 491) (a := main_c_82) (y := main_v368) rfl (by decide +kernel) (by decide +kernel) V
theorem x_cst_83_eq : x_cst_83 V = (constant S_ .f32 0x00000000#32) := read_nullary pre_writes (i := 492) (y := main_cst_83) rfl (by decide +kernel) V
theorem x_v369_eq : x_v369 V = (broadcastInDim S100 ![] bcast_S_S100) (x_cst_83 V) := read_unary pre_writes (i := 493) (a := main_cst_83) (y := main_v369) rfl (by decide +kernel) (by decide +kernel) V
theorem x_c_84_eq : x_c_84 V = (constantI S_ 32 0#32) := read_nullary pre_writes (i := 494) (y := main_c_84) rfl (by decide +kernel) V
theorem x_v370_0_eq : x_v370_0 V = id (x_v367 V) := read_unary pre_writes (i := 495) (a := main_v367) (y := main_v370_0) rfl (by decide +kernel) (by decide +kernel) V
theorem x_v370_1_eq : x_v370_1 V = id (x_c_84 V) := read_unary pre_writes (i := 496) (a := main_c_84) (y := main_v370_1) rfl (by decide +kernel) (by decide +kernel) V
theorem x_v370_2_eq : x_v370_2 V = id (x_values_75 V) := read_unary pre_writes (i := 497) (a := main_values_75) (y := main_v370_2) rfl (by decide +kernel) (by decide +kernel) V
theorem x_v370_3_eq : x_v370_3 V = id (x_v368 V) := read_unary pre_writes (i := 498) (a := main_v368) (y := main_v370_3) rfl (by decide +kernel) (by decide +kernel) V
theorem x_v370_4_eq : x_v370_4 V = id (x_v369 V) := read_unary pre_writes (i := 499) (a := main_v369) (y := main_v370_4) rfl (by decide +kernel) (by decide +kernel) V

end Cert.ReferenceIdeal.Pf

end
-- ==== Proof.Dec.lean ====
module

public import Idealize.ShloMosaic.Lib.Pointwise

/-! The scalar functions of the decoding: what both programs compute of one row of raw values. -/

@[expose] public section

noncomputable section

namespace Cert.Pf
open Idealize.ShloMosaic

/-- One half, as the programs write it. -/
abbrev half : EReal := Ideal.ofBits .f32 0x3F000000#32

/-- Centre minus half the extent: the lower corner's coordinate from the raw offset `r`, the raw extent `e`, the
    anchor's two ends `a`, `b` and the stride `s`. The offset passes through the sigmoid twice. -/
def lo (r e a b s : EReal) : EReal :=
  (Ideal.logistic (Ideal.logistic r) - half) * s + (a + b) * half - Ideal.exp e * (b - a) * half

/-- Centre plus half the extent: the upper corner's coordinate. -/
def hi (r e a b s : EReal) : EReal :=
  (Ideal.logistic (Ideal.logistic r) - half) * s + (a + b) * half + Ideal.exp e * (b - a) * half

/-- Coordinate `k` (x1, y1, x2, y2) of the box with raw values `r`, anchor `a` and stride `s`. -/
def box (r : Fin 85 → EReal) (a : Fin 4 → EReal) (s : EReal) (k : Fin 4) : EReal :=
  match k with
  | 0 => lo (r 0) (r 2) (a 0) (a 2) s
  | 1 => lo (r 1) (r 3) (a 1) (a 3) s
  | 2 => hi (r 0) (r 2) (a 0) (a 2) s
  | 3 => hi (r 1) (r 3) (a 1) (a 3) s

end Cert.Pf
-- ==== Proof.RfDec.lean ====
module

public import proofs.«01_k».proof.Proof.RfPreA
public import proofs.«01_k».proof.Proof.RfPreB
public import proofs.«01_k».proof.Proof.RfPreC
public import proofs.«01_k».proof.Proof.RfPreD
public import proofs.«01_k».proof.Proof.Dec

/-! The reference's decoding of one level, read element by element: row `n` of the boxes, the confidences and the
    class scores as functions of row `n` of the level's 85 raw values and of its four anchor values. -/

@[expose] public section

noncomputable section
set_option maxRecDepth 100000

namespace Cert.ReferenceIdeal.Pf
open Cert.ReferenceIdeal Cert.ReferenceIdeal.Gen Cert.Pf
open Idealize.ShloMosaic Idealize.ShloMosaic.StableHlo
open Idealize.ShloMosaic.TcCoe

/-- Level 0: the offsets of box `n`, through the sigmoid twice. -/
theorem sig0_at (V : Valuation τ sig (Elt Ideal)) (n : Fin 1083) (k : Fin 2) :
    x_v17 V (ix2 n k) = Ideal.logistic (Ideal.logistic (x_v4 V (ix2 n ⟨k.val, by omega⟩))) := by
  simp only [x_v5_eq, x_v6_eq, x_v7_eq, x_cst_2_eq, x_v8_eq, x_v9_eq, x_cst_3_eq, x_v10_eq, x_v11_eq, x_v12_eq, x_v13_eq, x_cst_4_eq, x_v14_eq, x_v15_eq, x_cst_5_eq, x_v16_eq, x_v17_eq]
  pointwise
  rfl

/-- Level 0: the extents of box `n`, raw. -/
theorem ext0_at (V : Valuation τ sig (Elt Ideal)) (n : Fin 1083) (k : Fin 2) :
    x_v18 V (ix2 n k) = x_v4 V (ix2 n ⟨2 + k.val, by omega⟩) := by
  rw [x_v18_eq]
  pointwise

/-- Level 0: coordinate 0 of box `n`. -/
theorem coord0_0 (V : Valuation τ sig (Elt Ideal)) (n : Fin 1083) :
    x_v68 V (ix1 n) = lo (x_v4 V (ix2 n 0)) (x_v4 V (ix2 n 2)) (x_cst V (ix2 n 0)) (x_cst V (ix2 n 2)) (Ideal.ofBits .f32 0x42000000#32) := by
  simp only [x_v19_eq, x_v20_eq, x_v21_eq, x_v22_eq, x_v23_eq, x_v24_eq, x_cst_6_eq, x_v25_eq, x_v26_eq, x_v27_eq, x_v28_eq, x_v29_eq, x_v30_eq, x_v31_eq, x_cst_7_eq, x_v32_eq, x_v33_eq, x_v34_eq, x_v35_eq, x_v36_eq, x_v37_eq, x_v38_eq, x_v39_eq, x_v40_eq, x_v41_eq, x_v42_eq, x_v43_eq, x_v44_eq, x_v45_eq, x_cst_8_eq, x_v46_eq, x_v47_eq, x_cst_9_eq, x_v48_eq, x_v49_eq, x_v50_eq, x_v51_eq, x_v52_eq, x_cst_10_eq, x_v53_eq, x_v54_eq, x_cst_11_eq, x_v55_eq, x_v56_eq, x_v57_eq, x_v58_eq, x_v59_eq, x_v60_eq, x_v61_eq, x_v62_eq, x_v63_eq, x_v64_eq, x_v65_eq, x_cst_12_eq, x_v66_eq, x_v67_eq, x_v68_eq, x_cst_13_eq, x_v69_eq, x_v70_eq, x_v71_eq, x_cst_14_eq, x_v72_eq, x_v73_eq, x_v74_eq, x_cst_15_eq, x_v75_eq, x_v76_eq, x_v77_eq]
  pointwise
  simp only [sig0_at, ext0_at]
  rfl

/-- Level 0: coordinate 1 of box `n`. -/
theorem coord0_1 (V : Valuation τ sig (Elt Ideal)) (n : Fin 1083) :
    x_v71 V (ix1 n) = lo (x_v4 V (ix2 n 1)) (x_v4 V (ix2 n 3)) (x_cst V (ix2 n 1)) (x_cst V (ix2 n 3)) (Ideal.ofBits .f32 0x42000000#32) := by
  simp only [x_v19_eq, x_v20_eq, x_v21_eq, x_v22_eq, x_v23_eq, x_v24_eq, x_cst_6_eq, x_v25_eq, x_v26_eq, x_v27_eq, x_v28_eq, x_v29_eq, x_v30_eq, x_v31_eq, x_cst_7_eq, x_v32_eq, x_v33_eq, x_v34_eq, x_v35_eq, x_v36_eq, x_v37_eq, x_v38_eq, x_v39_eq, x_v40_eq, x_v41_eq, x_v42_eq, x_v43_eq, x_v44_eq, x_v45_eq, x_cst_8_eq, x_v46_eq, x_v47_eq, x_cst_9_eq, x_v48_eq, x_v49_eq, x_v50_eq, x_v51_eq, x_v52_eq, x_cst_10_eq, x_v53_eq, x_v54_eq, x_cst_11_eq, x_v55_eq, x_v56_eq, x_v57_eq, x_v58_eq, x_v59_eq, x_v60_eq, x_v61_eq, x_v62_eq, x_v63_eq, x_v64_eq, x_v65_eq, x_cst_12_eq, x_v66_eq, x_v67_eq, x_v68_eq, x_cst_13_eq, x_v69_eq, x_v70_eq, x_v71_eq, x_cst_14_eq, x_v72_eq, x_v73_eq, x_v74_eq, x_cst_15_eq, x_v75_eq, x_v76_eq, x_v77_eq]
  pointwise
  simp only [sig0_at, ext0_at]
  rfl

/-- Level 0: coordinate 2 of box `n`. -/
theorem coord0_2 (V : Valuation τ sig (Elt Ideal)) (n : Fin 1083) :
    x_v74 V (ix1 n) = hi (x_v4 V (ix2 n 0)) (x_v4 V (ix2 n 2)) (x_cst V (ix2 n 0)) (x_cst V (ix2 n 2)) (Ideal.ofBits .f32 0x42000000#32) := by
  simp only [x_v19_eq, x_v20_eq, x_v21_eq, x_v22_eq, x_v23_eq, x_v24_eq, x_cst_6_eq, x_v25_eq, x_v26_eq, x_v27_eq, x_v28_eq, x_v29_eq, x_v30_eq, x_v31_eq, x_cst_7_eq, x_v32_eq, x_v33_eq, x_v34_eq, x_v35_eq, x_v36_eq, x_v37_eq, x_v38_eq, x_v39_eq, x_v40_eq, x_v41_eq, x_v42_eq, x_v43_eq, x_v44_eq, x_v45_eq, x_cst_8_eq, x_v46_eq, x_v47_eq, x_cst_9_eq, x_v48_eq, x_v49_eq, x_v50_eq, x_v51_eq, x_v52_eq, x_cst_10_eq, x_v53_eq, x_v54_eq, x_cst_11_eq, x_v55_eq, x_v56_eq, x_v57_eq, x_v58_eq, x_v59_eq, x_v60_eq, x_v61_eq, x_v62_eq, x_v63_eq, x_v64_eq, x_v65_eq, x_cst_12_eq, x_v66_eq, x_v67_eq, x_v68_eq, x_cst_13_eq, x_v69_eq, x_v70_eq, x_v71_eq, x_cst_14_eq, x_v72_eq, x_v73_eq, x_v74_eq, x_cst_15_eq, x_v75_eq, x_v76_eq, x_v77_eq]
  pointwise
  simp only [sig0_at, ext0_at]
  rfl

/-- Level 0: coordinate 3 of box `n`. -/
theorem coord0_3 (V : Valuation τ sig (Elt Ideal)) (n : Fin 1083) :
    x_v77 V (ix1 n) = hi (x_v4 V (ix2 n 1)) (x_v4 V (ix2 n 3)) (x_cst V (ix2 n 1)) (x_cst V (ix2 n 3)) (Ideal.ofBits .f32 0x42000000#32) := by
  simp only [x_v19_eq, x_v20_eq, x_v21_eq, x_v22_eq, x_v23_eq, x_v24_eq, x_cst_6_eq, x_v25_eq, x_v26_eq, x_v27_eq, x_v28_eq, x_v29_eq, x_v30_eq, x_v31_eq, x_cst_7_eq, x_v32_eq, x_v33_eq, x_v34_eq, x_v35_eq, x_v36_eq, x_v37_eq, x_v38_eq, x_v39_eq, x_v40_eq, x_v41_eq, x_v42_eq, x_v43_eq, x_v44_eq, x_v45_eq, x_cst_8_eq, x_v46_eq, x_v47_eq, x_cst_9_eq, x_v48_eq, x_v49_eq, x_v50_eq, x_v51_eq, x_v52_eq, x_cst_10_eq, x_v53_eq, x_v54_eq, x_cst_11_eq, x_v55_eq, x_v56_eq, x_v57_eq, x_v58_eq, x_v59_eq, x_v60_eq, x_v61_eq, x_v62_eq, x_v63_eq, x_v64_eq, x_v65_eq, x_cst_12_eq, x_v66_eq, x_v67_eq, x_v68_eq, x_cst_13_eq, x_v69_eq, x_v70_eq, x_v71_eq, x_cst_14_eq, x_v72_eq, x_v73_eq, x_v74_eq, x_cst_15_eq, x_v75_eq, x_v76_eq, x_v77_eq]
  pointwise
  simp only [sig0_at, ext0_at]
  rfl

/-- Level 0: box `n`, coordinate `k`. -/
theorem box0_at (V : Valuation τ sig (Elt Ideal)) (n : Fin 1083) (k : Fin 4) :
    x_v82 V (ix2 n k) = box (fun j => x_v4 V (ix2 n j)) (fun j => x_cst V (ix2 n j)) (Ideal.ofBits .f32 0x42000000#32) k := by
  rw [x_v82_eq, x_v78_eq, x_v79_eq, x_v80_eq, x_v81_eq]
  fin_cases k
  · pointwise
    exact coord0_0 V n
  · pointwise
    exact coord0_1 V n
  · pointwise
    exact coord0_2 V n
  · pointwise
    exact coord0_3 V n

/-- Level 0: the confidence of box `n`. -/
theorem conf0_at (V : Valuation τ sig (Elt Ideal)) (n : Fin 1083) :
    x_v90 V (ix1 n) = Ideal.logistic (x_v4 V (ix2 n 4)) := by
  simp only [x_v83_eq, x_v84_eq, x_v85_eq, x_v86_eq, x_cst_16_eq, x_v87_eq, x_v88_eq, x_cst_17_eq, x_v89_eq, x_v90_eq]
  pointwise
  rfl

/-- Level 0: the score of class `k` of box `n`. -/
theorem cls0_at (V : Valuation τ sig (Elt Ideal)) (n : Fin 1083) (k : Fin 80) :
    x_v97 V (ix2 n k) = Ideal.logistic (x_v4 V (ix2 n ⟨5 + k.val, by omega⟩)) := by
  simp only [x_v91_eq, x_v92_eq, x_v93_eq, x_cst_18_eq, x_v94_eq, x_v95_eq, x_cst_19_eq, x_v96_eq, x_v97_eq]
  pointwise
  rfl

/-- Level 1: the offsets of box `n`, through the sigmoid twice. -/
theorem sig1_at (V : Valuation τ sig (Elt Ideal)) (n : Fin 4332) (k : Fin 2) :
    x_v130 V (ix2 n k) = Ideal.logistic (Ideal.logistic (x_v117 V (ix2 n ⟨k.val, by omega⟩))) := by
  simp only [x_v118_eq, x_v119_eq, x_v120_eq, x_cst_24_eq, x_v121_eq, x_v122_eq, x_cst_25_eq, x_v123_eq, x_v124_eq, x_v125_eq, x_v126_eq, x_cst_26_eq, x_v127_eq, x_v128_eq, x_cst_27_eq, x_v129_eq, x_v130_eq]
  pointwise
  rfl

/-- Level 1: the extents of box `n`, raw. -/
theorem ext1_at (V : Valuation τ sig (Elt Ideal)) (n : Fin 4332) (k : Fin 2) :
    x_v131 V (ix2 n k) = x_v117 V (ix2 n ⟨2 + k.val, by omega⟩) := by
  rw [x_v131_eq]
  pointwise

/-- Level 1: coordinate 0 of box `n`. -/
theorem coord1_0 (V : Valuation τ sig (Elt Ideal)) (n : Fin 4332) :
    x_v181 V (ix1 n) = lo (x_v117 V (ix2 n 0)) (x_v117 V (ix2 n 2)) (x_cst_0 V (ix2 n 0)) (x_cst_0 V (ix2 n 2)) (Ideal.ofBits .f32 0x41800000#32) := by
  simp only [x_v132_eq, x_v133_eq, x_v134_eq, x_v135_eq, x_v136_eq, x_v137_eq, x_cst_28_eq, x_v138_eq, x_v139_eq, x_v140_eq, x_v141_eq, x_v142_eq, x_v143_eq, x_v144_eq, x_cst_29_eq, x_v145_eq, x_v146_eq, x_v147_eq, x_v148_eq, x_v149_eq, x_v150_eq, x_v151_eq, x_v152_eq, x_v153_eq, x_v154_eq, x_v155_eq, x_v156_eq, x_v157_eq, x_v158_eq, x_cst_30_eq, x_v159_eq, x_v160_eq, x_cst_31_eq, x_v161_eq, x_v162_eq, x_v163_eq, x_v164_eq, x_v165_eq, x_cst_32_eq, x_v166_eq, x_v167_eq, x_cst_33_eq, x_v168_eq, x_v169_eq, x_v170_eq, x_v171_eq, x_v172_eq, x_v173_eq, x_v174_eq, x_v175_eq, x_v176_eq, x_v177_eq, x_v178_eq, x_cst_34_eq, x_v179_eq, x_v180_eq, x_v181_eq, x_cst_35_eq, x_v182_eq, x_v183_eq, x_v184_eq, x_cst_36_eq, x_v185_eq, x_v186_eq, x_v187_eq, x_cst_37_eq, x_v188_eq, x_v189_eq, x_v190_eq]
  pointwise
  simp only [sig1_at, ext1_at]
  rfl

/-- Level 1: coordinate 1 of box `n`. -/
theorem coord1_1 (V : Valuation τ sig (Elt Ideal)) (n : Fin 4332) :
    x_v184 V (ix1 n) = lo (x_v117 V (ix2 n 1)) (x_v117 V (ix2 n 3)) (x_cst_0 V (ix2 n 1)) (x_cst_0 V (ix2 n 3)) (Ideal.ofBits .f32 0x41800000#32) := by
  simp only [x_v132_eq, x_v133_eq, x_v134_eq, x_v135_eq, x_v136_eq, x_v137_eq, x_cst_28_eq, x_v138_eq, x_v139_eq, x_v140_eq, x_v141_eq, x_v142_eq, x_v143_eq, x_v144_eq, x_cst_29_eq, x_v145_eq, x_v146_eq, x_v147_eq, x_v148_eq, x_v149_eq, x_v150_eq, x_v151_eq, x_v152_eq, x_v153_eq, x_v154_eq, x_v155_eq, x_v156_eq, x_v157_eq, x_v158_eq, x_cst_30_eq, x_v159_eq, x_v160_eq, x_cst_31_eq, x_v161_eq, x_v162_eq, x_v163_eq, x_v164_eq, x_v165_eq, x_cst_32_eq, x_v166_eq, x_v167_eq, x_cst_33_eq, x_v168_eq, x_v169_eq, x_v170_eq, x_v171_eq, x_v172_eq, x_v173_eq, x_v174_eq, x_v175_eq, x_v176_eq, x_v177_eq, x_v178_eq, x_cst_34_eq, x_v179_eq, x_v180_eq, x_v181_eq, x_cst_35_eq, x_v182_eq, x_v183_eq, x_v184_eq, x_cst_36_eq, x_v185_eq, x_v186_eq, x_v187_eq, x_cst_37_eq, x_v188_eq, x_v189_eq, x_v190_eq]
  pointwise
  simp only [sig1_at, ext1_at]
  rfl

/-- Level 1: coordinate 2 of box `n`. -/
theorem coord1_2 (V : Valuation τ sig (Elt Ideal)) (n : Fin 4332) :
    x_v187 V (ix1 n) = hi (x_v117 V (ix2 n 0)) (x_v117 V (ix2 n 2)) (x_cst_0 V (ix2 n 0)) (x_cst_0 V (ix2 n 2)) (Ideal.ofBits .f32 0x41800000#32) := by
  simp only [x_v132_eq, x_v133_eq, x_v134_eq, x_v135_eq, x_v136_eq, x_v137_eq, x_cst_28_eq, x_v138_eq, x_v139_eq, x_v140_eq, x_v141_eq, x_v142_eq, x_v143_eq, x_v144_eq, x_cst_29_eq, x_v145_eq, x_v146_eq, x_v147_eq, x_v148_eq, x_v149_eq, x_v150_eq, x_v151_eq, x_v152_eq, x_v153_eq, x_v154_eq, x_v155_eq, x_v156_eq, x_v157_eq, x_v158_eq, x_cst_30_eq, x_v159_eq, x_v160_eq, x_cst_31_eq, x_v161_eq, x_v162_eq, x_v163_eq, x_v164_eq, x_v165_eq, x_cst_32_eq, x_v166_eq, x_v167_eq, x_cst_33_eq, x_v168_eq, x_v169_eq, x_v170_eq, x_v171_eq, x_v172_eq, x_v173_eq, x_v174_eq, x_v175_eq, x_v176_eq, x_v177_eq, x_v178_eq, x_cst_34_eq, x_v179_eq, x_v180_eq, x_v181_eq, x_cst_35_eq, x_v182_eq, x_v183_eq, x_v184_eq, x_cst_36_eq, x_v185_eq, x_v186_eq, x_v187_eq, x_cst_37_eq, x_v188_eq, x_v189_eq, x_v190_eq]
  pointwise
  simp only [sig1_at, ext1_at]
  rfl

/-- Level 1: coordinate 3 of box `n`. -/
theorem coord1_3 (V : Valuation τ sig (Elt Ideal)) (n : Fin 4332) :
    x_v190 V (ix1 n) = hi (x_v117 V (ix2 n 1)) (x_v117 V (ix2 n 3)) (x_cst_0 V (ix2 n 1)) (x_cst_0 V (ix2 n 3)) (Ideal.ofBits .f32 0x41800000#32) := by
  simp only [x_v132_eq, x_v133_eq, x_v134_eq, x_v135_eq, x_v136_eq, x_v137_eq, x_cst_28_eq, x_v138_eq, x_v139_eq, x_v140_eq, x_v141_eq, x_v142_eq, x_v143_eq, x_v144_eq, x_cst_29_eq, x_v145_eq, x_v146_eq, x_v147_eq, x_v148_eq, x_v149_eq, x_v150_eq, x_v151_eq, x_v152_eq, x_v153_eq, x_v154_eq, x_v155_eq, x_v156_eq, x_v157_eq, x_v158_eq, x_cst_30_eq, x_v159_eq, x_v160_eq, x_cst_31_eq, x_v161_eq, x_v162_eq, x_v163_eq, x_v164_eq, x_v165_eq, x_cst_32_eq, x_v166_eq, x_v167_eq, x_cst_33_eq, x_v168_eq, x_v169_eq, x_v170_eq, x_v171_eq, x_v172_eq, x_v173_eq, x_v174_eq, x_v175_eq, x_v176_eq, x_v177_eq, x_v178_eq, x_cst_34_eq, x_v179_eq, x_v180_eq, x_v181_eq, x_cst_35_eq, x_v182_eq, x_v183_eq, x_v184_eq, x_cst_36_eq, x_v185_eq, x_v186_eq, x_v187_eq, x_cst_37_eq, x_v188_eq, x_v189_eq, x_v190_eq]
  pointwise
  simp only [sig1_at, ext1_at]
  rfl

/-- Level 1: box `n`, coordinate `k`. -/
theorem box1_at (V : Valuation τ sig (Elt Ideal)) (n : Fin 4332) (k : Fin 4) :
    x_v195 V (ix2 n k) = box (fun j => x_v117 V (ix2 n j)) (fun j => x_cst_0 V (ix2 n j)) (Ideal.ofBits .f32 0x41800000#32) k := by
  rw [x_v195_eq, x_v191_eq, x_v192_eq, x_v193_eq, x_v194_eq]
  fin_cases k
  · pointwise
    exact coord1_0 V n
  · pointwise
    exact coord1_1 V n
  · pointwise
    exact coord1_2 V n
  · pointwise
    exact coord1_3 V n

/-- Level 1: the confidence of box `n`. -/
theorem conf1_at (V : Valuation τ sig (Elt Ideal)) (n : Fin 4332) :
    x_v203 V (ix1 n) = Ideal.logistic (x_v117 V (ix2 n 4)) := by
  simp only [x_v196_eq, x_v197_eq, x_v198_eq, x_v199_eq, x_cst_38_eq, x_v200_eq, x_v201_eq, x_cst_39_eq, x_v202_eq, x_v203_eq]
  pointwise
  rfl

/-- Level 1: the score of class `k` of box `n`. -/
theorem cls1_at (V : Valuation τ sig (Elt Ideal)) (n : Fin 4332) (k : Fin 80) :
    x_v210 V (ix2 n k) = Ideal.logistic (x_v117 V (ix2 n ⟨5 + k.val, by omega⟩)) := by
  simp only [x_v204_eq, x_v205_eq, x_v206_eq, x_cst_40_eq, x_v207_eq, x_v208_eq, x_cst_41_eq, x_v209_eq, x_v210_eq]
  pointwise
  rfl

/-- Level 2: the offsets of box `n`, through the sigmoid twice. -/
theorem sig2_at (V : Valuation τ sig (Elt Ideal)) (n : Fin 17328) (k : Fin 2) :
    x_v243 V (ix2 n k) = Ideal.logistic (Ideal.logistic (x_v230 V (ix2 n ⟨k.val, by omega⟩))) := by
  simp only [x_v231_eq, x_v232_eq, x_v233_eq, x_cst_49_eq, x_v234_eq, x_v235_eq, x_cst_50_eq, x_v236_eq, x_v237_eq, x_v238_eq, x_v239_eq, x_cst_51_eq, x_v240_eq, x_v241_eq, x_cst_52_eq, x_v242_eq, x_v243_eq]
  pointwise
  rfl

/-- Level 2: the extents of box `n`, raw. -/
theorem ext2_at (V : Valuation τ sig (Elt Ideal)) (n : Fin 17328) (k : Fin 2) :
    x_v244 V (ix2 n k) = x_v230 V (ix2 n ⟨2 + k.val, by omega⟩) := by
  rw [x_v244_eq]
  pointwise

/-- Level 2: coordinate 0 of box `n`. -/
theorem coord2_0 (V : Valuation τ sig (Elt Ideal)) (n : Fin 17328) :
    x_v294 V (ix1 n) = lo (x_v230 V (ix2 n 0)) (x_v230 V (ix2 n 2)) (x_cst_1 V (ix2 n 0)) (x_cst_1 V (ix2 n 2)) (Ideal.ofBits .f32 0x41000000#32) := by
  simp only [x_v245_eq, x_v246_eq, x_v247_eq, x_v248_eq, x_v249_eq, x_v250_eq, x_cst_53_eq, x_v251_eq, x_v252_eq, x_v253_eq, x_v254_eq, x_v255_eq, x_v256_eq, x_v257_eq, x_cst_54_eq, x_v258_eq, x_v259_eq, x_v260_eq, x_v261_eq, x_v262_eq, x_v263_eq, x_v264_eq, x_v265_eq, x_v266_eq, x_v267_eq, x_v268_eq, x_v269_eq, x_v270_eq, x_v271_eq, x_cst_55_eq, x_v272_eq, x_v273_eq, x_cst_56_eq, x_v274_eq, x_v275_eq, x_v276_eq, x_v277_eq, x_v278_eq, x_cst_57_eq, x_v279_eq, x_v280_eq, x_cst_58_eq, x_v281_eq, x_v282_eq, x_v283_eq, x_v284_eq, x_v285_eq, x_v286_eq, x_v287_eq, x_v288_eq, x_v289_eq, x_v290_eq, x_v291_eq, x_cst_59_eq, x_v292_eq, x_v293_eq, x_v294_eq, x_cst_60_eq, x_v295_eq, x_v296_eq, x_v297_eq, x_cst_61_eq, x_v298_eq, x_v299_eq, x_v300_eq, x_cst_62_eq, x_v301_eq, x_v302_eq, x_v303_eq]
  pointwise
  simp only [sig2_at, ext2_at]
  rfl

/-- Level 2: coordinate 1 of box `n`. -/
theorem coord2_1 (V : Valuation τ sig (Elt Ideal)) (n : Fin 17328) :
    x_v297 V (ix1 n) = lo (x_v230 V (ix2 n 1)) (x_v230 V (ix2 n 3)) (x_cst_1 V (ix2 n 1)) (x_cst_1 V (ix2 n 3)) (Ideal.ofBits .f32 0x41000000#32) := by
  simp only [x_v245_eq, x_v246_eq, x_v247_eq, x_v248_eq, x_v249_eq, x_v250_eq, x_cst_53_eq, x_v251_eq, x_v252_eq, x_v253_eq, x_v254_eq, x_v255_eq, x_v256_eq, x_v257_eq, x_cst_54_eq, x_v258_eq, x_v259_eq, x_v260_eq, x_v261_eq, x_v262_eq, x_v263_eq, x_v264_eq, x_v265_eq, x_v266_eq, x_v267_eq, x_v268_eq, x_v269_eq, x_v270_eq, x_v271_eq, x_cst_55_eq, x_v272_eq, x_v273_eq, x_cst_56_eq, x_v274_eq, x_v275_eq, x_v276_eq, x_v277_eq, x_v278_eq, x_cst_57_eq, x_v279_eq, x_v280_eq, x_cst_58_eq, x_v281_eq, x_v282_eq, x_v283_eq, x_v284_eq, x_v285_eq, x_v286_eq, x_v287_eq, x_v288_eq, x_v289_eq, x_v290_eq, x_v291_eq, x_cst_59_eq, x_v292_eq, x_v293_eq, x_v294_eq, x_cst_60_eq, x_v295_eq, x_v296_eq, x_v297_eq, x_cst_61_eq, x_v298_eq, x_v299_eq, x_v300_eq, x_cst_62_eq, x_v301_eq, x_v302_eq, x_v303_eq]
  pointwise
  simp only [sig2_at, ext2_at]
  rfl

/-- Level 2: coordinate 2 of box `n`. -/
theorem coord2_2 (V : Valuation τ sig (Elt Ideal)) (n : Fin 17328) :
    x_v300 V (ix1 n) = hi (x_v230 V (ix2 n 0)) (x_v230 V (ix2 n 2)) (x_cst_1 V (ix2 n 0)) (x_cst_1 V (ix2 n 2)) (Ideal.ofBits .f32 0x41000000#32) := by
  simp only [x_v245_eq, x_v246_eq, x_v247_eq, x_v248_eq, x_v249_eq, x_v250_eq, x_cst_53_eq, x_v251_eq, x_v252_eq, x_v253_eq, x_v254_eq, x_v255_eq, x_v256_eq, x_v257_eq, x_cst_54_eq, x_v258_eq, x_v259_eq, x_v260_eq, x_v261_eq, x_v262_eq, x_v263_eq, x_v264_eq, x_v265_eq, x_v266_eq, x_v267_eq, x_v268_eq, x_v269_eq, x_v270_eq, x_v271_eq, x_cst_55_eq, x_v272_eq, x_v273_eq, x_cst_56_eq, x_v274_eq, x_v275_eq, x_v276_eq, x_v277_eq, x_v278_eq, x_cst_57_eq, x_v279_eq, x_v280_eq, x_cst_58_eq, x_v281_eq, x_v282_eq, x_v283_eq, x_v284_eq, x_v285_eq, x_v286_eq, x_v287_eq, x_v288_eq, x_v289_eq, x_v290_eq, x_v291_eq, x_cst_59_eq, x_v292_eq, x_v293_eq, x_v294_eq, x_cst_60_eq, x_v295_eq, x_v296_eq, x_v297_eq, x_cst_61_eq, x_v298_eq, x_v299_eq, x_v300_eq, x_cst_62_eq, x_v301_eq, x_v302_eq, x_v303_eq]
  pointwise
  simp only [sig2_at, ext2_at]
  rfl

/-- Level 2: coordinate 3 of box `n`. -/
theorem coord2_3 (V : Valuation τ sig (Elt Ideal)) (n : Fin 17328) :
    x_v303 V (ix1 n) = hi (x_v230 V (ix2 n 1)) (x_v230 V (ix2 n 3)) (x_cst_1 V (ix2 n 1)) (x_cst_1 V (ix2 n 3)) (Ideal.ofBits .f32 0x41000000#32) := by
  simp only [x_v245_eq, x_v246_eq, x_v247_eq, x_v248_eq, x_v249_eq, x_v250_eq, x_cst_53_eq, x_v251_eq, x_v252_eq, x_v253_eq, x_v254_eq, x_v255_eq, x_v256_eq, x_v257_eq, x_cst_54_eq, x_v258_eq, x_v259_eq, x_v260_eq, x_v261_eq, x_v262_eq, x_v263_eq, x_v264_eq, x_v265_eq, x_v266_eq, x_v267_eq, x_v268_eq, x_v269_eq, x_v270_eq, x_v271_eq, x_cst_55_eq, x_v272_eq, x_v273_eq, x_cst_56_eq, x_v274_eq, x_v275_eq, x_v276_eq, x_v277_eq, x_v278_eq, x_cst_57_eq, x_v279_eq, x_v280_eq, x_cst_58_eq, x_v281_eq, x_v282_eq, x_v283_eq, x_v284_eq, x_v285_eq, x_v286_eq, x_v287_eq, x_v288_eq, x_v289_eq, x_v290_eq, x_v291_eq, x_cst_59_eq, x_v292_eq, x_v293_eq, x_v294_eq, x_cst_60_eq, x_v295_eq, x_v296_eq, x_v297_eq, x_cst_61_eq, x_v298_eq, x_v299_eq, x_v300_eq, x_cst_62_eq, x_v301_eq, x_v302_eq, x_v303_eq]
  pointwise
  simp only [sig2_at, ext2_at]
  rfl

/-- Level 2: box `n`, coordinate `k`. -/
theorem box2_at (V : Valuation τ sig (Elt Ideal)) (n : Fin 17328) (k : Fin 4) :
    x_v308 V (ix2 n k) = box (fun j => x_v230 V (ix2 n j)) (fun j => x_cst_1 V (ix2 n j)) (Ideal.ofBits .f32 0x41000000#32) k := by
  rw [x_v308_eq, x_v304_eq, x_v305_eq, x_v306_eq, x_v307_eq]
  fin_cases k
  · pointwise
    exact coord2_0 V n
  · pointwise
    exact coord2_1 V n
  · pointwise
    exact coord2_2 V n
  · pointwise
    exact coord2_3 V n

/-- Level 2: the confidence of box `n`. -/
theorem conf2_at (V : Valuation τ sig (Elt Ideal)) (n : Fin 17328) :
    x_v316 V (ix1 n) = Ideal.logistic (x_v230 V (ix2 n 4)) := by
  simp only [x_v309_eq, x_v310_eq, x_v311_eq, x_v312_eq, x_cst_63_eq, x_v313_eq, x_v314_eq, x_cst_64_eq, x_v315_eq, x_v316_eq]
  pointwise
  rfl

/-- Level 2: the score of class `k` of box `n`. -/
theorem cls2_at (V : Valuation τ sig (Elt Ideal)) (n : Fin 17328) (k : Fin 80) :
    x_v323 V (ix2 n k) = Ideal.logistic (x_v230 V (ix2 n ⟨5 + k.val, by omega⟩)) := by
  simp only [x_v317_eq, x_v318_eq, x_v319_eq, x_cst_65_eq, x_v320_eq, x_v321_eq, x_cst_66_eq, x_v322_eq, x_v323_eq]
  pointwise
  rfl

end Cert.ReferenceIdeal.Pf
-- ==== Proof.KiMidA.lean ====
/-
  The host operations between the decode call and the suppression call, one at a time.
  What each operation says of its buffer.
-/
module

public import proofs.«01_k».proof.Proof.KiMid

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

variable (V : Valuation τ sig (Elt F))

theorem y_v15_eq : y_v15 V = shapeCast S22784 (y_v14_1 V) shapeCasts_S1x22784_S22784 := read_reshape mid_writes (i := 0) (a := main_v14_1) (y := main_v15) rfl (by decide +kernel) (by decide +kernel) V
theorem y_v16_eq : y_v16 V = extractStridedSlice S1083 ![0] (y_v15 V) slices_S22784_S1083_0 := read_unary mid_writes (i := 1) (a := main_v15) (y := main_v16) rfl (by decide +kernel) (by decide +kernel) V
theorem y_values_eq : y_values V = (Host.topK S1000 0 (FloatOps.cmpfTotal .gt) (y_v16 V) sliceFits_S1083_S1000).1 := read_unary mid_writes (i := 2) (a := main_v16) (y := main_values) rfl (by decide +kernel) (by decide +kernel) V
theorem y_indices_eq : y_indices V = (Host.topK S1000 0 (FloatOps.cmpfTotal .gt) (y_v16 V) sliceFits_S1083_S1000).2 := read_unary mid_writes (i := 3) (a := main_v16) (y := main_indices) rfl (by decide +kernel) (by decide +kernel) V
theorem y_c_1_eq : y_c_1 V = (constantI S_ 32 0#32) := read_nullary mid_writes (i := 4) (y := main_c_1) rfl (by decide +kernel) V
theorem y_v17_eq : y_v17 V = (broadcastInDim S1000 ![] bcast_S_S1000) (y_c_1 V) := read_unary mid_writes (i := 5) (a := main_c_1) (y := main_v17) rfl (by decide +kernel) (by decide +kernel) V
theorem y_v18_eq : y_v18 V = addi (y_indices V) (y_v17 V) := read_binary mid_writes (i := 6) (a := main_indices) (b := main_v17) (y := main_v18) rfl (by decide +kernel) (by decide +kernel) (by decide +kernel) V
theorem y_cst_2_eq : y_cst_2 V = (constant S_ .f32 0x3BA3D70A#32) := read_nullary mid_writes (i := 7) (y := main_cst_2) rfl (by decide +kernel) V
theorem y_v19_eq : y_v19 V = (broadcastInDim S1000 ![] bcast_S_S1000) (y_cst_2 V) := read_unary mid_writes (i := 8) (a := main_cst_2) (y := main_v19) rfl (by decide +kernel) (by decide +kernel) V
theorem y_v20_eq : y_v20 V = (cmpf .oge) (y_values V) (y_v19 V) := read_binary mid_writes (i := 9) (a := main_values) (b := main_v19) (y := main_v20) rfl (by decide +kernel) (by decide +kernel) (by decide +kernel) V
theorem y_v21_eq : y_v21 V = (uitofp .f32) (y_v20 V) := read_unary mid_writes (i := 10) (a := main_v20) (y := main_v21) rfl (by decide +kernel) (by decide +kernel) V
theorem y_v22_eq : y_v22 V = mulf (y_values V) (y_v21 V) := read_binary mid_writes (i := 11) (a := main_values) (b := main_v21) (y := main_v22) rfl (by decide +kernel) (by decide +kernel) (by decide +kernel) V
theorem y_v23_eq : y_v23 V = extractStridedSlice S4332 ![1083] (y_v15 V) slices_S22784_S4332_1083 := read_unary mid_writes (i := 12) (a := main_v15) (y := main_v23) rfl (by decide +kernel) (by decide +kernel) V
theorem y_values_3_eq : y_values_3 V = (Host.topK S1000 0 (FloatOps.cmpfTotal .gt) (y_v23 V) sliceFits_S4332_S1000).1 := read_unary mid_writes (i := 13) (a := main_v23) (y := main_values_3) rfl (by decide +kernel) (by decide +kernel) V
theorem y_indices_4_eq : y_indices_4 V = (Host.topK S1000 0 (FloatOps.cmpfTotal .gt) (y_v23 V) sliceFits_S4332_S1000).2 := read_unary mid_writes (i := 14) (a := main_v23) (y := main_indices_4) rfl (by decide +kernel) (by decide +kernel) V
theorem y_c_5_eq : y_c_5 V = (constantI S_ 32 1083#32) := read_nullary mid_writes (i := 15) (y := main_c_5) rfl (by decide +kernel) V
theorem y_v24_eq : y_v24 V = (broadcastInDim S1000 ![] bcast_S_S1000) (y_c_5 V) := read_unary mid_writes (i := 16) (a := main_c_5) (y := main_v24) rfl (by decide +kernel) (by decide +kernel) V
theorem y_v25_eq : y_v25 V = addi (y_indices_4 V) (y_v24 V) := read_binary mid_writes (i := 17) (a := main_indices_4) (b := main_v24) (y := main_v25) rfl (by decide +kernel) (by decide +kernel) (by decide +kernel) V
theorem y_cst_6_eq : y_cst_6 V = (constant S_ .f32 0x3BA3D70A#32) := read_nullary mid_writes (i := 18) (y := main_cst_6) rfl (by decide +kernel) V
theorem y_v26_eq : y_v26 V = (broadcastInDim S1000 ![] bcast_S_S1000) (y_cst_6 V) := read_unary mid_writes (i := 19) (a := main_cst_6) (y := main_v26) rfl (by decide +kernel) (by decide +kernel) V
theorem y_v27_eq : y_v27 V = (cmpf .oge) (y_values_3 V) (y_v26 V) := read_binary mid_writes (i := 20) (a := main_values_3) (b := main_v26) (y := main_v27) rfl (by decide +kernel) (by decide +kernel) (by decide +kernel) V
theorem y_v28_eq : y_v28 V = (uitofp .f32) (y_v27 V) := read_unary mid_writes (i := 21) (a := main_v27) (y := main_v28) rfl (by decide +kernel) (by decide +kernel) V
theorem y_v29_eq : y_v29 V = mulf (y_values_3 V) (y_v28 V) := read_binary mid_writes (i := 22) (a := main_values_3) (b := main_v28) (y := main_v29) rfl (by decide +kernel) (by decide +kernel) (by decide +kernel) V
theorem y_v30_eq : y_v30 V = extractStridedSlice S17328 ![5415] (y_v15 V) slices_S22784_S17328_5415 := read_unary mid_writes (i := 23) (a := main_v15) (y := main_v30) rfl (by decide +kernel) (by decide +kernel) V
theorem y_values_7_eq : y_values_7 V = (Host.topK S1000 0 (FloatOps.cmpfTotal .gt) (y_v30 V) sliceFits_S17328_S1000).1 := read_unary mid_writes (i := 24) (a := main_v30) (y := main_values_7) rfl (by decide +kernel) (by decide +kernel) V
theorem y_indices_8_eq : y_indices_8 V = (Host.topK S1000 0 (FloatOps.cmpfTotal .gt) (y_v30 V) sliceFits_S17328_S1000).2 := read_unary mid_writes (i := 25) (a := main_v30) (y := main_indices_8) rfl (by decide +kernel) (by decide +kernel) V
theorem y_c_9_eq : y_c_9 V = (constantI S_ 32 5415#32) := read_nullary mid_writes (i := 26) (y := main_c_9) rfl (by decide +kernel) V
theorem y_v31_eq : y_v31 V = (broadcastInDim S1000 ![] bcast_S_S1000) (y_c_9 V) := read_unary mid_writes (i := 27) (a := main_c_9) (y := main_v31) rfl (by decide +kernel) (by decide +kernel) V
theorem y_v32_eq : y_v32 V = addi (y_indices_8 V) (y_v31 V) := read_binary mid_writes (i := 28) (a := main_indices_8) (b := main_v31) (y := main_v32) rfl (by decide +kernel) (by decide +kernel) (by decide +kernel) V
theorem y_cst_10_eq : y_cst_10 V = (constant S_ .f32 0x3BA3D70A#32) := read_nullary mid_writes (i := 29) (y := main_cst_10) rfl (by decide +kernel) V
theorem y_v33_eq : y_v33 V = (broadcastInDim S1000 ![] bcast_S_S1000) (y_cst_10 V) := read_unary mid_writes (i := 30) (a := main_cst_10) (y := main_v33) rfl (by decide +kernel) (by decide +kernel) V
theorem y_v34_eq : y_v34 V = (cmpf .oge) (y_values_7 V) (y_v33 V) := read_binary mid_writes (i := 31) (a := main_values_7) (b := main_v33) (y := main_v34) rfl (by decide +kernel) (by decide +kernel) (by decide +kernel) V
theorem y_v35_eq : y_v35 V = (uitofp .f32) (y_v34 V) := read_unary mid_writes (i := 32) (a := main_v34) (y := main_v35) rfl (by decide +kernel) (by decide +kernel) V
theorem y_v36_eq : y_v36 V = mulf (y_values_7 V) (y_v35 V) := read_binary mid_writes (i := 33) (a := main_values_7) (b := main_v35) (y := main_v36) rfl (by decide +kernel) (by decide +kernel) (by decide +kernel) V
theorem y_v37_eq : y_v37 V = concatenate S3000 0 [⟨S1000, y_v18 V⟩, ⟨S1000, y_v25 V⟩, ⟨S1000, y_v32 V⟩] concatenates_S1000_S1000_S1000_S3000_d0 := read_nary mid_writes (i := 34) (y := main_v37) rfl (by decide +kernel) (by decide +kernel) V
theorem y_v38_eq : y_v38 V = concatenate S3000 0 [⟨S1000, y_v22 V⟩, ⟨S1000, y_v29 V⟩, ⟨S1000, y_v36 V⟩] concatenates_S1000_S1000_S1000_S3000_d0 := read_nary mid_writes (i := 35) (y := main_v38) rfl (by decide +kernel) (by decide +kernel) V
theorem y_c_11_eq : y_c_11 V = (constantI S_ 32 0#32) := read_nullary mid_writes (i := 36) (y := main_c_11) rfl (by decide +kernel) V
theorem y_v39_eq : y_v39 V = (broadcastInDim S3000 ![] bcast_S_S3000) (y_c_11 V) := read_unary mid_writes (i := 37) (a := main_c_11) (y := main_v39) rfl (by decide +kernel) (by decide +kernel) V
theorem y_v40_eq : y_v40 V = (cmpi .slt) (y_v37 V) (y_v39 V) := read_binary mid_writes (i := 38) (a := main_v37) (b := main_v39) (y := main_v40) rfl (by decide +kernel) (by decide +kernel) (by decide +kernel) V
theorem y_c_12_eq : y_c_12 V = (constantI S_ 32 22784#32) := read_nullary mid_writes (i := 39) (y := main_c_12) rfl (by decide +kernel) V
theorem y_v41_eq : y_v41 V = (broadcastInDim S3000 ![] bcast_S_S3000) (y_c_12 V) := read_unary mid_writes (i := 40) (a := main_c_12) (y := main_v41) rfl (by decide +kernel) (by decide +kernel) V
theorem y_v42_eq : y_v42 V = addi (y_v37 V) (y_v41 V) := read_binary mid_writes (i := 41) (a := main_v37) (b := main_v41) (y := main_v42) rfl (by decide +kernel) (by decide +kernel) (by decide +kernel) V
theorem y_v43_eq : y_v43 V = select (y_v40 V) (y_v42 V) (y_v37 V) := read_ternary mid_writes (i := 42) (c := main_v40) (a := main_v42) (b := main_v37) (y := main_v43) rfl (by decide +kernel) (by decide +kernel) (by decide +kernel) (by decide +kernel) V
theorem y_v44_eq : y_v44 V = (broadcastInDim S3000x1 ![0] bcast_S3000_S3000x1_0) (y_v43 V) := read_unary mid_writes (i := 43) (a := main_v43) (y := main_v44) rfl (by decide +kernel) (by decide +kernel) V
theorem y_v45_eq : y_v45 V = Host.gather gather_S4x22784_S3000x1_S4x3000_0_1_n_n_1_1_41 (y_v14_0 V) (y_v44 V) := read_binary mid_writes (i := 44) (a := main_v14_0) (b := main_v44) (y := main_v45) rfl (by decide +kernel) (by decide +kernel) (by decide +kernel) V
theorem y_c_13_eq : y_c_13 V = (constantI S_ 32 0#32) := read_nullary mid_writes (i := 45) (y := main_c_13) rfl (by decide +kernel) V
theorem y_v46_eq : y_v46 V = (broadcastInDim S3000 ![] bcast_S_S3000) (y_c_13 V) := read_unary mid_writes (i := 46) (a := main_c_13) (y := main_v46) rfl (by decide +kernel) (by decide +kernel) V
theorem y_v47_eq : y_v47 V = (cmpi .slt) (y_v37 V) (y_v46 V) := read_binary mid_writes (i := 47) (a := main_v37) (b := main_v46) (y := main_v47) rfl (by decide +kernel) (by decide +kernel) (by decide +kernel) V
theorem y_c_14_eq : y_c_14 V = (constantI S_ 32 22784#32) := read_nullary mid_writes (i := 48) (y := main_c_14) rfl (by decide +kernel) V
theorem y_v48_eq : y_v48 V = (broadcastInDim S3000 ![] bcast_S_S3000) (y_c_14 V) := read_unary mid_writes (i := 49) (a := main_c_14) (y := main_v48) rfl (by decide +kernel) (by decide +kernel) V
theorem y_v49_eq : y_v49 V = addi (y_v37 V) (y_v48 V) := read_binary mid_writes (i := 50) (a := main_v37) (b := main_v48) (y := main_v49) rfl (by decide +kernel) (by decide +kernel) (by decide +kernel) V
theorem y_v50_eq : y_v50 V = select (y_v47 V) (y_v49 V) (y_v37 V) := read_ternary mid_writes (i := 51) (c := main_v47) (a := main_v49) (b := main_v37) (y := main_v50) rfl (by decide +kernel) (by decide +kernel) (by decide +kernel) (by decide +kernel) V
theorem y_v51_eq : y_v51 V = (broadcastInDim S3000x1 ![0] bcast_S3000_S3000x1_0) (y_v50 V) := read_unary mid_writes (i := 52) (a := main_v50) (y := main_v51) rfl (by decide +kernel) (by decide +kernel) V
theorem y_v52_eq : y_v52 V = Host.gather gather_S80x22784_S3000x1_S80x3000_0_1_n_n_1_1_801 (y_v14_2 V) (y_v51 V) := read_binary mid_writes (i := 53) (a := main_v14_2) (b := main_v51) (y := main_v52) rfl (by decide +kernel) (by decide +kernel) (by decide +kernel) V
theorem y_v53_eq : y_v53 V = (broadcastInDim S1x3000 ![1] bcast_S3000_S1x3000_1) (y_v38 V) := read_unary mid_writes (i := 54) (a := main_v38) (y := main_v53) rfl (by decide +kernel) (by decide +kernel) V
theorem y_v54_eq : y_v54 V = (broadcastInDim S80x3000 ![0, 1] bcast_S1x3000_S80x3000_0_1) (y_v53 V) := read_unary mid_writes (i := 55) (a := main_v53) (y := main_v54) rfl (by decide +kernel) (by decide +kernel) V
theorem y_v55_eq : y_v55 V = mulf (y_v52 V) (y_v54 V) := read_binary mid_writes (i := 56) (a := main_v52) (b := main_v54) (y := main_v55) rfl (by decide +kernel) (by decide +kernel) (by decide +kernel) V
theorem y_cst_15_eq : y_cst_15 V = (constant S_ .f32 0x3D4CCCCD#32) := read_nullary mid_writes (i := 57) (y := main_cst_15) rfl (by decide +kernel) V
theorem y_v56_eq : y_v56 V = (broadcastInDim S80x3000 ![] bcast_S_S80x3000) (y_cst_15 V) := read_unary mid_writes (i := 58) (a := main_cst_15) (y := main_v56) rfl (by decide +kernel) (by decide +kernel) V
theorem y_v57_eq : y_v57 V = (cmpf .ogt) (y_v55 V) (y_v56 V) := read_binary mid_writes (i := 59) (a := main_v55) (b := main_v56) (y := main_v57) rfl (by decide +kernel) (by decide +kernel) (by decide +kernel) V
theorem y_v58_eq : y_v58 V = (uitofp .f32) (y_v57 V) := read_unary mid_writes (i := 60) (a := main_v57) (y := main_v58) rfl (by decide +kernel) (by decide +kernel) V
theorem y_v59_eq : y_v59 V = mulf (y_v55 V) (y_v58 V) := read_binary mid_writes (i := 61) (a := main_v55) (b := main_v58) (y := main_v59) rfl (by decide +kernel) (by decide +kernel) (by decide +kernel) V
theorem y_v60_eq : y_v60 V = transpose S3000x80 [1, 0] (y_v59 V) transposes_S80x3000_S3000x80_1_0 := read_unary mid_writes (i := 62) (a := main_v59) (y := main_v60) rfl (by decide +kernel) (by decide +kernel) V
theorem y_v61_eq : y_v61 V = shapeCast S240000 (y_v60 V) shapeCasts_S3000x80_S240000 := read_reshape mid_writes (i := 63) (a := main_v60) (y := main_v61) rfl (by decide +kernel) (by decide +kernel) V

end Cert.KernelIdeal.Pf

end
-- ==== Proof.KiMidB.lean ====
/-
  The host operations between the decode call and the suppression call, one at a time.
  What each operation says of its buffer.
-/
module

public import proofs.«01_k».proof.Proof.KiMid

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

variable (V : Valuation τ sig (Elt F))

theorem y_values_16_eq : y_values_16 V = (Host.topK S2000 0 (FloatOps.cmpfTotal .gt) (y_v61 V) sliceFits_S240000_S2000).1 := read_unary mid_writes (i := 64) (a := main_v61) (y := main_values_16) rfl (by decide +kernel) (by decide +kernel) V
theorem y_indices_17_eq : y_indices_17 V = (Host.topK S2000 0 (FloatOps.cmpfTotal .gt) (y_v61 V) sliceFits_S240000_S2000).2 := read_unary mid_writes (i := 65) (a := main_v61) (y := main_indices_17) rfl (by decide +kernel) (by decide +kernel) V
theorem y_c_18_eq : y_c_18 V = (constantI S_ 32 80#32) := read_nullary mid_writes (i := 66) (y := main_c_18) rfl (by decide +kernel) V
theorem y_call1_v0_eq : y_call1_v0 V = id (y_c_18 V) := eq_of_heq (read_tunary mid_writes (i := 67) (xa := TRef.of (T := ⟨S_, .i32⟩) main_c_18) (xy := TRef.of (T := ⟨S_, .i32⟩) main_call1_v0) (A := y_c_18 V) id rfl (by decide +kernel) (by decide +kernel) V HEq.rfl)
theorem y_call1_v1_eq : y_call1_v1 V = (broadcastInDim S2000 ![] bcast_S_S2000) (y_call1_v0 V) := eq_of_heq (read_tunary mid_writes (i := 68) (xa := TRef.of (T := ⟨S_, .i32⟩) main_call1_v0) (xy := TRef.of (T := ⟨S2000, .i32⟩) main_call1_v1) (A := y_call1_v0 V) (broadcastInDim S2000 ![] bcast_S_S2000) rfl (by decide +kernel) (by decide +kernel) V HEq.rfl)
theorem y_call1_v2_eq : y_call1_v2 V = Host.divsi (y_indices_17 V) (y_call1_v1 V) := eq_of_heq (read_tbinary mid_writes (i := 69) (xa := TRef.of (T := ⟨S2000, .i32⟩) main_indices_17) (xb := TRef.of (T := ⟨S2000, .i32⟩) main_call1_v1) (xy := TRef.of (T := ⟨S2000, .i32⟩) main_call1_v2) (A := y_indices_17 V) (B := y_call1_v1 V) Host.divsi rfl (by decide +kernel) (by decide +kernel) (by decide +kernel) V HEq.rfl HEq.rfl)
theorem y_call1_v3_eq : y_call1_v3 V = signi (y_indices_17 V) := eq_of_heq (read_tunary mid_writes (i := 70) (xa := TRef.of (T := ⟨S2000, .i32⟩) main_indices_17) (xy := TRef.of (T := ⟨S2000, .i32⟩) main_call1_v3) (A := y_indices_17 V) signi rfl (by decide +kernel) (by decide +kernel) V HEq.rfl)
theorem y_call1_v4_eq : y_call1_v4 V = signi (y_call1_v0 V) := eq_of_heq (read_tunary mid_writes (i := 71) (xa := TRef.of (T := ⟨S_, .i32⟩) main_call1_v0) (xy := TRef.of (T := ⟨S_, .i32⟩) main_call1_v4) (A := y_call1_v0 V) signi rfl (by decide +kernel) (by decide +kernel) V HEq.rfl)
theorem y_call1_v5_eq : y_call1_v5 V = (broadcastInDim S2000 ![] bcast_S_S2000) (y_call1_v4 V) := eq_of_heq (read_tunary mid_writes (i := 72) (xa := TRef.of (T := ⟨S_, .i32⟩) main_call1_v4) (xy := TRef.of (T := ⟨S2000, .i32⟩) main_call1_v5) (A := y_call1_v4 V) (broadcastInDim S2000 ![] bcast_S_S2000) rfl (by decide +kernel) (by decide +kernel) V HEq.rfl)
theorem y_call1_v6_eq : y_call1_v6 V = (cmpi .ne) (y_call1_v3 V) (y_call1_v5 V) := eq_of_heq (read_tbinary mid_writes (i := 73) (xa := TRef.of (T := ⟨S2000, .i32⟩) main_call1_v3) (xb := TRef.of (T := ⟨S2000, .i32⟩) main_call1_v5) (xy := TRef.of (T := ⟨S2000, .i1⟩) main_call1_v6) (A := y_call1_v3 V) (B := y_call1_v5 V) (cmpi .ne) rfl (by decide +kernel) (by decide +kernel) (by decide +kernel) V HEq.rfl HEq.rfl)
theorem y_call1_v7_eq : y_call1_v7 V = (broadcastInDim S2000 ![] bcast_S_S2000) (y_call1_v0 V) := eq_of_heq (read_tunary mid_writes (i := 74) (xa := TRef.of (T := ⟨S_, .i32⟩) main_call1_v0) (xy := TRef.of (T := ⟨S2000, .i32⟩) main_call1_v7) (A := y_call1_v0 V) (broadcastInDim S2000 ![] bcast_S_S2000) rfl (by decide +kernel) (by decide +kernel) V HEq.rfl)
theorem y_call1_v8_eq : y_call1_v8 V = Host.remsi (y_indices_17 V) (y_call1_v7 V) := eq_of_heq (read_tbinary mid_writes (i := 75) (xa := TRef.of (T := ⟨S2000, .i32⟩) main_indices_17) (xb := TRef.of (T := ⟨S2000, .i32⟩) main_call1_v7) (xy := TRef.of (T := ⟨S2000, .i32⟩) main_call1_v8) (A := y_indices_17 V) (B := y_call1_v7 V) Host.remsi rfl (by decide +kernel) (by decide +kernel) (by decide +kernel) V HEq.rfl HEq.rfl)
theorem y_call1_c_eq : y_call1_c V = (constantI S_ 32 0#32) := read_nullary mid_writes (i := 76) (y := main_call1_c) rfl (by decide +kernel) V
theorem y_call1_v9_eq : y_call1_v9 V = (broadcastInDim S2000 ![] bcast_S_S2000) (y_call1_c V) := eq_of_heq (read_tunary mid_writes (i := 77) (xa := TRef.of (T := ⟨S_, .i32⟩) main_call1_c) (xy := TRef.of (T := ⟨S2000, .i32⟩) main_call1_v9) (A := y_call1_c V) (broadcastInDim S2000 ![] bcast_S_S2000) rfl (by decide +kernel) (by decide +kernel) V HEq.rfl)
theorem y_call1_v10_eq : y_call1_v10 V = (cmpi .ne) (y_call1_v8 V) (y_call1_v9 V) := eq_of_heq (read_tbinary mid_writes (i := 78) (xa := TRef.of (T := ⟨S2000, .i32⟩) main_call1_v8) (xb := TRef.of (T := ⟨S2000, .i32⟩) main_call1_v9) (xy := TRef.of (T := ⟨S2000, .i1⟩) main_call1_v10) (A := y_call1_v8 V) (B := y_call1_v9 V) (cmpi .ne) rfl (by decide +kernel) (by decide +kernel) (by decide +kernel) V HEq.rfl HEq.rfl)
theorem y_call1_v11_eq : y_call1_v11 V = andi (y_call1_v6 V) (y_call1_v10 V) := eq_of_heq (read_tbinary mid_writes (i := 79) (xa := TRef.of (T := ⟨S2000, .i1⟩) main_call1_v6) (xb := TRef.of (T := ⟨S2000, .i1⟩) main_call1_v10) (xy := TRef.of (T := ⟨S2000, .i1⟩) main_call1_v11) (A := y_call1_v6 V) (B := y_call1_v10 V) andi rfl (by decide +kernel) (by decide +kernel) (by decide +kernel) V HEq.rfl HEq.rfl)
theorem y_call1_c_0_eq : y_call1_c_0 V = (constantI S_ 32 1#32) := read_nullary mid_writes (i := 80) (y := main_call1_c_0) rfl (by decide +kernel) V
theorem y_call1_v12_eq : y_call1_v12 V = (broadcastInDim S2000 ![] bcast_S_S2000) (y_call1_c_0 V) := eq_of_heq (read_tunary mid_writes (i := 81) (xa := TRef.of (T := ⟨S_, .i32⟩) main_call1_c_0) (xy := TRef.of (T := ⟨S2000, .i32⟩) main_call1_v12) (A := y_call1_c_0 V) (broadcastInDim S2000 ![] bcast_S_S2000) rfl (by decide +kernel) (by decide +kernel) V HEq.rfl)
theorem y_call1_v13_eq : y_call1_v13 V = subi (y_call1_v2 V) (y_call1_v12 V) := eq_of_heq (read_tbinary mid_writes (i := 82) (xa := TRef.of (T := ⟨S2000, .i32⟩) main_call1_v2) (xb := TRef.of (T := ⟨S2000, .i32⟩) main_call1_v12) (xy := TRef.of (T := ⟨S2000, .i32⟩) main_call1_v13) (A := y_call1_v2 V) (B := y_call1_v12 V) subi rfl (by decide +kernel) (by decide +kernel) (by decide +kernel) V HEq.rfl HEq.rfl)
theorem y_v62_eq : y_v62 V = select (y_call1_v11 V) (y_call1_v13 V) (y_call1_v2 V) := eq_of_heq (read_tternary mid_writes (i := 83) (xc := TRef.of (T := ⟨S2000, .i1⟩) main_call1_v11) (xa := TRef.of (T := ⟨S2000, .i32⟩) main_call1_v13) (xb := TRef.of (T := ⟨S2000, .i32⟩) main_call1_v2) (xy := TRef.of (T := ⟨S2000, .i32⟩) main_v62) (C := y_call1_v11 V) (A := y_call1_v13 V) (B := y_call1_v2 V) select rfl (by decide +kernel) (by decide +kernel) (by decide +kernel) (by decide +kernel) V HEq.rfl HEq.rfl HEq.rfl)
theorem y_c_19_eq : y_c_19 V = (constantI S_ 32 80#32) := read_nullary mid_writes (i := 84) (y := main_c_19) rfl (by decide +kernel) V
theorem y_call2_v0_eq : y_call2_v0 V = id (y_c_19 V) := eq_of_heq (read_tunary mid_writes (i := 85) (xa := TRef.of (T := ⟨S_, .i32⟩) main_c_19) (xy := TRef.of (T := ⟨S_, .i32⟩) main_call2_v0) (A := y_c_19 V) id rfl (by decide +kernel) (by decide +kernel) V HEq.rfl)
theorem y_call2_c_eq : y_call2_c V = (constantI S_ 32 0#32) := read_nullary mid_writes (i := 86) (y := main_call2_c) rfl (by decide +kernel) V
theorem y_call2_v1_eq : y_call2_v1 V = (cmpi .eq) (y_call2_v0 V) (y_call2_c V) := eq_of_heq (read_tbinary mid_writes (i := 87) (xa := TRef.of (T := ⟨S_, .i32⟩) main_call2_v0) (xb := TRef.of (T := ⟨S_, .i32⟩) main_call2_c) (xy := TRef.of (T := ⟨S_, .i1⟩) main_call2_v1) (A := y_call2_v0 V) (B := y_call2_c V) (cmpi .eq) rfl (by decide +kernel) (by decide +kernel) (by decide +kernel) V HEq.rfl HEq.rfl)
theorem y_call2_c_0_eq : y_call2_c_0 V = (constantI S_ 32 1#32) := read_nullary mid_writes (i := 88) (y := main_call2_c_0) rfl (by decide +kernel) V
theorem y_call2_v2_eq : y_call2_v2 V = select (y_call2_v1 V) (y_call2_c_0 V) (y_call2_v0 V) := eq_of_heq (read_tternary mid_writes (i := 89) (xc := TRef.of (T := ⟨S_, .i1⟩) main_call2_v1) (xa := TRef.of (T := ⟨S_, .i32⟩) main_call2_c_0) (xb := TRef.of (T := ⟨S_, .i32⟩) main_call2_v0) (xy := TRef.of (T := ⟨S_, .i32⟩) main_call2_v2) (C := y_call2_v1 V) (A := y_call2_c_0 V) (B := y_call2_v0 V) select rfl (by decide +kernel) (by decide +kernel) (by decide +kernel) (by decide +kernel) V HEq.rfl HEq.rfl HEq.rfl)
theorem y_call2_v3_eq : y_call2_v3 V = (broadcastInDim S2000 ![] bcast_S_S2000) (y_call2_v2 V) := eq_of_heq (read_tunary mid_writes (i := 90) (xa := TRef.of (T := ⟨S_, .i32⟩) main_call2_v2) (xy := TRef.of (T := ⟨S2000, .i32⟩) main_call2_v3) (A := y_call2_v2 V) (broadcastInDim S2000 ![] bcast_S_S2000) rfl (by decide +kernel) (by decide +kernel) V HEq.rfl)
theorem y_call2_v4_eq : y_call2_v4 V = Host.remsi (y_indices_17 V) (y_call2_v3 V) := eq_of_heq (read_tbinary mid_writes (i := 91) (xa := TRef.of (T := ⟨S2000, .i32⟩) main_indices_17) (xb := TRef.of (T := ⟨S2000, .i32⟩) main_call2_v3) (xy := TRef.of (T := ⟨S2000, .i32⟩) main_call2_v4) (A := y_indices_17 V) (B := y_call2_v3 V) Host.remsi rfl (by decide +kernel) (by decide +kernel) (by decide +kernel) V HEq.rfl HEq.rfl)
theorem y_call2_c_1_eq : y_call2_c_1 V = (constantI S_ 32 0#32) := read_nullary mid_writes (i := 92) (y := main_call2_c_1) rfl (by decide +kernel) V
theorem y_call2_v5_eq : y_call2_v5 V = (broadcastInDim S2000 ![] bcast_S_S2000) (y_call2_c_1 V) := eq_of_heq (read_tunary mid_writes (i := 93) (xa := TRef.of (T := ⟨S_, .i32⟩) main_call2_c_1) (xy := TRef.of (T := ⟨S2000, .i32⟩) main_call2_v5) (A := y_call2_c_1 V) (broadcastInDim S2000 ![] bcast_S_S2000) rfl (by decide +kernel) (by decide +kernel) V HEq.rfl)
theorem y_call2_v6_eq : y_call2_v6 V = (cmpi .ne) (y_call2_v4 V) (y_call2_v5 V) := eq_of_heq (read_tbinary mid_writes (i := 94) (xa := TRef.of (T := ⟨S2000, .i32⟩) main_call2_v4) (xb := TRef.of (T := ⟨S2000, .i32⟩) main_call2_v5) (xy := TRef.of (T := ⟨S2000, .i1⟩) main_call2_v6) (A := y_call2_v4 V) (B := y_call2_v5 V) (cmpi .ne) rfl (by decide +kernel) (by decide +kernel) (by decide +kernel) V HEq.rfl HEq.rfl)
theorem y_call2_c_2_eq : y_call2_c_2 V = (constantI S_ 32 0#32) := read_nullary mid_writes (i := 95) (y := main_call2_c_2) rfl (by decide +kernel) V
theorem y_call2_v7_eq : y_call2_v7 V = (broadcastInDim S2000 ![] bcast_S_S2000) (y_call2_c_2 V) := eq_of_heq (read_tunary mid_writes (i := 96) (xa := TRef.of (T := ⟨S_, .i32⟩) main_call2_c_2) (xy := TRef.of (T := ⟨S2000, .i32⟩) main_call2_v7) (A := y_call2_c_2 V) (broadcastInDim S2000 ![] bcast_S_S2000) rfl (by decide +kernel) (by decide +kernel) V HEq.rfl)
theorem y_call2_v8_eq : y_call2_v8 V = (cmpi .slt) (y_call2_v4 V) (y_call2_v7 V) := eq_of_heq (read_tbinary mid_writes (i := 97) (xa := TRef.of (T := ⟨S2000, .i32⟩) main_call2_v4) (xb := TRef.of (T := ⟨S2000, .i32⟩) main_call2_v7) (xy := TRef.of (T := ⟨S2000, .i1⟩) main_call2_v8) (A := y_call2_v4 V) (B := y_call2_v7 V) (cmpi .slt) rfl (by decide +kernel) (by decide +kernel) (by decide +kernel) V HEq.rfl HEq.rfl)
theorem y_call2_c_3_eq : y_call2_c_3 V = (constantI S_ 32 0#32) := read_nullary mid_writes (i := 98) (y := main_call2_c_3) rfl (by decide +kernel) V
theorem y_call2_v9_eq : y_call2_v9 V = (cmpi .slt) (y_call2_v2 V) (y_call2_c_3 V) := eq_of_heq (read_tbinary mid_writes (i := 99) (xa := TRef.of (T := ⟨S_, .i32⟩) main_call2_v2) (xb := TRef.of (T := ⟨S_, .i32⟩) main_call2_c_3) (xy := TRef.of (T := ⟨S_, .i1⟩) main_call2_v9) (A := y_call2_v2 V) (B := y_call2_c_3 V) (cmpi .slt) rfl (by decide +kernel) (by decide +kernel) (by decide +kernel) V HEq.rfl HEq.rfl)
theorem y_call2_v10_eq : y_call2_v10 V = (broadcastInDim S2000 ![] bcast_S_S2000) (y_call2_v9 V) := eq_of_heq (read_tunary mid_writes (i := 100) (xa := TRef.of (T := ⟨S_, .i1⟩) main_call2_v9) (xy := TRef.of (T := ⟨S2000, .i1⟩) main_call2_v10) (A := y_call2_v9 V) (broadcastInDim S2000 ![] bcast_S_S2000) rfl (by decide +kernel) (by decide +kernel) V HEq.rfl)
theorem y_call2_v11_eq : y_call2_v11 V = (cmpi .ne) (y_call2_v8 V) (y_call2_v10 V) := eq_of_heq (read_tbinary mid_writes (i := 101) (xa := TRef.of (T := ⟨S2000, .i1⟩) main_call2_v8) (xb := TRef.of (T := ⟨S2000, .i1⟩) main_call2_v10) (xy := TRef.of (T := ⟨S2000, .i1⟩) main_call2_v11) (A := y_call2_v8 V) (B := y_call2_v10 V) (cmpi .ne) rfl (by decide +kernel) (by decide +kernel) (by decide +kernel) V HEq.rfl HEq.rfl)
theorem y_call2_v12_eq : y_call2_v12 V = andi (y_call2_v11 V) (y_call2_v6 V) := eq_of_heq (read_tbinary mid_writes (i := 102) (xa := TRef.of (T := ⟨S2000, .i1⟩) main_call2_v11) (xb := TRef.of (T := ⟨S2000, .i1⟩) main_call2_v6) (xy := TRef.of (T := ⟨S2000, .i1⟩) main_call2_v12) (A := y_call2_v11 V) (B := y_call2_v6 V) andi rfl (by decide +kernel) (by decide +kernel) (by decide +kernel) V HEq.rfl HEq.rfl)
theorem y_call2_v13_eq : y_call2_v13 V = (broadcastInDim S2000 ![] bcast_S_S2000) (y_call2_v2 V) := eq_of_heq (read_tunary mid_writes (i := 103) (xa := TRef.of (T := ⟨S_, .i32⟩) main_call2_v2) (xy := TRef.of (T := ⟨S2000, .i32⟩) main_call2_v13) (A := y_call2_v2 V) (broadcastInDim S2000 ![] bcast_S_S2000) rfl (by decide +kernel) (by decide +kernel) V HEq.rfl)
theorem y_call2_v14_eq : y_call2_v14 V = addi (y_call2_v4 V) (y_call2_v13 V) := eq_of_heq (read_tbinary mid_writes (i := 104) (xa := TRef.of (T := ⟨S2000, .i32⟩) main_call2_v4) (xb := TRef.of (T := ⟨S2000, .i32⟩) main_call2_v13) (xy := TRef.of (T := ⟨S2000, .i32⟩) main_call2_v14) (A := y_call2_v4 V) (B := y_call2_v13 V) addi rfl (by decide +kernel) (by decide +kernel) (by decide +kernel) V HEq.rfl HEq.rfl)
theorem y_v63_eq : y_v63 V = select (y_call2_v12 V) (y_call2_v14 V) (y_call2_v4 V) := eq_of_heq (read_tternary mid_writes (i := 105) (xc := TRef.of (T := ⟨S2000, .i1⟩) main_call2_v12) (xa := TRef.of (T := ⟨S2000, .i32⟩) main_call2_v14) (xb := TRef.of (T := ⟨S2000, .i32⟩) main_call2_v4) (xy := TRef.of (T := ⟨S2000, .i32⟩) main_v63) (C := y_call2_v12 V) (A := y_call2_v14 V) (B := y_call2_v4 V) select rfl (by decide +kernel) (by decide +kernel) (by decide +kernel) (by decide +kernel) V HEq.rfl HEq.rfl HEq.rfl)
theorem y_c_20_eq : y_c_20 V = (constantI S_ 32 0#32) := read_nullary mid_writes (i := 106) (y := main_c_20) rfl (by decide +kernel) V
theorem y_v64_eq : y_v64 V = (broadcastInDim S2000 ![] bcast_S_S2000) (y_c_20 V) := read_unary mid_writes (i := 107) (a := main_c_20) (y := main_v64) rfl (by decide +kernel) (by decide +kernel) V
theorem y_v65_eq : y_v65 V = (cmpi .slt) (y_v62 V) (y_v64 V) := read_binary mid_writes (i := 108) (a := main_v62) (b := main_v64) (y := main_v65) rfl (by decide +kernel) (by decide +kernel) (by decide +kernel) V
theorem y_c_21_eq : y_c_21 V = (constantI S_ 32 3000#32) := read_nullary mid_writes (i := 109) (y := main_c_21) rfl (by decide +kernel) V
theorem y_v66_eq : y_v66 V = (broadcastInDim S2000 ![] bcast_S_S2000) (y_c_21 V) := read_unary mid_writes (i := 110) (a := main_c_21) (y := main_v66) rfl (by decide +kernel) (by decide +kernel) V
theorem y_v67_eq : y_v67 V = addi (y_v62 V) (y_v66 V) := read_binary mid_writes (i := 111) (a := main_v62) (b := main_v66) (y := main_v67) rfl (by decide +kernel) (by decide +kernel) (by decide +kernel) V
theorem y_v68_eq : y_v68 V = select (y_v65 V) (y_v67 V) (y_v62 V) := read_ternary mid_writes (i := 112) (c := main_v65) (a := main_v67) (b := main_v62) (y := main_v68) rfl (by decide +kernel) (by decide +kernel) (by decide +kernel) (by decide +kernel) V
theorem y_v69_eq : y_v69 V = (broadcastInDim S2000x1 ![0] bcast_S2000_S2000x1_0) (y_v68 V) := read_unary mid_writes (i := 113) (a := main_v68) (y := main_v69) rfl (by decide +kernel) (by decide +kernel) V
theorem y_v70_eq : y_v70 V = Host.gather gather_S4x3000_S2000x1_S4x2000_0_1_n_n_1_1_41 (y_v45 V) (y_v69 V) := read_binary mid_writes (i := 114) (a := main_v45) (b := main_v69) (y := main_v70) rfl (by decide +kernel) (by decide +kernel) (by decide +kernel) V
theorem y_c_22_eq : y_c_22 V = (constantI S_ 32 0#32) := read_nullary mid_writes (i := 115) (y := main_c_22) rfl (by decide +kernel) V
theorem y_call3_v0_eq : y_call3_v0 V = (sitofp .f32) (y_c_22 V) := eq_of_heq (read_tunary mid_writes (i := 116) (xa := TRef.of (T := ⟨S_, .i32⟩) main_c_22) (xy := TRef.of (T := ⟨S_, .f32⟩) main_call3_v0) (A := y_c_22 V) (sitofp .f32) rfl (by decide +kernel) (by decide +kernel) V HEq.rfl)
theorem y_v71_eq : y_v71 V = pad S4x2048 ![0, 0] ![0, 48] ![0, 0] (y_v70 V) (y_call3_v0 V) pads_S4x2000_S4x2048_000_0480 h_S_ := by
  have h := read_tbinary mid_writes (i := 117) (xa := TRef.of (T := ⟨S4x2000, .f32⟩) main_v70) (xb := TRef.of (T := ⟨S_, .f32⟩) main_call3_v0) (xy := TRef.of (T := ⟨S4x2048, .f32⟩) main_v71) (A := y_v70 V) (B := y_call3_v0 V) (fun (x : S4x2000.Idx → Elt F .f32) (v : S_.Idx → Elt F .f32) => pad S4x2048 ![0, 0] ![0, 48] ![0, 0] x v pads_S4x2000_S4x2048_000_0480 h_S_) rfl (by decide +kernel) (by decide +kernel) (by decide +kernel) V HEq.rfl HEq.rfl
  exact eq_of_heq h
theorem y_v72_eq : y_v72 V = (sitofp .f32) (y_v63 V) := read_unary mid_writes (i := 118) (a := main_v63) (y := main_v72) rfl (by decide +kernel) (by decide +kernel) V
theorem y_c_23_eq : y_c_23 V = (constantI S_ 32 0#32) := read_nullary mid_writes (i := 119) (y := main_c_23) rfl (by decide +kernel) V
theorem y_call4_v0_eq : y_call4_v0 V = (sitofp .f32) (y_c_23 V) := eq_of_heq (read_tunary mid_writes (i := 120) (xa := TRef.of (T := ⟨S_, .i32⟩) main_c_23) (xy := TRef.of (T := ⟨S_, .f32⟩) main_call4_v0) (A := y_c_23 V) (sitofp .f32) rfl (by decide +kernel) (by decide +kernel) V HEq.rfl)
theorem y_v73_eq : y_v73 V = pad S2048 ![0] ![48] ![0] (y_v72 V) (y_call4_v0 V) pads_S2000_S2048_0480 h_S_ := by
  have h := read_tbinary mid_writes (i := 121) (xa := TRef.of (T := ⟨S2000, .f32⟩) main_v72) (xb := TRef.of (T := ⟨S_, .f32⟩) main_call4_v0) (xy := TRef.of (T := ⟨S2048, .f32⟩) main_v73) (A := y_v72 V) (B := y_call4_v0 V) (fun (x : S2000.Idx → Elt F .f32) (v : S_.Idx → Elt F .f32) => pad S2048 ![0] ![48] ![0] x v pads_S2000_S2048_0480 h_S_) rfl (by decide +kernel) (by decide +kernel) (by decide +kernel) V HEq.rfl HEq.rfl
  exact eq_of_heq h
theorem y_v74_eq : y_v74 V = (broadcastInDim S1x2048 ![1] bcast_S2048_S1x2048_1) (y_v73 V) := read_unary mid_writes (i := 122) (a := main_v73) (y := main_v74) rfl (by decide +kernel) (by decide +kernel) V
theorem y_cst_24_eq : y_cst_24 V = (constant S_ .f32 0xF149F2CA#32) := read_nullary mid_writes (i := 123) (y := main_cst_24) rfl (by decide +kernel) V
theorem y_call5_v0_eq : y_call5_v0 V = id (y_cst_24 V) := eq_of_heq (read_tunary mid_writes (i := 124) (xa := TRef.of (T := ⟨S_, .f32⟩) main_cst_24) (xy := TRef.of (T := ⟨S_, .f32⟩) main_call5_v0) (A := y_cst_24 V) id rfl (by decide +kernel) (by decide +kernel) V HEq.rfl)
theorem y_v75_eq : y_v75 V = pad S2048 ![0] ![48] ![0] (y_values_16 V) (y_call5_v0 V) pads_S2000_S2048_0480 h_S_ := by
  have h := read_tbinary mid_writes (i := 125) (xa := TRef.of (T := ⟨S2000, .f32⟩) main_values_16) (xb := TRef.of (T := ⟨S_, .f32⟩) main_call5_v0) (xy := TRef.of (T := ⟨S2048, .f32⟩) main_v75) (A := y_values_16 V) (B := y_call5_v0 V) (fun (x : S2000.Idx → Elt F .f32) (v : S_.Idx → Elt F .f32) => pad S2048 ![0] ![48] ![0] x v pads_S2000_S2048_0480 h_S_) rfl (by decide +kernel) (by decide +kernel) (by decide +kernel) V HEq.rfl HEq.rfl
  exact eq_of_heq h
theorem y_v76_eq : y_v76 V = (broadcastInDim S1x2048 ![1] bcast_S2048_S1x2048_1) (y_v75 V) := read_unary mid_writes (i := 126) (a := main_v75) (y := main_v76) rfl (by decide +kernel) (by decide +kernel) V

end Cert.KernelIdeal.Pf

end
-- ==== Proof.TopGather.lean ====
module

public import Idealize.ShloMosaic.Lib.Pointwise
public import Idealize.ShloMosaic.Lib.ValueIdxCore

/-! Top-k and the two gathers (down the rows, along the columns), read at an index. -/

@[expose] public section

noncomputable section

namespace Cert.Pf
open Idealize.ShloMosaic

/-- Entry `j` of a top-k is an entry of the operand, and its index is that entry's position. -/
theorem topK_at {α : Type} {n k : Nat} (gt : α → α → BitVec 1) (x : (⟨1, ![n]⟩ : Shape).Idx → α)
    (h : (⟨1, ![n]⟩ : Shape).Slices (fun _ => 0) ⟨1, ![k]⟩) (j : Fin k) :
    ∃ i : Fin n, (Host.topK ⟨1, ![k]⟩ 0 gt x h).1 (ix1 j) = x (ix1 i)
      ∧ (Host.topK ⟨1, ![k]⟩ 0 gt x h).2 (ix1 j) = BitVec.ofNat 32 i.val := by
  unfold Host.topK Host.sort2
  dsimp only
  rw [dif_pos (show (0 : Nat) < (⟨1, ![n]⟩ : Shape).rank from Nat.one_pos)]
  refine ⟨sortedFrom _ _, congrArg x (funext fun a => ?_), rfl⟩
  obtain rfl : a = 0 := Subsingleton.elim _ _
  rfl

section Rows
variable {α : Type} {N C B : Nat}

/-- The dimension numbers of `x[idx]` over the rows of `x`. -/
abbrev rowDims (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The dimension numbers of `x[:, idx]`. -/
abbrev colDims (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- The start index `w`, read signed and clamped into a table of `N` rows. -/
def clampTo (N : Nat) (hN : 0 < N) (w : BitVec 32) : Fin N := ⟨min w.toInt.toNat (N - 1), by omega⟩

/-- A start index in range is itself. -/
theorem clampTo_ofNat {N : Nat} (hN : 0 < N) (h31 : N < 2 ^ 31) (i : Fin N) : clampTo N hN (BitVec.ofNat 32 i.val) = i := by
  refine Fin.ext ?_
  have h := i.isLt
  have : (BitVec.ofNat 32 i.val).toInt = (i.val : Int) := by
    rw [BitVec.toInt_eq_toNat_cond, BitVec.toNat_ofNat]
    split <;> omega
  show min (BitVec.ofNat 32 i.val).toInt.toNat (N - 1) = i.val
  rw [this]
  omega

/-- The gather of rows, at row `b`, column `c`. -/
theorem gather_rows_at (hN : 0 < N) (wf) (x : (⟨2, ![N, C]⟩ : Shape).Idx → α) (idx : IVec ⟨2, ![B, 1]⟩ 32)
    (b : Fin B) (c : Fin C) :
    Host.gather (rowDims (N := N) (C := C) (B := B) wf) x idx (ix2 b c) = x (ix2 (clampTo N hN (idx (ix2 b 0))) c) := by
  unfold Host.gather
  refine congrArg x (funext fun a => Fin.ext ?_)
  show (rowDims wf).start (ix2 b c) idx a + (rowDims wf).batchCoord (ix2 b c) a + (rowDims wf).offCoord (ix2 b c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowDims wf).startIndexMap from List.mem_singleton.mpr rfl)]
    have hsi : (rowDims wf).siIdx (ix2 b c) ⟨List.idxOf (0 : Fin 2) (rowDims wf).startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    show min (idx ((rowDims wf).siIdx (ix2 b c) ⟨List.idxOf (0 : Fin 2) (rowDims wf).startIndexMap, _⟩)).toInt.toNat _ = _
    rw [hsi]
    rfl
  | ⟨1, _⟩ =>
    unfold GatherDims.start
    rw [dif_neg (show ¬ (⟨1, by decide⟩ : Fin 2) ∈ (rowDims wf).startIndexMap from by
      intro h; have := List.mem_singleton.mp h; exact absurd (congrArg Fin.val this) Nat.one_ne_zero), Nat.zero_add]
    rfl

/-- The gather of columns, at row `c`, column `b`. -/
theorem gather_cols_at (hN : 0 < N) (wf) (x : (⟨2, ![C, N]⟩ : Shape).Idx → α) (idx : IVec ⟨2, ![B, 1]⟩ 32)
    (b : Fin B) (c : Fin C) :
    Host.gather (colDims (N := N) (C := C) (B := B) wf) x idx (ix2 c b) = x (ix2 c (clampTo N hN (idx (ix2 b 0)))) := by
  unfold Host.gather
  refine congrArg x (funext fun a => Fin.ext ?_)
  show (colDims wf).start (ix2 c b) idx a + (colDims wf).batchCoord (ix2 c b) a + (colDims wf).offCoord (ix2 c b) a = _
  rw [GatherDims.batchCoord_eq_zero _ _ _ List.not_mem_nil, Nat.add_zero]
  match a with
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 2) ∈ (colDims wf).startIndexMap from List.mem_singleton.mpr rfl)]
    have hsi : (colDims wf).siIdx (ix2 c b) ⟨List.idxOf (1 : Fin 2) (colDims wf).startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    show min (idx ((colDims wf).siIdx (ix2 c b) ⟨List.idxOf (1 : Fin 2) (colDims wf).startIndexMap, _⟩)).toInt.toNat _ = _
    rw [hsi]
    rfl
  | ⟨0, _⟩ =>
    unfold GatherDims.start
    rw [dif_neg (show ¬ (⟨0, by decide⟩ : Fin 2) ∈ (colDims wf).startIndexMap from by
      intro h; have := List.mem_singleton.mp h; exact absurd (congrArg Fin.val this) Nat.zero_ne_one), Nat.zero_add]
    rfl

end Rows

end Cert.Pf
-- ==== Proof.Mid.lean ====
module

public import proofs.«01_k».proof.Proof.RfDec
public import proofs.«01_k».proof.Proof.KiMidA
public import proofs.«01_k».proof.Proof.KiMidB
public import proofs.«01_k».proof.Proof.TopGather

/-! From the decoded levels to the 2000 candidates. The kernel keeps the three levels side by side in tables of 22784
    columns, the reference in one table per level. From equal levels the two programs select equal candidates: equal
    scores, equal boxes, equal classes. -/

@[expose] public section

noncomputable section
set_option maxRecDepth 100000

namespace Cert.Pf
open Idealize.ShloMosaic Idealize.ShloMosaic.StableHlo

abbrev KV := Valuation Cert.KernelIdeal.τ Cert.KernelIdeal.sig (Elt Ideal)
abbrev RV := Valuation Cert.ReferenceIdeal.τ Cert.ReferenceIdeal.sig (Elt Ideal)

variable {K : KV} {R : RV}

/-- The kernel's tables (contents `K`) hold the reference's levels (contents `R`) side by side. -/
structure Same (K : KV) (R : RV) : Prop where
  box0 : ∀ (n : Fin 1083) (k : Fin 4), KernelIdeal.Pf.y_v14_0 K (ix2 k ⟨n.val, by omega⟩) = ReferenceIdeal.Pf.x_v82 R (ix2 n k)
  conf0 : ∀ n : Fin 1083, KernelIdeal.Pf.y_v14_1 K (ix2 0 ⟨n.val, by omega⟩) = ReferenceIdeal.Pf.x_v90 R (ix1 n)
  cls0 : ∀ (n : Fin 1083) (k : Fin 80), KernelIdeal.Pf.y_v14_2 K (ix2 k ⟨n.val, by omega⟩) = ReferenceIdeal.Pf.x_v97 R (ix2 n k)
  box1 : ∀ (n : Fin 4332) (k : Fin 4), KernelIdeal.Pf.y_v14_0 K (ix2 k ⟨1083 + n.val, by omega⟩) = ReferenceIdeal.Pf.x_v195 R (ix2 n k)
  conf1 : ∀ n : Fin 4332, KernelIdeal.Pf.y_v14_1 K (ix2 0 ⟨1083 + n.val, by omega⟩) = ReferenceIdeal.Pf.x_v203 R (ix1 n)
  cls1 : ∀ (n : Fin 4332) (k : Fin 80), KernelIdeal.Pf.y_v14_2 K (ix2 k ⟨1083 + n.val, by omega⟩) = ReferenceIdeal.Pf.x_v210 R (ix2 n k)
  box2 : ∀ (n : Fin 17328) (k : Fin 4), KernelIdeal.Pf.y_v14_0 K (ix2 k ⟨5415 + n.val, by omega⟩) = ReferenceIdeal.Pf.x_v308 R (ix2 n k)
  conf2 : ∀ n : Fin 17328, KernelIdeal.Pf.y_v14_1 K (ix2 0 ⟨5415 + n.val, by omega⟩) = ReferenceIdeal.Pf.x_v316 R (ix1 n)
  cls2 : ∀ (n : Fin 17328) (k : Fin 80), KernelIdeal.Pf.y_v14_2 K (ix2 k ⟨5415 + n.val, by omega⟩) = ReferenceIdeal.Pf.x_v323 R (ix2 n k)

/-- Every index of rank one is `ix1` of its coordinate. -/
theorem eq_ix1 {n : Nat} (j : (⟨1, ![n]⟩ : Shape).Idx) : ∃ i : Fin n, j = ix1 i :=
  ⟨j 0, funext fun a => by obtain rfl : a = 0 := Subsingleton.elim _ _; rfl⟩

/-- Every index of rank two is `ix2` of its coordinates. -/
theorem eq_ix2 {n m : Nat} (j : (⟨2, ![n, m]⟩ : Shape).Idx) : ∃ (a : Fin n) (b : Fin m), j = ix2 a b :=
  ⟨j 0, j 1, funext fun a => by fin_cases a <;> rfl⟩

/-- An index in range is not negative, so the wrap of negative indices leaves it. -/
theorem wrap_of_lt {α : Type} (i : Nat) (h : i < 2 ^ 31) (a b : α) :
    Scalar.select (IntOp.cmpi .slt (BitVec.ofNat 32 i) 0#32) a b = b := by
  have h1 : IntOp.cmpi .slt (BitVec.ofNat 32 i) 0#32 = 0#1 := by
    have : (BitVec.ofNat 32 i).slt 0#32 = false := by
      rw [BitVec.slt_eq_decide, decide_eq_false_iff_not]
      rw [BitVec.toInt_eq_toNat_cond, BitVec.toNat_ofNat]
      simp
      omega
    show BitVec.ofBool ((BitVec.ofNat 32 i).slt 0#32) = 0#1
    rw [this]; rfl
  rw [h1]
  rfl

/-- The same, the index given by an equation. -/
theorem wrap_eq {w : BitVec 32} {i : Nat} (h : w = BitVec.ofNat 32 i) (hi : i < 2 ^ 31) (a : BitVec 32) :
    Scalar.select (IntOp.cmpi .slt w 0#32) a w = BitVec.ofNat 32 i := by
  subst h
  exact wrap_of_lt i hi _ _

/-- The kernel's wrapped index, boxes: an index in range is left. -/
theorem y_v44_at (p : Fin 3000) (i : Nat) (hi : i < 2 ^ 31) (h : KernelIdeal.Pf.y_v37 K (ix1 p) = BitVec.ofNat 32 i) :
    KernelIdeal.Pf.y_v44 K (ix2 p 0) = BitVec.ofNat 32 i := by
  rw [KernelIdeal.Pf.y_v44_eq, KernelIdeal.Pf.y_v43_eq, KernelIdeal.Pf.y_v40_eq, KernelIdeal.Pf.y_v39_eq, KernelIdeal.Pf.y_c_11_eq]
  pointwise
  exact wrap_eq h hi _

/-- The kernel's wrapped index, classes: an index in range is left. -/
theorem y_v51_at (p : Fin 3000) (i : Nat) (hi : i < 2 ^ 31) (h : KernelIdeal.Pf.y_v37 K (ix1 p) = BitVec.ofNat 32 i) :
    KernelIdeal.Pf.y_v51 K (ix2 p 0) = BitVec.ofNat 32 i := by
  rw [KernelIdeal.Pf.y_v51_eq, KernelIdeal.Pf.y_v50_eq, KernelIdeal.Pf.y_v47_eq, KernelIdeal.Pf.y_v46_eq, KernelIdeal.Pf.y_c_13_eq]
  pointwise
  exact wrap_eq h hi _

/-- Level 0: equal confidences. -/
theorem conf0_eq (h : Same K R) : KernelIdeal.Pf.y_v16 K = ReferenceIdeal.Pf.x_v90 R := by
  funext j
  obtain ⟨n, rfl⟩ := eq_ix1 j
  rw [KernelIdeal.Pf.y_v16_eq, KernelIdeal.Pf.y_v15_eq]
  pointwise
  exact h.conf0 n

/-- Level 0: equal selected confidences. -/
theorem values0_eq (h : Same K R) : KernelIdeal.Pf.y_values K = ReferenceIdeal.Pf.x_values R := by
  rw [KernelIdeal.Pf.y_values_eq, ReferenceIdeal.Pf.x_values_eq, conf0_eq h]

/-- Level 0: equal selected positions. -/
theorem indices0_eq (h : Same K R) : KernelIdeal.Pf.y_indices K = ReferenceIdeal.Pf.x_indices R := by
  rw [KernelIdeal.Pf.y_indices_eq, ReferenceIdeal.Pf.x_indices_eq, conf0_eq h]

/-- Level 0: equal thresholded confidences. -/
theorem thr0_eq (h : Same K R) (p : Fin 1000) : KernelIdeal.Pf.y_v22 K (ix1 p) = ReferenceIdeal.Pf.x_v115 R (ix1 p) := by
  simp only [KernelIdeal.Pf.y_cst_2_eq, KernelIdeal.Pf.y_v19_eq, KernelIdeal.Pf.y_v20_eq, KernelIdeal.Pf.y_v21_eq, KernelIdeal.Pf.y_v22_eq, ReferenceIdeal.Pf.x_cst_23_eq, ReferenceIdeal.Pf.x_v112_eq, ReferenceIdeal.Pf.x_v113_eq, ReferenceIdeal.Pf.x_v114_eq, ReferenceIdeal.Pf.x_v115_eq, values0_eq h]

/-- Level 0: the selected row behind candidate `p`, in all four tables. -/
theorem row0 (h : Same K R) (p : Fin 1000) : ∃ i : Fin 1083,
    (∀ k, ReferenceIdeal.Pf.x_v342 R (ix2 ⟨p.val, by omega⟩ k) = ReferenceIdeal.Pf.x_v82 R (ix2 i k)) ∧
    (∀ k, ReferenceIdeal.Pf.x_v343 R (ix2 ⟨p.val, by omega⟩ k) = ReferenceIdeal.Pf.x_v97 R (ix2 i k)) ∧
    (∀ k, KernelIdeal.Pf.y_v45 K (ix2 k ⟨p.val, by omega⟩) = KernelIdeal.Pf.y_v14_0 K (ix2 k ⟨i.val, by omega⟩)) ∧
    (∀ k, KernelIdeal.Pf.y_v52 K (ix2 k ⟨p.val, by omega⟩) = KernelIdeal.Pf.y_v14_2 K (ix2 k ⟨i.val, by omega⟩)) := by
  obtain ⟨i, -, hi⟩ := topK_at (FloatOps.cmpfTotal .gt) (ReferenceIdeal.Pf.x_v90 R) ReferenceIdeal.Gen.sliceFits_S1083_S1000 p
  have hi' : ReferenceIdeal.Pf.x_indices R (ix1 p) = BitVec.ofNat 32 i.val := by rw [ReferenceIdeal.Pf.x_indices_eq]; exact hi
  have hlt := i.isLt
  have hb : ReferenceIdeal.Pf.x_v103 R (ix2 p 0) = BitVec.ofNat 32 i.val := by
    simp only [ReferenceIdeal.Pf.x_c_eq, ReferenceIdeal.Pf.x_v98_eq, ReferenceIdeal.Pf.x_v99_eq, ReferenceIdeal.Pf.x_c_20_eq, ReferenceIdeal.Pf.x_v100_eq, ReferenceIdeal.Pf.x_v101_eq, ReferenceIdeal.Pf.x_v102_eq, ReferenceIdeal.Pf.x_v103_eq]
    pointwise
    exact wrap_eq hi' (by omega) _
  have hc : ReferenceIdeal.Pf.x_v110 R (ix2 p 0) = BitVec.ofNat 32 i.val := by
    simp only [ReferenceIdeal.Pf.x_c_21_eq, ReferenceIdeal.Pf.x_v105_eq, ReferenceIdeal.Pf.x_v106_eq, ReferenceIdeal.Pf.x_c_22_eq, ReferenceIdeal.Pf.x_v107_eq, ReferenceIdeal.Pf.x_v108_eq, ReferenceIdeal.Pf.x_v109_eq, ReferenceIdeal.Pf.x_v110_eq]
    pointwise
    exact wrap_eq hi' (by omega) _
  have hx : KernelIdeal.Pf.y_v37 K (ix1 ⟨p.val, by omega⟩) = BitVec.ofNat 32 (0 + i.val) := by
    have e : KernelIdeal.Pf.y_v37 K (ix1 ⟨p.val, by omega⟩) = KernelIdeal.Pf.y_v18 K (ix1 p) := by
      rw [KernelIdeal.Pf.y_v37_eq]
      pointwise
    rw [e, KernelIdeal.Pf.y_v18_eq, KernelIdeal.Pf.y_v17_eq, KernelIdeal.Pf.y_c_1_eq, indices0_eq h]
    pointwise
    refine (congrArg (fun w => IntOp.addi w 0#32) hi').trans ?_
    show BitVec.ofNat 32 i.val + BitVec.ofNat 32 0 = _
    rw [← BitVec.ofNat_add, Nat.add_comm]
    rw [Nat.zero_add]
  have hk : clampTo 22784 (by decide) (BitVec.ofNat 32 (0 + i.val)) = ⟨i.val, by omega⟩ := by
    refine (clampTo_ofNat (by decide) (by decide) (⟨0 + i.val, by omega⟩ : Fin 22784)).trans ?_
    exact Fin.ext (by simp)
  refine ⟨i, fun k => ?_, fun k => ?_, fun k => ?_, fun k => ?_⟩
  · have e : ReferenceIdeal.Pf.x_v342 R (ix2 ⟨p.val, by omega⟩ k) = ReferenceIdeal.Pf.x_v104 R (ix2 p k) := by
      rw [ReferenceIdeal.Pf.x_v342_eq]
      pointwise
    rw [e, ReferenceIdeal.Pf.x_v104_eq]
    refine (gather_rows_at (by decide) _ _ _ _ _).trans ?_
    rw [hb, clampTo_ofNat _ (by decide)]
  · have e : ReferenceIdeal.Pf.x_v343 R (ix2 ⟨p.val, by omega⟩ k) = ReferenceIdeal.Pf.x_v111 R (ix2 p k) := by
      rw [ReferenceIdeal.Pf.x_v343_eq]
      pointwise
    rw [e, ReferenceIdeal.Pf.x_v111_eq]
    refine (gather_rows_at (by decide) _ _ _ _ _).trans ?_
    rw [hc, clampTo_ofNat _ (by decide)]
  · rw [KernelIdeal.Pf.y_v45_eq]
    refine (gather_cols_at (by decide) _ _ _ _ _).trans ?_
    rw [y_v44_at _ _ (by omega) hx, hk]
  · rw [KernelIdeal.Pf.y_v52_eq]
    refine (gather_cols_at (by decide) _ _ _ _ _).trans ?_
    rw [y_v51_at _ _ (by omega) hx, hk]

/-- Level 0: equal boxes of the candidates. -/
theorem cbox0 (h : Same K R) (p : Fin 1000) (k : Fin 4) :
    KernelIdeal.Pf.y_v45 K (ix2 k ⟨p.val, by omega⟩) = ReferenceIdeal.Pf.x_v342 R (ix2 ⟨p.val, by omega⟩ k) := by
  obtain ⟨i, h1, -, h3, -⟩ := row0 h p
  rw [h1, h3, h.box0]

/-- Level 0: equal class scores of the candidates. -/
theorem ccls0 (h : Same K R) (p : Fin 1000) (k : Fin 80) :
    KernelIdeal.Pf.y_v52 K (ix2 k ⟨p.val, by omega⟩) = ReferenceIdeal.Pf.x_v343 R (ix2 ⟨p.val, by omega⟩ k) := by
  obtain ⟨i, -, h2, -, h4⟩ := row0 h p
  rw [h2, h4, h.cls0]

/-- Level 0: equal confidences of the candidates. -/
theorem cconf0 (h : Same K R) (p : Fin 1000) :
    KernelIdeal.Pf.y_v38 K (ix1 ⟨p.val, by omega⟩) = ReferenceIdeal.Pf.x_v344 R (ix1 ⟨p.val, by omega⟩) := by
  have e : KernelIdeal.Pf.y_v38 K (ix1 ⟨p.val, by omega⟩) = KernelIdeal.Pf.y_v22 K (ix1 p) := by
    rw [KernelIdeal.Pf.y_v38_eq]
    pointwise
  have e' : ReferenceIdeal.Pf.x_v344 R (ix1 ⟨p.val, by omega⟩) = ReferenceIdeal.Pf.x_v115 R (ix1 p) := by
    rw [ReferenceIdeal.Pf.x_v344_eq]
    pointwise
  rw [e, e', thr0_eq h]

/-- Level 1: equal confidences. -/
theorem conf1_eq (h : Same K R) : KernelIdeal.Pf.y_v23 K = ReferenceIdeal.Pf.x_v203 R := by
  funext j
  obtain ⟨n, rfl⟩ := eq_ix1 j
  rw [KernelIdeal.Pf.y_v23_eq, KernelIdeal.Pf.y_v15_eq]
  pointwise
  exact h.conf1 n

/-- Level 1: equal selected confidences. -/
theorem values1_eq (h : Same K R) : KernelIdeal.Pf.y_values_3 K = ReferenceIdeal.Pf.x_values_42 R := by
  rw [KernelIdeal.Pf.y_values_3_eq, ReferenceIdeal.Pf.x_values_42_eq, conf1_eq h]

/-- Level 1: equal selected positions. -/
theorem indices1_eq (h : Same K R) : KernelIdeal.Pf.y_indices_4 K = ReferenceIdeal.Pf.x_indices_43 R := by
  rw [KernelIdeal.Pf.y_indices_4_eq, ReferenceIdeal.Pf.x_indices_43_eq, conf1_eq h]

/-- Level 1: equal thresholded confidences. -/
theorem thr1_eq (h : Same K R) (p : Fin 1000) : KernelIdeal.Pf.y_v29 K (ix1 p) = ReferenceIdeal.Pf.x_v228 R (ix1 p) := by
  simp only [KernelIdeal.Pf.y_cst_6_eq, KernelIdeal.Pf.y_v26_eq, KernelIdeal.Pf.y_v27_eq, KernelIdeal.Pf.y_v28_eq, KernelIdeal.Pf.y_v29_eq, ReferenceIdeal.Pf.x_cst_48_eq, ReferenceIdeal.Pf.x_v225_eq, ReferenceIdeal.Pf.x_v226_eq, ReferenceIdeal.Pf.x_v227_eq, ReferenceIdeal.Pf.x_v228_eq, values1_eq h]

/-- Level 1: the selected row behind candidate `p`, in all four tables. -/
theorem row1 (h : Same K R) (p : Fin 1000) : ∃ i : Fin 4332,
    (∀ k, ReferenceIdeal.Pf.x_v342 R (ix2 ⟨1000 + p.val, by omega⟩ k) = ReferenceIdeal.Pf.x_v195 R (ix2 i k)) ∧
    (∀ k, ReferenceIdeal.Pf.x_v343 R (ix2 ⟨1000 + p.val, by omega⟩ k) = ReferenceIdeal.Pf.x_v210 R (ix2 i k)) ∧
    (∀ k, KernelIdeal.Pf.y_v45 K (ix2 k ⟨1000 + p.val, by omega⟩) = KernelIdeal.Pf.y_v14_0 K (ix2 k ⟨1083 + i.val, by omega⟩)) ∧
    (∀ k, KernelIdeal.Pf.y_v52 K (ix2 k ⟨1000 + p.val, by omega⟩) = KernelIdeal.Pf.y_v14_2 K (ix2 k ⟨1083 + i.val, by omega⟩)) := by
  obtain ⟨i, -, hi⟩ := topK_at (FloatOps.cmpfTotal .gt) (ReferenceIdeal.Pf.x_v203 R) ReferenceIdeal.Gen.sliceFits_S4332_S1000 p
  have hi' : ReferenceIdeal.Pf.x_indices_43 R (ix1 p) = BitVec.ofNat 32 i.val := by rw [ReferenceIdeal.Pf.x_indices_43_eq]; exact hi
  have hlt := i.isLt
  have hb : ReferenceIdeal.Pf.x_v216 R (ix2 p 0) = BitVec.ofNat 32 i.val := by
    simp only [ReferenceIdeal.Pf.x_c_44_eq, ReferenceIdeal.Pf.x_v211_eq, ReferenceIdeal.Pf.x_v212_eq, ReferenceIdeal.Pf.x_c_45_eq, ReferenceIdeal.Pf.x_v213_eq, ReferenceIdeal.Pf.x_v214_eq, ReferenceIdeal.Pf.x_v215_eq, ReferenceIdeal.Pf.x_v216_eq]
    pointwise
    exact wrap_eq hi' (by omega) _
  have hc : ReferenceIdeal.Pf.x_v223 R (ix2 p 0) = BitVec.ofNat 32 i.val := by
    simp only [ReferenceIdeal.Pf.x_c_46_eq, ReferenceIdeal.Pf.x_v218_eq, ReferenceIdeal.Pf.x_v219_eq, ReferenceIdeal.Pf.x_c_47_eq, ReferenceIdeal.Pf.x_v220_eq, ReferenceIdeal.Pf.x_v221_eq, ReferenceIdeal.Pf.x_v222_eq, ReferenceIdeal.Pf.x_v223_eq]
    pointwise
    exact wrap_eq hi' (by omega) _
  have hx : KernelIdeal.Pf.y_v37 K (ix1 ⟨1000 + p.val, by omega⟩) = BitVec.ofNat 32 (1083 + i.val) := by
    have e : KernelIdeal.Pf.y_v37 K (ix1 ⟨1000 + p.val, by omega⟩) = KernelIdeal.Pf.y_v25 K (ix1 p) := by
      rw [KernelIdeal.Pf.y_v37_eq]
      pointwise
    rw [e, KernelIdeal.Pf.y_v25_eq, KernelIdeal.Pf.y_v24_eq, KernelIdeal.Pf.y_c_5_eq, indices1_eq h]
    pointwise
    refine (congrArg (fun w => IntOp.addi w 1083#32) hi').trans ?_
    show BitVec.ofNat 32 i.val + BitVec.ofNat 32 1083 = _
    rw [← BitVec.ofNat_add, Nat.add_comm]
  have hk : clampTo 22784 (by decide) (BitVec.ofNat 32 (1083 + i.val)) = ⟨1083 + i.val, by omega⟩ := by
    refine (clampTo_ofNat (by decide) (by decide) (⟨1083 + i.val, by omega⟩ : Fin 22784)).trans ?_
    exact Fin.ext (by simp)
  refine ⟨i, fun k => ?_, fun k => ?_, fun k => ?_, fun k => ?_⟩
  · have e : ReferenceIdeal.Pf.x_v342 R (ix2 ⟨1000 + p.val, by omega⟩ k) = ReferenceIdeal.Pf.x_v217 R (ix2 p k) := by
      rw [ReferenceIdeal.Pf.x_v342_eq]
      pointwise
    rw [e, ReferenceIdeal.Pf.x_v217_eq]
    refine (gather_rows_at (by decide) _ _ _ _ _).trans ?_
    rw [hb, clampTo_ofNat _ (by decide)]
  · have e : ReferenceIdeal.Pf.x_v343 R (ix2 ⟨1000 + p.val, by omega⟩ k) = ReferenceIdeal.Pf.x_v224 R (ix2 p k) := by
      rw [ReferenceIdeal.Pf.x_v343_eq]
      pointwise
    rw [e, ReferenceIdeal.Pf.x_v224_eq]
    refine (gather_rows_at (by decide) _ _ _ _ _).trans ?_
    rw [hc, clampTo_ofNat _ (by decide)]
  · rw [KernelIdeal.Pf.y_v45_eq]
    refine (gather_cols_at (by decide) _ _ _ _ _).trans ?_
    rw [y_v44_at _ _ (by omega) hx, hk]
  · rw [KernelIdeal.Pf.y_v52_eq]
    refine (gather_cols_at (by decide) _ _ _ _ _).trans ?_
    rw [y_v51_at _ _ (by omega) hx, hk]

/-- Level 1: equal boxes of the candidates. -/
theorem cbox1 (h : Same K R) (p : Fin 1000) (k : Fin 4) :
    KernelIdeal.Pf.y_v45 K (ix2 k ⟨1000 + p.val, by omega⟩) = ReferenceIdeal.Pf.x_v342 R (ix2 ⟨1000 + p.val, by omega⟩ k) := by
  obtain ⟨i, h1, -, h3, -⟩ := row1 h p
  rw [h1, h3, h.box1]

/-- Level 1: equal class scores of the candidates. -/
theorem ccls1 (h : Same K R) (p : Fin 1000) (k : Fin 80) :
    KernelIdeal.Pf.y_v52 K (ix2 k ⟨1000 + p.val, by omega⟩) = ReferenceIdeal.Pf.x_v343 R (ix2 ⟨1000 + p.val, by omega⟩ k) := by
  obtain ⟨i, -, h2, -, h4⟩ := row1 h p
  rw [h2, h4, h.cls1]

/-- Level 1: equal confidences of the candidates. -/
theorem cconf1 (h : Same K R) (p : Fin 1000) :
    KernelIdeal.Pf.y_v38 K (ix1 ⟨1000 + p.val, by omega⟩) = ReferenceIdeal.Pf.x_v344 R (ix1 ⟨1000 + p.val, by omega⟩) := by
  have e : KernelIdeal.Pf.y_v38 K (ix1 ⟨1000 + p.val, by omega⟩) = KernelIdeal.Pf.y_v29 K (ix1 p) := by
    rw [KernelIdeal.Pf.y_v38_eq]
    pointwise
  have e' : ReferenceIdeal.Pf.x_v344 R (ix1 ⟨1000 + p.val, by omega⟩) = ReferenceIdeal.Pf.x_v228 R (ix1 p) := by
    rw [ReferenceIdeal.Pf.x_v344_eq]
    pointwise
  rw [e, e', thr1_eq h]

/-- Level 2: equal confidences. -/
theorem conf2_eq (h : Same K R) : KernelIdeal.Pf.y_v30 K = ReferenceIdeal.Pf.x_v316 R := by
  funext j
  obtain ⟨n, rfl⟩ := eq_ix1 j
  rw [KernelIdeal.Pf.y_v30_eq, KernelIdeal.Pf.y_v15_eq]
  pointwise
  exact h.conf2 n

/-- Level 2: equal selected confidences. -/
theorem values2_eq (h : Same K R) : KernelIdeal.Pf.y_values_7 K = ReferenceIdeal.Pf.x_values_67 R := by
  rw [KernelIdeal.Pf.y_values_7_eq, ReferenceIdeal.Pf.x_values_67_eq, conf2_eq h]

/-- Level 2: equal selected positions. -/
theorem indices2_eq (h : Same K R) : KernelIdeal.Pf.y_indices_8 K = ReferenceIdeal.Pf.x_indices_68 R := by
  rw [KernelIdeal.Pf.y_indices_8_eq, ReferenceIdeal.Pf.x_indices_68_eq, conf2_eq h]

/-- Level 2: equal thresholded confidences. -/
theorem thr2_eq (h : Same K R) (p : Fin 1000) : KernelIdeal.Pf.y_v36 K (ix1 p) = ReferenceIdeal.Pf.x_v341 R (ix1 p) := by
  simp only [KernelIdeal.Pf.y_cst_10_eq, KernelIdeal.Pf.y_v33_eq, KernelIdeal.Pf.y_v34_eq, KernelIdeal.Pf.y_v35_eq, KernelIdeal.Pf.y_v36_eq, ReferenceIdeal.Pf.x_cst_73_eq, ReferenceIdeal.Pf.x_v338_eq, ReferenceIdeal.Pf.x_v339_eq, ReferenceIdeal.Pf.x_v340_eq, ReferenceIdeal.Pf.x_v341_eq, values2_eq h]

/-- Level 2: the selected row behind candidate `p`, in all four tables. -/
theorem row2 (h : Same K R) (p : Fin 1000) : ∃ i : Fin 17328,
    (∀ k, ReferenceIdeal.Pf.x_v342 R (ix2 ⟨2000 + p.val, by omega⟩ k) = ReferenceIdeal.Pf.x_v308 R (ix2 i k)) ∧
    (∀ k, ReferenceIdeal.Pf.x_v343 R (ix2 ⟨2000 + p.val, by omega⟩ k) = ReferenceIdeal.Pf.x_v323 R (ix2 i k)) ∧
    (∀ k, KernelIdeal.Pf.y_v45 K (ix2 k ⟨2000 + p.val, by omega⟩) = KernelIdeal.Pf.y_v14_0 K (ix2 k ⟨5415 + i.val, by omega⟩)) ∧
    (∀ k, KernelIdeal.Pf.y_v52 K (ix2 k ⟨2000 + p.val, by omega⟩) = KernelIdeal.Pf.y_v14_2 K (ix2 k ⟨5415 + i.val, by omega⟩)) := by
  obtain ⟨i, -, hi⟩ := topK_at (FloatOps.cmpfTotal .gt) (ReferenceIdeal.Pf.x_v316 R) ReferenceIdeal.Gen.sliceFits_S17328_S1000 p
  have hi' : ReferenceIdeal.Pf.x_indices_68 R (ix1 p) = BitVec.ofNat 32 i.val := by rw [ReferenceIdeal.Pf.x_indices_68_eq]; exact hi
  have hlt := i.isLt
  have hb : ReferenceIdeal.Pf.x_v329 R (ix2 p 0) = BitVec.ofNat 32 i.val := by
    simp only [ReferenceIdeal.Pf.x_c_69_eq, ReferenceIdeal.Pf.x_v324_eq, ReferenceIdeal.Pf.x_v325_eq, ReferenceIdeal.Pf.x_c_70_eq, ReferenceIdeal.Pf.x_v326_eq, ReferenceIdeal.Pf.x_v327_eq, ReferenceIdeal.Pf.x_v328_eq, ReferenceIdeal.Pf.x_v329_eq]
    pointwise
    exact wrap_eq hi' (by omega) _
  have hc : ReferenceIdeal.Pf.x_v336 R (ix2 p 0) = BitVec.ofNat 32 i.val := by
    simp only [ReferenceIdeal.Pf.x_c_71_eq, ReferenceIdeal.Pf.x_v331_eq, ReferenceIdeal.Pf.x_v332_eq, ReferenceIdeal.Pf.x_c_72_eq, ReferenceIdeal.Pf.x_v333_eq, ReferenceIdeal.Pf.x_v334_eq, ReferenceIdeal.Pf.x_v335_eq, ReferenceIdeal.Pf.x_v336_eq]
    pointwise
    exact wrap_eq hi' (by omega) _
  have hx : KernelIdeal.Pf.y_v37 K (ix1 ⟨2000 + p.val, by omega⟩) = BitVec.ofNat 32 (5415 + i.val) := by
    have e : KernelIdeal.Pf.y_v37 K (ix1 ⟨2000 + p.val, by omega⟩) = KernelIdeal.Pf.y_v32 K (ix1 p) := by
      rw [KernelIdeal.Pf.y_v37_eq]
      pointwise
      rw [dif_neg (by omega), dif_neg (by omega)]
      refine congrArg (fun q => KernelIdeal.Pf.y_v32 K (ix1 q)) (Fin.ext ?_)
      show 2000 + p.val - 1000 - 1000 = p.val
      omega
    rw [e, KernelIdeal.Pf.y_v32_eq, KernelIdeal.Pf.y_v31_eq, KernelIdeal.Pf.y_c_9_eq, indices2_eq h]
    pointwise
    refine (congrArg (fun w => IntOp.addi w 5415#32) hi').trans ?_
    show BitVec.ofNat 32 i.val + BitVec.ofNat 32 5415 = _
    rw [← BitVec.ofNat_add, Nat.add_comm]
  have hk : clampTo 22784 (by decide) (BitVec.ofNat 32 (5415 + i.val)) = ⟨5415 + i.val, by omega⟩ := by
    refine (clampTo_ofNat (by decide) (by decide) (⟨5415 + i.val, by omega⟩ : Fin 22784)).trans ?_
    exact Fin.ext (by simp)
  refine ⟨i, fun k => ?_, fun k => ?_, fun k => ?_, fun k => ?_⟩
  · have e : ReferenceIdeal.Pf.x_v342 R (ix2 ⟨2000 + p.val, by omega⟩ k) = ReferenceIdeal.Pf.x_v330 R (ix2 p k) := by
      rw [ReferenceIdeal.Pf.x_v342_eq]
      pointwise
      rw [dif_neg (by omega), dif_neg (by omega)]
      refine congrArg (fun q => ReferenceIdeal.Pf.x_v330 R (ix2 q k)) (Fin.ext ?_)
      show 2000 + p.val - 1000 - 1000 = p.val
      omega
    rw [e, ReferenceIdeal.Pf.x_v330_eq]
    refine (gather_rows_at (by decide) _ _ _ _ _).trans ?_
    rw [hb, clampTo_ofNat _ (by decide)]
  · have e : ReferenceIdeal.Pf.x_v343 R (ix2 ⟨2000 + p.val, by omega⟩ k) = ReferenceIdeal.Pf.x_v337 R (ix2 p k) := by
      rw [ReferenceIdeal.Pf.x_v343_eq]
      pointwise
      rw [dif_neg (by omega), dif_neg (by omega)]
      refine congrArg (fun q => ReferenceIdeal.Pf.x_v337 R (ix2 q k)) (Fin.ext ?_)
      show 2000 + p.val - 1000 - 1000 = p.val
      omega
    rw [e, ReferenceIdeal.Pf.x_v337_eq]
    refine (gather_rows_at (by decide) _ _ _ _ _).trans ?_
    rw [hc, clampTo_ofNat _ (by decide)]
  · rw [KernelIdeal.Pf.y_v45_eq]
    refine (gather_cols_at (by decide) _ _ _ _ _).trans ?_
    rw [y_v44_at _ _ (by omega) hx, hk]
  · rw [KernelIdeal.Pf.y_v52_eq]
    refine (gather_cols_at (by decide) _ _ _ _ _).trans ?_
    rw [y_v51_at _ _ (by omega) hx, hk]

/-- Level 2: equal boxes of the candidates. -/
theorem cbox2 (h : Same K R) (p : Fin 1000) (k : Fin 4) :
    KernelIdeal.Pf.y_v45 K (ix2 k ⟨2000 + p.val, by omega⟩) = ReferenceIdeal.Pf.x_v342 R (ix2 ⟨2000 + p.val, by omega⟩ k) := by
  obtain ⟨i, h1, -, h3, -⟩ := row2 h p
  rw [h1, h3, h.box2]

/-- Level 2: equal class scores of the candidates. -/
theorem ccls2 (h : Same K R) (p : Fin 1000) (k : Fin 80) :
    KernelIdeal.Pf.y_v52 K (ix2 k ⟨2000 + p.val, by omega⟩) = ReferenceIdeal.Pf.x_v343 R (ix2 ⟨2000 + p.val, by omega⟩ k) := by
  obtain ⟨i, -, h2, -, h4⟩ := row2 h p
  rw [h2, h4, h.cls2]

/-- Level 2: equal confidences of the candidates. -/
theorem cconf2 (h : Same K R) (p : Fin 1000) :
    KernelIdeal.Pf.y_v38 K (ix1 ⟨2000 + p.val, by omega⟩) = ReferenceIdeal.Pf.x_v344 R (ix1 ⟨2000 + p.val, by omega⟩) := by
  have e : KernelIdeal.Pf.y_v38 K (ix1 ⟨2000 + p.val, by omega⟩) = KernelIdeal.Pf.y_v36 K (ix1 p) := by
    rw [KernelIdeal.Pf.y_v38_eq]
    pointwise
    rw [dif_neg (by omega), dif_neg (by omega)]
    refine congrArg (fun q => KernelIdeal.Pf.y_v36 K (ix1 q)) (Fin.ext ?_)
    show 2000 + p.val - 1000 - 1000 = p.val
    omega
  have e' : ReferenceIdeal.Pf.x_v344 R (ix1 ⟨2000 + p.val, by omega⟩) = ReferenceIdeal.Pf.x_v341 R (ix1 p) := by
    rw [ReferenceIdeal.Pf.x_v344_eq]
    pointwise
    rw [dif_neg (by omega), dif_neg (by omega)]
    refine congrArg (fun q => ReferenceIdeal.Pf.x_v341 R (ix1 q)) (Fin.ext ?_)
    show 2000 + p.val - 1000 - 1000 = p.val
    omega
  rw [e, e', thr2_eq h]

/-- Equal boxes of the 3000 candidates. -/
theorem cbox (h : Same K R) (p : Fin 3000) (k : Fin 4) : KernelIdeal.Pf.y_v45 K (ix2 k p) = ReferenceIdeal.Pf.x_v342 R (ix2 p k) := by
  by_cases h0 : p.val < 1000
  · exact cbox0 h ⟨p.val, h0⟩ k
  by_cases h1 : p.val < 2000
  · have e : p = ⟨1000 + (⟨p.val - 1000, by omega⟩ : Fin 1000).val, by have := p.isLt; simp; omega⟩ := Fin.ext (by simp; omega)
    rw [e]
    exact cbox1 h ⟨p.val - 1000, by omega⟩ k
  · have e : p = ⟨2000 + (⟨p.val - 2000, by omega⟩ : Fin 1000).val, by have := p.isLt; simp; omega⟩ := Fin.ext (by simp; omega)
    rw [e]
    exact cbox2 h ⟨p.val - 2000, by omega⟩ k

/-- Equal class scores of the 3000 candidates. -/
theorem ccls (h : Same K R) (p : Fin 3000) (k : Fin 80) : KernelIdeal.Pf.y_v52 K (ix2 k p) = ReferenceIdeal.Pf.x_v343 R (ix2 p k) := by
  by_cases h0 : p.val < 1000
  · exact ccls0 h ⟨p.val, h0⟩ k
  by_cases h1 : p.val < 2000
  · have e : p = ⟨1000 + (⟨p.val - 1000, by omega⟩ : Fin 1000).val, by have := p.isLt; simp; omega⟩ := Fin.ext (by simp; omega)
    rw [e]
    exact ccls1 h ⟨p.val - 1000, by omega⟩ k
  · have e : p = ⟨2000 + (⟨p.val - 2000, by omega⟩ : Fin 1000).val, by have := p.isLt; simp; omega⟩ := Fin.ext (by simp; omega)
    rw [e]
    exact ccls2 h ⟨p.val - 2000, by omega⟩ k

/-- Equal confidences of the 3000 candidates. -/
theorem cconf (h : Same K R) (p : Fin 3000) : KernelIdeal.Pf.y_v38 K (ix1 p) = ReferenceIdeal.Pf.x_v344 R (ix1 p) := by
  by_cases h0 : p.val < 1000
  · exact cconf0 h ⟨p.val, h0⟩
  by_cases h1 : p.val < 2000
  · have e : p = ⟨1000 + (⟨p.val - 1000, by omega⟩ : Fin 1000).val, by have := p.isLt; simp; omega⟩ := Fin.ext (by simp; omega)
    rw [e]
    exact cconf1 h ⟨p.val - 1000, by omega⟩
  · have e : p = ⟨2000 + (⟨p.val - 2000, by omega⟩ : Fin 1000).val, by have := p.isLt; simp; omega⟩ := Fin.ext (by simp; omega)
    rw [e]
    exact cconf2 h ⟨p.val - 2000, by omega⟩

/-- Equal scores of the 3000 candidates by class. -/
theorem score_eq (h : Same K R) : KernelIdeal.Pf.y_v60 K = ReferenceIdeal.Pf.x_v351 R := by
  funext j
  obtain ⟨p, c, rfl⟩ := eq_ix2 j
  simp only [KernelIdeal.Pf.y_v53_eq, KernelIdeal.Pf.y_v54_eq, KernelIdeal.Pf.y_v55_eq, KernelIdeal.Pf.y_cst_15_eq, KernelIdeal.Pf.y_v56_eq, KernelIdeal.Pf.y_v57_eq, KernelIdeal.Pf.y_v58_eq, KernelIdeal.Pf.y_v59_eq, KernelIdeal.Pf.y_v60_eq, ReferenceIdeal.Pf.x_v345_eq, ReferenceIdeal.Pf.x_v346_eq, ReferenceIdeal.Pf.x_v347_eq, ReferenceIdeal.Pf.x_cst_74_eq, ReferenceIdeal.Pf.x_v348_eq, ReferenceIdeal.Pf.x_v349_eq, ReferenceIdeal.Pf.x_v350_eq, ReferenceIdeal.Pf.x_v351_eq]
  pointwise
  rw [ccls h p c, cconf h p]

/-- The same, laid out flat. -/
theorem flat_eq (h : Same K R) : KernelIdeal.Pf.y_v61 K = ReferenceIdeal.Pf.x_v352 R := by
  rw [KernelIdeal.Pf.y_v61_eq, ReferenceIdeal.Pf.x_v352_eq, score_eq h]

/-- Equal scores of the 2000 selected pairs. -/
theorem values_eq (h : Same K R) : KernelIdeal.Pf.y_values_16 K = ReferenceIdeal.Pf.x_values_75 R := by
  rw [KernelIdeal.Pf.y_values_16_eq, ReferenceIdeal.Pf.x_values_75_eq, flat_eq h]

/-- Equal positions of the 2000 selected pairs. -/
theorem indices_eq (h : Same K R) : KernelIdeal.Pf.y_indices_17 K = ReferenceIdeal.Pf.x_indices_76 R := by
  rw [KernelIdeal.Pf.y_indices_17_eq, ReferenceIdeal.Pf.x_indices_76_eq, flat_eq h]

/-- Equal candidates of the 2000 selected pairs. -/
theorem cand_eq (h : Same K R) : KernelIdeal.Pf.y_v62 K = ReferenceIdeal.Pf.x_v353 R := by
  simp only [KernelIdeal.Pf.y_c_18_eq, KernelIdeal.Pf.y_call1_v0_eq, KernelIdeal.Pf.y_call1_v1_eq, KernelIdeal.Pf.y_call1_v2_eq, KernelIdeal.Pf.y_call1_v3_eq, KernelIdeal.Pf.y_call1_v4_eq, KernelIdeal.Pf.y_call1_v5_eq, KernelIdeal.Pf.y_call1_v6_eq, KernelIdeal.Pf.y_call1_v7_eq, KernelIdeal.Pf.y_call1_v8_eq, KernelIdeal.Pf.y_call1_c_eq, KernelIdeal.Pf.y_call1_v9_eq, KernelIdeal.Pf.y_call1_v10_eq, KernelIdeal.Pf.y_call1_v11_eq, KernelIdeal.Pf.y_call1_c_0_eq, KernelIdeal.Pf.y_call1_v12_eq, KernelIdeal.Pf.y_call1_v13_eq, KernelIdeal.Pf.y_v62_eq, ReferenceIdeal.Pf.x_c_77_eq, ReferenceIdeal.Pf.x_call0_v0_eq, ReferenceIdeal.Pf.x_call0_v1_eq, ReferenceIdeal.Pf.x_call0_v2_eq, ReferenceIdeal.Pf.x_call0_v3_eq, ReferenceIdeal.Pf.x_call0_v4_eq, ReferenceIdeal.Pf.x_call0_v5_eq, ReferenceIdeal.Pf.x_call0_v6_eq, ReferenceIdeal.Pf.x_call0_v7_eq, ReferenceIdeal.Pf.x_call0_v8_eq, ReferenceIdeal.Pf.x_call0_c_eq, ReferenceIdeal.Pf.x_call0_v9_eq, ReferenceIdeal.Pf.x_call0_v10_eq, ReferenceIdeal.Pf.x_call0_v11_eq, ReferenceIdeal.Pf.x_call0_c_0_eq, ReferenceIdeal.Pf.x_call0_v12_eq, ReferenceIdeal.Pf.x_call0_v13_eq, ReferenceIdeal.Pf.x_v353_eq, indices_eq h]

/-- Equal classes of the 2000 selected pairs. -/
theorem class_eq (h : Same K R) : KernelIdeal.Pf.y_v63 K = ReferenceIdeal.Pf.x_v354 R := by
  simp only [KernelIdeal.Pf.y_c_19_eq, KernelIdeal.Pf.y_call2_v0_eq, KernelIdeal.Pf.y_call2_c_eq, KernelIdeal.Pf.y_call2_v1_eq, KernelIdeal.Pf.y_call2_c_0_eq, KernelIdeal.Pf.y_call2_v2_eq, KernelIdeal.Pf.y_call2_v3_eq, KernelIdeal.Pf.y_call2_v4_eq, KernelIdeal.Pf.y_call2_c_1_eq, KernelIdeal.Pf.y_call2_v5_eq, KernelIdeal.Pf.y_call2_v6_eq, KernelIdeal.Pf.y_call2_c_2_eq, KernelIdeal.Pf.y_call2_v7_eq, KernelIdeal.Pf.y_call2_v8_eq, KernelIdeal.Pf.y_call2_c_3_eq, KernelIdeal.Pf.y_call2_v9_eq, KernelIdeal.Pf.y_call2_v10_eq, KernelIdeal.Pf.y_call2_v11_eq, KernelIdeal.Pf.y_call2_v12_eq, KernelIdeal.Pf.y_call2_v13_eq, KernelIdeal.Pf.y_call2_v14_eq, KernelIdeal.Pf.y_v63_eq, ReferenceIdeal.Pf.x_c_78_eq, ReferenceIdeal.Pf.x_call1_v0_eq, ReferenceIdeal.Pf.x_call1_c_eq, ReferenceIdeal.Pf.x_call1_v1_eq, ReferenceIdeal.Pf.x_call1_c_0_eq, ReferenceIdeal.Pf.x_call1_v2_eq, ReferenceIdeal.Pf.x_call1_v3_eq, ReferenceIdeal.Pf.x_call1_v4_eq, ReferenceIdeal.Pf.x_call1_c_1_eq, ReferenceIdeal.Pf.x_call1_v5_eq, ReferenceIdeal.Pf.x_call1_v6_eq, ReferenceIdeal.Pf.x_call1_c_2_eq, ReferenceIdeal.Pf.x_call1_v7_eq, ReferenceIdeal.Pf.x_call1_v8_eq, ReferenceIdeal.Pf.x_call1_c_3_eq, ReferenceIdeal.Pf.x_call1_v9_eq, ReferenceIdeal.Pf.x_call1_v10_eq, ReferenceIdeal.Pf.x_call1_v11_eq, ReferenceIdeal.Pf.x_call1_v12_eq, ReferenceIdeal.Pf.x_call1_v13_eq, ReferenceIdeal.Pf.x_call1_v14_eq, ReferenceIdeal.Pf.x_v354_eq, indices_eq h]

/-- Equal boxes of the 2000 selected pairs. -/
theorem sbox (h : Same K R) (j : Fin 2000) (k : Fin 4) : KernelIdeal.Pf.y_v70 K (ix2 k j) = ReferenceIdeal.Pf.x_v361 R (ix2 j k) := by
  have e : KernelIdeal.Pf.y_v69 K = ReferenceIdeal.Pf.x_v360 R := by
    simp only [KernelIdeal.Pf.y_c_20_eq, KernelIdeal.Pf.y_v64_eq, KernelIdeal.Pf.y_v65_eq, KernelIdeal.Pf.y_c_21_eq, KernelIdeal.Pf.y_v66_eq, KernelIdeal.Pf.y_v67_eq, KernelIdeal.Pf.y_v68_eq, KernelIdeal.Pf.y_v69_eq, ReferenceIdeal.Pf.x_c_79_eq, ReferenceIdeal.Pf.x_v355_eq, ReferenceIdeal.Pf.x_v356_eq, ReferenceIdeal.Pf.x_c_80_eq, ReferenceIdeal.Pf.x_v357_eq, ReferenceIdeal.Pf.x_v358_eq, ReferenceIdeal.Pf.x_v359_eq, ReferenceIdeal.Pf.x_v360_eq, cand_eq h]
  rw [KernelIdeal.Pf.y_v70_eq, ReferenceIdeal.Pf.x_v361_eq]
  refine (gather_cols_at (by decide) _ _ _ _ _).trans (Eq.trans ?_ (gather_rows_at (by decide) _ _ _ _ _).symm)
  rw [e, cbox h]

/-- The suppression's box operand: the selected boxes. -/
theorem op_box (h : Same K R) (j : Fin 2000) (k : Fin 4) :
    KernelIdeal.Pf.y_v71 K (ix2 k ⟨j.val, by omega⟩) = ReferenceIdeal.Pf.x_v361 R (ix2 j k) := by
  rw [KernelIdeal.Pf.y_v71_eq]
  pointwise
  exact sbox h j k

/-- The suppression's class operand: the selected classes. -/
theorem op_cls (h : Same K R) (j : Fin 2000) :
    KernelIdeal.Pf.y_v74 K (ix2 0 ⟨j.val, by omega⟩) = ReferenceIdeal.Pf.x_v362 R (ix1 j) := by
  rw [KernelIdeal.Pf.y_v74_eq, KernelIdeal.Pf.y_v73_eq, KernelIdeal.Pf.y_v72_eq, ReferenceIdeal.Pf.x_v362_eq, class_eq h]
  pointwise

/-- The suppression's score operand: the selected scores. -/
theorem op_score (h : Same K R) (j : Fin 2000) :
    KernelIdeal.Pf.y_v76 K (ix2 0 ⟨j.val, by omega⟩) = ReferenceIdeal.Pf.x_values_75 R (ix1 j) := by
  rw [KernelIdeal.Pf.y_v76_eq, KernelIdeal.Pf.y_v75_eq, values_eq h]
  pointwise

/-- The suppression's score operand: the filling. -/
theorem op_fill (K : KV) (j : Fin 2048) (hj : 2000 ≤ j.val) :
    KernelIdeal.Pf.y_v76 K (ix2 0 j) = Ideal.ofBits .f32 0xF149F2CA#32 := by
  rw [KernelIdeal.Pf.y_v76_eq, KernelIdeal.Pf.y_v75_eq, KernelIdeal.Pf.y_call5_v0_eq, KernelIdeal.Pf.y_cst_24_eq]
  pointwise
  rw [dif_neg (by omega)]
  rfl

end Cert.Pf
-- ==== Proof.Raw.lean ====
module

public import Idealize.ShloMosaic.Lib.Pointwise

/-! The raw values: row `n` of a level is anchor `a` of cell `(y, x)`, where `n = 3 (W y + x) + a`; its value `c` is channel
    `85 a + c` of that cell. Both programs' relayouts are read down to the argument. -/

@[expose] public section

noncomputable section
set_option maxRecDepth 100000

namespace Cert.Pf
open Idealize.ShloMosaic

variable {α : Type}

/-- Level 0: the reference's relayout. -/
theorem rf_raw0 (X : (⟨4, ![1, 255, 19, 19]⟩ : Shape).Idx → α) (h1 h2 h3) (y x : Fin 19) (a : Fin 3) (c : Fin 85) (n : Fin 1083)
    (hn : n.val = 3 * (19 * y.val + x.val) + a.val) :
    shapeCast (⟨2, ![1083, 85]⟩ : Shape) (transpose (⟨3, ![19, 19, 255]⟩ : Shape) [1, 2, 0]
      (shapeCast (⟨3, ![255, 19, 19]⟩ : Shape) X h1) h2) h3 (ix2 n c) = X (ix4 0 ⟨85 * a.val + c.val, by omega⟩ y x) := by
  refine (shapeCast_apply _ h3 (ix2 n c) (ix3 y x ⟨85 * a.val + c.val, by omega⟩) ?_).trans ?_
  · rw [rowMajor_val3 _ _ _ rfl rfl, rowMajor_val2 _ _ rfl]
    show y.val * 4845 + x.val * 255 + (85 * a.val + c.val) = n.val * 85 + c.val
    omega
  refine (transpose_apply _ _ h2 _ (ix3 ⟨85 * a.val + c.val, by omega⟩ y x) ?_).trans ?_
  · intro b
    fin_cases b <;> rfl
  refine shapeCast_apply _ h1 _ (ix4 0 ⟨85 * a.val + c.val, by omega⟩ y x) ?_
  rw [rowMajor_val3 _ _ _ rfl rfl, rowMajor_val4 _ _ _ _ rfl rfl rfl]
  show 0 * 92055 + (85 * a.val + c.val) * 361 + y.val * 19 + x.val = (85 * a.val + c.val) * 361 + y.val * 19 + x.val
  omega

/-- Level 0: the kernel's relayout. -/
theorem ki_raw0 (X : (⟨4, ![1, 255, 19, 19]⟩ : Shape).Idx → α) (h1 h2 h3 h4) (y x : Fin 19) (a : Fin 3) (c : Fin 85) (n : Fin 1083)
    (hn : n.val = 3 * (19 * y.val + x.val) + a.val) :
    shapeCast (⟨2, ![85, 1083]⟩ : Shape) (transpose (⟨3, ![85, 361, 3]⟩ : Shape) [1, 2, 0]
      (shapeCast (⟨3, ![3, 85, 361]⟩ : Shape) (shapeCast (⟨3, ![255, 19, 19]⟩ : Shape) X h1) h2) h3) h4 (ix2 c n)
      = X (ix4 0 ⟨85 * a.val + c.val, by omega⟩ y x) := by
  refine (shapeCast_apply _ h4 (ix2 c n) (ix3 c ⟨19 * y.val + x.val, by omega⟩ a) ?_).trans ?_
  · rw [rowMajor_val3 _ _ _ rfl rfl, rowMajor_val2 _ _ rfl]
    show c.val * 1083 + (19 * y.val + x.val) * 3 + a.val = c.val * 1083 + n.val
    omega
  refine (transpose_apply _ _ h3 _ (ix3 a c ⟨19 * y.val + x.val, by omega⟩) ?_).trans ?_
  · intro b
    fin_cases b <;> rfl
  refine (shapeCast_apply _ h2 _ (ix3 ⟨85 * a.val + c.val, by omega⟩ y x) ?_).trans ?_
  · rw [rowMajor_val3 _ _ _ rfl rfl, rowMajor_val3 _ _ _ rfl rfl]
    show (85 * a.val + c.val) * 361 + y.val * 19 + x.val = a.val * 30685 + c.val * 361 + (19 * y.val + x.val)
    omega
  refine shapeCast_apply _ h1 _ (ix4 0 ⟨85 * a.val + c.val, by omega⟩ y x) ?_
  rw [rowMajor_val3 _ _ _ rfl rfl, rowMajor_val4 _ _ _ _ rfl rfl rfl]
  show 0 * 92055 + (85 * a.val + c.val) * 361 + y.val * 19 + x.val = (85 * a.val + c.val) * 361 + y.val * 19 + x.val
  omega

/-- Level 0: the two relayouts agree, row by row. -/
theorem raw0 (X : (⟨4, ![1, 255, 19, 19]⟩ : Shape).Idx → α) (h1 h2 h3 k1 k2 k3 k4) (c : Fin 85) (n : Fin 1083) :
    shapeCast (⟨2, ![85, 1083]⟩ : Shape) (transpose (⟨3, ![85, 361, 3]⟩ : Shape) [1, 2, 0]
      (shapeCast (⟨3, ![3, 85, 361]⟩ : Shape) (shapeCast (⟨3, ![255, 19, 19]⟩ : Shape) X k1) k2) k3) k4 (ix2 c n)
      = shapeCast (⟨2, ![1083, 85]⟩ : Shape) (transpose (⟨3, ![19, 19, 255]⟩ : Shape) [1, 2, 0]
      (shapeCast (⟨3, ![255, 19, 19]⟩ : Shape) X h1) h2) h3 (ix2 n c) := by
  have hn : n.val = 3 * (19 * (n.val / 3 / 19) + n.val / 3 % 19) + n.val % 3 := by omega
  rw [ki_raw0 X k1 k2 k3 k4 ⟨n.val / 3 / 19, by omega⟩ ⟨n.val / 3 % 19, by omega⟩ ⟨n.val % 3, by omega⟩ c n hn,
    rf_raw0 X h1 h2 h3 ⟨n.val / 3 / 19, by omega⟩ ⟨n.val / 3 % 19, by omega⟩ ⟨n.val % 3, by omega⟩ c n hn]

/-- Level 1: the reference's relayout. -/
theorem rf_raw1 (X : (⟨4, ![1, 255, 38, 38]⟩ : Shape).Idx → α) (h1 h2 h3) (y x : Fin 38) (a : Fin 3) (c : Fin 85) (n : Fin 4332)
    (hn : n.val = 3 * (38 * y.val + x.val) + a.val) :
    shapeCast (⟨2, ![4332, 85]⟩ : Shape) (transpose (⟨3, ![38, 38, 255]⟩ : Shape) [1, 2, 0]
      (shapeCast (⟨3, ![255, 38, 38]⟩ : Shape) X h1) h2) h3 (ix2 n c) = X (ix4 0 ⟨85 * a.val + c.val, by omega⟩ y x) := by
  refine (shapeCast_apply _ h3 (ix2 n c) (ix3 y x ⟨85 * a.val + c.val, by omega⟩) ?_).trans ?_
  · rw [rowMajor_val3 _ _ _ rfl rfl, rowMajor_val2 _ _ rfl]
    show y.val * 9690 + x.val * 255 + (85 * a.val + c.val) = n.val * 85 + c.val
    omega
  refine (transpose_apply _ _ h2 _ (ix3 ⟨85 * a.val + c.val, by omega⟩ y x) ?_).trans ?_
  · intro b
    fin_cases b <;> rfl
  refine shapeCast_apply _ h1 _ (ix4 0 ⟨85 * a.val + c.val, by omega⟩ y x) ?_
  rw [rowMajor_val3 _ _ _ rfl rfl, rowMajor_val4 _ _ _ _ rfl rfl rfl]
  show 0 * 368220 + (85 * a.val + c.val) * 1444 + y.val * 38 + x.val = (85 * a.val + c.val) * 1444 + y.val * 38 + x.val
  omega

/-- Level 1: the kernel's relayout. -/
theorem ki_raw1 (X : (⟨4, ![1, 255, 38, 38]⟩ : Shape).Idx → α) (h1 h2 h3 h4) (y x : Fin 38) (a : Fin 3) (c : Fin 85) (n : Fin 4332)
    (hn : n.val = 3 * (38 * y.val + x.val) + a.val) :
    shapeCast (⟨2, ![85, 4332]⟩ : Shape) (transpose (⟨3, ![85, 1444, 3]⟩ : Shape) [1, 2, 0]
      (shapeCast (⟨3, ![3, 85, 1444]⟩ : Shape) (shapeCast (⟨3, ![255, 38, 38]⟩ : Shape) X h1) h2) h3) h4 (ix2 c n)
      = X (ix4 0 ⟨85 * a.val + c.val, by omega⟩ y x) := by
  refine (shapeCast_apply _ h4 (ix2 c n) (ix3 c ⟨38 * y.val + x.val, by omega⟩ a) ?_).trans ?_
  · rw [rowMajor_val3 _ _ _ rfl rfl, rowMajor_val2 _ _ rfl]
    show c.val * 4332 + (38 * y.val + x.val) * 3 + a.val = c.val * 4332 + n.val
    omega
  refine (transpose_apply _ _ h3 _ (ix3 a c ⟨38 * y.val + x.val, by omega⟩) ?_).trans ?_
  · intro b
    fin_cases b <;> rfl
  refine (shapeCast_apply _ h2 _ (ix3 ⟨85 * a.val + c.val, by omega⟩ y x) ?_).trans ?_
  · rw [rowMajor_val3 _ _ _ rfl rfl, rowMajor_val3 _ _ _ rfl rfl]
    show (85 * a.val + c.val) * 1444 + y.val * 38 + x.val = a.val * 122740 + c.val * 1444 + (38 * y.val + x.val)
    omega
  refine shapeCast_apply _ h1 _ (ix4 0 ⟨85 * a.val + c.val, by omega⟩ y x) ?_
  rw [rowMajor_val3 _ _ _ rfl rfl, rowMajor_val4 _ _ _ _ rfl rfl rfl]
  show 0 * 368220 + (85 * a.val + c.val) * 1444 + y.val * 38 + x.val = (85 * a.val + c.val) * 1444 + y.val * 38 + x.val
  omega

/-- Level 1: the two relayouts agree, row by row. -/
theorem raw1 (X : (⟨4, ![1, 255, 38, 38]⟩ : Shape).Idx → α) (h1 h2 h3 k1 k2 k3 k4) (c : Fin 85) (n : Fin 4332) :
    shapeCast (⟨2, ![85, 4332]⟩ : Shape) (transpose (⟨3, ![85, 1444, 3]⟩ : Shape) [1, 2, 0]
      (shapeCast (⟨3, ![3, 85, 1444]⟩ : Shape) (shapeCast (⟨3, ![255, 38, 38]⟩ : Shape) X k1) k2) k3) k4 (ix2 c n)
      = shapeCast (⟨2, ![4332, 85]⟩ : Shape) (transpose (⟨3, ![38, 38, 255]⟩ : Shape) [1, 2, 0]
      (shapeCast (⟨3, ![255, 38, 38]⟩ : Shape) X h1) h2) h3 (ix2 n c) := by
  have hn : n.val = 3 * (38 * (n.val / 3 / 38) + n.val / 3 % 38) + n.val % 3 := by omega
  rw [ki_raw1 X k1 k2 k3 k4 ⟨n.val / 3 / 38, by omega⟩ ⟨n.val / 3 % 38, by omega⟩ ⟨n.val % 3, by omega⟩ c n hn,
    rf_raw1 X h1 h2 h3 ⟨n.val / 3 / 38, by omega⟩ ⟨n.val / 3 % 38, by omega⟩ ⟨n.val % 3, by omega⟩ c n hn]

/-- Level 2: the reference's relayout. -/
theorem rf_raw2 (X : (⟨4, ![1, 255, 76, 76]⟩ : Shape).Idx → α) (h1 h2 h3) (y x : Fin 76) (a : Fin 3) (c : Fin 85) (n : Fin 17328)
    (hn : n.val = 3 * (76 * y.val + x.val) + a.val) :
    shapeCast (⟨2, ![17328, 85]⟩ : Shape) (transpose (⟨3, ![76, 76, 255]⟩ : Shape) [1, 2, 0]
      (shapeCast (⟨3, ![255, 76, 76]⟩ : Shape) X h1) h2) h3 (ix2 n c) = X (ix4 0 ⟨85 * a.val + c.val, by omega⟩ y x) := by
  refine (shapeCast_apply _ h3 (ix2 n c) (ix3 y x ⟨85 * a.val + c.val, by omega⟩) ?_).trans ?_
  · rw [rowMajor_val3 _ _ _ rfl rfl, rowMajor_val2 _ _ rfl]
    show y.val * 19380 + x.val * 255 + (85 * a.val + c.val) = n.val * 85 + c.val
    omega
  refine (transpose_apply _ _ h2 _ (ix3 ⟨85 * a.val + c.val, by omega⟩ y x) ?_).trans ?_
  · intro b
    fin_cases b <;> rfl
  refine shapeCast_apply _ h1 _ (ix4 0 ⟨85 * a.val + c.val, by omega⟩ y x) ?_
  rw [rowMajor_val3 _ _ _ rfl rfl, rowMajor_val4 _ _ _ _ rfl rfl rfl]
  show 0 * 1472880 + (85 * a.val + c.val) * 5776 + y.val * 76 + x.val = (85 * a.val + c.val) * 5776 + y.val * 76 + x.val
  omega

/-- Level 2: the kernel's relayout. -/
theorem ki_raw2 (X : (⟨4, ![1, 255, 76, 76]⟩ : Shape).Idx → α) (h1 h2 h3 h4) (y x : Fin 76) (a : Fin 3) (c : Fin 85) (n : Fin 17328)
    (hn : n.val = 3 * (76 * y.val + x.val) + a.val) :
    shapeCast (⟨2, ![85, 17328]⟩ : Shape) (transpose (⟨3, ![85, 5776, 3]⟩ : Shape) [1, 2, 0]
      (shapeCast (⟨3, ![3, 85, 5776]⟩ : Shape) (shapeCast (⟨3, ![255, 76, 76]⟩ : Shape) X h1) h2) h3) h4 (ix2 c n)
      = X (ix4 0 ⟨85 * a.val + c.val, by omega⟩ y x) := by
  refine (shapeCast_apply _ h4 (ix2 c n) (ix3 c ⟨76 * y.val + x.val, by omega⟩ a) ?_).trans ?_
  · rw [rowMajor_val3 _ _ _ rfl rfl, rowMajor_val2 _ _ rfl]
    show c.val * 17328 + (76 * y.val + x.val) * 3 + a.val = c.val * 17328 + n.val
    omega
  refine (transpose_apply _ _ h3 _ (ix3 a c ⟨76 * y.val + x.val, by omega⟩) ?_).trans ?_
  · intro b
    fin_cases b <;> rfl
  refine (shapeCast_apply _ h2 _ (ix3 ⟨85 * a.val + c.val, by omega⟩ y x) ?_).trans ?_
  · rw [rowMajor_val3 _ _ _ rfl rfl, rowMajor_val3 _ _ _ rfl rfl]
    show (85 * a.val + c.val) * 5776 + y.val * 76 + x.val = a.val * 490960 + c.val * 5776 + (76 * y.val + x.val)
    omega
  refine shapeCast_apply _ h1 _ (ix4 0 ⟨85 * a.val + c.val, by omega⟩ y x) ?_
  rw [rowMajor_val3 _ _ _ rfl rfl, rowMajor_val4 _ _ _ _ rfl rfl rfl]
  show 0 * 1472880 + (85 * a.val + c.val) * 5776 + y.val * 76 + x.val = (85 * a.val + c.val) * 5776 + y.val * 76 + x.val
  omega

/-- Level 2: the two relayouts agree, row by row. -/
theorem raw2 (X : (⟨4, ![1, 255, 76, 76]⟩ : Shape).Idx → α) (h1 h2 h3 k1 k2 k3 k4) (c : Fin 85) (n : Fin 17328) :
    shapeCast (⟨2, ![85, 17328]⟩ : Shape) (transpose (⟨3, ![85, 5776, 3]⟩ : Shape) [1, 2, 0]
      (shapeCast (⟨3, ![3, 85, 5776]⟩ : Shape) (shapeCast (⟨3, ![255, 76, 76]⟩ : Shape) X k1) k2) k3) k4 (ix2 c n)
      = shapeCast (⟨2, ![17328, 85]⟩ : Shape) (transpose (⟨3, ![76, 76, 255]⟩ : Shape) [1, 2, 0]
      (shapeCast (⟨3, ![255, 76, 76]⟩ : Shape) X h1) h2) h3 (ix2 n c) := by
  have hn : n.val = 3 * (76 * (n.val / 3 / 76) + n.val / 3 % 76) + n.val % 3 := by omega
  rw [ki_raw2 X k1 k2 k3 k4 ⟨n.val / 3 / 76, by omega⟩ ⟨n.val / 3 % 76, by omega⟩ ⟨n.val % 3, by omega⟩ c n hn,
    rf_raw2 X h1 h2 h3 ⟨n.val / 3 / 76, by omega⟩ ⟨n.val / 3 % 76, by omega⟩ ⟨n.val % 3, by omega⟩ c n hn]

end Cert.Pf
-- ==== Proof.Lit.lean ====
module

public import proofs.«01_k».proof.KernelIdeal
public import proofs.«01_k».proof.ReferenceIdeal

/-! The anchor and stride tables of the two programs, compared entry by entry. The kernel holds one table of four rows
    by 22784 columns for the three levels side by side; the reference holds one table per level, four entries a row. -/

@[expose] public section

noncomputable section

namespace Cert.Pf

/-- `f` holds of the first `n` numbers from `a`. -/
def allFrom (f : Nat → Bool) (a : Nat) : Nat → Bool
  | 0 => true
  | n + 1 => f (a + n) && allFrom f a n

theorem allFrom_spec {f : Nat → Bool} {a n : Nat} (h : allFrom f a n = true) (i : Nat) (ha : a ≤ i) (hi : i < a + n) :
    f i = true := by
  induction n with
  | zero => omega
  | succ n ih =>
    obtain ⟨h1, h2⟩ := (Bool.and_eq_true _ _).mp h
    by_cases e : i = a + n
    · exact e ▸ h1
    · exact ih h2 (by omega)

/-- Column `off + n` of the kernel's anchors is row `n` of the table `t`. -/
def sameAnchor (t : Nat → BitVec 32) (off n : Nat) : Bool :=
  Nat.beq (Cert.KernelIdeal.lit0t (off + n)).toNat (t (n * 4)).toNat
    && Nat.beq (Cert.KernelIdeal.lit0t (22784 + (off + n))).toNat (t (n * 4 + 1)).toNat
    && Nat.beq (Cert.KernelIdeal.lit0t (45568 + (off + n))).toNat (t (n * 4 + 2)).toNat
    && Nat.beq (Cert.KernelIdeal.lit0t (68352 + (off + n))).toNat (t (n * 4 + 3)).toNat

theorem sameAnchor_spec {t : Nat → BitVec 32} {off n : Nat} (h : sameAnchor t off n = true) (k : Fin 4) :
    Cert.KernelIdeal.lit0t (k.val * 22784 + (off + n)) = t (n * 4 + k.val) := by
  unfold sameAnchor at h
  simp only [Bool.and_eq_true] at h
  obtain ⟨⟨⟨h0, h1⟩, h2⟩, h3⟩ := h
  fin_cases k
  · have := BitVec.eq_of_toNat_eq (Nat.eq_of_beq_eq_true h0)
    simpa using this
  · have := BitVec.eq_of_toNat_eq (Nat.eq_of_beq_eq_true h1)
    simpa using this
  · have := BitVec.eq_of_toNat_eq (Nat.eq_of_beq_eq_true h2)
    simpa using this
  · have := BitVec.eq_of_toNat_eq (Nat.eq_of_beq_eq_true h3)
    simpa using this

/-- Entry `n` of the kernel's strides is the pattern `s`. -/
def sameStride (s : Nat) (n : Nat) : Bool := Nat.beq (Cert.KernelIdeal.lit1t n).toNat s

theorem sameStride_spec {s : BitVec 32} {n : Nat} (h : sameStride s.toNat n = true) : Cert.KernelIdeal.lit1t n = s :=
  BitVec.eq_of_toNat_eq (Nat.eq_of_beq_eq_true h)

end Cert.Pf
-- ==== Proof.LitA.lean ====
module

public import proofs.«01_k».proof.Proof.Lit

/-! The anchors of level 0 and the first ones of level 1. -/

@[expose] public section

noncomputable section
set_option maxRecDepth 100000

namespace Cert.Pf

theorem anchors0_0 : allFrom (sameAnchor Cert.ReferenceIdeal.lit0t 0) 0 361 = true := by decide +kernel
theorem anchors0_1 : allFrom (sameAnchor Cert.ReferenceIdeal.lit0t 0) 361 361 = true := by decide +kernel
theorem anchors0_2 : allFrom (sameAnchor Cert.ReferenceIdeal.lit0t 0) 722 361 = true := by decide +kernel
theorem anchors1_0 : allFrom (sameAnchor Cert.ReferenceIdeal.lit1t 1083) 0 361 = true := by decide +kernel
theorem anchors1_1 : allFrom (sameAnchor Cert.ReferenceIdeal.lit1t 1083) 361 361 = true := by decide +kernel
theorem anchors1_2 : allFrom (sameAnchor Cert.ReferenceIdeal.lit1t 1083) 722 361 = true := by decide +kernel
theorem anchors1_3 : allFrom (sameAnchor Cert.ReferenceIdeal.lit1t 1083) 1083 361 = true := by decide +kernel
end Cert.Pf
-- ==== Proof.LitB.lean ====
module

public import proofs.«01_k».proof.Proof.LitA

/-! The other anchors of level 1. -/

@[expose] public section

noncomputable section
set_option maxRecDepth 100000

namespace Cert.Pf

theorem anchors1_4 : allFrom (sameAnchor Cert.ReferenceIdeal.lit1t 1083) 1444 361 = true := by decide +kernel
theorem anchors1_5 : allFrom (sameAnchor Cert.ReferenceIdeal.lit1t 1083) 1805 361 = true := by decide +kernel
theorem anchors1_6 : allFrom (sameAnchor Cert.ReferenceIdeal.lit1t 1083) 2166 361 = true := by decide +kernel
theorem anchors1_7 : allFrom (sameAnchor Cert.ReferenceIdeal.lit1t 1083) 2527 361 = true := by decide +kernel
theorem anchors1_8 : allFrom (sameAnchor Cert.ReferenceIdeal.lit1t 1083) 2888 361 = true := by decide +kernel
theorem anchors1_9 : allFrom (sameAnchor Cert.ReferenceIdeal.lit1t 1083) 3249 361 = true := by decide +kernel
theorem anchors1_10 : allFrom (sameAnchor Cert.ReferenceIdeal.lit1t 1083) 3610 361 = true := by decide +kernel
theorem anchors1_11 : allFrom (sameAnchor Cert.ReferenceIdeal.lit1t 1083) 3971 361 = true := by decide +kernel
end Cert.Pf
-- ==== Proof.LitC.lean ====
module

public import proofs.«01_k».proof.Proof.LitB

/-! Anchors of level 2 from row 0. -/

@[expose] public section

noncomputable section
set_option maxRecDepth 100000

namespace Cert.Pf

theorem anchors2_0 : allFrom (sameAnchor Cert.ReferenceIdeal.lit2t 5415) 0 361 = true := by decide +kernel
theorem anchors2_1 : allFrom (sameAnchor Cert.ReferenceIdeal.lit2t 5415) 361 361 = true := by decide +kernel
theorem anchors2_2 : allFrom (sameAnchor Cert.ReferenceIdeal.lit2t 5415) 722 361 = true := by decide +kernel
theorem anchors2_3 : allFrom (sameAnchor Cert.ReferenceIdeal.lit2t 5415) 1083 361 = true := by decide +kernel
theorem anchors2_4 : allFrom (sameAnchor Cert.ReferenceIdeal.lit2t 5415) 1444 361 = true := by decide +kernel
theorem anchors2_5 : allFrom (sameAnchor Cert.ReferenceIdeal.lit2t 5415) 1805 361 = true := by decide +kernel
theorem anchors2_6 : allFrom (sameAnchor Cert.ReferenceIdeal.lit2t 5415) 2166 361 = true := by decide +kernel
theorem anchors2_7 : allFrom (sameAnchor Cert.ReferenceIdeal.lit2t 5415) 2527 361 = true := by decide +kernel
end Cert.Pf
-- ==== Proof.LitD.lean ====
module

public import proofs.«01_k».proof.Proof.Lit

/-! Anchors of level 2 from row 2888. -/

@[expose] public section

noncomputable section
set_option maxRecDepth 100000

namespace Cert.Pf

theorem anchors2_8 : allFrom (sameAnchor Cert.ReferenceIdeal.lit2t 5415) 2888 361 = true := by decide +kernel
theorem anchors2_9 : allFrom (sameAnchor Cert.ReferenceIdeal.lit2t 5415) 3249 361 = true := by decide +kernel
theorem anchors2_10 : allFrom (sameAnchor Cert.ReferenceIdeal.lit2t 5415) 3610 361 = true := by decide +kernel
theorem anchors2_11 : allFrom (sameAnchor Cert.ReferenceIdeal.lit2t 5415) 3971 361 = true := by decide +kernel
theorem anchors2_12 : allFrom (sameAnchor Cert.ReferenceIdeal.lit2t 5415) 4332 361 = true := by decide +kernel
theorem anchors2_13 : allFrom (sameAnchor Cert.ReferenceIdeal.lit2t 5415) 4693 361 = true := by decide +kernel
theorem anchors2_14 : allFrom (sameAnchor Cert.ReferenceIdeal.lit2t 5415) 5054 361 = true := by decide +kernel
theorem anchors2_15 : allFrom (sameAnchor Cert.ReferenceIdeal.lit2t 5415) 5415 361 = true := by decide +kernel
end Cert.Pf
-- ==== Proof.LitE.lean ====
module

public import proofs.«01_k».proof.Proof.LitD

/-! Anchors of level 2 from row 5776. -/

@[expose] public section

noncomputable section
set_option maxRecDepth 100000

namespace Cert.Pf

theorem anchors2_16 : allFrom (sameAnchor Cert.ReferenceIdeal.lit2t 5415) 5776 361 = true := by decide +kernel
theorem anchors2_17 : allFrom (sameAnchor Cert.ReferenceIdeal.lit2t 5415) 6137 361 = true := by decide +kernel
theorem anchors2_18 : allFrom (sameAnchor Cert.ReferenceIdeal.lit2t 5415) 6498 361 = true := by decide +kernel
theorem anchors2_19 : allFrom (sameAnchor Cert.ReferenceIdeal.lit2t 5415) 6859 361 = true := by decide +kernel
theorem anchors2_20 : allFrom (sameAnchor Cert.ReferenceIdeal.lit2t 5415) 7220 361 = true := by decide +kernel
theorem anchors2_21 : allFrom (sameAnchor Cert.ReferenceIdeal.lit2t 5415) 7581 361 = true := by decide +kernel
theorem anchors2_22 : allFrom (sameAnchor Cert.ReferenceIdeal.lit2t 5415) 7942 361 = true := by decide +kernel
theorem anchors2_23 : allFrom (sameAnchor Cert.ReferenceIdeal.lit2t 5415) 8303 361 = true := by decide +kernel
end Cert.Pf
-- ==== Proof.LitF.lean ====
module

public import proofs.«01_k».proof.Proof.LitE

/-! Anchors of level 2 from row 8664. -/

@[expose] public section

noncomputable section
set_option maxRecDepth 100000

namespace Cert.Pf

theorem anchors2_24 : allFrom (sameAnchor Cert.ReferenceIdeal.lit2t 5415) 8664 361 = true := by decide +kernel
theorem anchors2_25 : allFrom (sameAnchor Cert.ReferenceIdeal.lit2t 5415) 9025 361 = true := by decide +kernel
theorem anchors2_26 : allFrom (sameAnchor Cert.ReferenceIdeal.lit2t 5415) 9386 361 = true := by decide +kernel
theorem anchors2_27 : allFrom (sameAnchor Cert.ReferenceIdeal.lit2t 5415) 9747 361 = true := by decide +kernel
theorem anchors2_28 : allFrom (sameAnchor Cert.ReferenceIdeal.lit2t 5415) 10108 361 = true := by decide +kernel
theorem anchors2_29 : allFrom (sameAnchor Cert.ReferenceIdeal.lit2t 5415) 10469 361 = true := by decide +kernel
theorem anchors2_30 : allFrom (sameAnchor Cert.ReferenceIdeal.lit2t 5415) 10830 361 = true := by decide +kernel
theorem anchors2_31 : allFrom (sameAnchor Cert.ReferenceIdeal.lit2t 5415) 11191 361 = true := by decide +kernel
end Cert.Pf
-- ==== Proof.LitG.lean ====
module

public import proofs.«01_k».proof.Proof.Lit

/-! Anchors of level 2 from row 11552. -/

@[expose] public section

noncomputable section
set_option maxRecDepth 100000

namespace Cert.Pf

theorem anchors2_32 : allFrom (sameAnchor Cert.ReferenceIdeal.lit2t 5415) 11552 361 = true := by decide +kernel
theorem anchors2_33 : allFrom (sameAnchor Cert.ReferenceIdeal.lit2t 5415) 11913 361 = true := by decide +kernel
theorem anchors2_34 : allFrom (sameAnchor Cert.ReferenceIdeal.lit2t 5415) 12274 361 = true := by decide +kernel
theorem anchors2_35 : allFrom (sameAnchor Cert.ReferenceIdeal.lit2t 5415) 12635 361 = true := by decide +kernel
theorem anchors2_36 : allFrom (sameAnchor Cert.ReferenceIdeal.lit2t 5415) 12996 361 = true := by decide +kernel
theorem anchors2_37 : allFrom (sameAnchor Cert.ReferenceIdeal.lit2t 5415) 13357 361 = true := by decide +kernel
theorem anchors2_38 : allFrom (sameAnchor Cert.ReferenceIdeal.lit2t 5415) 13718 361 = true := by decide +kernel
theorem anchors2_39 : allFrom (sameAnchor Cert.ReferenceIdeal.lit2t 5415) 14079 361 = true := by decide +kernel
end Cert.Pf
-- ==== Proof.LitH.lean ====
module

public import proofs.«01_k».proof.Proof.LitG

/-! Anchors of level 2 from row 14440. -/

@[expose] public section

noncomputable section
set_option maxRecDepth 100000

namespace Cert.Pf

theorem anchors2_40 : allFrom (sameAnchor Cert.ReferenceIdeal.lit2t 5415) 14440 361 = true := by decide +kernel
theorem anchors2_41 : allFrom (sameAnchor Cert.ReferenceIdeal.lit2t 5415) 14801 361 = true := by decide +kernel
theorem anchors2_42 : allFrom (sameAnchor Cert.ReferenceIdeal.lit2t 5415) 15162 361 = true := by decide +kernel
theorem anchors2_43 : allFrom (sameAnchor Cert.ReferenceIdeal.lit2t 5415) 15523 361 = true := by decide +kernel
theorem anchors2_44 : allFrom (sameAnchor Cert.ReferenceIdeal.lit2t 5415) 15884 361 = true := by decide +kernel
theorem anchors2_45 : allFrom (sameAnchor Cert.ReferenceIdeal.lit2t 5415) 16245 361 = true := by decide +kernel
theorem anchors2_46 : allFrom (sameAnchor Cert.ReferenceIdeal.lit2t 5415) 16606 361 = true := by decide +kernel
theorem anchors2_47 : allFrom (sameAnchor Cert.ReferenceIdeal.lit2t 5415) 16967 361 = true := by decide +kernel
end Cert.Pf
-- ==== Proof.LitS.lean ====
module

public import proofs.«01_k».proof.Proof.LitH

/-! The strides of the three levels. -/

@[expose] public section

noncomputable section
set_option maxRecDepth 100000

namespace Cert.Pf

theorem strides0_0 : allFrom (sameStride 0x42000000) 0 1083 = true := by decide +kernel
theorem strides1_0 : allFrom (sameStride 0x41800000) 1083 1444 = true := by decide +kernel
theorem strides1_1 : allFrom (sameStride 0x41800000) 2527 1444 = true := by decide +kernel
theorem strides1_2 : allFrom (sameStride 0x41800000) 3971 1444 = true := by decide +kernel
theorem strides2_0 : allFrom (sameStride 0x41000000) 5415 1444 = true := by decide +kernel
theorem strides2_1 : allFrom (sameStride 0x41000000) 6859 1444 = true := by decide +kernel
theorem strides2_2 : allFrom (sameStride 0x41000000) 8303 1444 = true := by decide +kernel
theorem strides2_3 : allFrom (sameStride 0x41000000) 9747 1444 = true := by decide +kernel
theorem strides2_4 : allFrom (sameStride 0x41000000) 11191 1444 = true := by decide +kernel
theorem strides2_5 : allFrom (sameStride 0x41000000) 12635 1444 = true := by decide +kernel
theorem strides2_6 : allFrom (sameStride 0x41000000) 14079 1444 = true := by decide +kernel
theorem strides2_7 : allFrom (sameStride 0x41000000) 15523 1444 = true := by decide +kernel
theorem strides2_8 : allFrom (sameStride 0x41000000) 16967 1444 = true := by decide +kernel
theorem strides2_9 : allFrom (sameStride 0x41000000) 18411 1444 = true := by decide +kernel
theorem strides2_10 : allFrom (sameStride 0x41000000) 19855 1444 = true := by decide +kernel
theorem strides2_11 : allFrom (sameStride 0x41000000) 21299 1444 = true := by decide +kernel
end Cert.Pf
-- ==== Proof.Lits.lean ====
module

public import proofs.«01_k».proof.Proof.LitA
public import proofs.«01_k».proof.Proof.LitB
public import proofs.«01_k».proof.Proof.LitC
public import proofs.«01_k».proof.Proof.LitD
public import proofs.«01_k».proof.Proof.LitE
public import proofs.«01_k».proof.Proof.LitF
public import proofs.«01_k».proof.Proof.LitG
public import proofs.«01_k».proof.Proof.LitH
public import proofs.«01_k».proof.Proof.LitS

/-! The anchor and stride tables, whole levels. -/

@[expose] public section

noncomputable section

namespace Cert.Pf

/-- Level 0: the kernel's anchor columns are the reference's anchor rows. -/
theorem anchor0 (n : Nat) (h : n < 1083) : sameAnchor Cert.ReferenceIdeal.lit0t 0 n = true := by
  by_cases h0 : n < 361
  · exact allFrom_spec anchors0_0 n (by omega) (by omega)
  by_cases h1 : n < 722
  · exact allFrom_spec anchors0_1 n (by omega) (by omega)
  exact allFrom_spec anchors0_2 n (by omega) (by omega)

/-- Level 1: the kernel's anchor columns are the reference's anchor rows. -/
theorem anchor1 (n : Nat) (h : n < 4332) : sameAnchor Cert.ReferenceIdeal.lit1t 1083 n = true := by
  by_cases h0 : n < 361
  · exact allFrom_spec anchors1_0 n (by omega) (by omega)
  by_cases h1 : n < 722
  · exact allFrom_spec anchors1_1 n (by omega) (by omega)
  by_cases h2 : n < 1083
  · exact allFrom_spec anchors1_2 n (by omega) (by omega)
  by_cases h3 : n < 1444
  · exact allFrom_spec anchors1_3 n (by omega) (by omega)
  by_cases h4 : n < 1805
  · exact allFrom_spec anchors1_4 n (by omega) (by omega)
  by_cases h5 : n < 2166
  · exact allFrom_spec anchors1_5 n (by omega) (by omega)
  by_cases h6 : n < 2527
  · exact allFrom_spec anchors1_6 n (by omega) (by omega)
  by_cases h7 : n < 2888
  · exact allFrom_spec anchors1_7 n (by omega) (by omega)
  by_cases h8 : n < 3249
  · exact allFrom_spec anchors1_8 n (by omega) (by omega)
  by_cases h9 : n < 3610
  · exact allFrom_spec anchors1_9 n (by omega) (by omega)
  by_cases h10 : n < 3971
  · exact allFrom_spec anchors1_10 n (by omega) (by omega)
  exact allFrom_spec anchors1_11 n (by omega) (by omega)

/-- Level 2: the kernel's anchor columns are the reference's anchor rows. -/
theorem anchor2 (n : Nat) (h : n < 17328) : sameAnchor Cert.ReferenceIdeal.lit2t 5415 n = true := by
  by_cases h0 : n < 361
  · exact allFrom_spec anchors2_0 n (by omega) (by omega)
  by_cases h1 : n < 722
  · exact allFrom_spec anchors2_1 n (by omega) (by omega)
  by_cases h2 : n < 1083
  · exact allFrom_spec anchors2_2 n (by omega) (by omega)
  by_cases h3 : n < 1444
  · exact allFrom_spec anchors2_3 n (by omega) (by omega)
  by_cases h4 : n < 1805
  · exact allFrom_spec anchors2_4 n (by omega) (by omega)
  by_cases h5 : n < 2166
  · exact allFrom_spec anchors2_5 n (by omega) (by omega)
  by_cases h6 : n < 2527
  · exact allFrom_spec anchors2_6 n (by omega) (by omega)
  by_cases h7 : n < 2888
  · exact allFrom_spec anchors2_7 n (by omega) (by omega)
  by_cases h8 : n < 3249
  · exact allFrom_spec anchors2_8 n (by omega) (by omega)
  by_cases h9 : n < 3610
  · exact allFrom_spec anchors2_9 n (by omega) (by omega)
  by_cases h10 : n < 3971
  · exact allFrom_spec anchors2_10 n (by omega) (by omega)
  by_cases h11 : n < 4332
  · exact allFrom_spec anchors2_11 n (by omega) (by omega)
  by_cases h12 : n < 4693
  · exact allFrom_spec anchors2_12 n (by omega) (by omega)
  by_cases h13 : n < 5054
  · exact allFrom_spec anchors2_13 n (by omega) (by omega)
  by_cases h14 : n < 5415
  · exact allFrom_spec anchors2_14 n (by omega) (by omega)
  by_cases h15 : n < 5776
  · exact allFrom_spec anchors2_15 n (by omega) (by omega)
  by_cases h16 : n < 6137
  · exact allFrom_spec anchors2_16 n (by omega) (by omega)
  by_cases h17 : n < 6498
  · exact allFrom_spec anchors2_17 n (by omega) (by omega)
  by_cases h18 : n < 6859
  · exact allFrom_spec anchors2_18 n (by omega) (by omega)
  by_cases h19 : n < 7220
  · exact allFrom_spec anchors2_19 n (by omega) (by omega)
  by_cases h20 : n < 7581
  · exact allFrom_spec anchors2_20 n (by omega) (by omega)
  by_cases h21 : n < 7942
  · exact allFrom_spec anchors2_21 n (by omega) (by omega)
  by_cases h22 : n < 8303
  · exact allFrom_spec anchors2_22 n (by omega) (by omega)
  by_cases h23 : n < 8664
  · exact allFrom_spec anchors2_23 n (by omega) (by omega)
  by_cases h24 : n < 9025
  · exact allFrom_spec anchors2_24 n (by omega) (by omega)
  by_cases h25 : n < 9386
  · exact allFrom_spec anchors2_25 n (by omega) (by omega)
  by_cases h26 : n < 9747
  · exact allFrom_spec anchors2_26 n (by omega) (by omega)
  by_cases h27 : n < 10108
  · exact allFrom_spec anchors2_27 n (by omega) (by omega)
  by_cases h28 : n < 10469
  · exact allFrom_spec anchors2_28 n (by omega) (by omega)
  by_cases h29 : n < 10830
  · exact allFrom_spec anchors2_29 n (by omega) (by omega)
  by_cases h30 : n < 11191
  · exact allFrom_spec anchors2_30 n (by omega) (by omega)
  by_cases h31 : n < 11552
  · exact allFrom_spec anchors2_31 n (by omega) (by omega)
  by_cases h32 : n < 11913
  · exact allFrom_spec anchors2_32 n (by omega) (by omega)
  by_cases h33 : n < 12274
  · exact allFrom_spec anchors2_33 n (by omega) (by omega)
  by_cases h34 : n < 12635
  · exact allFrom_spec anchors2_34 n (by omega) (by omega)
  by_cases h35 : n < 12996
  · exact allFrom_spec anchors2_35 n (by omega) (by omega)
  by_cases h36 : n < 13357
  · exact allFrom_spec anchors2_36 n (by omega) (by omega)
  by_cases h37 : n < 13718
  · exact allFrom_spec anchors2_37 n (by omega) (by omega)
  by_cases h38 : n < 14079
  · exact allFrom_spec anchors2_38 n (by omega) (by omega)
  by_cases h39 : n < 14440
  · exact allFrom_spec anchors2_39 n (by omega) (by omega)
  by_cases h40 : n < 14801
  · exact allFrom_spec anchors2_40 n (by omega) (by omega)
  by_cases h41 : n < 15162
  · exact allFrom_spec anchors2_41 n (by omega) (by omega)
  by_cases h42 : n < 15523
  · exact allFrom_spec anchors2_42 n (by omega) (by omega)
  by_cases h43 : n < 15884
  · exact allFrom_spec anchors2_43 n (by omega) (by omega)
  by_cases h44 : n < 16245
  · exact allFrom_spec anchors2_44 n (by omega) (by omega)
  by_cases h45 : n < 16606
  · exact allFrom_spec anchors2_45 n (by omega) (by omega)
  by_cases h46 : n < 16967
  · exact allFrom_spec anchors2_46 n (by omega) (by omega)
  exact allFrom_spec anchors2_47 n (by omega) (by omega)

/-- Level 0: the kernel's strides. -/
theorem stride0 (n : Nat) (h0 : 0 ≤ n) (h : n < 1083) : sameStride 0x42000000 n = true := by
  exact allFrom_spec strides0_0 n (by omega) (by omega)

/-- Level 1: the kernel's strides. -/
theorem stride1 (n : Nat) (h0 : 1083 ≤ n) (h : n < 5415) : sameStride 0x41800000 n = true := by
  by_cases g0 : n < 2527
  · exact allFrom_spec strides1_0 n (by omega) (by omega)
  by_cases h1 : n < 3971
  · exact allFrom_spec strides1_1 n (by omega) (by omega)
  exact allFrom_spec strides1_2 n (by omega) (by omega)

/-- Level 2: the kernel's strides. -/
theorem stride2 (n : Nat) (h0 : 5415 ≤ n) (h : n < 22743) : sameStride 0x41000000 n = true := by
  by_cases g0 : n < 6859
  · exact allFrom_spec strides2_0 n (by omega) (by omega)
  by_cases h1 : n < 8303
  · exact allFrom_spec strides2_1 n (by omega) (by omega)
  by_cases h2 : n < 9747
  · exact allFrom_spec strides2_2 n (by omega) (by omega)
  by_cases h3 : n < 11191
  · exact allFrom_spec strides2_3 n (by omega) (by omega)
  by_cases h4 : n < 12635
  · exact allFrom_spec strides2_4 n (by omega) (by omega)
  by_cases h5 : n < 14079
  · exact allFrom_spec strides2_5 n (by omega) (by omega)
  by_cases h6 : n < 15523
  · exact allFrom_spec strides2_6 n (by omega) (by omega)
  by_cases h7 : n < 16967
  · exact allFrom_spec strides2_7 n (by omega) (by omega)
  by_cases h8 : n < 18411
  · exact allFrom_spec strides2_8 n (by omega) (by omega)
  by_cases h9 : n < 19855
  · exact allFrom_spec strides2_9 n (by omega) (by omega)
  by_cases h10 : n < 21299
  · exact allFrom_spec strides2_10 n (by omega) (by omega)
  exact allFrom_spec strides2_11 n (by omega) (by omega)

end Cert.Pf
-- ==== Proof.KiPreEq.lean ====
/-
  The host operations before the decode call, one at a time.
  What each operation says of its buffer.
-/
module

public import proofs.«01_k».proof.Proof.KiPre

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

variable (V : Valuation τ sig (Elt F))

theorem x_cst_eq : x_cst V = (fun i => FloatOps.ofBits .f32 (lit0 (S4x22784.rowMajor i))) := read_nullary pre_writes (i := 0) (y := main_cst) rfl (by decide +kernel) V
theorem x_cst_0_eq : x_cst_0 V = (fun i => FloatOps.ofBits .f32 (lit1 (S1x22784.rowMajor i))) := read_nullary pre_writes (i := 1) (y := main_cst_0) rfl (by decide +kernel) V
theorem x_v0_eq : x_v0 V = shapeCast S255x19x19 (x_arg0 V) shapeCasts_S1x255x19x19_S255x19x19 := read_reshape pre_writes (i := 2) (a := main_arg0) (y := main_v0) rfl (by decide +kernel) (by decide +kernel) V
theorem x_v1_eq : x_v1 V = shapeCast S3x85x361 (x_v0 V) shapeCasts_S255x19x19_S3x85x361 := read_reshape pre_writes (i := 3) (a := main_v0) (y := main_v1) rfl (by decide +kernel) (by decide +kernel) V
theorem x_v2_eq : x_v2 V = transpose S85x361x3 [1, 2, 0] (x_v1 V) transposes_S3x85x361_S85x361x3_1_2_0 := read_unary pre_writes (i := 4) (a := main_v1) (y := main_v2) rfl (by decide +kernel) (by decide +kernel) V
theorem x_v3_eq : x_v3 V = shapeCast S85x1083 (x_v2 V) shapeCasts_S85x361x3_S85x1083 := read_reshape pre_writes (i := 5) (a := main_v2) (y := main_v3) rfl (by decide +kernel) (by decide +kernel) V
theorem x_v4_eq : x_v4 V = shapeCast S255x38x38 (x_arg1 V) shapeCasts_S1x255x38x38_S255x38x38 := read_reshape pre_writes (i := 6) (a := main_arg1) (y := main_v4) rfl (by decide +kernel) (by decide +kernel) V
theorem x_v5_eq : x_v5 V = shapeCast S3x85x1444 (x_v4 V) shapeCasts_S255x38x38_S3x85x1444 := read_reshape pre_writes (i := 7) (a := main_v4) (y := main_v5) rfl (by decide +kernel) (by decide +kernel) V
theorem x_v6_eq : x_v6 V = transpose S85x1444x3 [1, 2, 0] (x_v5 V) transposes_S3x85x1444_S85x1444x3_1_2_0 := read_unary pre_writes (i := 8) (a := main_v5) (y := main_v6) rfl (by decide +kernel) (by decide +kernel) V
theorem x_v7_eq : x_v7 V = shapeCast S85x4332 (x_v6 V) shapeCasts_S85x1444x3_S85x4332 := read_reshape pre_writes (i := 9) (a := main_v6) (y := main_v7) rfl (by decide +kernel) (by decide +kernel) V
theorem x_v8_eq : x_v8 V = shapeCast S255x76x76 (x_arg2 V) shapeCasts_S1x255x76x76_S255x76x76 := read_reshape pre_writes (i := 10) (a := main_arg2) (y := main_v8) rfl (by decide +kernel) (by decide +kernel) V
theorem x_v9_eq : x_v9 V = shapeCast S3x85x5776 (x_v8 V) shapeCasts_S255x76x76_S3x85x5776 := read_reshape pre_writes (i := 11) (a := main_v8) (y := main_v9) rfl (by decide +kernel) (by decide +kernel) V
theorem x_v10_eq : x_v10 V = transpose S85x5776x3 [1, 2, 0] (x_v9 V) transposes_S3x85x5776_S85x5776x3_1_2_0 := read_unary pre_writes (i := 12) (a := main_v9) (y := main_v10) rfl (by decide +kernel) (by decide +kernel) V
theorem x_v11_eq : x_v11 V = shapeCast S85x17328 (x_v10 V) shapeCasts_S85x5776x3_S85x17328 := read_reshape pre_writes (i := 13) (a := main_v10) (y := main_v11) rfl (by decide +kernel) (by decide +kernel) V
theorem x_v12_eq : x_v12 V = concatenate S85x22743 1 [⟨S85x1083, x_v3 V⟩, ⟨S85x4332, x_v7 V⟩, ⟨S85x17328, x_v11 V⟩] concatenates_S85x1083_S85x4332_S85x17328_S85x22743_d1 := read_nary pre_writes (i := 14) (y := main_v12) rfl (by decide +kernel) (by decide +kernel) V
theorem x_c_eq : x_c V = (constantI S_ 32 0#32) := read_nullary pre_writes (i := 15) (y := main_c) rfl (by decide +kernel) V
theorem x_call0_v0_eq : x_call0_v0 V = (sitofp .f32) (x_c V) := eq_of_heq (read_tunary pre_writes (i := 16) (xa := TRef.of (T := ⟨S_, .i32⟩) main_c) (xy := TRef.of (T := ⟨S_, .f32⟩) main_call0_v0) (A := x_c V) (sitofp .f32) rfl (by decide +kernel) (by decide +kernel) V HEq.rfl)
theorem x_v13_eq : x_v13 V = pad S85x22784 ![0, 0] ![0, 41] ![0, 0] (x_v12 V) (x_call0_v0 V) pads_S85x22743_S85x22784_000_0410 h_S_ := by
  have h := read_tbinary pre_writes (i := 17) (xa := TRef.of (T := ⟨S85x22743, .f32⟩) main_v12) (xb := TRef.of (T := ⟨S_, .f32⟩) main_call0_v0) (xy := TRef.of (T := ⟨S85x22784, .f32⟩) main_v13) (A := x_v12 V) (B := x_call0_v0 V) (fun (x : S85x22743.Idx → Elt F .f32) (v : S_.Idx → Elt F .f32) => pad S85x22784 ![0, 0] ![0, 41] ![0, 0] x v pads_S85x22743_S85x22784_000_0410 h_S_) rfl (by decide +kernel) (by decide +kernel) (by decide +kernel) V HEq.rfl HEq.rfl
  exact eq_of_heq h

end Cert.KernelIdeal.Pf

end
-- ==== Proof.KiDecAt.lean ====
module

public import proofs.«01_k».proof.Proof.KiDec
public import proofs.«01_k».proof.Proof.Dec

/-! The decode kernel's three results, read element by element: column `n` as a function of column `n` of the raw
    values, of the anchors and of the strides. -/

@[expose] public section

noncomputable section
set_option maxRecDepth 100000

namespace Cert.KernelIdeal.Pf
open Cert.KernelIdeal Cert.KernelIdeal.Gen Cert.Pf
open Idealize.ShloMosaic Idealize.ShloMosaic.StableHlo
open Idealize.ShloMosaic.TcCoe

variable (A : Vec Ideal S85x22784 .f32) (B : Vec Ideal S4x22784 .f32) (S : Vec Ideal S1x22784 .f32)

/-- Column `n` of the boxes, coordinate `k`. -/
theorem boxRows_at (n : Fin 22784) (k : Fin 4) :
    boxRows A B S (ix2 k n) = box (fun j => A (ix2 j n)) (fun j => B (ix2 j n)) (S (ix2 0 n)) k := by
  fin_cases k
  · pointwise [boxRows, k0_pay1, k0_pay4, k0_pay5, k0_pay6, k0_pay7, k0_pay8, k0_pay9, k0_pay10, k0_pay11]
    rfl
  · pointwise [boxRows, k0_pay1, k0_pay4, k0_pay5, k0_pay6, k0_pay7, k0_pay8, k0_pay9, k0_pay10, k0_pay11]
    rfl
  · pointwise [boxRows, k0_pay1, k0_pay4, k0_pay5, k0_pay6, k0_pay7, k0_pay8, k0_pay9, k0_pay10, k0_pay11]
    rfl
  · pointwise [boxRows, k0_pay1, k0_pay4, k0_pay5, k0_pay6, k0_pay7, k0_pay8, k0_pay9, k0_pay10, k0_pay11]
    rfl

/-- Column `n` of the confidences. -/
theorem confRow_at (n : Fin 22784) : k0_pay2 (F := Ideal) (k0_pay4 A) (ix2 0 n) = Ideal.logistic (A (ix2 4 n)) := by
  pointwise [k0_pay2, k0_pay4]
  try rfl

/-- Column `n` of the class scores, class `k`. -/
theorem clsRow_at (n : Fin 22784) (k : Fin 80) :
    k0_pay3 (F := Ideal) (k0_pay4 A) (ix2 k n) = Ideal.logistic (A (ix2 ⟨5 + k.val, by omega⟩ n)) := by
  pointwise [k0_pay3, k0_pay4]
  try rfl

end Cert.KernelIdeal.Pf
-- ==== Proof.Same.lean ====
module

public import proofs.«01_k».proof.Proof.Mid
public import proofs.«01_k».proof.Proof.Raw
public import proofs.«01_k».proof.Proof.Lits
public import proofs.«01_k».proof.Proof.KiPreEq
public import proofs.«01_k».proof.Proof.KiDecAt

/-! The decoded levels of the two programs are equal: equal raw values, equal anchors, equal strides. -/

@[expose] public section

noncomputable section
set_option maxRecDepth 100000

namespace Cert.Pf
open Idealize.ShloMosaic Idealize.ShloMosaic.StableHlo

variable {K0 : KV} {R : RV}

/-- Level 0: equal raw values. -/
theorem kraw0 (h : KernelIdeal.Pf.x_arg0 K0 = ReferenceIdeal.Pf.x_arg0 R) (n : Fin 1083) (c : Fin 85) :
    KernelIdeal.Pf.x_v13 K0 (ix2 c ⟨n.val, by omega⟩) = ReferenceIdeal.Pf.x_v4 R (ix2 n c) := by
  rw [KernelIdeal.Pf.x_v13_eq, KernelIdeal.Pf.x_v12_eq]
  pointwise
  rw [dif_pos (by omega)]
  rw [KernelIdeal.Pf.x_v3_eq, KernelIdeal.Pf.x_v2_eq, KernelIdeal.Pf.x_v1_eq, KernelIdeal.Pf.x_v0_eq, ReferenceIdeal.Pf.x_v4_eq, ReferenceIdeal.Pf.x_v3_eq, ReferenceIdeal.Pf.x_v0_eq, h]
  exact raw0 _ _ _ _ _ _ _ _ _ _

/-- Level 0: equal anchors. -/
theorem kanchor0 (n : Fin 1083) (k : Fin 4) : KernelIdeal.Pf.x_cst K0 (ix2 k ⟨n.val, by omega⟩) = ReferenceIdeal.Pf.x_cst R (ix2 n k) := by
  rw [KernelIdeal.Pf.x_cst_eq, ReferenceIdeal.Pf.x_cst_eq]
  refine congrArg (Ideal.ofBits .f32) ?_
  have e := sameAnchor_spec (anchor0 n.val n.isLt) k
  have e1 : (KernelIdeal.S4x22784.rowMajor (ix2 k ⟨n.val, by omega⟩)).val = k.val * 22784 + (0 + n.val) := by
    rw [rowMajor_val2 _ 22784 rfl]
    show k.val * 22784 + n.val = _
    omega
  have e2 : (ReferenceIdeal.S1083x4.rowMajor (ix2 n k)).val = n.val * 4 + k.val := by
    rw [rowMajor_val2 _ 4 rfl]
    rfl
  show KernelIdeal.lit0t (KernelIdeal.S4x22784.rowMajor (ix2 k ⟨n.val, by omega⟩)).val = ReferenceIdeal.lit0t (ReferenceIdeal.S1083x4.rowMajor (ix2 n k)).val
  rw [e1, e2]
  exact e

/-- Level 0: the stride. -/
theorem kstride0 (n : Fin 1083) : KernelIdeal.Pf.x_cst_0 K0 (ix2 0 ⟨n.val, by omega⟩) = Ideal.ofBits .f32 0x42000000#32 := by
  rw [KernelIdeal.Pf.x_cst_0_eq]
  refine congrArg (Ideal.ofBits .f32) ?_
  have e := sameStride_spec (s := 0x42000000#32) (stride0 (0 + n.val) (by omega) (by omega))
  have e1 : (KernelIdeal.S1x22784.rowMajor (ix2 0 ⟨n.val, by omega⟩)).val = 0 + n.val := by
    rw [rowMajor_val2 _ 22784 rfl]
    show 0 * 22784 + n.val = _
    omega
  show KernelIdeal.lit1t (KernelIdeal.S1x22784.rowMajor (ix2 0 ⟨n.val, by omega⟩)).val = 0x42000000#32
  rw [e1]
  exact e

/-- Level 1: equal raw values. -/
theorem kraw1 (h : KernelIdeal.Pf.x_arg1 K0 = ReferenceIdeal.Pf.x_arg1 R) (n : Fin 4332) (c : Fin 85) :
    KernelIdeal.Pf.x_v13 K0 (ix2 c ⟨1083 + n.val, by omega⟩) = ReferenceIdeal.Pf.x_v117 R (ix2 n c) := by
  rw [KernelIdeal.Pf.x_v13_eq, KernelIdeal.Pf.x_v12_eq]
  pointwise
  rw [dif_pos (by omega)]
  rw [KernelIdeal.Pf.x_v7_eq, KernelIdeal.Pf.x_v6_eq, KernelIdeal.Pf.x_v5_eq, KernelIdeal.Pf.x_v4_eq, ReferenceIdeal.Pf.x_v117_eq, ReferenceIdeal.Pf.x_v116_eq, ReferenceIdeal.Pf.x_v1_eq, h]
  exact raw1 _ _ _ _ _ _ _ _ _ _

/-- Level 1: equal anchors. -/
theorem kanchor1 (n : Fin 4332) (k : Fin 4) : KernelIdeal.Pf.x_cst K0 (ix2 k ⟨1083 + n.val, by omega⟩) = ReferenceIdeal.Pf.x_cst_0 R (ix2 n k) := by
  rw [KernelIdeal.Pf.x_cst_eq, ReferenceIdeal.Pf.x_cst_0_eq]
  refine congrArg (Ideal.ofBits .f32) ?_
  have e := sameAnchor_spec (anchor1 n.val n.isLt) k
  have e1 : (KernelIdeal.S4x22784.rowMajor (ix2 k ⟨1083 + n.val, by omega⟩)).val = k.val * 22784 + (1083 + n.val) := by
    rw [rowMajor_val2 _ 22784 rfl]
    show k.val * 22784 + (1083 + n.val) = _
    omega
  have e2 : (ReferenceIdeal.S4332x4.rowMajor (ix2 n k)).val = n.val * 4 + k.val := by
    rw [rowMajor_val2 _ 4 rfl]
    rfl
  show KernelIdeal.lit0t (KernelIdeal.S4x22784.rowMajor (ix2 k ⟨1083 + n.val, by omega⟩)).val = ReferenceIdeal.lit1t (ReferenceIdeal.S4332x4.rowMajor (ix2 n k)).val
  rw [e1, e2]
  exact e

/-- Level 1: the stride. -/
theorem kstride1 (n : Fin 4332) : KernelIdeal.Pf.x_cst_0 K0 (ix2 0 ⟨1083 + n.val, by omega⟩) = Ideal.ofBits .f32 0x41800000#32 := by
  rw [KernelIdeal.Pf.x_cst_0_eq]
  refine congrArg (Ideal.ofBits .f32) ?_
  have e := sameStride_spec (s := 0x41800000#32) (stride1 (1083 + n.val) (by omega) (by omega))
  have e1 : (KernelIdeal.S1x22784.rowMajor (ix2 0 ⟨1083 + n.val, by omega⟩)).val = 1083 + n.val := by
    rw [rowMajor_val2 _ 22784 rfl]
    show 0 * 22784 + (1083 + n.val) = _
    omega
  show KernelIdeal.lit1t (KernelIdeal.S1x22784.rowMajor (ix2 0 ⟨1083 + n.val, by omega⟩)).val = 0x41800000#32
  rw [e1]
  exact e

/-- Level 2: equal raw values. -/
theorem kraw2 (h : KernelIdeal.Pf.x_arg2 K0 = ReferenceIdeal.Pf.x_arg2 R) (n : Fin 17328) (c : Fin 85) :
    KernelIdeal.Pf.x_v13 K0 (ix2 c ⟨5415 + n.val, by omega⟩) = ReferenceIdeal.Pf.x_v230 R (ix2 n c) := by
  rw [KernelIdeal.Pf.x_v13_eq, KernelIdeal.Pf.x_v12_eq]
  pointwise
  rw [dif_pos (by omega)]
  rw [dif_neg (by omega), dif_neg (by omega)]
  refine (congrArg (fun q => KernelIdeal.Pf.x_v11 K0 (ix2 c q)) (Fin.ext (by show 5415 + n.val - 1083 - 4332 = n.val; omega) : _ = n)).trans ?_
  rw [KernelIdeal.Pf.x_v11_eq, KernelIdeal.Pf.x_v10_eq, KernelIdeal.Pf.x_v9_eq, KernelIdeal.Pf.x_v8_eq, ReferenceIdeal.Pf.x_v230_eq, ReferenceIdeal.Pf.x_v229_eq, ReferenceIdeal.Pf.x_v2_eq, h]
  exact raw2 _ _ _ _ _ _ _ _ _ _

/-- Level 2: equal anchors. -/
theorem kanchor2 (n : Fin 17328) (k : Fin 4) : KernelIdeal.Pf.x_cst K0 (ix2 k ⟨5415 + n.val, by omega⟩) = ReferenceIdeal.Pf.x_cst_1 R (ix2 n k) := by
  rw [KernelIdeal.Pf.x_cst_eq, ReferenceIdeal.Pf.x_cst_1_eq]
  refine congrArg (Ideal.ofBits .f32) ?_
  have e := sameAnchor_spec (anchor2 n.val n.isLt) k
  have e1 : (KernelIdeal.S4x22784.rowMajor (ix2 k ⟨5415 + n.val, by omega⟩)).val = k.val * 22784 + (5415 + n.val) := by
    rw [rowMajor_val2 _ 22784 rfl]
    show k.val * 22784 + (5415 + n.val) = _
    omega
  have e2 : (ReferenceIdeal.S17328x4.rowMajor (ix2 n k)).val = n.val * 4 + k.val := by
    rw [rowMajor_val2 _ 4 rfl]
    rfl
  show KernelIdeal.lit0t (KernelIdeal.S4x22784.rowMajor (ix2 k ⟨5415 + n.val, by omega⟩)).val = ReferenceIdeal.lit2t (ReferenceIdeal.S17328x4.rowMajor (ix2 n k)).val
  rw [e1, e2]
  exact e

/-- Level 2: the stride. -/
theorem kstride2 (n : Fin 17328) : KernelIdeal.Pf.x_cst_0 K0 (ix2 0 ⟨5415 + n.val, by omega⟩) = Ideal.ofBits .f32 0x41000000#32 := by
  rw [KernelIdeal.Pf.x_cst_0_eq]
  refine congrArg (Ideal.ofBits .f32) ?_
  have e := sameStride_spec (s := 0x41000000#32) (stride2 (5415 + n.val) (by omega) (by omega))
  have e1 : (KernelIdeal.S1x22784.rowMajor (ix2 0 ⟨5415 + n.val, by omega⟩)).val = 5415 + n.val := by
    rw [rowMajor_val2 _ 22784 rfl]
    show 0 * 22784 + (5415 + n.val) = _
    omega
  show KernelIdeal.lit1t (KernelIdeal.S1x22784.rowMajor (ix2 0 ⟨5415 + n.val, by omega⟩)).val = 0x41000000#32
  rw [e1]
  exact e

/-- The decode call's results hold the reference's levels side by side. -/
theorem same {K : KV} (h0 : KernelIdeal.Pf.x_arg0 K0 = ReferenceIdeal.Pf.x_arg0 R) (h1 : KernelIdeal.Pf.x_arg1 K0 = ReferenceIdeal.Pf.x_arg1 R) (h2 : KernelIdeal.Pf.x_arg2 K0 = ReferenceIdeal.Pf.x_arg2 R)
    (hb : KernelIdeal.Pf.y_v14_0 K = KernelIdeal.Pf.boxRows (KernelIdeal.Pf.x_v13 K0) (KernelIdeal.Pf.x_cst K0) (KernelIdeal.Pf.x_cst_0 K0))
    (hc : KernelIdeal.Pf.y_v14_1 K = KernelIdeal.Gen.k0_pay2 (KernelIdeal.Gen.k0_pay4 (KernelIdeal.Pf.x_v13 K0)))
    (hs : KernelIdeal.Pf.y_v14_2 K = KernelIdeal.Gen.k0_pay3 (KernelIdeal.Gen.k0_pay4 (KernelIdeal.Pf.x_v13 K0))) : Same K R where
  box0 n k := by
    rw [hb, KernelIdeal.Pf.boxRows_at, ReferenceIdeal.Pf.box0_at, kstride0]
    simp only [kraw0 h0, kanchor0 (R := R)]
  conf0 n := by
    rw [hc, KernelIdeal.Pf.confRow_at, ReferenceIdeal.Pf.conf0_at, kraw0 h0]
  cls0 n k := by
    rw [hs, KernelIdeal.Pf.clsRow_at, ReferenceIdeal.Pf.cls0_at, kraw0 h0]
  box1 n k := by
    rw [hb, KernelIdeal.Pf.boxRows_at, ReferenceIdeal.Pf.box1_at, kstride1]
    simp only [kraw1 h1, kanchor1 (R := R)]
  conf1 n := by
    rw [hc, KernelIdeal.Pf.confRow_at, ReferenceIdeal.Pf.conf1_at, kraw1 h1]
  cls1 n k := by
    rw [hs, KernelIdeal.Pf.clsRow_at, ReferenceIdeal.Pf.cls1_at, kraw1 h1]
  box2 n k := by
    rw [hb, KernelIdeal.Pf.boxRows_at, ReferenceIdeal.Pf.box2_at, kstride2]
    simp only [kraw2 h2, kanchor2 (R := R)]
  conf2 n := by
    rw [hc, KernelIdeal.Pf.confRow_at, ReferenceIdeal.Pf.conf2_at, kraw2 h2]
  cls2 n k := by
    rw [hs, KernelIdeal.Pf.clsRow_at, ReferenceIdeal.Pf.cls2_at, kraw2 h2]

end Cert.Pf
-- ==== Proof.Score.lean ====
/-
  The candidates' scores are at least minus one, the score of a candidate taken out; the filling is at most that.
-/
module

public import proofs.«01_k».proof.Proof.RfPreD
public import proofs.«01_k».proof.Proof.TopGather

@[expose] public section

noncomputable section

namespace Cert.Pf

open Cert.ReferenceIdeal Cert.ReferenceIdeal.Gen Cert.ReferenceIdeal.Pf
open Idealize.ShloMosaic

/-- The pattern of minus one. -/
theorem ofBits_neg_one : Ideal.ofBits .f32 0xBF800000#32 = -1 := by
  simp [Ideal.ofBits, Ideal.ieee, -EReal.coe_mul]
  norm_num

/-- The filling of the unused lanes is at most minus one. -/
theorem fill_le : Ideal.ofBits .f32 0xF149F2CA#32 ≤ Ideal.ofBits .f32 0xBF800000#32 := by
  rw [ofBits_neg_one]
  simp [Ideal.ofBits, Ideal.ieee, -EReal.coe_mul]
  exact_mod_cast (by norm_num : (1 : ℝ) ≤ 1000000015047466219876688855040)

/-- The least score kept is not negative. -/
theorem thr_nonneg : 0 ≤ Ideal.ofBits .f32 0x3D4CCCCD#32 := by
  simp [Ideal.ofBits, Ideal.ieee, -EReal.coe_mul]

/-- A number kept only above a bound that is not negative is not negative. -/
theorem kept_nonneg (a t : EReal) (ht : 0 ≤ t) : 0 ≤ a * (((FloatOps.cmpf (F := Ideal) (φ := .f32) .ogt a t).toNat : ℝ) : EReal) := by
  show 0 ≤ a * (((BitVec.ofBool (decide (t < a))).toNat : ℝ) : EReal)
  by_cases h : t < a
  · rw [decide_eq_true h, show (BitVec.ofBool true).toNat = 1 from rfl, Nat.cast_one, EReal.coe_one, mul_one]
    exact ht.trans h.le
  · rw [decide_eq_false h, show (BitVec.ofBool false).toNat = 0 from rfl, Nat.cast_zero, EReal.coe_zero, mul_zero]

/-- A candidate's score is at least minus one. -/
theorem score_low (V : Valuation τ sig (Elt Ideal)) (j : Fin 2000) : Ideal.ofBits .f32 0xBF800000#32 ≤ x_values_75 V (ix1 j) := by
  obtain ⟨i, hi, -⟩ := topK_at (FloatOps.cmpfTotal .gt) (x_v352 V) sliceFits_S240000_S2000 j
  rw [x_values_75_eq]
  refine le_trans ?_ hi.ge
  rw [x_v352_eq]
  unfold shapeCast
  rw [x_v351_eq, x_v350_eq, x_v349_eq, x_v348_eq, x_cst_74_eq]
  generalize (Shape.reshapeEquiv shapeCasts_S3000x80_S240000) (ix1 i) = q
  refine le_trans ?_ (kept_nonneg (x_v347 V q) _ thr_nonneg)
  rw [ofBits_neg_one]
  norm_num

end Cert.Pf

end
-- ==== Proof.KiTrip.lean ====
/-
  One round of the suppression loop, as the body's payloads: the scores it carries on, and the one row it stores.
-/
module

public import proofs.«01_k».proof.Proof.KiDec

@[expose] public section

noncomputable section

namespace Cert.KernelIdeal.Pf

open Cert.KernelIdeal Cert.KernelIdeal.Gen
open Idealize.ShloMosaic
open Idealize.ShloMosaic.TcCoe

variable {F : FTy → Type} [FloatOps F]

/-- The lane numbers of the candidates. -/
abbrev lanes : IVec S1x2048 32 := iota .tc S1x2048 32 [1] iota_S1x2048_d1_w32
/-- The lane numbers of an output row. -/
abbrev outLanes : IVec S1x128 32 := iota .tc S1x128 32 [1] iota_S1x128_d1_w32

/-- The scores after a round. -/
def newScores (v0 : Vec F S4x2048 .f32) (v2 : Vec F S1x2048 .f32) (x : FVec F S1x2048 .f32) : FVec F S1x2048 .f32 :=
  k1_pay19 (k1_pay4 v0 v2) (k1_pay5 v0 v2) (k1_pay6 v0 v2) (k1_pay7 v0 v2) (k1_pay8 v0 v2) x (k1_pay12 lanes x)
    (k1_pay13 (k1_pay4 v0 v2) lanes x) (k1_pay14 (k1_pay5 v0 v2) lanes x) (k1_pay15 (k1_pay6 v0 v2) lanes x)
    (k1_pay16 (k1_pay7 v0 v2) lanes x)

/-- The row a round stores. -/
def newRow (v0 : Vec F S4x2048 .f32) (v2 : Vec F S1x2048 .f32) (x : FVec F S1x2048 .f32) : FVec F S1x128 .f32 :=
  k1_pay10 (k1_pay11 x) (k1_pay16 (k1_pay7 v0 v2) lanes x) (k1_pay17 (k1_pay2 v2) lanes x) (k1_pay18 (k1_pay2 v2) lanes x)
    (k1_pay20 outLanes) (k1_pay21 outLanes) (k1_pay22 outLanes)
    (k1_pay23 (k1_pay13 (k1_pay4 v0 v2) lanes x) (k1_pay18 (k1_pay2 v2) lanes x)) (k1_pay24 outLanes)
    (k1_pay25 (k1_pay14 (k1_pay5 v0 v2) lanes x) (k1_pay18 (k1_pay2 v2) lanes x)) (k1_pay26 outLanes)
    (k1_pay27 (k1_pay15 (k1_pay6 v0 v2) lanes x) (k1_pay18 (k1_pay2 v2) lanes x)) k1_pay28

section
variable (c : Dev nD) (M0 : Memref sig .tc .vmem S4x2048 .f32) (h0 : M0.IsWhole) (M1 : Memref sig .tc .vmem S1x2048 .f32) (h1 : M1.IsWhole)
    (M2 : Memref sig .tc .vmem S1x2048 .f32) (h2 : M2.IsWhole) (M3 : Memref sig .tc .vmem S128x128 .f32) (h3 : M3.IsWhole)
    (v0 : Vec F S4x2048 .f32) (v2 : Vec F S1x2048 .f32) (k : Fin k1_t1_loop.trips) (x : FVec F S1x2048 .f32)

/-- A round's scores. -/
theorem tripR_eq : tripR_k1_t1 (F := F) Variants.none c none M0 h0 M1 h1 M2 h2 M3 h3 v0 v2 lanes outLanes k x = newScores v0 v2 x := by
  unfold tripR_k1_t1 trip_k1_t1
  rfl

/-- A round's stored row. -/
theorem tripL_eq : tripL_k1_t1 (F := F) Variants.none c none M0 h0 M1 h1 M2 h2 M3 h3 v0 v2 lanes outLanes k x
    = [⟨Rect.unit (s := S128x128) (k1_off1 k) S1x128.size (k1_off1_inb k), newRow v0 v2 x⟩] := by
  unfold tripL_k1_t1 trip_k1_t1
  rfl

end

end Cert.KernelIdeal.Pf

end
-- ==== Proof.Pick.lean ====
module

public import Idealize.ShloMosaic.Lib.Pointwise
public import Idealize.ShloMosaic.Lib.SortFacts
public import Idealize.ShloMosaic.Lib.ValueIdxCore
public import Idealize.ShloMosaic.Lib.SortNet.Extract

/-! The position of a vector's first greatest entry: what a top-k of one entry reports, and what a lane maximum, a lane
minimum of the positions holding it, and a sum with every other position masked read. -/

@[expose] public section

noncomputable section

namespace Cert.Pf
open Idealize.ShloMosaic

/-- `p` is the first position of the greatest entry of `f`. -/
structure First {n : Nat} (f : Fin n → EReal) (p : Fin n) : Prop where
  top : ∀ j, f j ≤ f p
  fst : ∀ j, j < p → f j < f p

/-- Inserting in front of a sorted list leaves at its head the new position, or the old head if that sorts before it. -/
theorem head_insertBefore {ι : Type} (before : ι → ι → Bool) (a b : ι) (l : List ι) :
    ∃ m, insertBefore before a (b :: l) = (if before b a then b else a) :: m := by
  unfold insertBefore
  split
  · exact ⟨_, rfl⟩
  · exact ⟨_, rfl⟩

/-- The head of a stable sort by "greater": the greatest entry's first position. -/
theorem head_stableSort {n : Nat} (f : Fin n → EReal) (before : Fin n → Fin n → Bool) (hb : ∀ a b, before a b = true ↔ f b < f a) :
    ∀ l : List (Fin n), l.Pairwise (· < ·) → l ≠ [] →
      ∃ p m, stableSort before l = p :: m ∧ p ∈ l ∧ (∀ j ∈ l, f j ≤ f p) ∧ ∀ j ∈ l, j < p → f j < f p
  | [], _, h => absurd rfl h
  | [a], _, _ => ⟨a, [], rfl, by simp, by simp, by simp⟩
  | a :: b :: l, h, _ => by
    obtain ⟨p, m, e, hp, ht, hf⟩ := head_stableSort f before hb (b :: l) (List.pairwise_cons.1 h).2 (by simp)
    have ha := (List.pairwise_cons.1 h).1
    obtain ⟨m', e'⟩ := head_insertBefore before a p m
    have e2 : stableSort before (a :: b :: l) = (if before p a then p else a) :: m' := by
      rw [← e']; show insertBefore before a (stableSort before (b :: l)) = _; rw [e]
    by_cases hpa : before p a = true
    · rw [if_pos hpa] at e2
      have hlt := (hb p a).1 hpa
      refine ⟨p, m', e2, List.mem_cons_of_mem _ hp, fun j hj => ?_, fun j hj hjp => ?_⟩
      · rcases List.mem_cons.1 hj with rfl | hj
        · exact hlt.le
        · exact ht j hj
      · rcases List.mem_cons.1 hj with rfl | hj
        · exact hlt
        · exact hf j hj hjp
    · rw [if_neg hpa] at e2
      have hle : f p ≤ f a := not_lt.1 fun hlt => hpa ((hb p a).2 hlt)
      refine ⟨a, m', e2, List.mem_cons_self, fun j hj => ?_, fun j hj hja => ?_⟩
      · rcases List.mem_cons.1 hj with rfl | hj
        · exact le_refl _
        · exact (ht j hj).trans hle
      · rcases List.mem_cons.1 hj with rfl | hj
        · exact absurd hja (lt_irrefl _)
        · exact absurd hja (not_lt.2 (ha j hj).le)

/-- A top-k of one entry: the greatest entry, and its first position. -/
theorem topK_first {n : Nat} (hn : 0 < n) (x : (⟨1, ![n]⟩ : Shape).Idx → EReal)
    (h : (⟨1, ![n]⟩ : Shape).Slices (fun _ => 0) ⟨1, ![1]⟩) :
    ∃ p : Fin n, First (fun j => x (ix1 j)) p ∧ ∀ i,
      (Host.topK (s := ⟨1, ![n]⟩) ⟨1, ![1]⟩ 0 ((FloatOps.cmpfTotal .gt : Ideal .f32 → Ideal .f32 → BitVec 1)) x h).1 i = x (ix1 p)
      ∧ (Host.topK (s := ⟨1, ![n]⟩) ⟨1, ![1]⟩ 0 ((FloatOps.cmpfTotal .gt : Ideal .f32 → Ideal .f32 → BitVec 1)) x h).2 i = BitVec.ofNat 32 p.val := by
  let before : Fin n → Fin n → Bool := fun k k' => (FloatOps.cmpfTotal .gt : Ideal .f32 → Ideal .f32 → BitVec 1) (x (ix1 k)) (x (ix1 k')) == 1#1
  have hb : ∀ a b, before a b = true ↔ x (ix1 b) < x (ix1 a) := fun a b => by
    show ((FloatOps.cmpfTotal .gt : Ideal .f32 → Ideal .f32 → BitVec 1) (x (ix1 a)) (x (ix1 b)) == 1#1) = true ↔ _
    rw [beq_iff_eq]
    show BitVec.ofBool (decide (x (ix1 b) < x (ix1 a))) = 1#1 ↔ _
    by_cases h : x (ix1 b) < x (ix1 a) <;> simp [h]
  obtain ⟨p, m, e, -, ht, hf⟩ := head_stableSort (fun j => x (ix1 j)) before hb (List.finRange n) (List.pairwise_lt_finRange n)
    (by intro h0; have := congrArg List.length h0; rw [List.length_finRange] at this; simp at this; omega)
  refine ⟨p, ⟨fun j => ht j (List.mem_finRange j), fun j => hf j (List.mem_finRange j)⟩, fun i => ?_⟩
  obtain rfl : i = ix1 0 := funext fun a => by
    obtain rfl : a = 0 := Subsingleton.elim _ _
    exact Subsingleton.elim (α := Fin 1) _ _
  have hs : sortedFrom before ⟨0, hn⟩ = p := by
    have : ∀ (q : Fin (sortPositions n before).length), q.val = 0 → (sortPositions n before).get q = p := by
      show ∀ (q : Fin (stableSort before (List.finRange n)).length), q.val = 0 → (stableSort before (List.finRange n)).get q = p
      rw [e]
      rintro ⟨_, _⟩ rfl
      rfl
    exact this _ rfl
  have hal : ∀ (J : (⟨1, ![n]⟩ : Shape).Idx) (k : Fin n), Shape.Idx.along J (0 : Fin 1) k = ix1 k := fun J k => funext fun a => by
    obtain rfl : a = 0 := Subsingleton.elim _ _
    rfl
  have key : ∀ J : (⟨1, ![n]⟩ : Shape).Idx, J 0 = (⟨0, hn⟩ : Fin n) →
      sortedFrom (fun k k' : Fin n => (FloatOps.cmpfTotal .gt : Ideal .f32 → Ideal .f32 → BitVec 1) (x (Shape.Idx.along J (0 : Fin 1) k))
        (x (Shape.Idx.along J (0 : Fin 1) k')) == 1#1) (J 0) = p := fun J hJ => by
    simp only [hal]
    rw [hJ]
    exact hs
  unfold Host.topK Host.sort2
  dsimp only
  rw [dif_pos (show (0 : Nat) < (⟨1, ![n]⟩ : Shape).rank from Nat.one_pos)]
  refine ⟨congrArg x (funext fun a => ?_), ?_⟩
  · obtain rfl : a = 0 := Subsingleton.elim _ _
    exact key _ rfl
  · exact congrArg (fun q : Fin n => BitVec.ofNat 32 q.val) (key _ rfl)

/-- A fold that keeps the lesser key ends at the least key. -/
theorem foldl_key {α β ι : Type} [LinearOrder β] (f : α → α → α) (key : α → β) (hk : ∀ a b, key (f a b) = min (key a) (key b)) (g : ι → α) (M : β) :
    ∀ (l : List ι) (z : α), M ≤ key z → (∀ n ∈ l, M ≤ key (g n)) → (key z = M ∨ ∃ n ∈ l, key (g n) = M) →
      key (l.foldl (fun r n => f r (g n)) z) = M
  | [], z, _, _, h => h.elim id (by rintro ⟨_, hn, _⟩; exact absurd hn List.not_mem_nil)
  | n :: l, z, hz, hg, h => by
    refine foldl_key f key hk g M l (f z (g n)) ?_ (fun m hm => hg m (List.mem_cons_of_mem _ hm)) ?_
    · rw [hk]; exact le_min hz (hg n List.mem_cons_self)
    · rcases h with h | ⟨m, hm, h⟩
      · left; rw [hk, h]; exact min_eq_left (hg n List.mem_cons_self)
      · rcases List.mem_cons.1 hm with rfl | hm
        · left; rw [hk, h]; exact min_eq_right hz
        · exact Or.inr ⟨m, hm, h⟩

section Fold
variable {s t : Shape} {axes : List (Fin s.rank)} (h : s.Reduces axes t) [Subsingleton t.Idx] (j : t.Idx) (i₀ : s.Idx)
include h

/-- Every position folds into the one result. -/
theorem fold_all {α : Type} (f : α → α → α) (z : α) (x : s.Idx → α) :
    reduceFold h f z x j = (List.finRange s.numel).foldl (fun r n => f r (x (s.rowMajor.symm n))) z := by
  unfold reduceFold
  rw [List.filter_eq_self.2 fun n _ => decide_eq_true (Subsingleton.elim _ _)]

/-- A maximum over every position, from −∞, is a greatest entry. -/
theorem fold_max (x : s.Idx → EReal) (ht : ∀ i, x i ≤ x i₀) : reduceFold h max ⊥ x j = x i₀ := by
  rw [fold_all h]
  exact foldl_key (β := ERealᵒᵈ) max OrderDual.toDual (fun _ _ => rfl) (fun n => x (s.rowMajor.symm n)) (OrderDual.toDual (x i₀)) _ _
    (show (⊥ : EReal) ≤ x i₀ from bot_le) (fun n _ => ht _)
    (Or.inr ⟨s.rowMajor i₀, List.mem_finRange _, by rw [Equiv.symm_apply_apply]⟩)

/-- A signed minimum over every position, from the greatest integer, is a least entry. -/
theorem fold_min (x : s.Idx → BitVec 32) (ht : ∀ i, (x i₀).toInt ≤ (x i).toInt) : reduceFold h IntOp.minsi 2147483647#32 x j = x i₀ := by
  rw [fold_all h]
  refine BitVec.eq_of_toInt_eq ?_
  refine foldl_key IntOp.minsi BitVec.toInt Idealize.ShloMosaic.SortNet.toInt_minsi (fun n => x (s.rowMajor.symm n)) _ _ _ ?_ (fun n _ => ht _)
    (Or.inr ⟨s.rowMajor i₀, List.mem_finRange _, by rw [Equiv.symm_apply_apply]⟩)
  have := BitVec.toInt_lt (x := x i₀)
  show _ ≤ (2147483647 : Int)
  omega

/-- A sum over every position, all but one of them zero, is the entry there. -/
theorem sum_one (x : s.Idx → EReal) (h0 : ∀ i, i ≠ i₀ → x i = 0) : Ideal.reduceAdd h x j = x i₀ := by
  unfold Ideal.reduceAdd
  exact Finset.sum_eq_single_of_mem i₀ (Finset.mem_filter.2 ⟨Finset.mem_univ _, Subsingleton.elim _ _⟩) fun i _ hi => h0 i hi

end Fold

/-- A row of `n` read as a one-by-one-by-`n` block. -/
theorem cast_row3 {α : Type} {n : Nat} (x : (⟨2, ![1, n]⟩ : Shape).Idx → α) (h : (⟨2, ![1, n]⟩ : Shape).ShapeCasts ⟨3, ![1, 1, n]⟩)
    (i : (⟨3, ![1, 1, n]⟩ : Shape).Idx) : shapeCast ⟨3, ![1, 1, n]⟩ x h i = x (ix2 0 (i 2)) := by
  refine shapeCast_apply x h i (ix2 0 (i 2)) ?_
  have e0 : (i 0).val = 0 := by have := (i 0).isLt; exact Nat.lt_one_iff.1 this
  have e1 : (i 1).val = 0 := by have := (i 1).isLt; exact Nat.lt_one_iff.1 this
  rw [rowMajor_val2 _ n rfl, rowMajor_val3 _ (1 * n) n rfl rfl, e0, e1]
  show 0 * n + (i 2).val = _
  omega

/-- There is one first position. -/
theorem First.unique {n : Nat} {f : Fin n → EReal} {p q : Fin n} (hp : First f p) (hq : First f q) : p = q := by
  rcases lt_trichotomy p q with h | h | h
  · exact absurd (hq.fst p h) (not_lt.2 (hp.top q))
  · exact h
  · exact absurd (hp.fst q h) (not_lt.2 (hq.top p))

/-- The common area of two boxes. -/
def common (b r : Fin 4 → EReal) : EReal :=
  max 0 (min (b 2) (r 2) - max (b 0) (r 0)) * max 0 (min (b 3) (r 3) - max (b 1) (r 1))
/-- A box's area. -/
def area (b : Fin 4 → EReal) : EReal := max 0 (b 2 - b 0) * max 0 (b 3 - b 1)
/-- Two boxes overlap past the threshold. -/
def Hit (b r : Fin 4 → EReal) : Prop :=
  Ideal.ofBits .f32 0x3EE66666#32 < Ideal.div (common b r) (area b + area r - common b r + Ideal.ofBits .f32 0x358637BD#32)
instance (b r : Fin 4 → EReal) : Decidable (Hit b r) := Classical.propDecidable _

end Cert.Pf

end
-- ==== Proof.KiRound.lean ====
/-
  One round of the suppression loop read at an index: the greatest score, the one-hot mask of its first position, the
  masked sums that read the picked box and class, the scores carried on, the row stored.
-/
module

public import proofs.«01_k».proof.Proof.KiTrip
public import proofs.«01_k».proof.Proof.Pick

@[expose] public section

noncomputable section

namespace Cert.KernelIdeal.Pf

open Cert.KernelIdeal Cert.KernelIdeal.Gen Cert.Pf
open Idealize.ShloMosaic

/-- The pattern of −∞. -/
theorem ofBits_ninf : Ideal.ofBits .f32 0xFF800000#32 = ⊥ := by simp [Ideal.ofBits, Ideal.ieee]
/-- The pattern of zero. -/
theorem ofBits_zero : Ideal.ofBits .f32 0x00000000#32 = 0 := by simp [Ideal.ofBits, Ideal.ieee]

instance : Subsingleton S1.Idx := ⟨fun a b => funext fun d => by
  obtain rfl : d = 0 := Subsingleton.elim _ _
  exact Subsingleton.elim (α := Fin 1) _ _⟩

/-- The one entry of a vector of one. -/
theorem extract_one {α : Type} (v : S1.Idx → α) (j : S1.Idx) : extractAt ![0, 0, 0] (shapeCast S1x1x1 v shapeCasts_S1_S1x1x1) inpos_S1x1x1_p0_0_0 = v j := by
  unfold extractAt shapeCast
  exact congrArg v (Subsingleton.elim _ _)

/-- A lane maximum is a greatest entry. -/
theorem lane_max (v : FVec Ideal S1x2048 .f32) (p : Fin 2048) (h : ∀ j : Fin 2048, v (ix2 0 j) ≤ v (ix2 0 p)) :
    extractAt ![0, 0, 0] (shapeCast S1x1x1 (multiReduction .maximumf [1, 2] S1 (shapeCast S1x1x2048 v shapeCasts_S1x2048_S1x1x2048)
      0xFF800000#32 reduces_S1x1x2048_S1 (.inl rfl) rfl) shapeCasts_S1_S1x1x1) inpos_S1x1x1_p0_0_0 = v (ix2 0 p) := by
  refine (extract_one _ (ix1 0)).trans ?_
  show reduceFold reduces_S1x1x2048_S1 max (Ideal.ofBits .f32 0xFF800000#32) (shapeCast S1x1x2048 v shapeCasts_S1x2048_S1x1x2048) (ix1 0) = _
  rw [ofBits_ninf]
  refine (fold_max reduces_S1x1x2048_S1 _ (ix3 0 0 p) _ fun i => ?_).trans (cast_row3 v _ _)
  rw [cast_row3, cast_row3]
  exact h _

/-- A lane minimum is a least entry. -/
theorem lane_min (v : IVec S1x2048 32) (p : Fin 2048) (h : ∀ j : Fin 2048, (v (ix2 0 p)).toInt ≤ (v (ix2 0 j)).toInt) :
    extractAt ![0, 0, 0] (shapeCast S1x1x1 (multiReductionI .minsi [1, 2] S1 (shapeCast S1x1x2048 v shapeCasts_S1x2048_S1x1x2048)
      2147483647#32 reduces_S1x1x2048_S1 rfl) shapeCasts_S1_S1x1x1) inpos_S1x1x1_p0_0_0 = v (ix2 0 p) := by
  refine (extract_one _ (ix1 0)).trans ?_
  show reduceFold reduces_S1x1x2048_S1 IntOp.minsi 2147483647#32 (shapeCast S1x1x2048 v shapeCasts_S1x2048_S1x1x2048) (ix1 0) = _
  refine (fold_min reduces_S1x1x2048_S1 _ (ix3 0 0 p) _ fun i => ?_).trans (cast_row3 v _ _)
  rw [cast_row3, cast_row3]
  exact h _

/-- A lane sum with one entry unmasked is that entry. -/
theorem lane_sum (v : FVec Ideal S1x2048 .f32) (p : Fin 2048) (h : ∀ j : Fin 2048, j ≠ p → v (ix2 0 j) = 0) :
    extractAt ![0, 0, 0] (shapeCast S1x1x1 (multiReduction .add [1, 2] S1 (shapeCast S1x1x2048 v shapeCasts_S1x2048_S1x1x2048)
      0x00000000#32 reduces_S1x1x2048_S1 (.inl rfl) rfl) shapeCasts_S1_S1x1x1) inpos_S1x1x1_p0_0_0 = v (ix2 0 p) := by
  refine (extract_one _ (ix1 0)).trans ?_
  show Ideal.reduceAdd reduces_S1x1x2048_S1 (shapeCast S1x1x2048 v shapeCasts_S1x2048_S1x1x2048) (ix1 0) = _
  refine (sum_one reduces_S1x1x2048_S1 _ (ix3 0 0 p) _ fun i hi => ?_).trans (cast_row3 v _ _)
  rw [cast_row3]
  refine h _ fun e => hi (funext fun a => ?_)
  match a with
  | 0 => exact Subsingleton.elim (α := Fin 1) _ _
  | 1 => exact Subsingleton.elim (α := Fin 1) _ _
  | 2 => exact e

/-- The lane numbers. -/
theorem lanes_at (j : Fin 2048) : lanes (ix2 0 j) = BitVec.ofNat 32 j.val := by
  unfold lanes
  pointwise

/-- Two lanes' numbers are one only if they are one lane. -/
theorem lane_inj (j p : Fin 2048) : BitVec.ofNat 32 j.val = BitVec.ofNat 32 p.val ↔ j = p :=
  ⟨fun h => Fin.ext (by
    have := congrArg BitVec.toNat h
    rw [BitVec.toNat_ofNat, BitVec.toNat_ofNat] at this
    have := j.isLt
    have := p.isLt
    omega), fun h => h ▸ rfl⟩

/-- A candidate's box coordinates moved by its class. -/
def moved (v0 : Vec Ideal S4x2048 .f32) (v2 : Vec Ideal S1x2048 .f32) (k : Fin 4) (j : Fin 2048) : EReal :=
  v0 (ix2 k j) + v2 (ix2 0 j) * Ideal.ofBits .f32 0x45800000#32

section
variable (x : FVec Ideal S1x2048 .f32) (p : Fin 2048) (hp : First (fun j : Fin 2048 => x (ix2 0 j)) p)
include hp

/-- The greatest score. -/
theorem max_at : k1_pay11 x = x (ix2 0 p) := lane_max x p hp.top

/-- The mask: the first position of the greatest score alone. -/
theorem mask_at (j : Fin 2048) : k1_pay12 lanes x (ix2 0 j) = if j = p then 1#1 else 0#1 := by
  have hv : ∀ j : Fin 2048, select (cmpf .oeq x (broadcast S1x2048 (k1_pay11 x))) lanes (broadcast S1x2048 2048#32) (ix2 0 j)
      = if x (ix2 0 j) = x (ix2 0 p) then BitVec.ofNat 32 j.val else 2048#32 := fun j => by
    pointwise
    rw [max_at x p hp]
  have hm := lane_min (select (cmpf .oeq x (broadcast S1x2048 (k1_pay11 x))) lanes (broadcast S1x2048 2048#32)) p fun j => by
    rw [hv, hv, if_pos rfl]
    have h1 : (BitVec.ofNat 32 p.val).toInt = p.val := by
      have := p.isLt
      rw [BitVec.toInt_eq_toNat_of_lt (by rw [BitVec.toNat_ofNat]; omega), BitVec.toNat_ofNat]; omega
    rw [h1]
    split
    · rename_i h
      have h2 : (BitVec.ofNat 32 j.val).toInt = j.val := by
        have := j.isLt
        rw [BitVec.toInt_eq_toNat_of_lt (by rw [BitVec.toNat_ofNat]; omega), BitVec.toNat_ofNat]; omega
      rw [h2]
      have : ¬ j < p := fun hj => absurd h (hp.fst j hj).ne
      have : p.val ≤ j.val := not_lt.1 this
      omega
    · show (p.val : Int) ≤ 2048
      have := p.isLt
      omega
  rw [hv, if_pos rfl] at hm
  unfold k1_pay12
  dsimp only
  rw [hm]
  show cmpi .eq lanes (broadcast S1x2048 (BitVec.ofNat 32 p.val)) (ix2 0 j) = _
  pointwise
  by_cases h : j = p
  · rw [if_pos h, h]; simp [IntOp.cmpi]
  · rw [if_neg h]
    have := mt (lane_inj j p).1 h
    show BitVec.ofBool (BitVec.ofNat 32 j.val == BitVec.ofNat 32 p.val) = 0#1
    rw [beq_eq_false_iff_ne.2 this]
    rfl

/-- A masked sum reads the picked entry. -/
theorem pick_at (v : FVec Ideal S1x2048 .f32) : k1_pay13 v lanes x = v (ix2 0 p) := by
  have hv : ∀ j : Fin 2048, select (k1_pay12 lanes x) v (broadcast S1x2048 (Scalar.ofBits (F := Ideal) .f32 0x00000000#32)) (ix2 0 j)
      = if j = p then v (ix2 0 j) else 0 := fun j => by
    pointwise
    rw [mask_at x p hp]
    by_cases h : j = p
    · rw [if_pos h, if_pos h]; rfl
    · rw [if_neg h, if_neg h]; rfl
  have := lane_sum (select (k1_pay12 lanes x) v (broadcast S1x2048 (Scalar.ofBits (F := Ideal) .f32 0x00000000#32))) p fun j hj => by
    rw [hv, if_neg hj]
  rw [hv, if_pos rfl] at this
  exact this

theorem pick14 (v : FVec Ideal S1x2048 .f32) : k1_pay14 v lanes x = v (ix2 0 p) := pick_at x p hp v
theorem pick15 (v : FVec Ideal S1x2048 .f32) : k1_pay15 v lanes x = v (ix2 0 p) := pick_at x p hp v
theorem pick16 (v : FVec Ideal S1x2048 .f32) : k1_pay16 v lanes x = v (ix2 0 p) := pick_at x p hp v
theorem pick17 (v : FVec Ideal S1x2048 .f32) : k1_pay17 v lanes x = v (ix2 0 p) := pick_at x p hp v

end

/-- The class operand's own lanes. -/
theorem pay2_self (v2 : Vec Ideal S1x2048 .f32) : k1_pay2 v2 = v2 := by
  unfold k1_pay2
  dsimp only
  funext i
  exact congrFun (shapeCast_self v2 _) i
theorem m20 (l : Fin 128) : k1_pay20 outLanes (ix2 0 l) = IntOp.cmpi .eq (BitVec.ofNat 32 l.val) 0#32 := by
  unfold k1_pay20
  pointwise
theorem m21 (l : Fin 128) : k1_pay21 outLanes (ix2 0 l) = IntOp.cmpi .eq (BitVec.ofNat 32 l.val) 1#32 := by
  unfold k1_pay21
  pointwise
theorem m22 (l : Fin 128) : k1_pay22 outLanes (ix2 0 l) = IntOp.cmpi .eq (BitVec.ofNat 32 l.val) 2#32 := by
  unfold k1_pay22
  pointwise
theorem m24 (l : Fin 128) : k1_pay24 outLanes (ix2 0 l) = IntOp.cmpi .eq (BitVec.ofNat 32 l.val) 3#32 := by
  unfold k1_pay24
  pointwise
theorem m26 (l : Fin 128) : k1_pay26 outLanes (ix2 0 l) = IntOp.cmpi .eq (BitVec.ofNat 32 l.val) 4#32 := by
  unfold k1_pay26
  pointwise
theorem m28 (l : Fin 128) : k1_pay28 (ix2 0 l) = 5#32 := rfl

theorem pay4_at (v0 : Vec Ideal S4x2048 .f32) (v2 : Vec Ideal S1x2048 .f32) (j : Fin 2048) : k1_pay4 v0 v2 (ix2 0 j) = moved v0 v2 0 j := by
  unfold k1_pay4 k1_pay1 k1_pay3 k1_pay2
  dsimp only
  pointwise
  rfl
theorem pay5_at (v0 : Vec Ideal S4x2048 .f32) (v2 : Vec Ideal S1x2048 .f32) (j : Fin 2048) : k1_pay5 v0 v2 (ix2 0 j) = moved v0 v2 1 j := by
  unfold k1_pay5 k1_pay1 k1_pay3 k1_pay2
  dsimp only
  pointwise
  rfl
theorem pay6_at (v0 : Vec Ideal S4x2048 .f32) (v2 : Vec Ideal S1x2048 .f32) (j : Fin 2048) : k1_pay6 v0 v2 (ix2 0 j) = moved v0 v2 2 j := by
  unfold k1_pay6 k1_pay1 k1_pay3 k1_pay2
  dsimp only
  pointwise
  rfl
theorem pay7_at (v0 : Vec Ideal S4x2048 .f32) (v2 : Vec Ideal S1x2048 .f32) (j : Fin 2048) : k1_pay7 v0 v2 (ix2 0 j) = moved v0 v2 3 j := by
  unfold k1_pay7 k1_pay1 k1_pay3 k1_pay2
  dsimp only
  pointwise
  rfl

section
variable (v0 : Vec Ideal S4x2048 .f32) (v2 : Vec Ideal S1x2048 .f32)
variable (x : FVec Ideal S1x2048 .f32) (p : Fin 2048) (hp : First (fun j : Fin 2048 => x (ix2 0 j)) p)
include hp

/-- The scores carried on. -/
theorem newScores_at (j : Fin 2048) : newScores v0 v2 x (ix2 0 j)
    = if j = p then Ideal.ofBits .f32 0xBF800000#32
      else if Hit (fun k => moved v0 v2 k p) (fun k => moved v0 v2 k j) then Ideal.ofBits .f32 0xBF800000#32 else x (ix2 0 j) := by
  unfold newScores
  rw [pick_at x p hp, pick14 x p hp, pick15 x p hp, pick16 x p hp, pay4_at, pay5_at, pay6_at, pay7_at]
  unfold k1_pay19 k1_pay8
  dsimp only
  pointwise
  rw [mask_at x p hp, pay4_at, pay5_at, pay6_at, pay7_at]
  by_cases h : j = p
  · rw [if_pos h, if_pos h]
    rfl
  · rw [if_neg h, if_neg h]
    exact (if_neg (by decide)).trans (if_congr Iff.rfl rfl rfl)

/-- The stored row's score. -/
theorem row0 : newRow v0 v2 x (ix2 0 0) = x (ix2 0 p) := by
  refine Eq.trans ?_ (max_at x p hp)
  unfold newRow k1_pay10
  dsimp only
  pointwise
  rw [m20]
  rfl
/-- The stored row's class. -/
theorem row1 : newRow v0 v2 x (ix2 0 1) = v2 (ix2 0 p) := by
  unfold newRow
  rw [pay2_self, pick17 x p hp]
  unfold k1_pay10
  dsimp only
  pointwise
  rw [m20, m21]
  rfl
/-- The stored row's first coordinate. -/
theorem row2 : newRow v0 v2 x (ix2 0 2) = moved v0 v2 0 p - v2 (ix2 0 p) * Ideal.ofBits .f32 0x45800000#32 := by
  unfold newRow k1_pay18
  rw [pay2_self, pick_at x p hp, pick17 x p hp, pay4_at]
  unfold k1_pay10 k1_pay23
  dsimp only
  pointwise
  rw [m20, m21, m22]
  rfl
/-- The stored row's second coordinate. -/
theorem row3 : newRow v0 v2 x (ix2 0 3) = moved v0 v2 1 p - v2 (ix2 0 p) * Ideal.ofBits .f32 0x45800000#32 := by
  unfold newRow k1_pay18
  rw [pay2_self, pick14 x p hp, pick17 x p hp, pay5_at]
  unfold k1_pay10 k1_pay25
  dsimp only
  pointwise
  rw [m20, m21, m22, m24]
  rfl
/-- The stored row's third coordinate. -/
theorem row4 : newRow v0 v2 x (ix2 0 4) = moved v0 v2 2 p - v2 (ix2 0 p) * Ideal.ofBits .f32 0x45800000#32 := by
  unfold newRow k1_pay18
  rw [pay2_self, pick15 x p hp, pick17 x p hp, pay6_at]
  unfold k1_pay10 k1_pay27
  dsimp only
  pointwise
  rw [m20, m21, m22, m24, m26]
  rfl
/-- The stored row's fourth coordinate. -/
theorem row5 : newRow v0 v2 x (ix2 0 5) = moved v0 v2 3 p - v2 (ix2 0 p) * Ideal.ofBits .f32 0x45800000#32 := by
  unfold newRow k1_pay18
  rw [pay2_self, pick16 x p hp, pick17 x p hp, pay7_at]
  unfold k1_pay10
  dsimp only
  pointwise
  rw [m20, m21, m22, m24, m26, m28]
  rfl

end

end Cert.KernelIdeal.Pf

end
-- ==== Proof.RfRound.lean ====
/-
  One trip of the reference's loop read at an index.
-/
module

public import proofs.«01_k».proof.Proof.Gen.ReferenceIdeal.Run
public import proofs.«01_k».proof.Proof.Pick

@[expose] public section

noncomputable section

namespace Cert.ReferenceIdeal.Pf

open Cert.ReferenceIdeal Cert.ReferenceIdeal.Gen Cert.ReferenceIdeal.Value Cert.Pf
open Idealize.ShloMosaic

/-- Storing one entry at a position in bounds. -/
theorem scatter_at {α : Type} (x : S2000.Idx → α) (p : Fin 2000) (u : α) (j : Fin 2000) (idx : IVec S1 32) (hidx : ∀ i, idx i = BitVec.ofNat 32 p.val)
    (upd : S_.Idx → α) (hupd : ∀ i, upd i = u) :
    Host.scatter scatter_S2000_S1_S__n_0_0_0 (fun _ b => b) x idx upd (ix1 j) = if j = p then u else x (ix1 j) := by
  obtain rfl : idx = fun _ => BitVec.ofNat 32 p.val := funext hidx
  obtain rfl : upd = fun _ => u := funext hupd
  have hp : (BitVec.ofNat 32 p.val).toInt = p.val := by
    have := p.isLt
    rw [BitVec.toInt_eq_toNat_of_lt (by rw [BitVec.toNat_ofNat]; omega), BitVec.toNat_ofNat]; omega
  have hr : ∀ n : S_.Idx, scatter_S2000_S1_S__n_0_0_0.resultIdx? n (fun _ => BitVec.ofNat 32 p.val) = some (ix1 p) := fun n => by
    have hs : ∀ a, scatter_S2000_S1_S__n_0_0_0.start n (fun _ => BitVec.ofNat 32 p.val) a + scatter_S2000_S1_S__n_0_0_0.window n a = p.val := fun a => by
      obtain rfl : a = 0 := Subsingleton.elim _ _
      have h1 : scatter_S2000_S1_S__n_0_0_0.start n (fun _ => BitVec.ofNat 32 p.val) 0 = p.val := by
        unfold ScatterDims.start
        rw [dif_pos (by decide)]
        exact hp
      have h2 : scatter_S2000_S1_S__n_0_0_0.window n 0 = 0 := by
        unfold ScatterDims.window
        rw [dif_neg (by decide)]
      rw [h1, h2]
      rfl
    unfold ScatterDims.resultIdx?
    rw [dif_pos fun a => by
      rw [hs]
      obtain rfl : a = 0 := Subsingleton.elim _ _
      have := p.isLt
      exact ⟨by omega, by show (p.val : Int) < (2000 : Nat); omega⟩]
    refine congrArg some (funext fun a => Fin.ext ?_)
    obtain rfl : a = 0 := Subsingleton.elim _ _
    show (_ : Int).toNat = p.val
    rw [hs]
    rfl
  unfold Host.scatter
  have hn : S_.numel = 1 := rfl
  rw [show List.finRange S_.numel = [⟨0, by decide⟩] from rfl]
  simp only [List.foldl_cons, List.foldl_nil, hr]
  show (if ix1 j = ix1 p then u else x (ix1 j)) = _
  by_cases h : j = p
  · rw [if_pos h, if_pos (congrArg ix1 h)]
  · rw [if_neg h, if_neg fun e => h (congrFun e 0)]

/-- The pattern of zero. -/
theorem ofBits_zero : Ideal.ofBits .f32 0x00000000#32 = 0 := by simp [Ideal.ofBits, Ideal.ieee]

/-- A small natural as a word, read signed. -/
theorem toInt_small (n : Nat) (h : n < 2147483648) : (BitVec.ofNat 32 n).toInt = n := by
  rw [BitVec.toInt_eq_toNat_of_lt (by rw [BitVec.toNat_ofNat]; omega), BitVec.toNat_ofNat]; omega

/-- A position is not negative: it is kept. -/
theorem wrap_pos (n : Nat) (b : BitVec 32) (h : n < 2147483648) :
    Scalar.select (IntOp.cmpi .slt (BitVec.ofNat 32 n) 0#32) (BitVec.ofNat 32 n + b) (BitVec.ofNat 32 n) = BitVec.ofNat 32 n := by
  refine if_neg ?_
  show ¬ BitVec.ofBool (BitVec.slt (BitVec.ofNat 32 n) 0#32) = 1#1
  rw [BitVec.slt, toInt_small n h, show (0#32 : BitVec 32).toInt = 0 from rfl, decide_eq_false (by omega)]
  decide

variable (V : Valuation τ sig (Elt Ideal))

/-- The loop's scores. -/
abbrev sc : S2000.Idx → EReal := V (Proc.devRef .tc main_v370_2)
/-- The loop's boxes. -/
abbrev bx : S2000x4.Idx → EReal := V (Proc.devRef .tc main_v370_0)

section
variable (p : Fin 2000) (hp : First (fun j : Fin 2000 => sc V (ix1 j)) p)
include hp

/-- The first position is unique. -/
theorem top_eq : (∀ i, (Host.topK (s := S2000) S1 0 ((FloatOps.cmpfTotal .gt : Ideal .f32 → Ideal .f32 → BitVec 1)) (sc V) sliceFits_S2000_S1).1 i = sc V (ix1 p))
    ∧ ∀ i, (Host.topK (s := S2000) S1 0 ((FloatOps.cmpfTotal .gt : Ideal .f32 → Ideal .f32 → BitVec 1)) (sc V) sliceFits_S2000_S1).2 i = BitVec.ofNat 32 p.val := by
  obtain ⟨q, hq, h⟩ := topK_first (n := 2000) (by decide) (sc V) sliceFits_S2000_S1
  obtain rfl : q = p := hq.unique hp
  exact ⟨fun i => (h i).1, fun i => (h i).2⟩

/-- The picked position. -/
theorem v401_at : res_main_while0b_v401 V = fun _ => BitVec.ofNat 32 p.val := by
  unfold res_main_while0b_v401 shapeCast
  exact funext fun i => (top_eq V p hp).2 _

/-- The picked box. -/
theorem v410_at (k : Fin 4) : res_main_while0b_v410 V (ix1 k) = bx V (ix2 p k) := by
  unfold res_main_while0b_v410
  rw [v401_at V p hp]
  pointwise
  refine congrArg (bx V) (congrArg₂ ix2 (Fin.ext ?_) (Fin.ext ?_))
  · show (min (max (Scalar.select (IntOp.cmpi .slt (BitVec.ofNat 32 p.val) 0#32) (BitVec.ofNat 32 p.val + 2000#32) (BitVec.ofNat 32 p.val)).toInt 0) ((2000 - 1 : Nat) : Int)).toNat = p.val
    have := p.isLt
    rw [wrap_pos _ _ (by omega), toInt_small _ (by omega)]
    omega
  · show (min (max (_ : Int) 0) ((4 - 4 : Nat) : Int)).toNat + k.val = k.val
    omega

/-- The common areas. -/
theorem v439_at (j : Fin 2000) : res_main_while0b_v439 V (ix1 j) = common (fun k => bx V (ix2 p k)) (fun k => bx V (ix2 j k)) := by
  unfold res_main_while0b_v439
  pointwise
  rw [v410_at V p hp, v410_at V p hp, v410_at V p hp, v410_at V p hp]
  unfold common
  rw [← ofBits_zero]
  rfl

/-- The scores carried on. -/
theorem step2_at (j : Fin 2000) : step_main_v370_2 V (ix1 j)
    = if j = p then Ideal.ofBits .f32 0xBF800000#32
      else if Hit (fun k => bx V (ix2 p k)) (fun k => bx V (ix2 j k)) then Ideal.ofBits .f32 0xBF800000#32 else sc V (ix1 j) := by
  unfold step_main_v370_2
  rw [v401_at V p hp]
  simp only [id]
  refine (scatter_at _ p (Ideal.ofBits .f32 0xBF800000#32) j _ (fun i => ?_) _ fun i => rfl).trans ?_
  · exact wrap_pos p.val 2000#32 (by have := p.isLt; omega)
  by_cases h : j = p
  · rw [if_pos h, if_pos h]
  rw [if_neg h, if_neg h]
  pointwise
  rw [v410_at V p hp, v410_at V p hp, v410_at V p hp, v410_at V p hp, v439_at V p hp]
  exact if_congr Iff.rfl rfl rfl

end

/-- The counter as a word. -/
theorem iv_at (k : Nat) : Scf.iv 0#32 1#32 k = BitVec.ofNat 32 k := by simp [Scf.iv]

/-- A store at the counter: that entry alone changes. -/
theorem put_at {α : Type} (hr : S1.rank = S100.rank) (k : Nat) (hk : k < 100) (i : Fin 100) (a b : α)
    [Decidable (∀ e : Fin S100.rank, Host.clampedStart S100 S1 hr (fun _ => (Scf.iv 0#32 1#32 k).toInt) e ≤ (ix1 i e).val
      ∧ (ix1 i e).val < Host.clampedStart S100 S1 hr (fun _ => (Scf.iv 0#32 1#32 k).toInt) e + 1)] :
    (if _h : ∀ e : Fin S100.rank, Host.clampedStart S100 S1 hr (fun _ => (Scf.iv 0#32 1#32 k).toInt) e ≤ (ix1 i e).val
      ∧ (ix1 i e).val < Host.clampedStart S100 S1 hr (fun _ => (Scf.iv 0#32 1#32 k).toInt) e + 1 then a else b) = if i.val = k then a else b := by
  have hs : Host.clampedStart S100 S1 hr (fun _ => (Scf.iv 0#32 1#32 k).toInt) 0 = k := by
    show (min (max (Scf.iv 0#32 1#32 k).toInt 0) ((100 - 1 : Nat) : Int)).toNat = k
    rw [iv_at, toInt_small _ (by omega)]
    omega
  by_cases h : i.val = k
  · rw [if_pos h, dif_pos]
    intro e
    obtain rfl : e = 0 := Subsingleton.elim _ _
    rw [hs]
    show k ≤ i.val ∧ i.val < k + 1
    omega
  · rw [if_neg h, dif_neg]
    intro g
    have := g 0
    rw [hs] at this
    have : k ≤ i.val ∧ i.val < k + 1 := this
    omega

/-- The index picked, stored at the counter. -/
theorem step3_at (p : Fin 2000) (hp : First (fun j : Fin 2000 => sc V (ix1 j)) p) (k : Nat) (hk : k < 100)
    (hc : V (Proc.devRef .tc main_v370_1) = fun _ => Scf.iv 0#32 1#32 k) (i : Fin 100) :
    step_main_v370_3 V (ix1 i) = if i.val = k then BitVec.ofNat 32 p.val else V (Proc.devRef .tc main_v370_3) (ix1 i) := by
  unfold step_main_v370_3
  rw [v401_at V p hp, hc]
  simp only [id]
  pointwise
  exact put_at _ k hk i _ _

/-- The score picked, stored at the counter. -/
theorem step4_at (p : Fin 2000) (hp : First (fun j : Fin 2000 => sc V (ix1 j)) p) (k : Nat) (hk : k < 100)
    (hc : V (Proc.devRef .tc main_v370_1) = fun _ => Scf.iv 0#32 1#32 k) (i : Fin 100) :
    step_main_v370_4 V (ix1 i) = if i.val = k then sc V (ix1 p) else V (Proc.devRef .tc main_v370_4) (ix1 i) := by
  unfold step_main_v370_4
  rw [hc, show (shapeCast S_ ((Host.topK (s := S2000) S1 0 ((FloatOps.cmpfTotal .gt : Ideal .f32 → Ideal .f32 → BitVec 1)) (sc V) sliceFits_S2000_S1).1) shapeCasts_S1_S_)
    = fun _ => sc V (ix1 p) from funext fun i => (top_eq V p hp).1 _]
  simp only [id]
  pointwise
  exact put_at _ k hk i _ _

end Cert.ReferenceIdeal.Pf

end
-- ==== Proof.Loop.lean ====
/-
  The two suppression loops side by side: from equal boxes and scores both pick the same candidate in every round, and the
  reference's two lists hold the picked candidate and its score.
-/
module

public import proofs.«01_k».proof.Proof.KiRound
public import proofs.«01_k».proof.Proof.RfRound

@[expose] public section

noncomputable section

namespace Cert.Pf

open Cert.KernelIdeal Cert.KernelIdeal.Gen Cert.KernelIdeal.Pf
open Idealize.ShloMosaic

/-- A candidate's lane. -/
abbrev lane (j : Fin 2000) : Fin 2048 := ⟨j.val, by have := j.isLt; omega⟩
/-- Minus one. -/
abbrev m1 : EReal := Ideal.ofBits .f32 0xBF800000#32

/-- The reference's contents. -/
abbrev RefV := Valuation Cert.ReferenceIdeal.τ Cert.ReferenceIdeal.sig (Elt Ideal)

/-- The kernel's scores `x` and the reference's contents `V` before round `k`, with the boxes `B`. -/
structure Inv (v0 : Vec Ideal S4x2048 .f32) (v2 : Vec Ideal S1x2048 .f32) (x : FVec Ideal S1x2048 .f32) (V : RefV) (k : Nat) : Prop where
  box : ∀ (j : Fin 2000) (a : Fin 4), moved v0 v2 a (lane j) = Cert.ReferenceIdeal.Pf.bx V (ix2 j a)
  same : ∀ j : Fin 2000, x (ix2 0 (lane j)) = Cert.ReferenceIdeal.Pf.sc V (ix1 j)
  low : ∀ j : Fin 2000, m1 ≤ Cert.ReferenceIdeal.Pf.sc V (ix1 j)
  fill : ∀ j : Fin 2048, 2000 ≤ j.val → x (ix2 0 j) ≤ m1
  ctr : V (Proc.devRef .tc Cert.ReferenceIdeal.main_v370_1) = fun _ => Scf.iv 0#32 1#32 k

variable {v0 : Vec Ideal S4x2048 .f32} {v2 : Vec Ideal S1x2048 .f32}

/-- Both sides have their greatest score at one candidate. -/
theorem Inv.first {x : FVec Ideal S1x2048 .f32} {V : RefV} {k : Nat} (h : Inv v0 v2 x V k) :
    ∃ p : Fin 2000, First (fun j : Fin 2000 => Cert.ReferenceIdeal.Pf.sc V (ix1 j)) p ∧ First (fun j : Fin 2048 => x (ix2 0 j)) (lane p) := by
  obtain ⟨p, hp, -⟩ := topK_first (n := 2000) (by decide) (Cert.ReferenceIdeal.Pf.sc V) Cert.ReferenceIdeal.Gen.sliceFits_S2000_S1
  refine ⟨p, hp, ⟨fun j => ?_, fun j hj => ?_⟩⟩
  · show x (ix2 0 j) ≤ x (ix2 0 (lane p))
    rw [h.same]
    by_cases hj : j.val < 2000
    · rw [show j = lane ⟨j.val, hj⟩ from rfl, h.same]
      exact hp.top _
    · exact (h.fill j (by omega)).trans (h.low p)
  · show x (ix2 0 j) < x (ix2 0 (lane p))
    have hj' : j.val < p.val := hj
    have := p.isLt
    rw [h.same, show j = lane ⟨j.val, by omega⟩ from rfl, h.same]
    exact hp.fst ⟨j.val, by omega⟩ hj'

/-- A round keeps both sides together. -/
theorem Inv.step {x : FVec Ideal S1x2048 .f32} {V : RefV} {k : Nat} (h : Inv v0 v2 x V k) :
    Inv v0 v2 (newScores v0 v2 x) (Cert.ReferenceIdeal.Value.STEP V) (k + 1) := by
  obtain ⟨p, hp, hq⟩ := h.first
  have hsc : ∀ j : Fin 2000, Cert.ReferenceIdeal.Pf.sc (Cert.ReferenceIdeal.Value.STEP V) (ix1 j) = _ := fun j =>
    (congrFun (Cert.ReferenceIdeal.Value.STEP_main_v370_2 V) (ix1 j)).trans (Cert.ReferenceIdeal.Pf.step2_at V p hp j)
  refine ⟨fun j a => ?_, fun j => ?_, fun j => ?_, fun j hj => ?_, ?_⟩
  · rw [h.box]
    exact (congrFun (Cert.ReferenceIdeal.Value.STEP_main_v370_0 V) (ix2 j a)).symm
  · rw [hsc, newScores_at v0 v2 x (lane p) hq]
    refine if_congr ⟨fun e => Fin.ext (congrArg (fun q : Fin 2048 => q.val) e :), fun e => congrArg lane e⟩ rfl ?_
    simp only [h.box, h.same]
  · rw [hsc]
    split
    · exact le_rfl
    split
    · exact le_rfl
    exact h.low j
  · rw [newScores_at v0 v2 x (lane p) hq]
    split
    · exact le_rfl
    split
    · exact le_rfl
    exact h.fill j hj
  · rw [Cert.ReferenceIdeal.Value.STEP_main_v370_1]
    unfold Cert.ReferenceIdeal.Value.step_main_v370_1
    rw [h.ctr]
    exact funext fun _ => (Scf.iv_succ 0#32 1#32 k).symm

/-- All rounds. -/
theorem Inv.iter {x : FVec Ideal S1x2048 .f32} {V : RefV} (h : Inv v0 v2 x V 0) :
    ∀ k, Inv v0 v2 ((newScores v0 v2)^[k] x) (Cert.ReferenceIdeal.Value.STEP^[k] V) k
  | 0 => h
  | k + 1 => by
    rw [Function.iterate_succ_apply', Function.iterate_succ_apply']
    exact (Inv.iter h k).step

/-- The picks of the rounds. -/
theorem picks {x : FVec Ideal S1x2048 .f32} {V : RefV} (h : Inv v0 v2 x V 0) :
    ∃ P : Nat → Fin 2000, (∀ k, First (fun j : Fin 2048 => (newScores v0 v2)^[k] x (ix2 0 j)) (lane (P k)))
      ∧ ∀ k ≤ 100, ∀ i : Fin 100, i.val < k →
        (Cert.ReferenceIdeal.Value.STEP^[k] V) (Proc.devRef .tc Cert.ReferenceIdeal.main_v370_3) (ix1 i) = BitVec.ofNat 32 (P i.val).val
        ∧ (Cert.ReferenceIdeal.Value.STEP^[k] V) (Proc.devRef .tc Cert.ReferenceIdeal.main_v370_4) (ix1 i)
          = (newScores v0 v2)^[i.val] x (ix2 0 (lane (P i.val))) := by
  choose P hP using fun k => (h.iter k).first
  refine ⟨P, fun k => (hP k).2, fun k => ?_⟩
  induction k with
  | zero => exact fun _ i hi => absurd hi (Nat.not_lt_zero _)
  | succ k ih =>
    intro hk i hi
    rw [Function.iterate_succ_apply']
    have h3 := (congrFun (Cert.ReferenceIdeal.Value.STEP_main_v370_3 _) (ix1 i)).trans
      (Cert.ReferenceIdeal.Pf.step3_at _ (P k) (hP k).1 k (by omega) (h.iter k).ctr i)
    have h4 := (congrFun (Cert.ReferenceIdeal.Value.STEP_main_v370_4 _) (ix1 i)).trans
      (Cert.ReferenceIdeal.Pf.step4_at _ (P k) (hP k).1 k (by omega) (h.iter k).ctr i)
    by_cases e : i.val = k
    · rw [if_pos e] at h3 h4
      refine ⟨h3.trans (by rw [e]), h4.trans ?_⟩
      rw [e, (h.iter k).same]
    · rw [if_neg e] at h3 h4
      have := ih (by omega) i (by omega)
      exact ⟨h3.trans this.1, h4.trans this.2⟩

end Cert.Pf

end
-- ==== Proof.KiRows.lean ====
/-
  What the suppression call leaves in its output array: row `i` is the row round `i` stores.
-/
module

public import proofs.«01_k».proof.Proof.KiTrip
public import proofs.«01_k».proof.Proof.Pick
public import proofs.«01_k».proof.Proof.KiRun

@[expose] public section

noncomputable section

namespace Cert.KernelIdeal.Pf

open Cert.KernelIdeal Cert.KernelIdeal.Gen
open Idealize.ShloMosaic
open Idealize.ShloMosaic.TcCoe

variable {F : FTy → Type} [FloatOps F]

section
variable (V : Vals (F := F)) (c : Dev nD)

/-- The staged blocks are the arrays. -/
theorem stg1_0 : stg1 V 0 c = V c main_v71 :=
  Memref.read_access_unit_zero (Elt F) main_v71 (off := fun a => (cfg1.win 0).kind.off ((cfg1.win 0).index t1_0 a) ((cfg1.win 0).size a)) (funext fun a => by fin_cases a <;> rfl) _ _
theorem stg1_1 : stg1 V 1 c = V c main_v74 :=
  Memref.read_access_unit_zero (Elt F) main_v74 (off := fun a => (cfg1.win 1).kind.off ((cfg1.win 1).index t1_0 a) ((cfg1.win 1).size a)) (funext fun a => by fin_cases a <;> rfl) _ _
theorem stg1_2 : stg1 V 2 c = V c main_v76 :=
  Memref.read_access_unit_zero (Elt F) main_v76 (off := fun a => (cfg1.win 2).kind.off ((cfg1.win 2).index t1_0 a) ((cfg1.win 2).size a)) (funext fun a => by fin_cases a <;> rfl) _ _

/-- Writing the whole block back leaves the block. -/
theorem wb1_eq (X : S128x128.Idx → Elt F .f32) : wb1 V c X = X :=
  Memref.write_access_unit_zero_univ (Elt F) main_v77 (off := fun a => (cfg1.win 3).kind.off ((cfg1.win 3).index t1_0 a) ((cfg1.win 3).size a)) (funext fun a => by fin_cases a <;> rfl) _ _ _

end

/-- The three loads of the body. -/
theorem load1_0 (f : S4x2048.Idx → Elt F .f32) :
    View.readAt (Elt F) (stage1_0 0).view (Rect.unit ![0, 0] S4x2048.size inb_S4x2048_S4x2048_0_0).toLoadRect f = f :=
  load_whole cc1_stg0_0 f _
theorem load1_1 (f : S1x2048.Idx → Elt F .f32) :
    View.readAt (Elt F) (stage1_1 0).view (Rect.unit ![0, 0] S1x2048.size inb_S1x2048_S1x2048_0_0).toLoadRect f = f :=
  load_whole cc1_stg1_0 f _
theorem load1_2 (f : S1x2048.Idx → Elt F .f32) :
    View.readAt (Elt F) (stage1_2 0).view (Rect.unit ![0, 0] S1x2048.size inb_S1x2048_S1x2048_0_0).toLoadRect f = f :=
  load_whole cc1_stg2_0 f _

/-- Round `k` stores at row `k`. -/
theorem off_at (k : Fin k1_t1_loop.trips) : k1_off1 k = ![k.val, 0] := by
  have h : k.val < 100 := lt_of_lt_of_le k.isLt k1_t1_abs.2.1
  have key : ∀ n : Fin 100, (Scalar.indexCast (Scf.iv 0#32 1#32 n.val)).toNat = n.val := by decide +kernel
  exact congrArg (fun n => ![n, 0]) (key ⟨k.val, h⟩)

/-- A hundred rounds. -/
theorem trips_eq : k1_t1_loop.trips = 100 := by decide +kernel

section
variable (c : Dev nD) (v0 : Vec F S4x2048 .f32) (v2 : Vec F S1x2048 .f32) (x : FVec F S1x2048 .f32)

/-- The loop's state before round `k`. -/
abbrev stK (k : Nat) := st_k1_t1 (F := F) Variants.none c none (stage1_0 0) (hstage1_0 0) (stage1_1 0) (hstage1_1 0) (stage1_2 0) (hstage1_2 0)
  (stage1_3 0) (hstage1_3 0) v0 v2 lanes outLanes x k

/-- The scores before round `k`. -/
theorem stK_fst : ∀ k ≤ k1_t1_loop.trips, (stK c v0 v2 x k).1 = (newScores v0 v2)^[k] x
  | 0, _ => by rw [st_k1_t1_zero]; rfl
  | k + 1, h => by
    rw [Function.iterate_succ_apply', ← stK_fst k (by omega)]
    exact (congrArg Prod.fst (st_k1_t1_succ Variants.none c none (stage1_0 0) (hstage1_0 0) (stage1_1 0) (hstage1_1 0) (stage1_2 0) (hstage1_2 0)
      (stage1_3 0) (hstage1_3 0) v0 v2 lanes outLanes x ⟨k, by omega⟩)).trans (tripR_eq c _ _ _ _ _ _ _ _ v0 v2 _ _)

/-- The rows stored before round `k`. -/
theorem stK_snd (Y : Stg1 (F := F)) : ∀ k ≤ k1_t1_loop.trips, ∀ (i l : Fin 128), i.val < k →
    View.read (Elt F) (View.whole cc1_stg3_0) ((View.whole cc1_stg3_0).writes (Elt F) Y (stK c v0 v2 x k).2) (ix2 i l) = newRow v0 v2 ((newScores v0 v2)^[i.val] x) (ix2 0 l)
  | 0, _, _, _, h => absurd h (Nat.not_lt_zero _)
  | k + 1, hk, i, l, h => by
    have e : (stK c v0 v2 x (k + 1)).2 = _ := congrArg Prod.snd (st_k1_t1_succ Variants.none c none (stage1_0 0) (hstage1_0 0) (stage1_1 0) (hstage1_1 0) (stage1_2 0) (hstage1_2 0)
      (stage1_3 0) (hstage1_3 0) v0 v2 lanes outLanes x ⟨k, by omega⟩)
    rw [e]
    dsimp only
    rw [tripL_eq]
    by_cases hi : i.val = k
    · refine (View.read_writes_cons_rows_of_mem (View.whole cc1_stg3_0) Y (k1_off1_inb ⟨k, hk⟩) (newRow v0 v2 (stK c v0 v2 x k).1) (stK c v0 v2 x k).2
        (ix2 i l) (ix2 0 l : S1x128.Idx) (off_at ⟨k, hk⟩) (by show i.val = k + 0; omega) rfl).trans ?_
      rw [stK_fst c v0 v2 x k (by omega), hi]
    · refine (View.read_writes_cons_rows_of_not_mem (W := 1) (View.whole cc1_stg3_0) Y (k1_off1_inb ⟨k, hk⟩) (newRow v0 v2 (stK c v0 v2 x k).1) (stK c v0 v2 x k).2
        (ix2 i l) (off_at ⟨k, hk⟩) rfl (Or.inl (by show i.val < k; omega))).trans ?_
      exact stK_snd Y k (by omega) i l (by omega)

end

/-- The output array's first hundred rows. -/
theorem U15_row (m : (b : Loc nD τ sig) → Buf (Elt F) b) (c : Dev nD) (Y : Stg1 (F := F)) (i l : Fin 128) (h : i.val < 100) :
    U15 m c Y main_v77 (ix2 i l)
      = newRow (U14 m c main_v71) (U14 m c main_v74) ((newScores (U14 m c main_v71) (U14 m c main_v74))^[i.val] (k1_pay9 (U14 m c main_v76))) (ix2 0 l) := by
  rw [U15_v77, wb1_eq]
  unfold rows1 nmsPieces
  rw [stg1_0, stg1_1, stg1_2, load1_0, load1_1, load1_2]
  refine (congrFun (View.read_whole cc1_stg3_0 _) _).symm.trans ?_
  exact stK_snd c _ _ _ Y k1_t1_loop.trips le_rfl i l (by rw [trips_eq]; exact h)

end Cert.KernelIdeal.Pf

end
-- ==== Proof.KiPostEq.lean ====
/-
  The host operations after the suppression call, one at a time.
  What each operation says of its buffer.
-/
module

public import proofs.«01_k».proof.Proof.KiPost

@[expose] public section

set_option maxRecDepth 100000

noncomputable section

namespace Cert.KernelIdeal.Pf

open Cert.KernelIdeal Cert.KernelIdeal.Gen Cert.Pf
open Idealize.ShloMosaic Idealize.ShloMosaic.StableHlo
open Idealize.ShloMosaic.TcCoe

variable {F : FTy → Type} [FloatOps F]

variable (V : Valuation τ sig (Elt F))

theorem z_v78_eq : z_v78 V = extractStridedSlice S100x1 ![0, 0] (z_v77 V) slices_S128x128_S100x1_0_0 := read_unary post_writes (i := 0) (a := main_v77) (y := main_v78) rfl (by decide +kernel) (by decide +kernel) V
theorem z_v79_eq : z_v79 V = shapeCast S100 (z_v78 V) shapeCasts_S100x1_S100 := read_reshape post_writes (i := 1) (a := main_v78) (y := main_v79) rfl (by decide +kernel) (by decide +kernel) V
theorem z_v80_eq : z_v80 V = extractStridedSlice S100x1 ![0, 1] (z_v77 V) slices_S128x128_S100x1_0_1 := read_unary post_writes (i := 2) (a := main_v77) (y := main_v80) rfl (by decide +kernel) (by decide +kernel) V
theorem z_v81_eq : z_v81 V = shapeCast S100 (z_v80 V) shapeCasts_S100x1_S100 := read_reshape post_writes (i := 3) (a := main_v80) (y := main_v81) rfl (by decide +kernel) (by decide +kernel) V
theorem z_v82_eq : z_v82 V = extractStridedSlice S100x4 ![0, 2] (z_v77 V) slices_S128x128_S100x4_0_2 := read_unary post_writes (i := 4) (a := main_v77) (y := main_v82) rfl (by decide +kernel) (by decide +kernel) V
theorem z_cst_25_eq : z_cst_25 V = (constant S_ .f32 0x3D4CCCCD#32) := read_nullary post_writes (i := 5) (y := main_cst_25) rfl (by decide +kernel) V
theorem z_v83_eq : z_v83 V = (broadcastInDim S100 ![] bcast_S_S100) (z_cst_25 V) := read_unary post_writes (i := 6) (a := main_cst_25) (y := main_v83) rfl (by decide +kernel) (by decide +kernel) V
theorem z_v84_eq : z_v84 V = (cmpf .ogt) (z_v79 V) (z_v83 V) := read_binary post_writes (i := 7) (a := main_v79) (b := main_v83) (y := main_v84) rfl (by decide +kernel) (by decide +kernel) (by decide +kernel) V
theorem z_v85_eq : z_v85 V = (uitofp .f32) (z_v84 V) := read_unary post_writes (i := 8) (a := main_v84) (y := main_v85) rfl (by decide +kernel) (by decide +kernel) V
theorem z_v86_eq : z_v86 V = (broadcastInDim S100x1 ![0] bcast_S100_S100x1_0) (z_v85 V) := read_unary post_writes (i := 9) (a := main_v85) (y := main_v86) rfl (by decide +kernel) (by decide +kernel) V
theorem z_v87_eq : z_v87 V = (broadcastInDim S100x4 ![0, 1] bcast_S100x1_S100x4_0_1) (z_v86 V) := read_unary post_writes (i := 10) (a := main_v86) (y := main_v87) rfl (by decide +kernel) (by decide +kernel) V
theorem z_v88_eq : z_v88 V = mulf (z_v82 V) (z_v87 V) := read_binary post_writes (i := 11) (a := main_v82) (b := main_v87) (y := main_v88) rfl (by decide +kernel) (by decide +kernel) (by decide +kernel) V
theorem z_v89_eq : z_v89 V = mulf (z_v79 V) (z_v85 V) := read_binary post_writes (i := 12) (a := main_v79) (b := main_v85) (y := main_v89) rfl (by decide +kernel) (by decide +kernel) (by decide +kernel) V
theorem z_v90_eq : z_v90 V = (fptosi 32) (z_v81 V) := read_unary post_writes (i := 13) (a := main_v81) (y := main_v90) rfl (by decide +kernel) (by decide +kernel) V
theorem z_c_26_eq : z_c_26 V = (constantI S_ 32 4294967295#32) := read_nullary post_writes (i := 14) (y := main_c_26) rfl (by decide +kernel) V
theorem z_call6_v0_eq : z_call6_v0 V = id (z_c_26 V) := eq_of_heq (read_tunary post_writes (i := 15) (xa := TRef.of (T := ⟨S_, .i32⟩) main_c_26) (xy := TRef.of (T := ⟨S_, .i32⟩) main_call6_v0) (A := z_c_26 V) id rfl (by decide +kernel) (by decide +kernel) V HEq.rfl)
theorem z_call6_v1_eq : z_call6_v1 V = (broadcastInDim S100 ![] bcast_S_S100) (z_call6_v0 V) := eq_of_heq (read_tunary post_writes (i := 16) (xa := TRef.of (T := ⟨S_, .i32⟩) main_call6_v0) (xy := TRef.of (T := ⟨S100, .i32⟩) main_call6_v1) (A := z_call6_v0 V) (broadcastInDim S100 ![] bcast_S_S100) rfl (by decide +kernel) (by decide +kernel) V HEq.rfl)
theorem z_v91_eq : z_v91 V = select (z_v84 V) (z_v90 V) (z_call6_v1 V) := eq_of_heq (read_tternary post_writes (i := 17) (xc := TRef.of (T := ⟨S100, .i1⟩) main_v84) (xa := TRef.of (T := ⟨S100, .i32⟩) main_v90) (xb := TRef.of (T := ⟨S100, .i32⟩) main_call6_v1) (xy := TRef.of (T := ⟨S100, .i32⟩) main_v91) (C := z_v84 V) (A := z_v90 V) (B := z_call6_v1 V) select rfl (by decide +kernel) (by decide +kernel) (by decide +kernel) (by decide +kernel) V HEq.rfl HEq.rfl HEq.rfl)
theorem z_cst_27_eq : z_cst_27 V = (constant S_ .f32 0x00000000#32) := read_nullary post_writes (i := 18) (y := main_cst_27) rfl (by decide +kernel) V
theorem z_v92_eq : z_v92 V = (fun x v => Host.reduceAdd x v reducesTo_S100_S_d0 h_S_) (z_v85 V) (z_cst_27 V) := read_binary post_writes (i := 19) (a := main_v85) (b := main_cst_27) (y := main_v92) rfl (by decide +kernel) (by decide +kernel) (by decide +kernel) V
theorem z_v93_eq : z_v93 V = (fptosi 32) (z_v92 V) := read_unary post_writes (i := 20) (a := main_v92) (y := main_v93) rfl (by decide +kernel) (by decide +kernel) V
theorem z_v94_eq : z_v94 V = shapeCast S1 (z_v93 V) shapeCasts_S_S1 := read_reshape post_writes (i := 21) (a := main_v93) (y := main_v94) rfl (by decide +kernel) (by decide +kernel) V
theorem z_v95_eq : z_v95 V = (broadcastInDim S1x100x4 ![1, 2] bcast_S100x4_S1x100x4_1_2) (z_v88 V) := read_unary post_writes (i := 22) (a := main_v88) (y := main_v95) rfl (by decide +kernel) (by decide +kernel) V
theorem z_v96_eq : z_v96 V = (broadcastInDim S1x100 ![1] bcast_S100_S1x100_1) (z_v89 V) := read_unary post_writes (i := 23) (a := main_v89) (y := main_v96) rfl (by decide +kernel) (by decide +kernel) V
theorem z_v97_eq : z_v97 V = (broadcastInDim S1x100 ![1] bcast_S100_S1x100_1) (z_v91 V) := read_unary post_writes (i := 24) (a := main_v91) (y := main_v97) rfl (by decide +kernel) (by decide +kernel) V

end Cert.KernelIdeal.Pf

end
-- ==== Proof.RfPostEq.lean ====
/-
  The reference after its loop, one operation at a time.
  What each operation says of its buffer.
-/
module

public import proofs.«01_k».proof.Proof.RfPost

@[expose] public section

set_option maxRecDepth 100000

noncomputable section

namespace Cert.ReferenceIdeal.Pf

open Cert.ReferenceIdeal Cert.ReferenceIdeal.Gen Cert.Pf
open Idealize.ShloMosaic Idealize.ShloMosaic.StableHlo
open Idealize.ShloMosaic.TcCoe

variable {F : FTy → Type} [FloatOps F]

variable (V : Valuation τ sig (Elt F))

theorem y_cst_85_eq : y_cst_85 V = (constant S_ .f32 0x3D4CCCCD#32) := read_nullary post_writes (i := 0) (y := main_cst_85) rfl (by decide +kernel) V
theorem y_v371_eq : y_v371 V = (broadcastInDim S100 ![] bcast_S_S100) (y_cst_85 V) := read_unary post_writes (i := 1) (a := main_cst_85) (y := main_v371) rfl (by decide +kernel) (by decide +kernel) V
theorem y_v372_eq : y_v372 V = (cmpf .ogt) (y_v370_4 V) (y_v371 V) := read_binary post_writes (i := 2) (a := main_v370_4) (b := main_v371) (y := main_v372) rfl (by decide +kernel) (by decide +kernel) (by decide +kernel) V
theorem y_v373_eq : y_v373 V = (uitofp .f32) (y_v372 V) := read_unary post_writes (i := 3) (a := main_v372) (y := main_v373) rfl (by decide +kernel) (by decide +kernel) V
theorem y_c_86_eq : y_c_86 V = (constantI S_ 32 0#32) := read_nullary post_writes (i := 4) (y := main_c_86) rfl (by decide +kernel) V
theorem y_v374_eq : y_v374 V = (broadcastInDim S100 ![] bcast_S_S100) (y_c_86 V) := read_unary post_writes (i := 5) (a := main_c_86) (y := main_v374) rfl (by decide +kernel) (by decide +kernel) V
theorem y_v375_eq : y_v375 V = (cmpi .slt) (y_v370_3 V) (y_v374 V) := read_binary post_writes (i := 6) (a := main_v370_3) (b := main_v374) (y := main_v375) rfl (by decide +kernel) (by decide +kernel) (by decide +kernel) V
theorem y_c_87_eq : y_c_87 V = (constantI S_ 32 2000#32) := read_nullary post_writes (i := 7) (y := main_c_87) rfl (by decide +kernel) V
theorem y_v376_eq : y_v376 V = (broadcastInDim S100 ![] bcast_S_S100) (y_c_87 V) := read_unary post_writes (i := 8) (a := main_c_87) (y := main_v376) rfl (by decide +kernel) (by decide +kernel) V
theorem y_v377_eq : y_v377 V = addi (y_v370_3 V) (y_v376 V) := read_binary post_writes (i := 9) (a := main_v370_3) (b := main_v376) (y := main_v377) rfl (by decide +kernel) (by decide +kernel) (by decide +kernel) V
theorem y_v378_eq : y_v378 V = select (y_v375 V) (y_v377 V) (y_v370_3 V) := read_ternary post_writes (i := 10) (c := main_v375) (a := main_v377) (b := main_v370_3) (y := main_v378) rfl (by decide +kernel) (by decide +kernel) (by decide +kernel) (by decide +kernel) V
theorem y_v379_eq : y_v379 V = (broadcastInDim S100x1 ![0] bcast_S100_S100x1_0) (y_v378 V) := read_unary post_writes (i := 11) (a := main_v378) (y := main_v379) rfl (by decide +kernel) (by decide +kernel) V
theorem y_v380_eq : y_v380 V = Host.gather gather_S2000x4_S100x1_S100x4_1_0_n_n_0_1_14 (y_v361 V) (y_v379 V) := read_binary post_writes (i := 12) (a := main_v361) (b := main_v379) (y := main_v380) rfl (by decide +kernel) (by decide +kernel) (by decide +kernel) V
theorem y_v381_eq : y_v381 V = (broadcastInDim S100x1 ![0] bcast_S100_S100x1_0) (y_v373 V) := read_unary post_writes (i := 13) (a := main_v373) (y := main_v381) rfl (by decide +kernel) (by decide +kernel) V
theorem y_v382_eq : y_v382 V = (broadcastInDim S100x4 ![0, 1] bcast_S100x1_S100x4_0_1) (y_v381 V) := read_unary post_writes (i := 14) (a := main_v381) (y := main_v382) rfl (by decide +kernel) (by decide +kernel) V
theorem y_v383_eq : y_v383 V = mulf (y_v380 V) (y_v382 V) := read_binary post_writes (i := 15) (a := main_v380) (b := main_v382) (y := main_v383) rfl (by decide +kernel) (by decide +kernel) (by decide +kernel) V
theorem y_v384_eq : y_v384 V = mulf (y_v370_4 V) (y_v373 V) := read_binary post_writes (i := 16) (a := main_v370_4) (b := main_v373) (y := main_v384) rfl (by decide +kernel) (by decide +kernel) (by decide +kernel) V
theorem y_cst_88_eq : y_cst_88 V = (constant S_ .f32 0x00000000#32) := read_nullary post_writes (i := 17) (y := main_cst_88) rfl (by decide +kernel) V
theorem y_v385_eq : y_v385 V = (broadcastInDim S100 ![] bcast_S_S100) (y_cst_88 V) := read_unary post_writes (i := 18) (a := main_cst_88) (y := main_v385) rfl (by decide +kernel) (by decide +kernel) V
theorem y_v386_eq : y_v386 V = (cmpf .ogt) (y_v373 V) (y_v385 V) := read_binary post_writes (i := 19) (a := main_v373) (b := main_v385) (y := main_v386) rfl (by decide +kernel) (by decide +kernel) (by decide +kernel) V
theorem y_c_89_eq : y_c_89 V = (constantI S_ 32 0#32) := read_nullary post_writes (i := 20) (y := main_c_89) rfl (by decide +kernel) V
theorem y_v387_eq : y_v387 V = (broadcastInDim S100 ![] bcast_S_S100) (y_c_89 V) := read_unary post_writes (i := 21) (a := main_c_89) (y := main_v387) rfl (by decide +kernel) (by decide +kernel) V
theorem y_v388_eq : y_v388 V = (cmpi .slt) (y_v370_3 V) (y_v387 V) := read_binary post_writes (i := 22) (a := main_v370_3) (b := main_v387) (y := main_v388) rfl (by decide +kernel) (by decide +kernel) (by decide +kernel) V
theorem y_c_90_eq : y_c_90 V = (constantI S_ 32 2000#32) := read_nullary post_writes (i := 23) (y := main_c_90) rfl (by decide +kernel) V
theorem y_v389_eq : y_v389 V = (broadcastInDim S100 ![] bcast_S_S100) (y_c_90 V) := read_unary post_writes (i := 24) (a := main_c_90) (y := main_v389) rfl (by decide +kernel) (by decide +kernel) V
theorem y_v390_eq : y_v390 V = addi (y_v370_3 V) (y_v389 V) := read_binary post_writes (i := 25) (a := main_v370_3) (b := main_v389) (y := main_v390) rfl (by decide +kernel) (by decide +kernel) (by decide +kernel) V
theorem y_v391_eq : y_v391 V = select (y_v388 V) (y_v390 V) (y_v370_3 V) := read_ternary post_writes (i := 26) (c := main_v388) (a := main_v390) (b := main_v370_3) (y := main_v391) rfl (by decide +kernel) (by decide +kernel) (by decide +kernel) (by decide +kernel) V
theorem y_v392_eq : y_v392 V = (broadcastInDim S100x1 ![0] bcast_S100_S100x1_0) (y_v391 V) := read_unary post_writes (i := 27) (a := main_v391) (y := main_v392) rfl (by decide +kernel) (by decide +kernel) V
theorem y_v393_eq : y_v393 V = Host.gather gather_S2000_S100x1_S100_n_0_n_n_0_1_1 (y_v354 V) (y_v392 V) := read_binary post_writes (i := 28) (a := main_v354) (b := main_v392) (y := main_v393) rfl (by decide +kernel) (by decide +kernel) (by decide +kernel) V
theorem y_c_91_eq : y_c_91 V = (constantI S_ 32 4294967295#32) := read_nullary post_writes (i := 29) (y := main_c_91) rfl (by decide +kernel) V
theorem y_call11_v0_eq : y_call11_v0 V = id (y_c_91 V) := eq_of_heq (read_tunary post_writes (i := 30) (xa := TRef.of (T := ⟨S_, .i32⟩) main_c_91) (xy := TRef.of (T := ⟨S_, .i32⟩) main_call11_v0) (A := y_c_91 V) id rfl (by decide +kernel) (by decide +kernel) V HEq.rfl)
theorem y_call11_v1_eq : y_call11_v1 V = (broadcastInDim S100 ![] bcast_S_S100) (y_call11_v0 V) := eq_of_heq (read_tunary post_writes (i := 31) (xa := TRef.of (T := ⟨S_, .i32⟩) main_call11_v0) (xy := TRef.of (T := ⟨S100, .i32⟩) main_call11_v1) (A := y_call11_v0 V) (broadcastInDim S100 ![] bcast_S_S100) rfl (by decide +kernel) (by decide +kernel) V HEq.rfl)
theorem y_v394_eq : y_v394 V = select (y_v386 V) (y_v393 V) (y_call11_v1 V) := eq_of_heq (read_tternary post_writes (i := 32) (xc := TRef.of (T := ⟨S100, .i1⟩) main_v386) (xa := TRef.of (T := ⟨S100, .i32⟩) main_v393) (xb := TRef.of (T := ⟨S100, .i32⟩) main_call11_v1) (xy := TRef.of (T := ⟨S100, .i32⟩) main_v394) (C := y_v386 V) (A := y_v393 V) (B := y_call11_v1 V) select rfl (by decide +kernel) (by decide +kernel) (by decide +kernel) (by decide +kernel) V HEq.rfl HEq.rfl HEq.rfl)
theorem y_cst_92_eq : y_cst_92 V = (constant S_ .f32 0x00000000#32) := read_nullary post_writes (i := 33) (y := main_cst_92) rfl (by decide +kernel) V
theorem y_v395_eq : y_v395 V = (fun x v => Host.reduceAdd x v reducesTo_S100_S_d0 h_S_) (y_v373 V) (y_cst_92 V) := read_binary post_writes (i := 34) (a := main_v373) (b := main_cst_92) (y := main_v395) rfl (by decide +kernel) (by decide +kernel) (by decide +kernel) V
theorem y_v396_eq : y_v396 V = (fptosi 32) (y_v395 V) := read_unary post_writes (i := 35) (a := main_v395) (y := main_v396) rfl (by decide +kernel) (by decide +kernel) V
theorem y_v397_eq : y_v397 V = (broadcastInDim S1 ![] bcast_S_S1) (y_v396 V) := read_unary post_writes (i := 36) (a := main_v396) (y := main_v397) rfl (by decide +kernel) (by decide +kernel) V
theorem y_v398_eq : y_v398 V = (broadcastInDim S1x100x4 ![1, 2] bcast_S100x4_S1x100x4_1_2) (y_v383 V) := read_unary post_writes (i := 37) (a := main_v383) (y := main_v398) rfl (by decide +kernel) (by decide +kernel) V
theorem y_v399_eq : y_v399 V = (broadcastInDim S1x100 ![1] bcast_S100_S1x100_1) (y_v384 V) := read_unary post_writes (i := 38) (a := main_v384) (y := main_v399) rfl (by decide +kernel) (by decide +kernel) V
theorem y_v400_eq : y_v400 V = (broadcastInDim S1x100 ![1] bcast_S100_S1x100_1) (y_v394 V) := read_unary post_writes (i := 39) (a := main_v394) (y := main_v400) rfl (by decide +kernel) (by decide +kernel) V

end Cert.ReferenceIdeal.Pf

end
-- ==== Proof.Post.lean ====
/-
  After the loops: from equal picks, scores, boxes and classes, the four results of the two programs are equal.
-/
module

public import proofs.«01_k».proof.Proof.KiPostEq
public import proofs.«01_k».proof.Proof.RfPostEq
public import proofs.«01_k».proof.Proof.RfRound
public import proofs.«01_k».proof.Proof.TopGather

@[expose] public section

noncomputable section

namespace Cert.Pf

open Idealize.ShloMosaic Idealize.ShloMosaic.StableHlo

/-- The gather of single entries, at `b`. -/
theorem gather_one_at {α : Type} (x : Cert.ReferenceIdeal.S2000.Idx → α) (idx : IVec Cert.ReferenceIdeal.S100x1 32) (b : Fin 100) :
    Host.gather Cert.ReferenceIdeal.gather_S2000_S100x1_S100_n_0_n_n_0_1_1 x idx (ix1 b) = x (ix1 (clampTo 2000 (by decide) (idx (ix2 b 0)))) := by
  unfold Host.gather
  refine congrArg x (funext fun a => Fin.ext ?_)
  obtain rfl : a = 0 := Subsingleton.elim _ _
  show GatherDims.start _ (ix1 b) idx 0 + GatherDims.batchCoord _ (ix1 b) 0 + GatherDims.offCoord _ (ix1 b) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 1) ∈ Cert.ReferenceIdeal.gather_S2000_S100x1_S100_n_0_n_n_0_1_1.startIndexMap from List.mem_singleton.mpr rfl)]
  have hsi : Cert.ReferenceIdeal.gather_S2000_S100x1_S100_n_0_n_n_0_1_1.siIdx (ix1 b) ⟨List.idxOf (0 : Fin 1) Cert.ReferenceIdeal.gather_S2000_S100x1_S100_n_0_n_n_0_1_1.startIndexMap,
      List.idxOf_lt_length_iff.2 (List.mem_singleton.mpr rfl)⟩ = ix2 b (0 : Fin 1) := by
    funext e; refine Fin.ext ?_
    match e with
    | ⟨0, _⟩ => rfl
    | ⟨1, _⟩ => rfl
  show min (idx (Cert.ReferenceIdeal.gather_S2000_S100x1_S100_n_0_n_n_0_1_1.siIdx (ix1 b) ⟨List.idxOf (0 : Fin 1) Cert.ReferenceIdeal.gather_S2000_S100x1_S100_n_0_n_n_0_1_1.startIndexMap, _⟩)).toInt.toNat _ = _
  rw [hsi]
  rfl

/-- An integer carried in a float and back is itself. -/
theorem fptosi_sitofp (w : BitVec 32) : Ideal.fptosi 32 (((w.toInt : ℝ) : EReal)) = w := by
  unfold Ideal.fptosi
  rw [Ideal.toIntClamped_coe]
  have h1 := BitVec.toInt_lt (x := w)
  have h2 := BitVec.le_toInt (x := w)
  have : (if (0 : ℝ) ≤ (w.toInt : ℝ) then ⌊(w.toInt : ℝ)⌋ else ⌈(w.toInt : ℝ)⌉) = w.toInt := by
    split
    · exact Int.floor_intCast _
    · exact Int.ceil_intCast _
  rw [this, min_eq_right (by push_cast; omega), max_eq_right (by push_cast; omega)]
  exact BitVec.ofInt_toInt

/-- What the kernel's contents `K` after its loop and the reference's `R` share. -/
structure Picked (K : Valuation Cert.KernelIdeal.τ Cert.KernelIdeal.sig (Elt Ideal)) (R : Valuation Cert.ReferenceIdeal.τ Cert.ReferenceIdeal.sig (Elt Ideal))
    (P : Fin 100 → Fin 2000) : Prop where
  pick : ∀ i : Fin 100, ReferenceIdeal.Pf.y_v370_3 R (ix1 i) = BitVec.ofNat 32 (P i).val
  score : ∀ i : Fin 100, KernelIdeal.Pf.z_v77 K (ix2 ⟨i.val, by omega⟩ 0) = ReferenceIdeal.Pf.y_v370_4 R (ix1 i)
  cls : ∀ i : Fin 100, KernelIdeal.Pf.z_v77 K (ix2 ⟨i.val, by omega⟩ 1) = (((ReferenceIdeal.Pf.y_v354 R (ix1 (P i))).toInt : ℝ) : EReal)
  box : ∀ (i : Fin 100) (a : Fin 4), KernelIdeal.Pf.z_v77 K (ix2 ⟨i.val, by omega⟩ ⟨2 + a.val, by omega⟩) = ReferenceIdeal.Pf.y_v361 R (ix2 (P i) a)

variable {K : Valuation Cert.KernelIdeal.τ Cert.KernelIdeal.sig (Elt Ideal)} {R : Valuation Cert.ReferenceIdeal.τ Cert.ReferenceIdeal.sig (Elt Ideal)}
  {P : Fin 100 → Fin 2000}

/-- Equal scores. -/
theorem Picked.scores (h : Picked K R P) : KernelIdeal.Pf.z_v79 K = ReferenceIdeal.Pf.y_v370_4 R := by
  funext j
  obtain ⟨i, rfl⟩ : ∃ i : Fin 100, j = ix1 i := ⟨j 0, funext fun a => by obtain rfl : a = 0 := Subsingleton.elim _ _; rfl⟩
  rw [KernelIdeal.Pf.z_v79_eq, KernelIdeal.Pf.z_v78_eq]
  refine Eq.trans ?_ (h.score i)
  pointwise

/-- Equal validity. -/
theorem Picked.valid (h : Picked K R P) : KernelIdeal.Pf.z_v84 K = ReferenceIdeal.Pf.y_v372 R := by
  rw [KernelIdeal.Pf.z_v84_eq, KernelIdeal.Pf.z_v83_eq, KernelIdeal.Pf.z_cst_25_eq, ReferenceIdeal.Pf.y_v372_eq, ReferenceIdeal.Pf.y_v371_eq, ReferenceIdeal.Pf.y_cst_85_eq, h.scores]
theorem Picked.flag (h : Picked K R P) : KernelIdeal.Pf.z_v85 K = ReferenceIdeal.Pf.y_v373 R := by
  rw [KernelIdeal.Pf.z_v85_eq, ReferenceIdeal.Pf.y_v373_eq, h.valid]

/-- The number of detections. -/
theorem Picked.res1 (h : Picked K R P) : KernelIdeal.Pf.z_v94 K = ReferenceIdeal.Pf.y_v397 R := by
  have e : KernelIdeal.Pf.z_v93 K = ReferenceIdeal.Pf.y_v396 R := by
    rw [KernelIdeal.Pf.z_v93_eq, KernelIdeal.Pf.z_v92_eq, KernelIdeal.Pf.z_cst_27_eq, ReferenceIdeal.Pf.y_v396_eq, ReferenceIdeal.Pf.y_v395_eq, ReferenceIdeal.Pf.y_cst_92_eq, h.flag]
  funext j
  rw [KernelIdeal.Pf.z_v94_eq, ReferenceIdeal.Pf.y_v397_eq, e]
  unfold shapeCast
  exact congrArg (ReferenceIdeal.Pf.y_v396 R) (funext fun a => a.elim0)

/-- The wrapped index is the pick. -/
theorem Picked.at378 (h : Picked K R P) (i : Fin 100) : ReferenceIdeal.Pf.y_v378 R (ix1 i) = BitVec.ofNat 32 (P i).val := by
  rw [ReferenceIdeal.Pf.y_v378_eq, ReferenceIdeal.Pf.y_v375_eq, ReferenceIdeal.Pf.y_v377_eq, ReferenceIdeal.Pf.y_v376_eq, ReferenceIdeal.Pf.y_c_87_eq,
    ReferenceIdeal.Pf.y_v374_eq, ReferenceIdeal.Pf.y_c_86_eq]
  show Scalar.select (IntOp.cmpi .slt (ReferenceIdeal.Pf.y_v370_3 R (ix1 i)) 0#32) (ReferenceIdeal.Pf.y_v370_3 R (ix1 i) + 2000#32) (ReferenceIdeal.Pf.y_v370_3 R (ix1 i)) = _
  rw [h.pick]
  have := (P i).isLt
  exact ReferenceIdeal.Pf.wrap_pos _ _ (by omega)
theorem Picked.at391 (h : Picked K R P) (i : Fin 100) : ReferenceIdeal.Pf.y_v391 R (ix1 i) = BitVec.ofNat 32 (P i).val := by
  rw [ReferenceIdeal.Pf.y_v391_eq, ReferenceIdeal.Pf.y_v388_eq, ReferenceIdeal.Pf.y_v390_eq, ReferenceIdeal.Pf.y_v389_eq, ReferenceIdeal.Pf.y_c_90_eq,
    ReferenceIdeal.Pf.y_v387_eq, ReferenceIdeal.Pf.y_c_89_eq]
  show Scalar.select (IntOp.cmpi .slt (ReferenceIdeal.Pf.y_v370_3 R (ix1 i)) 0#32) (ReferenceIdeal.Pf.y_v370_3 R (ix1 i) + 2000#32) (ReferenceIdeal.Pf.y_v370_3 R (ix1 i)) = _
  rw [h.pick]
  have := (P i).isLt
  exact ReferenceIdeal.Pf.wrap_pos _ _ (by omega)

/-- The picked boxes. -/
theorem Picked.boxes (h : Picked K R P) : KernelIdeal.Pf.z_v82 K = ReferenceIdeal.Pf.y_v380 R := by
  funext j
  obtain ⟨i, a, rfl⟩ : ∃ (i : Fin 100) (a : Fin 4), j = ix2 i a := ⟨j 0, j 1, funext fun d => by
    match d with
    | 0 => rfl
    | 1 => rfl⟩
  rw [KernelIdeal.Pf.z_v82_eq, ReferenceIdeal.Pf.y_v380_eq]
  refine Eq.trans (b := ReferenceIdeal.Pf.y_v361 R (ix2 (P i) a)) ?_ ((gather_rows_at (by decide) _ _ _ _ _).trans ?_).symm
  · refine Eq.trans ?_ (h.box i a)
    pointwise
  · have e : ReferenceIdeal.Pf.y_v379 R (ix2 i 0) = BitVec.ofNat 32 (P i).val := by
      rw [ReferenceIdeal.Pf.y_v379_eq]
      refine Eq.trans ?_ (h.at378 i)
      pointwise
    rw [e, clampTo_ofNat _ (by decide)]

/-- The boxes. -/
theorem Picked.res2 (h : Picked K R P) : KernelIdeal.Pf.z_v95 K = ReferenceIdeal.Pf.y_v398 R := by
  have e : KernelIdeal.Pf.z_v88 K = ReferenceIdeal.Pf.y_v383 R := by
    rw [KernelIdeal.Pf.z_v88_eq, KernelIdeal.Pf.z_v87_eq, KernelIdeal.Pf.z_v86_eq, ReferenceIdeal.Pf.y_v383_eq, ReferenceIdeal.Pf.y_v382_eq, ReferenceIdeal.Pf.y_v381_eq, h.flag, h.boxes]
  rw [KernelIdeal.Pf.z_v95_eq, ReferenceIdeal.Pf.y_v398_eq, e]

/-- The scores. -/
theorem Picked.res3 (h : Picked K R P) : KernelIdeal.Pf.z_v96 K = ReferenceIdeal.Pf.y_v399 R := by
  have e : KernelIdeal.Pf.z_v89 K = ReferenceIdeal.Pf.y_v384 R := by
    rw [KernelIdeal.Pf.z_v89_eq, ReferenceIdeal.Pf.y_v384_eq, h.flag, h.scores]
  rw [KernelIdeal.Pf.z_v96_eq, ReferenceIdeal.Pf.y_v399_eq, e]

/-- A flag is above zero when it is set. -/
theorem flag_pos (b : BitVec 1) : Ideal.cmp .ogt (((b.toNat : ℝ) : EReal)) (Ideal.ofBits .f32 0x00000000#32) = b := by
  rw [ReferenceIdeal.Pf.ofBits_zero]
  have : b = 0#1 ∨ b = 1#1 := by revert b; decide
  rcases this with rfl | rfl <;> simp [Ideal.cmp]

/-- The classes. -/
theorem Picked.res4 (h : Picked K R P) : KernelIdeal.Pf.z_v97 K = ReferenceIdeal.Pf.y_v400 R := by
  have e : KernelIdeal.Pf.z_v91 K = ReferenceIdeal.Pf.y_v394 R := by
    have e1 : ReferenceIdeal.Pf.y_v386 R = ReferenceIdeal.Pf.y_v372 R := by
      rw [ReferenceIdeal.Pf.y_v386_eq, ReferenceIdeal.Pf.y_v385_eq, ReferenceIdeal.Pf.y_cst_88_eq, ReferenceIdeal.Pf.y_v373_eq]
      funext j
      exact flag_pos _
    have e2 : KernelIdeal.Pf.z_v90 K = ReferenceIdeal.Pf.y_v393 R := by
      funext j
      obtain ⟨i, rfl⟩ : ∃ i : Fin 100, j = ix1 i := ⟨j 0, funext fun a => by obtain rfl : a = 0 := Subsingleton.elim _ _; rfl⟩
      rw [KernelIdeal.Pf.z_v90_eq, KernelIdeal.Pf.z_v81_eq, KernelIdeal.Pf.z_v80_eq, ReferenceIdeal.Pf.y_v393_eq]
      refine Eq.trans ?_ (gather_one_at _ _ i).symm
      have e : ReferenceIdeal.Pf.y_v392 R (ix2 i 0) = BitVec.ofNat 32 (P i).val := by
        rw [ReferenceIdeal.Pf.y_v392_eq]
        refine Eq.trans ?_ (h.at391 i)
        pointwise
      rw [e, clampTo_ofNat _ (by decide)]
      pointwise
      refine Eq.trans ?_ (fptosi_sitofp _)
      exact congrArg (Ideal.fptosi 32) (h.cls i)
    rw [KernelIdeal.Pf.z_v91_eq, KernelIdeal.Pf.z_call6_v1_eq, KernelIdeal.Pf.z_call6_v0_eq, KernelIdeal.Pf.z_c_26_eq,
      ReferenceIdeal.Pf.y_v394_eq, ReferenceIdeal.Pf.y_call11_v1_eq, ReferenceIdeal.Pf.y_call11_v0_eq, ReferenceIdeal.Pf.y_c_91_eq, h.valid, e1, e2]
  rw [KernelIdeal.Pf.z_v97_eq, ReferenceIdeal.Pf.y_v400_eq, e]

end Cert.Pf

end
-- ==== Proof.Algebra.lean ====
/-
  From equal arguments the kernel and the reference end with equal results, floats read as extended reals.
-/
module

public import proofs.«01_k».proof.Proof.RfLink
public import proofs.«01_k».proof.Proof.KiLink
public import proofs.«01_k».proof.Proof.KiDec
public import proofs.«01_k».proof.Proof.Same
public import proofs.«01_k».proof.Proof.Score
public import proofs.«01_k».proof.Proof.Loop
public import proofs.«01_k».proof.Proof.KiRows
public import proofs.«01_k».proof.Proof.Post

@[expose] public section

set_option maxRecDepth 8192

noncomputable section

namespace Cert.Pf

open Idealize.ShloMosaic Idealize.ShloMosaic.StableHlo Idealize.SL.Sem
open Idealize.ShloMosaic.TcCoe

/-- Adding a finite number and taking it off again. -/
theorem add_sub_coe (b : EReal) (r : ℝ) : b + (r : EReal) - (r : EReal) = b := by
  exact EReal.add_sub_cancel_right

/-- A class times the boxes' shift is finite. -/
theorem shift_coe (x : BitVec 32) : ∃ r : ℝ, ((x.toInt : ℝ) : EReal) * Ideal.ofBits .f32 0x45800000#32 = (r : EReal) := by
  refine ⟨(x.toInt : ℝ) * 4096, ?_⟩
  rw [EReal.coe_mul]
  congr 1
  simp [Ideal.ofBits, Ideal.ieee, -EReal.coe_mul]
  norm_num

section Core

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal arguments on one core. -/
structure Args : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- The kernel's contents after the decode call. -/
abbrev kc := Cert.KernelIdeal.Pf.U3 m c
/-- The reference's contents at launch. -/
abbrev rc := launchContents m' c

variable {m m' c}

/-- The decode call's tables hold the reference's levels. -/
theorem Args.same (h : Args m m' c) : Same (kc m c) (rc m' c) := by
  refine Cert.Pf.same (K0 := Cert.KernelIdeal.Gen.V0 m c) ?_ ?_ ?_ ?_ ?_ ?_
  · rw [KernelIdeal.Pf.pre_arg0, ReferenceIdeal.Pf.entry_arg0]; exact h.a0.symm
  · rw [KernelIdeal.Pf.pre_arg1, ReferenceIdeal.Pf.entry_arg1]; exact h.a1.symm
  · rw [KernelIdeal.Pf.pre_arg2, ReferenceIdeal.Pf.entry_arg2]; exact h.a2.symm
  · rw [KernelIdeal.Pf.mid_14_0, KernelIdeal.Pf.U3_box, KernelIdeal.Pf.pre_13, KernelIdeal.Pf.pre_cst, KernelIdeal.Pf.pre_cst_0]
  · rw [KernelIdeal.Pf.mid_14_1, KernelIdeal.Pf.U3_conf, KernelIdeal.Pf.pre_13]
  · rw [KernelIdeal.Pf.mid_14_2, KernelIdeal.Pf.U3_cls, KernelIdeal.Pf.pre_13]

variable (m m' c)

/-- The suppression call's box operand, -/
abbrev ob : FVec Ideal Cert.KernelIdeal.S4x2048 .f32 := KernelIdeal.Pf.y_v71 (kc m c)
/-- its class operand, -/
abbrev oc : FVec Ideal Cert.KernelIdeal.S1x2048 .f32 := KernelIdeal.Pf.y_v74 (kc m c)
/-- its score operand. -/
abbrev os : FVec Ideal Cert.KernelIdeal.S1x2048 .f32 := Cert.KernelIdeal.Gen.k1_pay9 (KernelIdeal.Pf.y_v76 (kc m c))

variable {m m' c}

/-- The cast of the scores to their own shape. -/
theorem os_at (j : Fin 2048) : os m c (ix2 0 j) = KernelIdeal.Pf.y_v76 (kc m c) (ix2 0 j) := by
  unfold os Cert.KernelIdeal.Gen.k1_pay9
  rw [shapeCast_self]

/-- Boxes moved by their classes. -/
theorem shifted_at (b : FVec Ideal Cert.ReferenceIdeal.S2000x4 .f32) (k : FVec Ideal Cert.ReferenceIdeal.S2000 .f32) (j : Fin 2000) (a : Fin 4) :
    addf b (broadcastInDim Cert.ReferenceIdeal.S2000x4 ![0, 1] Cert.ReferenceIdeal.Gen.bcast_S2000x1_S2000x4_0_1
      (broadcastInDim Cert.ReferenceIdeal.S2000x1 ![0] Cert.ReferenceIdeal.Gen.bcast_S2000_S2000x1_0
        (mulf k (broadcastInDim Cert.ReferenceIdeal.S2000 ![] Cert.ReferenceIdeal.Gen.bcast_S_S2000 (constant Cert.ReferenceIdeal.S_ .f32 0x45800000#32))))) (ix2 j a)
      = b (ix2 j a) + k (ix1 j) * Ideal.ofBits .f32 0x45800000#32 := by
  pointwise

/-- The reference's box, moved by its class. -/
theorem moved_ref (V : Valuation Cert.ReferenceIdeal.τ Cert.ReferenceIdeal.sig (Elt Ideal)) (j : Fin 2000) (a : Fin 4) :
    ReferenceIdeal.Pf.x_v370_0 V (ix2 j a) = ReferenceIdeal.Pf.x_v361 V (ix2 j a) + ReferenceIdeal.Pf.x_v362 V (ix1 j) * Ideal.ofBits .f32 0x45800000#32 := by
  rw [ReferenceIdeal.Pf.x_v370_0_eq, id]
  have h := ReferenceIdeal.Pf.x_v367_eq V
  rw [ReferenceIdeal.Pf.x_v366_eq, ReferenceIdeal.Pf.x_v365_eq, ReferenceIdeal.Pf.x_v364_eq, ReferenceIdeal.Pf.x_v363_eq, ReferenceIdeal.Pf.x_cst_81_eq] at h
  rw [h]
  generalize ReferenceIdeal.Pf.x_v361 V = b
  generalize ReferenceIdeal.Pf.x_v362 V = k
  exact shifted_at b k j a

/-- Both loops start from equal boxes and scores. -/
theorem Args.start (h : Args m m' c) : Inv (ob m c) (oc m c) (os m c) (Idealize.ShloMosaic.StableHlo.entryContents Cert.ReferenceIdeal.Value.preI m' c) 0 where
  box j a := by
    refine Eq.trans ?_ (congrFun (show ReferenceIdeal.Pf.x_v370_0 (rc m' c) = _ by rw [ReferenceIdeal.Pf.entry_eq]; rfl) (ix2 j a))
    rw [moved_ref, ← op_box h.same j a, ← op_cls h.same j]
    rfl
  same j := by
    refine Eq.trans ?_ (congrFun (show ReferenceIdeal.Pf.x_v370_2 (rc m' c) = _ by rw [ReferenceIdeal.Pf.entry_eq]; rfl) (ix1 j))
    rw [os_at, ReferenceIdeal.Pf.x_v370_2_eq, id, ← op_score h.same j]
  low j := by
    refine le_of_le_of_eq ?_ (congrFun (show ReferenceIdeal.Pf.x_v370_2 (rc m' c) = _ by rw [ReferenceIdeal.Pf.entry_eq]; rfl) (ix1 j))
    rw [ReferenceIdeal.Pf.x_v370_2_eq, id]
    exact score_low _ j
  fill j hj := by
    rw [os_at, op_fill _ j hj]
    exact fill_le
  ctr := by
    rw [Scf.iv_zero]
    exact Cert.ReferenceIdeal.Value.ctr_entry m' c

/-- A candidate's box, moved by its class and moved back. -/
theorem Args.back (h : Args m m' c) (p : Fin 2000) (a : Fin 4) :
    Cert.KernelIdeal.Pf.moved (ob m c) (oc m c) a (lane p) - oc m c (ix2 0 (lane p)) * Ideal.ofBits .f32 0x45800000#32 = ReferenceIdeal.Pf.x_v361 (rc m' c) (ix2 p a) := by
  have hc : oc m c (ix2 0 (lane p)) = (((ReferenceIdeal.Pf.x_v354 (rc m' c) (ix1 p)).toInt : ℝ) : EReal) := by
    rw [show oc m c (ix2 0 (lane p)) = _ from op_cls h.same p, ReferenceIdeal.Pf.x_v362_eq]
    rfl
  unfold Cert.KernelIdeal.Pf.moved
  rw [hc, show ob m c (ix2 a (lane p)) = _ from op_box h.same p a]
  obtain ⟨r, hr⟩ := shift_coe (ReferenceIdeal.Pf.x_v354 (rc m' c) (ix1 p))
  rw [hr]
  exact add_sub_coe _ r

/-- What both loops pick. -/
theorem Args.picked (h : Args m m' c) (Y : Cert.KernelIdeal.Pf.Stg1 (F := Ideal)) :
    ∃ P : Fin 100 → Fin 2000, Picked (Cert.KernelIdeal.Pf.U15 m c Y) (ReferenceIdeal.Pf.leaves m' c) P := by
  obtain ⟨P, hP, hL⟩ := picks h.start
  have hrow : ∀ (i : Fin 100) (l : Fin 128), KernelIdeal.Pf.z_v77 (Cert.KernelIdeal.Pf.U15 m c Y) (ix2 ⟨i.val, by omega⟩ l)
      = Cert.KernelIdeal.Pf.newRow (ob m c) (oc m c) ((Cert.KernelIdeal.Pf.newScores (ob m c) (oc m c))^[i.val] (os m c)) (ix2 0 l) := fun i l => by
    rw [KernelIdeal.Pf.post_77]
    refine (Cert.KernelIdeal.Pf.U15_row m c Y ⟨i.val, by omega⟩ l i.isLt).trans ?_
    rw [← KernelIdeal.Pf.mid_71, ← KernelIdeal.Pf.mid_74, ← KernelIdeal.Pf.mid_76]
  refine ⟨fun i => P i.val, ⟨fun i => ?_, fun i => ?_, fun i => ?_, fun i a => ?_⟩⟩
  · rw [ReferenceIdeal.Pf.leaves_3]
    exact (hL 100 le_rfl i i.isLt).1
  · rw [ReferenceIdeal.Pf.leaves_4, hrow]
    exact (Cert.KernelIdeal.Pf.row0 _ _ _ _ (hP i.val)).trans (hL 100 le_rfl i i.isLt).2.symm
  · rw [ReferenceIdeal.Pf.leaves_cls, hrow]
    refine (Cert.KernelIdeal.Pf.row1 _ _ _ _ (hP i.val)).trans ?_
    refine (op_cls h.same (P i.val)).trans ?_
    rw [ReferenceIdeal.Pf.x_v362_eq]
    rfl
  · rw [ReferenceIdeal.Pf.leaves_box, hrow]
    refine Eq.trans ?_ (h.back (P i.val) a)
    match a with
    | 0 => exact Cert.KernelIdeal.Pf.row2 _ _ _ _ (hP i.val)
    | 1 => exact Cert.KernelIdeal.Pf.row3 _ _ _ _ (hP i.val)
    | 2 => exact Cert.KernelIdeal.Pf.row4 _ _ _ _ (hP i.val)
    | 3 => exact Cert.KernelIdeal.Pf.row5 _ _ _ _ (hP i.val)

/-- Equal results on one core. -/
theorem Args.results (h : Args m m' c) (Y : Cert.KernelIdeal.Pf.Stg1 (F := Ideal)) :
    Cert.KernelIdeal.Pf.U18 m c Y Cert.KernelIdeal.main_v94 = ReferenceIdeal.Pf.y_v397 (ReferenceIdeal.Pf.leaves m' c)
    ∧ Cert.KernelIdeal.Pf.U18 m c Y Cert.KernelIdeal.main_v95 = ReferenceIdeal.Pf.y_v398 (ReferenceIdeal.Pf.leaves m' c)
    ∧ Cert.KernelIdeal.Pf.U18 m c Y Cert.KernelIdeal.main_v96 = ReferenceIdeal.Pf.y_v399 (ReferenceIdeal.Pf.leaves m' c)
    ∧ Cert.KernelIdeal.Pf.U18 m c Y Cert.KernelIdeal.main_v97 = ReferenceIdeal.Pf.y_v400 (ReferenceIdeal.Pf.leaves m' c) := by
  obtain ⟨P, hP⟩ := h.picked Y
  exact ⟨(KernelIdeal.Pf.post_94 m c Y).symm.trans hP.res1, (KernelIdeal.Pf.post_95 m c Y).symm.trans hP.res2,
    (KernelIdeal.Pf.post_96 m c Y).symm.trans hP.res3, (KernelIdeal.Pf.post_97 m c Y).symm.trans hP.res4⟩

end Core

/-- From equal arguments both programs end with equal results and with the arguments as launched. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD, Args m m' c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = ReferenceIdeal.Pf.y_v397 (ReferenceIdeal.Pf.leaves m' c)
          ∧ r.2.mem ((c.tc : Thread Cert.KernelIdeal.nD Cert.KernelIdeal.τ).loc Cert.KernelIdeal.main_v95) = ReferenceIdeal.Pf.y_v398 (ReferenceIdeal.Pf.leaves m' c)
          ∧ r.2.mem ((c.tc : Thread Cert.KernelIdeal.nD Cert.KernelIdeal.τ).loc Cert.KernelIdeal.main_v96) = ReferenceIdeal.Pf.y_v399 (ReferenceIdeal.Pf.leaves m' c)
          ∧ r.2.mem ((c.tc : Thread Cert.KernelIdeal.nD Cert.KernelIdeal.τ).loc Cert.KernelIdeal.main_v97) = ReferenceIdeal.Pf.y_v400 (ReferenceIdeal.Pf.leaves m' c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = ReferenceIdeal.Pf.y_v397 (ReferenceIdeal.Pf.leaves m' c)
          ∧ r.2.mem ((c.tc : Thread Cert.ReferenceIdeal.nD Cert.ReferenceIdeal.τ).loc Cert.ReferenceIdeal.main_v398) = ReferenceIdeal.Pf.y_v398 (ReferenceIdeal.Pf.leaves m' c)
          ∧ r.2.mem ((c.tc : Thread Cert.ReferenceIdeal.nD Cert.ReferenceIdeal.τ).loc Cert.ReferenceIdeal.main_v399) = ReferenceIdeal.Pf.y_v399 (ReferenceIdeal.Pf.leaves m' c)
          ∧ r.2.mem ((c.tc : Thread Cert.ReferenceIdeal.nD Cert.ReferenceIdeal.τ).loc Cert.ReferenceIdeal.main_v400) = ReferenceIdeal.Pf.y_v400 (ReferenceIdeal.Pf.leaves m' c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  constructor
  · refine θ_run_mono (Cert.KernelIdeal.Pf.run_main m g) fun r hr c => ?_
    obtain ⟨Y, hY⟩ := hr.1 c
    have e := (h c).results Y
    exact ⟨(hY Cert.KernelIdeal.main_v94 (by decide)).trans e.1, (hY Cert.KernelIdeal.main_v95 (by decide)).trans e.2.1,
      (hY Cert.KernelIdeal.main_v96 (by decide)).trans e.2.2.1, (hY Cert.KernelIdeal.main_v97 (by decide)).trans e.2.2.2,
      Cert.KernelIdeal.Pf.Final.args m hr.1 c⟩
  · refine θ_run_mono (Cert.ReferenceIdeal.Value.run_fold m' g') fun r hr c => ?_
    exact ⟨(hr c Cert.ReferenceIdeal.main_v397 (by decide)).trans (ReferenceIdeal.Pf.final_397 m' c),
      (hr c Cert.ReferenceIdeal.main_v398 (by decide)).trans (ReferenceIdeal.Pf.final_398 m' c),
      (hr c Cert.ReferenceIdeal.main_v399 (by decide)).trans (ReferenceIdeal.Pf.final_399 m' c),
      (hr c Cert.ReferenceIdeal.main_v400 (by decide)).trans (ReferenceIdeal.Pf.final_400 m' c),
      (hr c Cert.ReferenceIdeal.main_arg0 (by decide)).trans (ReferenceIdeal.Pf.final_arg0 m' c),
      (hr c Cert.ReferenceIdeal.main_arg1 (by decide)).trans (ReferenceIdeal.Pf.final_arg1 m' c),
      (hr c Cert.ReferenceIdeal.main_arg2 (by decide)).trans (ReferenceIdeal.Pf.final_arg2 m' c)⟩

end Cert.Pf

end
-- ==== Proof.lean ====
/-
  The certificate: every program leaves its arguments as launched and every counter at zero, the ideal program
  keeps the kernel's operations, and from equal arguments it ends with the reference's four results.
-/
module

public import proofs.«01_k».proof.Defs
public import proofs.«01_k».proof.Proof.KFrame
public import proofs.«01_k».proof.Proof.KiFrame
public import proofs.«01_k».proof.Proof.RfFrame
public import proofs.«01_k».proof.Proof.Algebra
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Everything the certificate states. -/
theorem claim : Cert.Claim :=
  ⟨Cert.Kernel.Gen.facts, Cert.KernelIdeal.Gen.facts, Cert.ReferenceIdeal.Gen.facts,
    fun m g _ => Cert.Kernel.Pf.frame m g,
    fun m g _ => Cert.KernelIdeal.Pf.frame m g,
    fun m g _ => Cert.ReferenceIdeal.Pf.frame m g,
    trivial,
    fun m g m' g' _ h => ⟨_, _, _, _, Cert.Pf.algebraic m g m' g' fun c => ⟨(h c).1, (h c).2.1, (h c).2.2⟩⟩⟩

end Cert.Proof

end
